-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_ids_in_range_and_finite [hPre_ids_in_range_and_finite : Cert.Pre_ids_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_and_finite [hPre_ids_in_range_and_finite : Cert.Pre_ids_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ids_in_range_and_finite [hKernelIdeal : Cert.KernelIdeal.Facts] [hPre_ids_in_range_and_finite : Cert.Pre_ids_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_in_range_and_finite [hReferenceIdeal : Cert.ReferenceIdeal.Facts] [hPre_ids_in_range_and_finite : Cert.Pre_ids_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_ids_in_range_and_finite [hKernelIdeal : Cert.KernelIdeal.Facts] [hReferenceIdeal : Cert.ReferenceIdeal.Facts] [hPre_ids_in_range_and_finite : Cert.Pre_ids_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_in_range_and_finite : Cert.Pre_ids_in_range_and_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_in_range_and_finite (hKernelIdeal := hKernelIdeal) (hPre_ids_in_range_and_finite := hPre_ids_in_range_and_finite)
    ∧ quiescent_ReferenceIdeal (hReferenceIdeal := hReferenceIdeal)
    ∧ quiescent_ReferenceIdeal_pre_ids_in_range_and_finite (hReferenceIdeal := hReferenceIdeal) (hPre_ids_in_range_and_finite := hPre_ids_in_range_and_finite)
    ∧ preserves_Kernel_KernelIdeal
    ∧ algebraic_KernelIdeal_ReferenceIdeal_pre_ids_in_range_and_finite (hKernelIdeal := hKernelIdeal) (hReferenceIdeal := hReferenceIdeal) (hPre_ids_in_range_and_finite := hPre_ids_in_range_and_finite)
-- ==== Pre_ids_in_range.lean ====
abbrev S1024x512 : Shape := ⟨2, ![1024, 512]⟩
abbrev S30522x128 : Shape := ⟨2, ![30522, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : IVec S1024x512 32) (main_arg1 : FVec F S30522x128 .f32) (main_arg2 : FVec F S512x128 .f32) (main_arg3 : FVec F S2x128 .f32) (main_arg4 : FVec F S128 .f32) (main_arg5 : FVec F S128 .f32) : IVec S_ 1 :=
  let main_c : IVec S_ 32 := constantI S_ 32 0#32
  let main_v0 : IVec S1024x512 32 := broadcastInDim S1024x512 ![] bcast_S_S1024x512 main_c
  let main_v1 : IVec S1024x512 1 := cmpi .sge main_arg0 main_v0
  let main_c_0 : IVec S_ 32 := constantI S_ 32 30522#32
  let main_v2 : IVec S1024x512 32 := broadcastInDim S1024x512 ![] bcast_S_S1024x512 main_c_0
  let main_v3 : IVec S1024x512 1 := cmpi .slt main_arg0 main_v2
  let main_v4 : IVec S1024x512 1 := andi main_v1 main_v3
  let main_c_1 : IVec S_ 1 := constantI S_ 1 1#1
  let main_v5 : IVec S_ 1 := (fun x v => Host.reduce IntOp.andi x v reducesTo_S1024x512_S_d0_1 h_S_) main_v4 main_c_1
  main_v5
-- ==== Pre_ids_in_range_and_finite.lean ====
abbrev S1024x512 : Shape := ⟨2, ![1024, 512]⟩
abbrev S30522x128 : Shape := ⟨2, ![30522, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S30522x128 : S_.BroadcastsInDim S30522x128 (![] : Fin 0 → Fin S30522x128.rank)
  reducesTo_S30522x128_S_d0_1 : S30522x128.ReducesTo [0, 1] S_
  bcast_S_S512x128 : S_.BroadcastsInDim S512x128 (![] : Fin 0 → Fin S512x128.rank)
  reducesTo_S512x128_S_d0_1 : S512x128.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v15 : IVec S_ 1) (main_v16 : FVec F S2x128 .f32) : IVec S_ 1 :=
  let main_cst_5 : FVec F S_ .f32 := constant S_ .f32 0x7F800000#32
  let main_v17 : FVec F S2x128 .f32 := broadcastInDim S2x128 ![] bcast_S_S2x128 main_cst_5
  let main_v18 : IVec S2x128 1 := cmpf .olt main_v16 main_v17
  let main_c_6 : IVec S_ 1 := constantI S_ 1 1#1
  let main_v19 : IVec S_ 1 := (fun x v => Host.reduce IntOp.andi x v reducesTo_S2x128_S_d0_1 h_S_) main_v18 main_c_6
  let main_v20 : IVec S_ 1 := andi main_v15 main_v19
  let main_v21 : FVec F S128 .f32 := Host.absf main_arg4
  let main_cst_7 : FVec F S_ .f32 := constant S_ .f32 0x7F800000#32
  let main_v22 : FVec F S128 .f32 := broadcastInDim S128 ![] bcast_S_S128 main_cst_7
  let main_v23 : IVec S128 1 := cmpf .olt main_v21 main_v22
  let main_c_8 : IVec S_ 1 := constantI S_ 1 1#1
  let main_v24 : IVec S_ 1 := (fun x v => Host.reduce IntOp.andi x v reducesTo_S128_S_d0 h_S_) main_v23 main_c_8
  let main_v25 : IVec S_ 1 := andi main_v20 main_v24
  main_v25

def fn {F : FTy → Type} [FloatOps F] (main_arg0 : IVec S1024x512 32) (main_arg1 : FVec F S30522x128 .f32) (main_arg2 : FVec F S512x128 .f32) (main_arg3 : FVec F S2x128 .f32) (main_arg4 : FVec F S128 .f32) (main_arg5 : FVec F S128 .f32) : IVec S_ 1 :=
  let main_c : IVec S_ 32 := constantI S_ 32 0#32
  let main_v0 : IVec S1024x512 32 := broadcastInDim S1024x512 ![] bcast_S_S1024x512 main_c
  let main_v1 : IVec S1024x512 1 := cmpi .sge main_arg0 main_v0
  let main_c_0 : IVec S_ 32 := constantI S_ 32 30522#32
  let main_v2 : IVec S1024x512 32 := broadcastInDim S1024x512 ![] bcast_S_S1024x512 main_c_0
  let main_v3 : IVec S1024x512 1 := cmpi .slt main_arg0 main_v2
  let main_v4 : IVec S1024x512 1 := andi main_v1 main_v3
  let main_c_1 : IVec S_ 1 := constantI S_ 1 1#1
  let main_v5 : IVec S_ 1 := (fun x v => Host.reduce IntOp.andi x v reducesTo_S1024x512_S_d0_1 h_S_) main_v4 main_c_1
  let main_v6 : FVec F S30522x128 .f32 := Host.absf main_arg1
  let main_cst : FVec F S_ .f32 := constant S_ .f32 0x7F800000#32
  let main_v7 : FVec F S30522x128 .f32 := broadcastInDim S30522x128 ![] bcast_S_S30522x128 main_cst
  let main_v8 : IVec S30522x128 1 := cmpf .olt main_v6 main_v7
  let main_c_2 : IVec S_ 1 := constantI S_ 1 1#1
  let main_v9 : IVec S_ 1 := (fun x v => Host.reduce IntOp.andi x v reducesTo_S30522x128_S_d0_1 h_S_) main_v8 main_c_2
  let main_v10 : IVec S_ 1 := andi main_v5 main_v9
  let main_v11 : FVec F S512x128 .f32 := Host.absf main_arg2
  let main_cst_3 : FVec F S_ .f32 := constant S_ .f32 0x7F800000#32
  let main_v12 : FVec F S512x128 .f32 := broadcastInDim S512x128 ![] bcast_S_S512x128 main_cst_3
  let main_v13 : IVec S512x128 1 := cmpf .olt main_v11 main_v12
  let main_c_4 : IVec S_ 1 := constantI S_ 1 1#1
  let main_v14 : IVec S_ 1 := (fun x v => Host.reduce IntOp.andi x v reducesTo_S512x128_S_d0_1 h_S_) main_v13 main_c_4
  let main_v15 : IVec S_ 1 := andi main_v10 main_v14
  let main_v16 : FVec F S2x128 .f32 := Host.absf main_arg3
  fn_part1 (F := F) main_arg4 main_v15 main_v16
-- ==== Kernel.lean ====
abbrev S1024x512 : Shape := ⟨2, ![1024, 512]⟩
abbrev S30522x128 : Shape := ⟨2, ![30522, 128]⟩
abbrev S512x128 : Shape := ⟨2, ![512, 128]⟩
abbrev S2x128 : Shape := ⟨2, ![2, 128]⟩
abbrev S128 : Shape := ⟨1, ![128]⟩
abbrev S1x128 : Shape := ⟨2, ![1, 128]⟩
abbrev S128x512 : Shape := ⟨2, ![128, 512]⟩
abbrev S1x65536 : Shape := ⟨2, ![1, 65536]⟩
abbrev S65536x128 : Shape := ⟨2, ![65536, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128x512x128 : Shape := ⟨3, ![128, 512, 128]⟩
abbrev S8x512x128 : Shape := ⟨3, ![8, 512, 128]⟩
abbrev S1x512x128 : Shape := ⟨3, ![1, 512, 128]⟩
abbrev S4096x128 : Shape := ⟨2, ![4096, 128]⟩
abbrev S1024x512x128 : Shape := ⟨3, ![1024, 512, 128]⟩

abbrev nBuf : Table → Nat
  | .hbm => 49
  | .local .tc .vmem => 64
  | .local .scVector .vmem => 16
  | _ => 0

abbrev bufTy : (tb : Table) → Fin (nBuf tb) → BufTy
  | .hbm, ⟨0, _⟩ => ⟨S1024x512, .i32⟩
  | .hbm, ⟨1, _⟩ => ⟨S30522x128, .f32⟩
  | .hbm, ⟨2, _⟩ => ⟨S512x128, .f32⟩
  | .hbm, ⟨3, _⟩ => ⟨S2x128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S128x512, .i32⟩
  | .hbm, ⟨9, _⟩ => ⟨S1x65536, .i32⟩
  | .hbm, ⟨10, _⟩ => ⟨S65536x128, .f32⟩
  | .hbm, ⟨11, _⟩ => ⟨S128x512x128, .f32⟩
  | .hbm, ⟨12, _⟩ => ⟨S128x512x128, .f32⟩
  | .hbm, ⟨13, _⟩ => ⟨S128x512, .i32⟩
  | .hbm, ⟨14, _⟩ => ⟨S1x65536, .i32⟩
  | .hbm, ⟨15, _⟩ => ⟨S65536x128, .f32⟩
  | .hbm, ⟨16, _⟩ => ⟨S128x512x128, .f32⟩
  | .hbm, ⟨17, _⟩ => ⟨S128x512x128, .f32⟩
  | .hbm, ⟨18, _⟩ => ⟨S128x512, .i32⟩
  | .hbm, ⟨19, _⟩ => ⟨S1x65536, .i32⟩
  | .hbm, ⟨20, _⟩ => ⟨S65536x128, .f32⟩
  | .hbm, ⟨21, _⟩ => ⟨S128x512x128, .f32⟩
  | .hbm, ⟨22, _⟩ => ⟨S128x512x128, .f32⟩
  | .hbm, ⟨23, _⟩ => ⟨S128x512, .i32⟩
  | .hbm, ⟨24, _⟩ => ⟨S1x65536, .i32⟩
  | .hbm, ⟨25, _⟩ => ⟨S65536x128, .f32⟩
  | .hbm, ⟨26, _⟩ => ⟨S128x512x128, .f32⟩
  | .hbm, ⟨27, _⟩ => ⟨S128x512x128, .f32⟩
  | .hbm, ⟨28, _⟩ => ⟨S128x512, .i32⟩
  | .hbm, ⟨29, _⟩ => ⟨S1x65536, .i32⟩
  | .hbm, ⟨30, _⟩ => ⟨S65536x128, .f32⟩
  | .hbm, ⟨31, _⟩ => ⟨S128x512x128, .f32⟩
  | .hbm, ⟨32, _⟩ => ⟨S128x512x128, .f32⟩
  | .hbm, ⟨33, _⟩ => ⟨S128x512, .i32⟩
  | .hbm, ⟨34, _⟩ => ⟨S1x65536, .i32⟩
  | .hbm, ⟨35, _⟩ => ⟨S65536x128, .f32⟩
  | .hbm, ⟨36, _⟩ => ⟨S128x512x128, .f32⟩
  | .hbm, ⟨37, _⟩ => ⟨S128x512x128, .f32⟩
  | .hbm, ⟨38, _⟩ => ⟨S128x512, .i32⟩
  | .hbm, ⟨39, _⟩ => ⟨S1x65536, .i32⟩
  | .hbm, ⟨40, _⟩ => ⟨S65536x128, .f32⟩
  | .hbm, ⟨41, _⟩ => ⟨S128x512x128, .f32⟩
  | .hbm, ⟨42, _⟩ => ⟨S128x512x128, .f32⟩
  | .hbm, ⟨43, _⟩ => ⟨S128x512, .i32⟩
  | .hbm, ⟨44, _⟩ => ⟨S1x65536, .i32⟩
  | .hbm, ⟨45, _⟩ => ⟨S65536x128, .f32⟩
  | .hbm, ⟨46, _⟩ => ⟨S128x512x128, .f32⟩
  | .hbm, ⟨47, _⟩ => ⟨S128x512x128, .f32⟩
  | .hbm, ⟨48, _⟩ => ⟨S1024x512x128, .f32⟩
  | .local .tc .vmem, ⟨0, _⟩ => ⟨S8x512x128, .f32⟩
  | .local .tc .vmem, ⟨1, _⟩ => ⟨S8x512x128, .f32⟩
  | .local .tc .vmem, ⟨2, _⟩ => ⟨S512x128, .f32⟩
  | .local .tc .vmem, ⟨3, _⟩ => ⟨S2x128, .f32⟩
  | .local .tc .vmem, ⟨4, _⟩ => ⟨S1x128, .f32⟩
  | .local .tc .vmem, ⟨5, _⟩ => ⟨S1x128, .f32⟩
  | .local .tc .vmem, ⟨6, _⟩ => ⟨S8x512x128, .f32⟩
  | .local .tc .vmem, ⟨7, _⟩ => ⟨S8x512x128, .f32⟩
  | .local .tc .vmem, ⟨8, _⟩ => ⟨S8x512x128, .f32⟩
  | .local .tc .vmem, ⟨9, _⟩ => ⟨S8x512x128, .f32⟩
  | .local .tc .vmem, ⟨10, _⟩ => ⟨S512x128, .f32⟩
  | .local .tc .vmem, ⟨11, _⟩ => ⟨S2x128, .f32⟩
  | .local .tc .vmem, ⟨12, _⟩ => ⟨S1x128, .f32⟩
  | .local .tc .vmem, ⟨13, _⟩ => ⟨S1x128, .f32⟩
  | .local .tc .vmem, ⟨14, _⟩ => ⟨S8x512x128, .f32⟩
  | .local .tc .vmem, ⟨15, _⟩ => ⟨S8x512x128, .f32⟩
  | .local .tc .vmem, ⟨16, _⟩ => ⟨S8x512x128, .f32⟩
  | .local .tc .vmem, ⟨17, _⟩ => ⟨S8x512x128, .f32⟩
  | .local .tc .vmem, ⟨18, _⟩ => ⟨S512x128, .f32⟩
  | .local .tc .vmem, ⟨19, _⟩ => ⟨S2x128, .f32⟩
  | .local .tc .vmem, ⟨20, _⟩ => ⟨S1x128, .f32⟩
  | .local .tc .vmem, ⟨21, _⟩ => ⟨S1x128, .f32⟩
  | .local .tc .vmem, ⟨22, _⟩ => ⟨S8x512x128, .f32⟩
  | .local .tc .vmem, ⟨23, _⟩ => ⟨S8x512x128, .f32⟩
  | .local .tc .vmem, ⟨24, _⟩ => ⟨S8x512x128, .f32⟩
  | .local .tc .vmem, ⟨25, _⟩ => ⟨S8x512x128, .f32⟩
  | .local .tc .vmem, ⟨26, _⟩ => ⟨S512x128, .f32⟩
  | .local .tc .vmem, ⟨27, _⟩ => ⟨S2x128, .f32⟩
  | .local .tc .vmem, ⟨28, _⟩ => ⟨S1x128, .f32⟩
  | .local .tc .vmem, ⟨29, _⟩ => ⟨S1x128, .f32⟩
  | .local .tc .vmem, ⟨30, _⟩ => ⟨S8x512x128, .f32⟩
  | .local .tc .vmem, ⟨31, _⟩ => ⟨S8x512x128, .f32⟩
  | .local .tc .vmem, ⟨32, _⟩ => ⟨S8x512x128, .f32⟩
  | .local .tc .vmem, ⟨33, _⟩ => ⟨S8x512x128, .f32⟩
  | .local .tc .vmem, ⟨34, _⟩ => ⟨S512x128, .f32⟩
  | .local .tc .vmem, ⟨35, _⟩ => ⟨S2x128, .f32⟩
  | .local .tc .vmem, ⟨36, _⟩ => ⟨S1x128, .f32⟩
  | .local .tc .vmem, ⟨37, _⟩ => ⟨S1x128, .f32⟩
  | .local .tc .vmem, ⟨38, _⟩ => ⟨S8x512x128, .f32⟩
  | .local .tc .vmem, ⟨39, _⟩ => ⟨S8x512x128, .f32⟩
  | .local .tc .vmem, ⟨40, _⟩ => ⟨S8x512x128, .f32⟩
  | .local .tc .vmem, ⟨41, _⟩ => ⟨S8x512x128, .f32⟩
  | .local .tc .vmem, ⟨42, _⟩ => ⟨S512x128, .f32⟩
  | .local .tc .vmem, ⟨43, _⟩ => ⟨S2x128, .f32⟩
  | .local .tc .vmem, ⟨44, _⟩ => ⟨S1x128, .f32⟩
  | .local .tc .vmem, ⟨45, _⟩ => ⟨S1x128, .f32⟩
  | .local .tc .vmem, ⟨46, _⟩ => ⟨S8x512x128, .f32⟩
  | .local .tc .vmem, ⟨47, _⟩ => ⟨S8x512x128, .f32⟩
  | .local .tc .vmem, ⟨48, _⟩ => ⟨S8x512x128, .f32⟩
  | .local .tc .vmem, ⟨49, _⟩ => ⟨S8x512x128, .f32⟩
  | .local .tc .vmem, ⟨50, _⟩ => ⟨S512x128, .f32⟩
  | .local .tc .vmem, ⟨51, _⟩ => ⟨S2x128, .f32⟩
  | .local .tc .vmem, ⟨52, _⟩ => ⟨S1x128, .f32⟩
  | .local .tc .vmem, ⟨53, _⟩ => ⟨S1x128, .f32⟩
  | .local .tc .vmem, ⟨54, _⟩ => ⟨S8x512x128, .f32⟩
  | .local .tc .vmem, ⟨55, _⟩ => ⟨S8x512x128, .f32⟩
  | .local .tc .vmem, ⟨56, _⟩ => ⟨S8x512x128, .f32⟩
  | .local .tc .vmem, ⟨57, _⟩ => ⟨S8x512x128, .f32⟩
  | .local .tc .vmem, ⟨58, _⟩ => ⟨S512x128, .f32⟩
  | .local .tc .vmem, ⟨59, _⟩ => ⟨S2x128, .f32⟩
  | .local .tc .vmem, ⟨60, _⟩ => ⟨S1x128, .f32⟩
  | .local .tc .vmem, ⟨61, _⟩ => ⟨S1x128, .f32⟩
  | .local .tc .vmem, ⟨62, _⟩ => ⟨S8x512x128, .f32⟩
  | .local .tc .vmem, ⟨63, _⟩ => ⟨S8x512x128, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | .local .scVector .vmem, ⟨6, _⟩ => ⟨S2x1x128, .i32⟩
  | .local .scVector .vmem, ⟨7, _⟩ => ⟨S2x128x128, .f32⟩
  | .local .scVector .vmem, ⟨8, _⟩ => ⟨S2x1x128, .i32⟩
  | .local .scVector .vmem, ⟨9, _⟩ => ⟨S2x128x128, .f32⟩
  | .local .scVector .vmem, ⟨10, _⟩ => ⟨S2x1x128, .i32⟩
  | .local .scVector .vmem, ⟨11, _⟩ => ⟨S2x128x128, .f32⟩
  | .local .scVector .vmem, ⟨12, _⟩ => ⟨S2x1x128, .i32⟩
  | .local .scVector .vmem, ⟨13, _⟩ => ⟨S2x128x128, .f32⟩
  | .local .scVector .vmem, ⟨14, _⟩ => ⟨S2x1x128, .i32⟩
  | .local .scVector .vmem, ⟨15, _⟩ => ⟨S2x128x128, .f32⟩
  | _, _ => ⟨S1024x512, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 104 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => false
  | ⟨27, _⟩ => false
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => false
  | ⟨40, _⟩ => false
  | ⟨41, _⟩ => false
  | ⟨42, _⟩ => false
  | ⟨43, _⟩ => false
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => false
  | ⟨53, _⟩ => false
  | ⟨54, _⟩ => false
  | ⟨55, _⟩ => false
  | ⟨56, _⟩ => false
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => false
  | ⟨66, _⟩ => false
  | ⟨67, _⟩ => false
  | ⟨68, _⟩ => false
  | ⟨69, _⟩ => false
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => false
  | ⟨79, _⟩ => false
  | ⟨80, _⟩ => false
  | ⟨81, _⟩ => false
  | ⟨82, _⟩ => false
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => false
  | ⟨92, _⟩ => false
  | ⟨93, _⟩ => false
  | ⟨94, _⟩ => false
  | ⟨95, _⟩ => false
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTables nBuf rfl bufTy 4 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_arg1_scv : Ref sig .scVector := ⟨.hbm, 1, rfl⟩
abbrev main_v3_scv : Ref sig .scVector := ⟨.hbm, 9, rfl⟩
abbrev main_v4_scv : Ref sig .scVector := ⟨.hbm, 10, rfl⟩
abbrev main_v8_scv : Ref sig .scVector := ⟨.hbm, 14, rfl⟩
abbrev main_v9_scv : Ref sig .scVector := ⟨.hbm, 15, rfl⟩
abbrev main_v13_scv : Ref sig .scVector := ⟨.hbm, 19, rfl⟩
abbrev main_v14_scv : Ref sig .scVector := ⟨.hbm, 20, rfl⟩
abbrev main_v18_scv : Ref sig .scVector := ⟨.hbm, 24, rfl⟩
abbrev main_v19_scv : Ref sig .scVector := ⟨.hbm, 25, rfl⟩
abbrev main_v23_scv : Ref sig .scVector := ⟨.hbm, 29, rfl⟩
abbrev main_v24_scv : Ref sig .scVector := ⟨.hbm, 30, rfl⟩
abbrev main_v28_scv : Ref sig .scVector := ⟨.hbm, 34, rfl⟩
abbrev main_v29_scv : Ref sig .scVector := ⟨.hbm, 35, rfl⟩
abbrev main_v33_scv : Ref sig .scVector := ⟨.hbm, 39, rfl⟩
abbrev main_v34_scv : Ref sig .scVector := ⟨.hbm, 40, rfl⟩
abbrev main_v38_scv : Ref sig .scVector := ⟨.hbm, 44, rfl⟩
abbrev main_v39_scv : Ref sig .scVector := ⟨.hbm, 45, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg2_0 : Ref sig .tc := ⟨.vmem, 11, rfl⟩
abbrev cc3_stg3_0 : Ref sig .tc := ⟨.vmem, 12, rfl⟩
abbrev cc3_stg4_0 : Ref sig .tc := ⟨.vmem, 13, rfl⟩
abbrev cc3_stg5_0 : Ref sig .tc := ⟨.vmem, 14, rfl⟩
abbrev cc3_stg5_1 : Ref sig .tc := ⟨.vmem, 15, rfl⟩
abbrev cc5_stg0_0 : Ref sig .tc := ⟨.vmem, 16, rfl⟩
abbrev cc5_stg0_1 : Ref sig .tc := ⟨.vmem, 17, rfl⟩
abbrev cc5_stg1_0 : Ref sig .tc := ⟨.vmem, 18, rfl⟩
abbrev cc5_stg2_0 : Ref sig .tc := ⟨.vmem, 19, rfl⟩
abbrev cc5_stg3_0 : Ref sig .tc := ⟨.vmem, 20, rfl⟩
abbrev cc5_stg4_0 : Ref sig .tc := ⟨.vmem, 21, rfl⟩
abbrev cc5_stg5_0 : Ref sig .tc := ⟨.vmem, 22, rfl⟩
abbrev cc5_stg5_1 : Ref sig .tc := ⟨.vmem, 23, rfl⟩
abbrev cc7_stg0_0 : Ref sig .tc := ⟨.vmem, 24, rfl⟩
abbrev cc7_stg0_1 : Ref sig .tc := ⟨.vmem, 25, rfl⟩
abbrev cc7_stg1_0 : Ref sig .tc := ⟨.vmem, 26, rfl⟩
abbrev cc7_stg2_0 : Ref sig .tc := ⟨.vmem, 27, rfl⟩
abbrev cc7_stg3_0 : Ref sig .tc := ⟨.vmem, 28, rfl⟩
abbrev cc7_stg4_0 : Ref sig .tc := ⟨.vmem, 29, rfl⟩
abbrev cc7_stg5_0 : Ref sig .tc := ⟨.vmem, 30, rfl⟩
abbrev cc7_stg5_1 : Ref sig .tc := ⟨.vmem, 31, rfl⟩
abbrev cc9_stg0_0 : Ref sig .tc := ⟨.vmem, 32, rfl⟩
abbrev cc9_stg0_1 : Ref sig .tc := ⟨.vmem, 33, rfl⟩
abbrev cc9_stg1_0 : Ref sig .tc := ⟨.vmem, 34, rfl⟩
abbrev cc9_stg2_0 : Ref sig .tc := ⟨.vmem, 35, rfl⟩
abbrev cc9_stg3_0 : Ref sig .tc := ⟨.vmem, 36, rfl⟩
abbrev cc9_stg4_0 : Ref sig .tc := ⟨.vmem, 37, rfl⟩
abbrev cc9_stg5_0 : Ref sig .tc := ⟨.vmem, 38, rfl⟩
abbrev cc9_stg5_1 : Ref sig .tc := ⟨.vmem, 39, rfl⟩
abbrev cc11_stg0_0 : Ref sig .tc := ⟨.vmem, 40, rfl⟩
abbrev cc11_stg0_1 : Ref sig .tc := ⟨.vmem, 41, rfl⟩
abbrev cc11_stg1_0 : Ref sig .tc := ⟨.vmem, 42, rfl⟩
abbrev cc11_stg2_0 : Ref sig .tc := ⟨.vmem, 43, rfl⟩
abbrev cc11_stg3_0 : Ref sig .tc := ⟨.vmem, 44, rfl⟩
abbrev cc11_stg4_0 : Ref sig .tc := ⟨.vmem, 45, rfl⟩
abbrev cc11_stg5_0 : Ref sig .tc := ⟨.vmem, 46, rfl⟩
abbrev cc11_stg5_1 : Ref sig .tc := ⟨.vmem, 47, rfl⟩
abbrev cc13_stg0_0 : Ref sig .tc := ⟨.vmem, 48, rfl⟩
abbrev cc13_stg0_1 : Ref sig .tc := ⟨.vmem, 49, rfl⟩
abbrev cc13_stg1_0 : Ref sig .tc := ⟨.vmem, 50, rfl⟩
abbrev cc13_stg2_0 : Ref sig .tc := ⟨.vmem, 51, rfl⟩
abbrev cc13_stg3_0 : Ref sig .tc := ⟨.vmem, 52, rfl⟩
abbrev cc13_stg4_0 : Ref sig .tc := ⟨.vmem, 53, rfl⟩
abbrev cc13_stg5_0 : Ref sig .tc := ⟨.vmem, 54, rfl⟩
abbrev cc13_stg5_1 : Ref sig .tc := ⟨.vmem, 55, rfl⟩
abbrev cc15_stg0_0 : Ref sig .tc := ⟨.vmem, 56, rfl⟩
abbrev cc15_stg0_1 : Ref sig .tc := ⟨.vmem, 57, rfl⟩
abbrev cc15_stg1_0 : Ref sig .tc := ⟨.vmem, 58, rfl⟩
abbrev cc15_stg2_0 : Ref sig .tc := ⟨.vmem, 59, rfl⟩
abbrev cc15_stg3_0 : Ref sig .tc := ⟨.vmem, 60, rfl⟩
abbrev cc15_stg4_0 : Ref sig .tc := ⟨.vmem, 61, rfl⟩
abbrev cc15_stg5_0 : Ref sig .tc := ⟨.vmem, 62, rfl⟩
abbrev cc15_stg5_1 : Ref sig .tc := ⟨.vmem, 63, rfl⟩
abbrev cc0_scoped0 : Ref sig .scVector := ⟨.vmem, 0, rfl⟩
abbrev cc0_scoped2 : Ref sig .scVector := ⟨.vmem, 1, rfl⟩
abbrev cc2_scoped0 : Ref sig .scVector := ⟨.vmem, 2, rfl⟩
abbrev cc2_scoped2 : Ref sig .scVector := ⟨.vmem, 3, rfl⟩
abbrev cc4_scoped0 : Ref sig .scVector := ⟨.vmem, 4, rfl⟩
abbrev cc4_scoped2 : Ref sig .scVector := ⟨.vmem, 5, rfl⟩
abbrev cc6_scoped0 : Ref sig .scVector := ⟨.vmem, 6, rfl⟩
abbrev cc6_scoped2 : Ref sig .scVector := ⟨.vmem, 7, rfl⟩
abbrev cc8_scoped0 : Ref sig .scVector := ⟨.vmem, 8, rfl⟩
abbrev cc8_scoped2 : Ref sig .scVector := ⟨.vmem, 9, rfl⟩
abbrev cc10_scoped0 : Ref sig .scVector := ⟨.vmem, 10, rfl⟩
abbrev cc10_scoped2 : Ref sig .scVector := ⟨.vmem, 11, rfl⟩
abbrev cc12_scoped0 : Ref sig .scVector := ⟨.vmem, 12, rfl⟩
abbrev cc12_scoped2 : Ref sig .scVector := ⟨.vmem, 13, rfl⟩
abbrev cc14_scoped0 : Ref sig .scVector := ⟨.vmem, 14, rfl⟩
abbrev cc14_scoped2 : Ref sig .scVector := ⟨.vmem, 15, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem5_1 : DmaSem sig := 38
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem4_0 : DmaSem sig := 49
abbrev cc7_sem5_0 : DmaSem sig := 50
abbrev cc7_sem5_1 : DmaSem sig := 51
abbrev cc9_sem0_0 : DmaSem sig := 57
abbrev cc9_sem0_1 : DmaSem sig := 58
abbrev cc9_sem1_0 : DmaSem sig := 59
abbrev cc9_sem2_0 : DmaSem sig := 60
abbrev cc9_sem3_0 : DmaSem sig := 61
abbrev cc9_sem4_0 : DmaSem sig := 62
abbrev cc9_sem5_0 : DmaSem sig := 63
abbrev cc9_sem5_1 : DmaSem sig := 64
abbrev cc11_sem0_0 : DmaSem sig := 70
abbrev cc11_sem0_1 : DmaSem sig := 71
abbrev cc11_sem1_0 : DmaSem sig := 72
abbrev cc11_sem2_0 : DmaSem sig := 73
abbrev cc11_sem3_0 : DmaSem sig := 74
abbrev cc11_sem4_0 : DmaSem sig := 75
abbrev cc11_sem5_0 : DmaSem sig := 76
abbrev cc11_sem5_1 : DmaSem sig := 77
abbrev cc13_sem0_0 : DmaSem sig := 83
abbrev cc13_sem0_1 : DmaSem sig := 84
abbrev cc13_sem1_0 : DmaSem sig := 85
abbrev cc13_sem2_0 : DmaSem sig := 86
abbrev cc13_sem3_0 : DmaSem sig := 87
abbrev cc13_sem4_0 : DmaSem sig := 88
abbrev cc13_sem5_0 : DmaSem sig := 89
abbrev cc13_sem5_1 : DmaSem sig := 90
abbrev cc15_sem0_0 : DmaSem sig := 96
abbrev cc15_sem0_1 : DmaSem sig := 97
abbrev cc15_sem1_0 : DmaSem sig := 98
abbrev cc15_sem2_0 : DmaSem sig := 99
abbrev cc15_sem3_0 : DmaSem sig := 100
abbrev cc15_sem4_0 : DmaSem sig := 101
abbrev cc15_sem5_0 : DmaSem sig := 102
abbrev cc15_sem5_1 : DmaSem sig := 103
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k0_off2 (i : grid0.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k0_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k0_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k0_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k0_off5 (i : grid0.Coords) (arg10_r0 : BitVec 32) : Fin 2 → Nat :=
  let c0_i32_104_r0 : BitVec 32 := 0#32
  let c128_i32_101_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_101_r0 v76_r0
  ![0, v145_r0.toNat]
def k0_off6 (arg6_r0 : BitVec 32) : Fin 1 → Nat :=
  let c2_i32_100_r0 : BitVec 32 := 2#32
  let v144_r0 : BitVec 32 := Scalar.remui arg6_r0 c2_i32_100_r0
  ![v144_r0.toNat]
def k0_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k0_off8 (i : grid0.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_100_r0 v66_r0
  ![0, v144_r0.toNat]
def k0_off9 (arg7_r0 : BitVec 32) : Fin 1 → Nat :=
  let c2_i32_101_r0 : BitVec 32 := 2#32
  let v145_r0 : BitVec 32 := Scalar.remui arg7_r0 c2_i32_101_r0
  ![v145_r0.toNat]
def k0_off10 (arg8_r0 : BitVec 32) : Fin 3 → Nat :=
  let c2_i32_82_r0 : BitVec 32 := 2#32
  let v109_r0 : BitVec 32 := Scalar.remui arg8_r0 c2_i32_82_r0
  let c0_i32_100_r1 : BitVec 32 := 0#32
  let c0_i32_101_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_81_r0 : BitVec 32 := 2#32
  let v108_r0 : BitVec 32 := Scalar.remui arg7_r0 c2_i32_81_r0
  let c0_i32_102_r1 : BitVec 32 := 0#32
  let c0_i32_103_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_101_r0 v66_r0
  let c0_i32_104_r0 : BitVec 32 := 0#32
  ![v145_r0.toNat, 0]
def k0_off14 (arg8_r0 : BitVec 32) : Fin 1 → Nat :=
  let c2_i32_100_r0 : BitVec 32 := 2#32
  let v144_r0 : BitVec 32 := Scalar.remui arg8_r0 c2_i32_100_r0
  ![v144_r0.toNat]
def k0_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_55_r0 : BitVec 32 := 0#32
  let v64_r0 : BitVec 1 := Scalar.cmpi .eq arg5_r0 c0_i32_55_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k0_off16 (i : grid0.Coords) (arg10_r0 : BitVec 32) : Fin 2 → Nat :=
  let c128_i32_101_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_101_r0 v71_r0
  let c0_i32_104_r0 : BitVec 32 := 0#32
  ![v145_r0.toNat, 0]
def k0_off17 (arg9_r0 : BitVec 32) : Fin 1 → Nat :=
  let c2_i32_100_r0 : BitVec 32 := 2#32
  let v144_r0 : BitVec 32 := Scalar.remui arg9_r0 c2_i32_100_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x65536.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x65536.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S65536x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S65536x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x65536.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x65536.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S65536x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S65536x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k0_off19 (i : grid0.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k0_chk5 (i : grid0.Coords) (v33_4_r0 : BitVec 32) : Prop :=
  (∀ a, (k0_off19 i v33_4_r0) a + S128x128.size a ≤ S65536x128.size a)
theorem k0_off19_inb : ∀ (i : grid0.Coords) (v33_4_r0 : BitVec 32) (k0_hw5 : k0_chk5 i v33_4_r0), ∀ a, (k0_off19 i v33_4_r0) a + S128x128.size a ≤ S65536x128.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k2_off2 (i : grid2.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k2_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k2_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k2_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k2_cond1 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k2_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k2_off5 (i : grid2.Coords) (arg10_r0 : BitVec 32) : Fin 2 → Nat :=
  let c0_i32_104_r0 : BitVec 32 := 0#32
  let c128_i32_101_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_101_r0 v76_r0
  ![0, v145_r0.toNat]
def k2_off6 (arg6_r0 : BitVec 32) : Fin 1 → Nat :=
  let c2_i32_100_r0 : BitVec 32 := 2#32
  let v144_r0 : BitVec 32 := Scalar.remui arg6_r0 c2_i32_100_r0
  ![v144_r0.toNat]
def k2_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k2_cond2 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k2_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k2_off8 (i : grid2.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_100_r0 v66_r0
  ![0, v144_r0.toNat]
def k2_off9 (arg7_r0 : BitVec 32) : Fin 1 → Nat :=
  let c2_i32_101_r0 : BitVec 32 := 2#32
  let v145_r0 : BitVec 32 := Scalar.remui arg7_r0 c2_i32_101_r0
  ![v145_r0.toNat]
def k2_off10 (arg8_r0 : BitVec 32) : Fin 3 → Nat :=
  let c2_i32_82_r0 : BitVec 32 := 2#32
  let v109_r0 : BitVec 32 := Scalar.remui arg8_r0 c2_i32_82_r0
  let c0_i32_100_r1 : BitVec 32 := 0#32
  let c0_i32_101_r1 : BitVec 32 := 0#32
  ![v109_r0.toNat, 0, 0]

def k2_chk2 (arg8_r0 : BitVec 32) : Prop :=
  (∀ a, (k2_off10 arg8_r0) a + S1x128x128.size a ≤ S2x128x128.size a)
theorem k2_off10_inb : ∀ (arg8_r0 : BitVec 32) (k2_hw2 : k2_chk2 arg8_r0), ∀ a, (k2_off10 arg8_r0) a + S1x128x128.size a ≤ S2x128x128.size a := fun arg8_r0 k2_hw2 => k2_hw2

def k2_off11 (arg7_r0 : BitVec 32) : Fin 3 → Nat :=
  let c2_i32_81_r0 : BitVec 32 := 2#32
  let v108_r0 : BitVec 32 := Scalar.remui arg7_r0 c2_i32_81_r0
  let c0_i32_102_r1 : BitVec 32 := 0#32
  let c0_i32_103_r1 : BitVec 32 := 0#32
  ![v108_r0.toNat, 0, 0]

def k2_chk3 (arg7_r0 : BitVec 32) : Prop :=
  (∀ a, (k2_off11 arg7_r0) a + S1x1x128.size a ≤ S2x1x128.size a)
theorem k2_off11_inb : ∀ (arg7_r0 : BitVec 32) (k2_hw3 : k2_chk3 arg7_r0), ∀ a, (k2_off11 arg7_r0) a + S1x1x128.size a ≤ S2x1x128.size a := fun arg7_r0 k2_hw3 => k2_hw3

def k2_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k2_cond5 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k2_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k2_off13 (i : grid2.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_101_r0 v66_r0
  let c0_i32_104_r0 : BitVec 32 := 0#32
  ![v145_r0.toNat, 0]
def k2_off14 (arg8_r0 : BitVec 32) : Fin 1 → Nat :=
  let c2_i32_100_r0 : BitVec 32 := 2#32
  let v144_r0 : BitVec 32 := Scalar.remui arg8_r0 c2_i32_100_r0
  ![v144_r0.toNat]
def k2_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k2_cond7 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k2_t1
  let c0_i32_55_r0 : BitVec 32 := 0#32
  let v64_r0 : BitVec 1 := Scalar.cmpi .eq arg5_r0 c0_i32_55_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k2_off16 (i : grid2.Coords) (arg10_r0 : BitVec 32) : Fin 2 → Nat :=
  let c128_i32_101_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_101_r0 v71_r0
  let c0_i32_104_r0 : BitVec 32 := 0#32
  ![v145_r0.toNat, 0]
def k2_off17 (arg9_r0 : BitVec 32) : Fin 1 → Nat :=
  let c2_i32_100_r0 : BitVec 32 := 2#32
  let v144_r0 : BitVec 32 := Scalar.remui arg9_r0 c2_i32_100_r0
  ![v144_r0.toNat]

def k2_chk1 (i : grid2.Coords) (k2_t1 : Fin k2_t1_loop.trips) (arg6_r0 : BitVec 32) (arg7_r0 : BitVec 32) (arg8_r0 : BitVec 32) (arg9_r0 : BitVec 32) (arg10_r0 : BitVec 32) : Prop :=
  (∀ (k2_h1 : k2_cond1 i k2_t1 arg10_r0 = 1#1), ∀ a, (k2_off4 arg6_r0) a + S1x1x128.size a ≤ S2x1x128.size a) ∧
  (∀ (k2_h1 : k2_cond1 i k2_t1 arg10_r0 = 1#1), ∀ a, (k2_off5 i arg10_r0) a + S1x128.size a ≤ S1x65536.size a) ∧
  (∀ (k2_h1 : k2_cond1 i k2_t1 arg10_r0 = 1#1), ∀ a, (k2_off6 arg6_r0) a + S1.size a ≤ S2.size a) ∧
  (∀ (k2_h2 : k2_cond2 i k2_t1 arg10_r0 = 1#1), ∀ a, (k2_off7 arg7_r0) a + S1x1x128.size a ≤ S2x1x128.size a) ∧
  (∀ (k2_h2 : k2_cond2 i k2_t1 arg10_r0 = 1#1), ∀ a, (k2_off8 i arg10_r0) a + S1x128.size a ≤ S1x65536.size a) ∧
  (∀ (k2_h2 : k2_cond2 i k2_t1 arg10_r0 = 1#1), ∀ a, (k2_off9 arg7_r0) a + S1.size a ≤ S2.size a) ∧
  (∀ (k2_h5 : k2_cond5 i k2_t1 arg10_r0 = 1#1), ∀ a, (k2_off12 arg8_r0) a + S1x128x128.size a ≤ S2x128x128.size a) ∧
  (∀ (k2_h5 : k2_cond5 i k2_t1 arg10_r0 = 1#1), ∀ a, (k2_off13 i arg10_r0) a + S128x128.size a ≤ S65536x128.size a) ∧
  (∀ (k2_h5 : k2_cond5 i k2_t1 arg10_r0 = 1#1), ∀ a, (k2_off14 arg8_r0) a + S1.size a ≤ S2.size a) ∧
  (∀ (k2_h7 : k2_cond7 i k2_t1 arg10_r0 = 1#1), ∀ a, (k2_off15 arg9_r0) a + S1x128x128.size a ≤ S2x128x128.size a) ∧
  (∀ (k2_h7 : k2_cond7 i k2_t1 arg10_r0 = 1#1), ∀ a, (k2_off16 i arg10_r0) a + S128x128.size a ≤ S65536x128.size a) ∧
  (∀ (k2_h7 : k2_cond7 i k2_t1 arg10_r0 = 1#1), ∀ a, (k2_off17 arg9_r0) a + S1.size a ≤ S2.size a)
theorem k2_off4_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off4 arg6_r0) a + S1x1x128.size a ≤ S2x1x128.size a := fun i k2_t1 arg6_r0 arg7_r0 arg8_r0 arg9_r0 arg10_r0 k2_hw1 k2_h1 => k2_hw1.1 k2_h1
theorem k2_off5_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off5 i arg10_r0) a + S1x128.size a ≤ S1x65536.size a := fun i k2_t1 arg6_r0 arg7_r0 arg8_r0 arg9_r0 arg10_r0 k2_hw1 k2_h1 => k2_hw1.2.1 k2_h1
theorem k2_off6_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off6 arg6_r0) a + S1.size a ≤ S2.size a := fun i k2_t1 arg6_r0 arg7_r0 arg8_r0 arg9_r0 arg10_r0 k2_hw1 k2_h1 => k2_hw1.2.2.1 k2_h1
theorem k2_off7_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off7 arg7_r0) a + S1x1x128.size a ≤ S2x1x128.size a := fun i k2_t1 arg6_r0 arg7_r0 arg8_r0 arg9_r0 arg10_r0 k2_hw1 k2_h2 => k2_hw1.2.2.2.1 k2_h2
theorem k2_off8_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off8 i arg10_r0) a + S1x128.size a ≤ S1x65536.size a := fun i k2_t1 arg6_r0 arg7_r0 arg8_r0 arg9_r0 arg10_r0 k2_hw1 k2_h2 => k2_hw1.2.2.2.2.1 k2_h2
theorem k2_off9_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off9 arg7_r0) a + S1.size a ≤ S2.size a := fun i k2_t1 arg6_r0 arg7_r0 arg8_r0 arg9_r0 arg10_r0 k2_hw1 k2_h2 => k2_hw1.2.2.2.2.2.1 k2_h2
theorem k2_off12_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off12 arg8_r0) a + S1x128x128.size a ≤ S2x128x128.size a := fun i k2_t1 arg6_r0 arg7_r0 arg8_r0 arg9_r0 arg10_r0 k2_hw1 k2_h5 => k2_hw1.2.2.2.2.2.2.1 k2_h5
theorem k2_off13_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off13 i arg10_r0) a + S128x128.size a ≤ S65536x128.size a := fun i k2_t1 arg6_r0 arg7_r0 arg8_r0 arg9_r0 arg10_r0 k2_hw1 k2_h5 => k2_hw1.2.2.2.2.2.2.2.1 k2_h5
theorem k2_off14_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off14 arg8_r0) a + S1.size a ≤ S2.size a := fun i k2_t1 arg6_r0 arg7_r0 arg8_r0 arg9_r0 arg10_r0 k2_hw1 k2_h5 => k2_hw1.2.2.2.2.2.2.2.2.1 k2_h5
theorem k2_off15_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off15 arg9_r0) a + S1x128x128.size a ≤ S2x128x128.size a := fun i k2_t1 arg6_r0 arg7_r0 arg8_r0 arg9_r0 arg10_r0 k2_hw1 k2_h7 => k2_hw1.2.2.2.2.2.2.2.2.2.1 k2_h7
theorem k2_off16_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off16 i arg10_r0) a + S128x128.size a ≤ S65536x128.size a := fun i k2_t1 arg6_r0 arg7_r0 arg8_r0 arg9_r0 arg10_r0 k2_hw1 k2_h7 => k2_hw1.2.2.2.2.2.2.2.2.2.2.1 k2_h7
theorem k2_off17_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off17 arg9_r0) a + S1.size a ≤ S2.size a := fun i k2_t1 arg6_r0 arg7_r0 arg8_r0 arg9_r0 arg10_r0 k2_hw1 k2_h7 => k2_hw1.2.2.2.2.2.2.2.2.2.2.2 k2_h7

def k2_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k2_off19 (i : grid2.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k2_chk5 (i : grid2.Coords) (v33_4_r0 : BitVec 32) : Prop :=
  (∀ a, (k2_off19 i v33_4_r0) a + S128x128.size a ≤ S65536x128.size a)
theorem k2_off19_inb : ∀ (i : grid2.Coords) (v33_4_r0 : BitVec 32) (k2_hw5 : k2_chk5 i v33_4_r0), ∀ a, (k2_off19 i v33_4_r0) a + S128x128.size a ≤ S65536x128.size a := fun i v33_4_r0 k2_hw5 => k2_hw5

def k2_off20 (v33_3_r0 : BitVec 32) : Fin 1 → Nat :=
  let c2_i32_47_r0 : BitVec 32 := 2#32
  let v54_r0 : BitVec 32 := Scalar.remui v33_3_r0 c2_i32_47_r0
  ![v54_r0.toNat]
def k2_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k2_chk4 (v33_3_r0 : BitVec 32) : Prop :=
  (∀ a, (k2_off18 v33_3_r0) a + S1x128x128.size a ≤ S2x128x128.size a) ∧
  (∀ a, (k2_off20 v33_3_r0) a + S1.size a ≤ S2.size a) ∧
  (∀ a, (k2_off21 v33_3_r0) a + S1x128x128.size a ≤ S2x128x128.size a)
theorem k2_off18_inb : ∀ (v33_3_r0 : BitVec 32) (k2_hw4 : k2_chk4 v33_3_r0), ∀ a, (k2_off18 v33_3_r0) a + S1x128x128.size a ≤ S2x128x128.size a := fun v33_3_r0 k2_hw4 => k2_hw4.1
theorem k2_off20_inb : ∀ (v33_3_r0 : BitVec 32) (k2_hw4 : k2_chk4 v33_3_r0), ∀ a, (k2_off20 v33_3_r0) a + S1.size a ≤ S2.size a := fun v33_3_r0 k2_hw4 => k2_hw4.2.1
theorem k2_off21_inb : ∀ (v33_3_r0 : BitVec 32) (k2_hw4 : k2_chk4 v33_3_r0), ∀ a, (k2_off21 v33_3_r0) a + S1x128x128.size a ≤ S2x128x128.size a := fun v33_3_r0 k2_hw4 => k2_hw4.2.2

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S8x512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8x512x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![2, 16], ![false, false]⟩

def k4_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k4_off2 (i : grid4.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k4_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k4_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k4_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k4_cond1 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k4_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k4_off5 (i : grid4.Coords) (arg10_r0 : BitVec 32) : Fin 2 → Nat :=
  let c0_i32_104_r0 : BitVec 32 := 0#32
  let c128_i32_101_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_101_r0 v76_r0
  ![0, v145_r0.toNat]
def k4_off6 (arg6_r0 : BitVec 32) : Fin 1 → Nat :=
  let c2_i32_100_r0 : BitVec 32 := 2#32
  let v144_r0 : BitVec 32 := Scalar.remui arg6_r0 c2_i32_100_r0
  ![v144_r0.toNat]
def k4_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k4_cond2 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k4_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k4_off8 (i : grid4.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_100_r0 v66_r0
  ![0, v144_r0.toNat]
def k4_off9 (arg7_r0 : BitVec 32) : Fin 1 → Nat :=
  let c2_i32_101_r0 : BitVec 32 := 2#32
  let v145_r0 : BitVec 32 := Scalar.remui arg7_r0 c2_i32_101_r0
  ![v145_r0.toNat]
def k4_off10 (arg8_r0 : BitVec 32) : Fin 3 → Nat :=
  let c2_i32_82_r0 : BitVec 32 := 2#32
  let v109_r0 : BitVec 32 := Scalar.remui arg8_r0 c2_i32_82_r0
  let c0_i32_100_r1 : BitVec 32 := 0#32
  let c0_i32_101_r1 : BitVec 32 := 0#32
  ![v109_r0.toNat, 0, 0]

def k4_chk2 (arg8_r0 : BitVec 32) : Prop :=
  (∀ a, (k4_off10 arg8_r0) a + S1x128x128.size a ≤ S2x128x128.size a)
theorem k4_off10_inb : ∀ (arg8_r0 : BitVec 32) (k4_hw2 : k4_chk2 arg8_r0), ∀ a, (k4_off10 arg8_r0) a + S1x128x128.size a ≤ S2x128x128.size a := fun arg8_r0 k4_hw2 => k4_hw2

def k4_off11 (arg7_r0 : BitVec 32) : Fin 3 → Nat :=
  let c2_i32_81_r0 : BitVec 32 := 2#32
  let v108_r0 : BitVec 32 := Scalar.remui arg7_r0 c2_i32_81_r0
  let c0_i32_102_r1 : BitVec 32 := 0#32
  let c0_i32_103_r1 : BitVec 32 := 0#32
  ![v108_r0.toNat, 0, 0]

def k4_chk3 (arg7_r0 : BitVec 32) : Prop :=
  (∀ a, (k4_off11 arg7_r0) a + S1x1x128.size a ≤ S2x1x128.size a)
theorem k4_off11_inb : ∀ (arg7_r0 : BitVec 32) (k4_hw3 : k4_chk3 arg7_r0), ∀ a, (k4_off11 arg7_r0) a + S1x1x128.size a ≤ S2x1x128.size a := fun arg7_r0 k4_hw3 => k4_hw3

def k4_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k4_cond5 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k4_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k4_off13 (i : grid4.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_101_r0 v66_r0
  let c0_i32_104_r0 : BitVec 32 := 0#32
  ![v145_r0.toNat, 0]
def k4_off14 (arg8_r0 : BitVec 32) : Fin 1 → Nat :=
  let c2_i32_100_r0 : BitVec 32 := 2#32
  let v144_r0 : BitVec 32 := Scalar.remui arg8_r0 c2_i32_100_r0
  ![v144_r0.toNat]
def k4_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k4_cond7 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k4_t1
  let c0_i32_55_r0 : BitVec 32 := 0#32
  let v64_r0 : BitVec 1 := Scalar.cmpi .eq arg5_r0 c0_i32_55_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k4_off16 (i : grid4.Coords) (arg10_r0 : BitVec 32) : Fin 2 → Nat :=
  let c128_i32_101_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_101_r0 v71_r0
  let c0_i32_104_r0 : BitVec 32 := 0#32
  ![v145_r0.toNat, 0]
def k4_off17 (arg9_r0 : BitVec 32) : Fin 1 → Nat :=
  let c2_i32_100_r0 : BitVec 32 := 2#32
  let v144_r0 : BitVec 32 := Scalar.remui arg9_r0 c2_i32_100_r0
  ![v144_r0.toNat]

def k4_chk1 (i : grid4.Coords) (k4_t1 : Fin k4_t1_loop.trips) (arg6_r0 : BitVec 32) (arg7_r0 : BitVec 32) (arg8_r0 : BitVec 32) (arg9_r0 : BitVec 32) (arg10_r0 : BitVec 32) : Prop :=
  (∀ (k4_h1 : k4_cond1 i k4_t1 arg10_r0 = 1#1), ∀ a, (k4_off4 arg6_r0) a + S1x1x128.size a ≤ S2x1x128.size a) ∧
  (∀ (k4_h1 : k4_cond1 i k4_t1 arg10_r0 = 1#1), ∀ a, (k4_off5 i arg10_r0) a + S1x128.size a ≤ S1x65536.size a) ∧
  (∀ (k4_h1 : k4_cond1 i k4_t1 arg10_r0 = 1#1), ∀ a, (k4_off6 arg6_r0) a + S1.size a ≤ S2.size a) ∧
  (∀ (k4_h2 : k4_cond2 i k4_t1 arg10_r0 = 1#1), ∀ a, (k4_off7 arg7_r0) a + S1x1x128.size a ≤ S2x1x128.size a) ∧
  (∀ (k4_h2 : k4_cond2 i k4_t1 arg10_r0 = 1#1), ∀ a, (k4_off8 i arg10_r0) a + S1x128.size a ≤ S1x65536.size a) ∧
  (∀ (k4_h2 : k4_cond2 i k4_t1 arg10_r0 = 1#1), ∀ a, (k4_off9 arg7_r0) a + S1.size a ≤ S2.size a) ∧
  (∀ (k4_h5 : k4_cond5 i k4_t1 arg10_r0 = 1#1), ∀ a, (k4_off12 arg8_r0) a + S1x128x128.size a ≤ S2x128x128.size a) ∧
  (∀ (k4_h5 : k4_cond5 i k4_t1 arg10_r0 = 1#1), ∀ a, (k4_off13 i arg10_r0) a + S128x128.size a ≤ S65536x128.size a) ∧
  (∀ (k4_h5 : k4_cond5 i k4_t1 arg10_r0 = 1#1), ∀ a, (k4_off14 arg8_r0) a + S1.size a ≤ S2.size a) ∧
  (∀ (k4_h7 : k4_cond7 i k4_t1 arg10_r0 = 1#1), ∀ a, (k4_off15 arg9_r0) a + S1x128x128.size a ≤ S2x128x128.size a) ∧
  (∀ (k4_h7 : k4_cond7 i k4_t1 arg10_r0 = 1#1), ∀ a, (k4_off16 i arg10_r0) a + S128x128.size a ≤ S65536x128.size a) ∧
  (∀ (k4_h7 : k4_cond7 i k4_t1 arg10_r0 = 1#1), ∀ a, (k4_off17 arg9_r0) a + S1.size a ≤ S2.size a)
theorem k4_off4_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off4 arg6_r0) a + S1x1x128.size a ≤ S2x1x128.size a := fun i k4_t1 arg6_r0 arg7_r0 arg8_r0 arg9_r0 arg10_r0 k4_hw1 k4_h1 => k4_hw1.1 k4_h1
theorem k4_off5_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off5 i arg10_r0) a + S1x128.size a ≤ S1x65536.size a := fun i k4_t1 arg6_r0 arg7_r0 arg8_r0 arg9_r0 arg10_r0 k4_hw1 k4_h1 => k4_hw1.2.1 k4_h1
theorem k4_off6_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off6 arg6_r0) a + S1.size a ≤ S2.size a := fun i k4_t1 arg6_r0 arg7_r0 arg8_r0 arg9_r0 arg10_r0 k4_hw1 k4_h1 => k4_hw1.2.2.1 k4_h1
theorem k4_off7_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off7 arg7_r0) a + S1x1x128.size a ≤ S2x1x128.size a := fun i k4_t1 arg6_r0 arg7_r0 arg8_r0 arg9_r0 arg10_r0 k4_hw1 k4_h2 => k4_hw1.2.2.2.1 k4_h2
theorem k4_off8_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off8 i arg10_r0) a + S1x128.size a ≤ S1x65536.size a := fun i k4_t1 arg6_r0 arg7_r0 arg8_r0 arg9_r0 arg10_r0 k4_hw1 k4_h2 => k4_hw1.2.2.2.2.1 k4_h2
theorem k4_off9_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off9 arg7_r0) a + S1.size a ≤ S2.size a := fun i k4_t1 arg6_r0 arg7_r0 arg8_r0 arg9_r0 arg10_r0 k4_hw1 k4_h2 => k4_hw1.2.2.2.2.2.1 k4_h2
theorem k4_off12_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off12 arg8_r0) a + S1x128x128.size a ≤ S2x128x128.size a := fun i k4_t1 arg6_r0 arg7_r0 arg8_r0 arg9_r0 arg10_r0 k4_hw1 k4_h5 => k4_hw1.2.2.2.2.2.2.1 k4_h5
theorem k4_off13_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off13 i arg10_r0) a + S128x128.size a ≤ S65536x128.size a := fun i k4_t1 arg6_r0 arg7_r0 arg8_r0 arg9_r0 arg10_r0 k4_hw1 k4_h5 => k4_hw1.2.2.2.2.2.2.2.1 k4_h5
theorem k4_off14_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off14 arg8_r0) a + S1.size a ≤ S2.size a := fun i k4_t1 arg6_r0 arg7_r0 arg8_r0 arg9_r0 arg10_r0 k4_hw1 k4_h5 => k4_hw1.2.2.2.2.2.2.2.2.1 k4_h5
theorem k4_off15_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off15 arg9_r0) a + S1x128x128.size a ≤ S2x128x128.size a := fun i k4_t1 arg6_r0 arg7_r0 arg8_r0 arg9_r0 arg10_r0 k4_hw1 k4_h7 => k4_hw1.2.2.2.2.2.2.2.2.2.1 k4_h7
theorem k4_off16_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off16 i arg10_r0) a + S128x128.size a ≤ S65536x128.size a := fun i k4_t1 arg6_r0 arg7_r0 arg8_r0 arg9_r0 arg10_r0 k4_hw1 k4_h7 => k4_hw1.2.2.2.2.2.2.2.2.2.2.1 k4_h7
theorem k4_off17_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off17 arg9_r0) a + S1.size a ≤ S2.size a := fun i k4_t1 arg6_r0 arg7_r0 arg8_r0 arg9_r0 arg10_r0 k4_hw1 k4_h7 => k4_hw1.2.2.2.2.2.2.2.2.2.2.2 k4_h7

def k4_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k4_off19 (i : grid4.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k4_chk5 (i : grid4.Coords) (v33_4_r0 : BitVec 32) : Prop :=
  (∀ a, (k4_off19 i v33_4_r0) a + S128x128.size a ≤ S65536x128.size a)
theorem k4_off19_inb : ∀ (i : grid4.Coords) (v33_4_r0 : BitVec 32) (k4_hw5 : k4_chk5 i v33_4_r0), ∀ a, (k4_off19 i v33_4_r0) a + S128x128.size a ≤ S65536x128.size a := fun i v33_4_r0 k4_hw5 => k4_hw5

def k4_off20 (v33_3_r0 : BitVec 32) : Fin 1 → Nat :=
  let c2_i32_47_r0 : BitVec 32 := 2#32
  let v54_r0 : BitVec 32 := Scalar.remui v33_3_r0 c2_i32_47_r0
  ![v54_r0.toNat]
def k4_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k4_chk4 (v33_3_r0 : BitVec 32) : Prop :=
  (∀ a, (k4_off18 v33_3_r0) a + S1x128x128.size a ≤ S2x128x128.size a) ∧
  (∀ a, (k4_off20 v33_3_r0) a + S1.size a ≤ S2.size a) ∧
  (∀ a, (k4_off21 v33_3_r0) a + S1x128x128.size a ≤ S2x128x128.size a)
theorem k4_off18_inb : ∀ (v33_3_r0 : BitVec 32) (k4_hw4 : k4_chk4 v33_3_r0), ∀ a, (k4_off18 v33_3_r0) a + S1x128x128.size a ≤ S2x128x128.size a := fun v33_3_r0 k4_hw4 => k4_hw4.1
theorem k4_off20_inb : ∀ (v33_3_r0 : BitVec 32) (k4_hw4 : k4_chk4 v33_3_r0), ∀ a, (k4_off20 v33_3_r0) a + S1.size a ≤ S2.size a := fun v33_3_r0 k4_hw4 => k4_hw4.2.1
theorem k4_off21_inb : ∀ (v33_3_r0 : BitVec 32) (k4_hw4 : k4_chk4 v33_3_r0), ∀ a, (k4_off21 v33_3_r0) a + S1x128x128.size a ≤ S2x128x128.size a := fun v33_3_r0 k4_hw4 => k4_hw4.2.2

abbrev grid5 : Pipeline.Grid := ⟨1, ![16], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S8x512x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S2x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8x512x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![2, 16], ![false, false]⟩

def k6_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k6_off2 (i : grid6.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k6_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k6_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k6_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k6_cond1 (i : grid6.Coords) (k6_t1 : Fin k6_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k6_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k6_off5 (i : grid6.Coords) (arg10_r0 : BitVec 32) : Fin 2 → Nat :=
  let c0_i32_104_r0 : BitVec 32 := 0#32
  let c128_i32_101_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_101_r0 v76_r0
  ![0, v145_r0.toNat]
def k6_off6 (arg6_r0 : BitVec 32) : Fin 1 → Nat :=
  let c2_i32_100_r0 : BitVec 32 := 2#32
  let v144_r0 : BitVec 32 := Scalar.remui arg6_r0 c2_i32_100_r0
  ![v144_r0.toNat]
def k6_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k6_cond2 (i : grid6.Coords) (k6_t1 : Fin k6_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k6_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k6_off8 (i : grid6.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_100_r0 v66_r0
  ![0, v144_r0.toNat]
def k6_off9 (arg7_r0 : BitVec 32) : Fin 1 → Nat :=
  let c2_i32_101_r0 : BitVec 32 := 2#32
  let v145_r0 : BitVec 32 := Scalar.remui arg7_r0 c2_i32_101_r0
  ![v145_r0.toNat]
def k6_off10 (arg8_r0 : BitVec 32) : Fin 3 → Nat :=
  let c2_i32_82_r0 : BitVec 32 := 2#32
  let v109_r0 : BitVec 32 := Scalar.remui arg8_r0 c2_i32_82_r0
  let c0_i32_100_r1 : BitVec 32 := 0#32
  let c0_i32_101_r1 : BitVec 32 := 0#32
  ![v109_r0.toNat, 0, 0]

def k6_chk2 (arg8_r0 : BitVec 32) : Prop :=
  (∀ a, (k6_off10 arg8_r0) a + S1x128x128.size a ≤ S2x128x128.size a)
theorem k6_off10_inb : ∀ (arg8_r0 : BitVec 32) (k6_hw2 : k6_chk2 arg8_r0), ∀ a, (k6_off10 arg8_r0) a + S1x128x128.size a ≤ S2x128x128.size a := fun arg8_r0 k6_hw2 => k6_hw2

def k6_off11 (arg7_r0 : BitVec 32) : Fin 3 → Nat :=
  let c2_i32_81_r0 : BitVec 32 := 2#32
  let v108_r0 : BitVec 32 := Scalar.remui arg7_r0 c2_i32_81_r0
  let c0_i32_102_r1 : BitVec 32 := 0#32
  let c0_i32_103_r1 : BitVec 32 := 0#32
  ![v108_r0.toNat, 0, 0]

def k6_chk3 (arg7_r0 : BitVec 32) : Prop :=
  (∀ a, (k6_off11 arg7_r0) a + S1x1x128.size a ≤ S2x1x128.size a)
theorem k6_off11_inb : ∀ (arg7_r0 : BitVec 32) (k6_hw3 : k6_chk3 arg7_r0), ∀ a, (k6_off11 arg7_r0) a + S1x1x128.size a ≤ S2x1x128.size a := fun arg7_r0 k6_hw3 => k6_hw3

def k6_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k6_cond5 (i : grid6.Coords) (k6_t1 : Fin k6_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k6_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k6_off13 (i : grid6.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_101_r0 v66_r0
  let c0_i32_104_r0 : BitVec 32 := 0#32
  ![v145_r0.toNat, 0]
def k6_off14 (arg8_r0 : BitVec 32) : Fin 1 → Nat :=
  let c2_i32_100_r0 : BitVec 32 := 2#32
  let v144_r0 : BitVec 32 := Scalar.remui arg8_r0 c2_i32_100_r0
  ![v144_r0.toNat]
def k6_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k6_cond7 (i : grid6.Coords) (k6_t1 : Fin k6_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k6_t1
  let c0_i32_55_r0 : BitVec 32 := 0#32
  let v64_r0 : BitVec 1 := Scalar.cmpi .eq arg5_r0 c0_i32_55_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k6_off16 (i : grid6.Coords) (arg10_r0 : BitVec 32) : Fin 2 → Nat :=
  let c128_i32_101_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_101_r0 v71_r0
  let c0_i32_104_r0 : BitVec 32 := 0#32
  ![v145_r0.toNat, 0]
def k6_off17 (arg9_r0 : BitVec 32) : Fin 1 → Nat :=
  let c2_i32_100_r0 : BitVec 32 := 2#32
  let v144_r0 : BitVec 32 := Scalar.remui arg9_r0 c2_i32_100_r0
  ![v144_r0.toNat]

def k6_chk1 (i : grid6.Coords) (k6_t1 : Fin k6_t1_loop.trips) (arg6_r0 : BitVec 32) (arg7_r0 : BitVec 32) (arg8_r0 : BitVec 32) (arg9_r0 : BitVec 32) (arg10_r0 : BitVec 32) : Prop :=
  (∀ (k6_h1 : k6_cond1 i k6_t1 arg10_r0 = 1#1), ∀ a, (k6_off4 arg6_r0) a + S1x1x128.size a ≤ S2x1x128.size a) ∧
  (∀ (k6_h1 : k6_cond1 i k6_t1 arg10_r0 = 1#1), ∀ a, (k6_off5 i arg10_r0) a + S1x128.size a ≤ S1x65536.size a) ∧
  (∀ (k6_h1 : k6_cond1 i k6_t1 arg10_r0 = 1#1), ∀ a, (k6_off6 arg6_r0) a + S1.size a ≤ S2.size a) ∧
  (∀ (k6_h2 : k6_cond2 i k6_t1 arg10_r0 = 1#1), ∀ a, (k6_off7 arg7_r0) a + S1x1x128.size a ≤ S2x1x128.size a) ∧
  (∀ (k6_h2 : k6_cond2 i k6_t1 arg10_r0 = 1#1), ∀ a, (k6_off8 i arg10_r0) a + S1x128.size a ≤ S1x65536.size a) ∧
  (∀ (k6_h2 : k6_cond2 i k6_t1 arg10_r0 = 1#1), ∀ a, (k6_off9 arg7_r0) a + S1.size a ≤ S2.size a) ∧
  (∀ (k6_h5 : k6_cond5 i k6_t1 arg10_r0 = 1#1), ∀ a, (k6_off12 arg8_r0) a + S1x128x128.size a ≤ S2x128x128.size a) ∧
  (∀ (k6_h5 : k6_cond5 i k6_t1 arg10_r0 = 1#1), ∀ a, (k6_off13 i arg10_r0) a + S128x128.size a ≤ S65536x128.size a) ∧
  (∀ (k6_h5 : k6_cond5 i k6_t1 arg10_r0 = 1#1), ∀ a, (k6_off14 arg8_r0) a + S1.size a ≤ S2.size a) ∧
  (∀ (k6_h7 : k6_cond7 i k6_t1 arg10_r0 = 1#1), ∀ a, (k6_off15 arg9_r0) a + S1x128x128.size a ≤ S2x128x128.size a) ∧
  (∀ (k6_h7 : k6_cond7 i k6_t1 arg10_r0 = 1#1), ∀ a, (k6_off16 i arg10_r0) a + S128x128.size a ≤ S65536x128.size a) ∧
  (∀ (k6_h7 : k6_cond7 i k6_t1 arg10_r0 = 1#1), ∀ a, (k6_off17 arg9_r0) a + S1.size a ≤ S2.size a)
theorem k6_off4_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i k6_t1 arg10_r0 = 1#1), ∀ a, (k6_off4 arg6_r0) a + S1x1x128.size a ≤ S2x1x128.size a := fun i k6_t1 arg6_r0 arg7_r0 arg8_r0 arg9_r0 arg10_r0 k6_hw1 k6_h1 => k6_hw1.1 k6_h1
theorem k6_off5_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i k6_t1 arg10_r0 = 1#1), ∀ a, (k6_off5 i arg10_r0) a + S1x128.size a ≤ S1x65536.size a := fun i k6_t1 arg6_r0 arg7_r0 arg8_r0 arg9_r0 arg10_r0 k6_hw1 k6_h1 => k6_hw1.2.1 k6_h1
theorem k6_off6_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i k6_t1 arg10_r0 = 1#1), ∀ a, (k6_off6 arg6_r0) a + S1.size a ≤ S2.size a := fun i k6_t1 arg6_r0 arg7_r0 arg8_r0 arg9_r0 arg10_r0 k6_hw1 k6_h1 => k6_hw1.2.2.1 k6_h1
theorem k6_off7_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h2 : k6_cond2 i k6_t1 arg10_r0 = 1#1), ∀ a, (k6_off7 arg7_r0) a + S1x1x128.size a ≤ S2x1x128.size a := fun i k6_t1 arg6_r0 arg7_r0 arg8_r0 arg9_r0 arg10_r0 k6_hw1 k6_h2 => k6_hw1.2.2.2.1 k6_h2
theorem k6_off8_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h2 : k6_cond2 i k6_t1 arg10_r0 = 1#1), ∀ a, (k6_off8 i arg10_r0) a + S1x128.size a ≤ S1x65536.size a := fun i k6_t1 arg6_r0 arg7_r0 arg8_r0 arg9_r0 arg10_r0 k6_hw1 k6_h2 => k6_hw1.2.2.2.2.1 k6_h2
theorem k6_off9_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h2 : k6_cond2 i k6_t1 arg10_r0 = 1#1), ∀ a, (k6_off9 arg7_r0) a + S1.size a ≤ S2.size a := fun i k6_t1 arg6_r0 arg7_r0 arg8_r0 arg9_r0 arg10_r0 k6_hw1 k6_h2 => k6_hw1.2.2.2.2.2.1 k6_h2
theorem k6_off12_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h5 : k6_cond5 i k6_t1 arg10_r0 = 1#1), ∀ a, (k6_off12 arg8_r0) a + S1x128x128.size a ≤ S2x128x128.size a := fun i k6_t1 arg6_r0 arg7_r0 arg8_r0 arg9_r0 arg10_r0 k6_hw1 k6_h5 => k6_hw1.2.2.2.2.2.2.1 k6_h5
theorem k6_off13_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h5 : k6_cond5 i k6_t1 arg10_r0 = 1#1), ∀ a, (k6_off13 i arg10_r0) a + S128x128.size a ≤ S65536x128.size a := fun i k6_t1 arg6_r0 arg7_r0 arg8_r0 arg9_r0 arg10_r0 k6_hw1 k6_h5 => k6_hw1.2.2.2.2.2.2.2.1 k6_h5
theorem k6_off14_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h5 : k6_cond5 i k6_t1 arg10_r0 = 1#1), ∀ a, (k6_off14 arg8_r0) a + S1.size a ≤ S2.size a := fun i k6_t1 arg6_r0 arg7_r0 arg8_r0 arg9_r0 arg10_r0 k6_hw1 k6_h5 => k6_hw1.2.2.2.2.2.2.2.2.1 k6_h5
theorem k6_off15_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h7 : k6_cond7 i k6_t1 arg10_r0 = 1#1), ∀ a, (k6_off15 arg9_r0) a + S1x128x128.size a ≤ S2x128x128.size a := fun i k6_t1 arg6_r0 arg7_r0 arg8_r0 arg9_r0 arg10_r0 k6_hw1 k6_h7 => k6_hw1.2.2.2.2.2.2.2.2.2.1 k6_h7
theorem k6_off16_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h7 : k6_cond7 i k6_t1 arg10_r0 = 1#1), ∀ a, (k6_off16 i arg10_r0) a + S128x128.size a ≤ S65536x128.size a := fun i k6_t1 arg6_r0 arg7_r0 arg8_r0 arg9_r0 arg10_r0 k6_hw1 k6_h7 => k6_hw1.2.2.2.2.2.2.2.2.2.2.1 k6_h7
theorem k6_off17_inb : ∀ (i : grid6.Coords) (k6_t1 : Fin k6_t1_loop.trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h7 : k6_cond7 i k6_t1 arg10_r0 = 1#1), ∀ a, (k6_off17 arg9_r0) a + S1.size a ≤ S2.size a := fun i k6_t1 arg6_r0 arg7_r0 arg8_r0 arg9_r0 arg10_r0 k6_hw1 k6_h7 => k6_hw1.2.2.2.2.2.2.2.2.2.2.2 k6_h7

def k6_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k6_off19 (i : grid6.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k6_chk5 (i : grid6.Coords) (v33_4_r0 : BitVec 32) : Prop :=
  (∀ a, (k6_off19 i v33_4_r0) a + S128x128.size a ≤ S65536x128.size a)
theorem k6_off19_inb : ∀ (i : grid6.Coords) (v33_4_r0 : BitVec 32) (k6_hw5 : k6_chk5 i v33_4_r0), ∀ a, (k6_off19 i v33_4_r0) a + S128x128.size a ≤ S65536x128.size a := fun i v33_4_r0 k6_hw5 => k6_hw5

def k6_off20 (v33_3_r0 : BitVec 32) : Fin 1 → Nat :=
  let c2_i32_47_r0 : BitVec 32 := 2#32
  let v54_r0 : BitVec 32 := Scalar.remui v33_3_r0 c2_i32_47_r0
  ![v54_r0.toNat]
def k6_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k6_chk4 (v33_3_r0 : BitVec 32) : Prop :=
  (∀ a, (k6_off18 v33_3_r0) a + S1x128x128.size a ≤ S2x128x128.size a) ∧
  (∀ a, (k6_off20 v33_3_r0) a + S1.size a ≤ S2.size a) ∧
  (∀ a, (k6_off21 v33_3_r0) a + S1x128x128.size a ≤ S2x128x128.size a)
theorem k6_off18_inb : ∀ (v33_3_r0 : BitVec 32) (k6_hw4 : k6_chk4 v33_3_r0), ∀ a, (k6_off18 v33_3_r0) a + S1x128x128.size a ≤ S2x128x128.size a := fun v33_3_r0 k6_hw4 => k6_hw4.1
theorem k6_off20_inb : ∀ (v33_3_r0 : BitVec 32) (k6_hw4 : k6_chk4 v33_3_r0), ∀ a, (k6_off20 v33_3_r0) a + S1.size a ≤ S2.size a := fun v33_3_r0 k6_hw4 => k6_hw4.2.1
theorem k6_off21_inb : ∀ (v33_3_r0 : BitVec 32) (k6_hw4 : k6_chk4 v33_3_r0), ∀ a, (k6_off21 v33_3_r0) a + S1x128x128.size a ≤ S2x128x128.size a := fun v33_3_r0 k6_hw4 => k6_hw4.2.2

abbrev grid7 : Pipeline.Grid := ⟨1, ![16], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S8x512x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S512x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S2x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S8x512x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨2, ![2, 16], ![false, false]⟩

def k8_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k8_off2 (i : grid8.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k8_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k8_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k8_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k8_cond1 (i : grid8.Coords) (k8_t1 : Fin k8_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k8_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k8_off5 (i : grid8.Coords) (arg10_r0 : BitVec 32) : Fin 2 → Nat :=
  let c0_i32_104_r0 : BitVec 32 := 0#32
  let c128_i32_101_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_101_r0 v76_r0
  ![0, v145_r0.toNat]
def k8_off6 (arg6_r0 : BitVec 32) : Fin 1 → Nat :=
  let c2_i32_100_r0 : BitVec 32 := 2#32
  let v144_r0 : BitVec 32 := Scalar.remui arg6_r0 c2_i32_100_r0
  ![v144_r0.toNat]
def k8_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k8_cond2 (i : grid8.Coords) (k8_t1 : Fin k8_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k8_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k8_off8 (i : grid8.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_100_r0 v66_r0
  ![0, v144_r0.toNat]
def k8_off9 (arg7_r0 : BitVec 32) : Fin 1 → Nat :=
  let c2_i32_101_r0 : BitVec 32 := 2#32
  let v145_r0 : BitVec 32 := Scalar.remui arg7_r0 c2_i32_101_r0
  ![v145_r0.toNat]
def k8_off10 (arg8_r0 : BitVec 32) : Fin 3 → Nat :=
  let c2_i32_82_r0 : BitVec 32 := 2#32
  let v109_r0 : BitVec 32 := Scalar.remui arg8_r0 c2_i32_82_r0
  let c0_i32_100_r1 : BitVec 32 := 0#32
  let c0_i32_101_r1 : BitVec 32 := 0#32
  ![v109_r0.toNat, 0, 0]

def k8_chk2 (arg8_r0 : BitVec 32) : Prop :=
  (∀ a, (k8_off10 arg8_r0) a + S1x128x128.size a ≤ S2x128x128.size a)
theorem k8_off10_inb : ∀ (arg8_r0 : BitVec 32) (k8_hw2 : k8_chk2 arg8_r0), ∀ a, (k8_off10 arg8_r0) a + S1x128x128.size a ≤ S2x128x128.size a := fun arg8_r0 k8_hw2 => k8_hw2

def k8_off11 (arg7_r0 : BitVec 32) : Fin 3 → Nat :=
  let c2_i32_81_r0 : BitVec 32 := 2#32
  let v108_r0 : BitVec 32 := Scalar.remui arg7_r0 c2_i32_81_r0
  let c0_i32_102_r1 : BitVec 32 := 0#32
  let c0_i32_103_r1 : BitVec 32 := 0#32
  ![v108_r0.toNat, 0, 0]

def k8_chk3 (arg7_r0 : BitVec 32) : Prop :=
  (∀ a, (k8_off11 arg7_r0) a + S1x1x128.size a ≤ S2x1x128.size a)
theorem k8_off11_inb : ∀ (arg7_r0 : BitVec 32) (k8_hw3 : k8_chk3 arg7_r0), ∀ a, (k8_off11 arg7_r0) a + S1x1x128.size a ≤ S2x1x128.size a := fun arg7_r0 k8_hw3 => k8_hw3

def k8_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k8_cond5 (i : grid8.Coords) (k8_t1 : Fin k8_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k8_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k8_off13 (i : grid8.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_101_r0 v66_r0
  let c0_i32_104_r0 : BitVec 32 := 0#32
  ![v145_r0.toNat, 0]
def k8_off14 (arg8_r0 : BitVec 32) : Fin 1 → Nat :=
  let c2_i32_100_r0 : BitVec 32 := 2#32
  let v144_r0 : BitVec 32 := Scalar.remui arg8_r0 c2_i32_100_r0
  ![v144_r0.toNat]
def k8_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k8_cond7 (i : grid8.Coords) (k8_t1 : Fin k8_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k8_t1
  let c0_i32_55_r0 : BitVec 32 := 0#32
  let v64_r0 : BitVec 1 := Scalar.cmpi .eq arg5_r0 c0_i32_55_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k8_off16 (i : grid8.Coords) (arg10_r0 : BitVec 32) : Fin 2 → Nat :=
  let c128_i32_101_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_101_r0 v71_r0
  let c0_i32_104_r0 : BitVec 32 := 0#32
  ![v145_r0.toNat, 0]
def k8_off17 (arg9_r0 : BitVec 32) : Fin 1 → Nat :=
  let c2_i32_100_r0 : BitVec 32 := 2#32
  let v144_r0 : BitVec 32 := Scalar.remui arg9_r0 c2_i32_100_r0
  ![v144_r0.toNat]

def k8_chk1 (i : grid8.Coords) (k8_t1 : Fin k8_t1_loop.trips) (arg6_r0 : BitVec 32) (arg7_r0 : BitVec 32) (arg8_r0 : BitVec 32) (arg9_r0 : BitVec 32) (arg10_r0 : BitVec 32) : Prop :=
  (∀ (k8_h1 : k8_cond1 i k8_t1 arg10_r0 = 1#1), ∀ a, (k8_off4 arg6_r0) a + S1x1x128.size a ≤ S2x1x128.size a) ∧
  (∀ (k8_h1 : k8_cond1 i k8_t1 arg10_r0 = 1#1), ∀ a, (k8_off5 i arg10_r0) a + S1x128.size a ≤ S1x65536.size a) ∧
  (∀ (k8_h1 : k8_cond1 i k8_t1 arg10_r0 = 1#1), ∀ a, (k8_off6 arg6_r0) a + S1.size a ≤ S2.size a) ∧
  (∀ (k8_h2 : k8_cond2 i k8_t1 arg10_r0 = 1#1), ∀ a, (k8_off7 arg7_r0) a + S1x1x128.size a ≤ S2x1x128.size a) ∧
  (∀ (k8_h2 : k8_cond2 i k8_t1 arg10_r0 = 1#1), ∀ a, (k8_off8 i arg10_r0) a + S1x128.size a ≤ S1x65536.size a) ∧
  (∀ (k8_h2 : k8_cond2 i k8_t1 arg10_r0 = 1#1), ∀ a, (k8_off9 arg7_r0) a + S1.size a ≤ S2.size a) ∧
  (∀ (k8_h5 : k8_cond5 i k8_t1 arg10_r0 = 1#1), ∀ a, (k8_off12 arg8_r0) a + S1x128x128.size a ≤ S2x128x128.size a) ∧
  (∀ (k8_h5 : k8_cond5 i k8_t1 arg10_r0 = 1#1), ∀ a, (k8_off13 i arg10_r0) a + S128x128.size a ≤ S65536x128.size a) ∧
  (∀ (k8_h5 : k8_cond5 i k8_t1 arg10_r0 = 1#1), ∀ a, (k8_off14 arg8_r0) a + S1.size a ≤ S2.size a) ∧
  (∀ (k8_h7 : k8_cond7 i k8_t1 arg10_r0 = 1#1), ∀ a, (k8_off15 arg9_r0) a + S1x128x128.size a ≤ S2x128x128.size a) ∧
  (∀ (k8_h7 : k8_cond7 i k8_t1 arg10_r0 = 1#1), ∀ a, (k8_off16 i arg10_r0) a + S128x128.size a ≤ S65536x128.size a) ∧
  (∀ (k8_h7 : k8_cond7 i k8_t1 arg10_r0 = 1#1), ∀ a, (k8_off17 arg9_r0) a + S1.size a ≤ S2.size a)
theorem k8_off4_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i k8_t1 arg10_r0 = 1#1), ∀ a, (k8_off4 arg6_r0) a + S1x1x128.size a ≤ S2x1x128.size a := fun i k8_t1 arg6_r0 arg7_r0 arg8_r0 arg9_r0 arg10_r0 k8_hw1 k8_h1 => k8_hw1.1 k8_h1
theorem k8_off5_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i k8_t1 arg10_r0 = 1#1), ∀ a, (k8_off5 i arg10_r0) a + S1x128.size a ≤ S1x65536.size a := fun i k8_t1 arg6_r0 arg7_r0 arg8_r0 arg9_r0 arg10_r0 k8_hw1 k8_h1 => k8_hw1.2.1 k8_h1
theorem k8_off6_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i k8_t1 arg10_r0 = 1#1), ∀ a, (k8_off6 arg6_r0) a + S1.size a ≤ S2.size a := fun i k8_t1 arg6_r0 arg7_r0 arg8_r0 arg9_r0 arg10_r0 k8_hw1 k8_h1 => k8_hw1.2.2.1 k8_h1
theorem k8_off7_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h2 : k8_cond2 i k8_t1 arg10_r0 = 1#1), ∀ a, (k8_off7 arg7_r0) a + S1x1x128.size a ≤ S2x1x128.size a := fun i k8_t1 arg6_r0 arg7_r0 arg8_r0 arg9_r0 arg10_r0 k8_hw1 k8_h2 => k8_hw1.2.2.2.1 k8_h2
theorem k8_off8_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h2 : k8_cond2 i k8_t1 arg10_r0 = 1#1), ∀ a, (k8_off8 i arg10_r0) a + S1x128.size a ≤ S1x65536.size a := fun i k8_t1 arg6_r0 arg7_r0 arg8_r0 arg9_r0 arg10_r0 k8_hw1 k8_h2 => k8_hw1.2.2.2.2.1 k8_h2
theorem k8_off9_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h2 : k8_cond2 i k8_t1 arg10_r0 = 1#1), ∀ a, (k8_off9 arg7_r0) a + S1.size a ≤ S2.size a := fun i k8_t1 arg6_r0 arg7_r0 arg8_r0 arg9_r0 arg10_r0 k8_hw1 k8_h2 => k8_hw1.2.2.2.2.2.1 k8_h2
theorem k8_off12_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h5 : k8_cond5 i k8_t1 arg10_r0 = 1#1), ∀ a, (k8_off12 arg8_r0) a + S1x128x128.size a ≤ S2x128x128.size a := fun i k8_t1 arg6_r0 arg7_r0 arg8_r0 arg9_r0 arg10_r0 k8_hw1 k8_h5 => k8_hw1.2.2.2.2.2.2.1 k8_h5
theorem k8_off13_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h5 : k8_cond5 i k8_t1 arg10_r0 = 1#1), ∀ a, (k8_off13 i arg10_r0) a + S128x128.size a ≤ S65536x128.size a := fun i k8_t1 arg6_r0 arg7_r0 arg8_r0 arg9_r0 arg10_r0 k8_hw1 k8_h5 => k8_hw1.2.2.2.2.2.2.2.1 k8_h5
theorem k8_off14_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h5 : k8_cond5 i k8_t1 arg10_r0 = 1#1), ∀ a, (k8_off14 arg8_r0) a + S1.size a ≤ S2.size a := fun i k8_t1 arg6_r0 arg7_r0 arg8_r0 arg9_r0 arg10_r0 k8_hw1 k8_h5 => k8_hw1.2.2.2.2.2.2.2.2.1 k8_h5
theorem k8_off15_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h7 : k8_cond7 i k8_t1 arg10_r0 = 1#1), ∀ a, (k8_off15 arg9_r0) a + S1x128x128.size a ≤ S2x128x128.size a := fun i k8_t1 arg6_r0 arg7_r0 arg8_r0 arg9_r0 arg10_r0 k8_hw1 k8_h7 => k8_hw1.2.2.2.2.2.2.2.2.2.1 k8_h7
theorem k8_off16_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h7 : k8_cond7 i k8_t1 arg10_r0 = 1#1), ∀ a, (k8_off16 i arg10_r0) a + S128x128.size a ≤ S65536x128.size a := fun i k8_t1 arg6_r0 arg7_r0 arg8_r0 arg9_r0 arg10_r0 k8_hw1 k8_h7 => k8_hw1.2.2.2.2.2.2.2.2.2.2.1 k8_h7
theorem k8_off17_inb : ∀ (i : grid8.Coords) (k8_t1 : Fin k8_t1_loop.trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h7 : k8_cond7 i k8_t1 arg10_r0 = 1#1), ∀ a, (k8_off17 arg9_r0) a + S1.size a ≤ S2.size a := fun i k8_t1 arg6_r0 arg7_r0 arg8_r0 arg9_r0 arg10_r0 k8_hw1 k8_h7 => k8_hw1.2.2.2.2.2.2.2.2.2.2.2 k8_h7

def k8_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k8_off19 (i : grid8.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k8_chk5 (i : grid8.Coords) (v33_4_r0 : BitVec 32) : Prop :=
  (∀ a, (k8_off19 i v33_4_r0) a + S128x128.size a ≤ S65536x128.size a)
theorem k8_off19_inb : ∀ (i : grid8.Coords) (v33_4_r0 : BitVec 32) (k8_hw5 : k8_chk5 i v33_4_r0), ∀ a, (k8_off19 i v33_4_r0) a + S128x128.size a ≤ S65536x128.size a := fun i v33_4_r0 k8_hw5 => k8_hw5

def k8_off20 (v33_3_r0 : BitVec 32) : Fin 1 → Nat :=
  let c2_i32_47_r0 : BitVec 32 := 2#32
  let v54_r0 : BitVec 32 := Scalar.remui v33_3_r0 c2_i32_47_r0
  ![v54_r0.toNat]
def k8_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k8_chk4 (v33_3_r0 : BitVec 32) : Prop :=
  (∀ a, (k8_off18 v33_3_r0) a + S1x128x128.size a ≤ S2x128x128.size a) ∧
  (∀ a, (k8_off20 v33_3_r0) a + S1.size a ≤ S2.size a) ∧
  (∀ a, (k8_off21 v33_3_r0) a + S1x128x128.size a ≤ S2x128x128.size a)
theorem k8_off18_inb : ∀ (v33_3_r0 : BitVec 32) (k8_hw4 : k8_chk4 v33_3_r0), ∀ a, (k8_off18 v33_3_r0) a + S1x128x128.size a ≤ S2x128x128.size a := fun v33_3_r0 k8_hw4 => k8_hw4.1
theorem k8_off20_inb : ∀ (v33_3_r0 : BitVec 32) (k8_hw4 : k8_chk4 v33_3_r0), ∀ a, (k8_off20 v33_3_r0) a + S1.size a ≤ S2.size a := fun v33_3_r0 k8_hw4 => k8_hw4.2.1
theorem k8_off21_inb : ∀ (v33_3_r0 : BitVec 32) (k8_hw4 : k8_chk4 v33_3_r0), ∀ a, (k8_off21 v33_3_r0) a + S1x128x128.size a ≤ S2x128x128.size a := fun v33_3_r0 k8_hw4 => k8_hw4.2.2

abbrev grid9 : Pipeline.Grid := ⟨1, ![16], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S8x512x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S512x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S2x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S8x512x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨2, ![2, 16], ![false, false]⟩

def k10_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k10_off2 (i : grid10.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k10_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k10_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k10_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k10_cond1 (i : grid10.Coords) (k10_t1 : Fin k10_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k10_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k10_off5 (i : grid10.Coords) (arg10_r0 : BitVec 32) : Fin 2 → Nat :=
  let c0_i32_104_r0 : BitVec 32 := 0#32
  let c128_i32_101_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_101_r0 v76_r0
  ![0, v145_r0.toNat]
def k10_off6 (arg6_r0 : BitVec 32) : Fin 1 → Nat :=
  let c2_i32_100_r0 : BitVec 32 := 2#32
  let v144_r0 : BitVec 32 := Scalar.remui arg6_r0 c2_i32_100_r0
  ![v144_r0.toNat]
def k10_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k10_cond2 (i : grid10.Coords) (k10_t1 : Fin k10_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k10_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k10_off8 (i : grid10.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_100_r0 v66_r0
  ![0, v144_r0.toNat]
def k10_off9 (arg7_r0 : BitVec 32) : Fin 1 → Nat :=
  let c2_i32_101_r0 : BitVec 32 := 2#32
  let v145_r0 : BitVec 32 := Scalar.remui arg7_r0 c2_i32_101_r0
  ![v145_r0.toNat]
def k10_off10 (arg8_r0 : BitVec 32) : Fin 3 → Nat :=
  let c2_i32_82_r0 : BitVec 32 := 2#32
  let v109_r0 : BitVec 32 := Scalar.remui arg8_r0 c2_i32_82_r0
  let c0_i32_100_r1 : BitVec 32 := 0#32
  let c0_i32_101_r1 : BitVec 32 := 0#32
  ![v109_r0.toNat, 0, 0]

def k10_chk2 (arg8_r0 : BitVec 32) : Prop :=
  (∀ a, (k10_off10 arg8_r0) a + S1x128x128.size a ≤ S2x128x128.size a)
theorem k10_off10_inb : ∀ (arg8_r0 : BitVec 32) (k10_hw2 : k10_chk2 arg8_r0), ∀ a, (k10_off10 arg8_r0) a + S1x128x128.size a ≤ S2x128x128.size a := fun arg8_r0 k10_hw2 => k10_hw2

def k10_off11 (arg7_r0 : BitVec 32) : Fin 3 → Nat :=
  let c2_i32_81_r0 : BitVec 32 := 2#32
  let v108_r0 : BitVec 32 := Scalar.remui arg7_r0 c2_i32_81_r0
  let c0_i32_102_r1 : BitVec 32 := 0#32
  let c0_i32_103_r1 : BitVec 32 := 0#32
  ![v108_r0.toNat, 0, 0]

def k10_chk3 (arg7_r0 : BitVec 32) : Prop :=
  (∀ a, (k10_off11 arg7_r0) a + S1x1x128.size a ≤ S2x1x128.size a)
theorem k10_off11_inb : ∀ (arg7_r0 : BitVec 32) (k10_hw3 : k10_chk3 arg7_r0), ∀ a, (k10_off11 arg7_r0) a + S1x1x128.size a ≤ S2x1x128.size a := fun arg7_r0 k10_hw3 => k10_hw3

def k10_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k10_cond5 (i : grid10.Coords) (k10_t1 : Fin k10_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k10_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k10_off13 (i : grid10.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_101_r0 v66_r0
  let c0_i32_104_r0 : BitVec 32 := 0#32
  ![v145_r0.toNat, 0]
def k10_off14 (arg8_r0 : BitVec 32) : Fin 1 → Nat :=
  let c2_i32_100_r0 : BitVec 32 := 2#32
  let v144_r0 : BitVec 32 := Scalar.remui arg8_r0 c2_i32_100_r0
  ![v144_r0.toNat]
def k10_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k10_cond7 (i : grid10.Coords) (k10_t1 : Fin k10_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k10_t1
  let c0_i32_55_r0 : BitVec 32 := 0#32
  let v64_r0 : BitVec 1 := Scalar.cmpi .eq arg5_r0 c0_i32_55_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k10_off16 (i : grid10.Coords) (arg10_r0 : BitVec 32) : Fin 2 → Nat :=
  let c128_i32_101_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_101_r0 v71_r0
  let c0_i32_104_r0 : BitVec 32 := 0#32
  ![v145_r0.toNat, 0]
def k10_off17 (arg9_r0 : BitVec 32) : Fin 1 → Nat :=
  let c2_i32_100_r0 : BitVec 32 := 2#32
  let v144_r0 : BitVec 32 := Scalar.remui arg9_r0 c2_i32_100_r0
  ![v144_r0.toNat]

def k10_chk1 (i : grid10.Coords) (k10_t1 : Fin k10_t1_loop.trips) (arg6_r0 : BitVec 32) (arg7_r0 : BitVec 32) (arg8_r0 : BitVec 32) (arg9_r0 : BitVec 32) (arg10_r0 : BitVec 32) : Prop :=
  (∀ (k10_h1 : k10_cond1 i k10_t1 arg10_r0 = 1#1), ∀ a, (k10_off4 arg6_r0) a + S1x1x128.size a ≤ S2x1x128.size a) ∧
  (∀ (k10_h1 : k10_cond1 i k10_t1 arg10_r0 = 1#1), ∀ a, (k10_off5 i arg10_r0) a + S1x128.size a ≤ S1x65536.size a) ∧
  (∀ (k10_h1 : k10_cond1 i k10_t1 arg10_r0 = 1#1), ∀ a, (k10_off6 arg6_r0) a + S1.size a ≤ S2.size a) ∧
  (∀ (k10_h2 : k10_cond2 i k10_t1 arg10_r0 = 1#1), ∀ a, (k10_off7 arg7_r0) a + S1x1x128.size a ≤ S2x1x128.size a) ∧
  (∀ (k10_h2 : k10_cond2 i k10_t1 arg10_r0 = 1#1), ∀ a, (k10_off8 i arg10_r0) a + S1x128.size a ≤ S1x65536.size a) ∧
  (∀ (k10_h2 : k10_cond2 i k10_t1 arg10_r0 = 1#1), ∀ a, (k10_off9 arg7_r0) a + S1.size a ≤ S2.size a) ∧
  (∀ (k10_h5 : k10_cond5 i k10_t1 arg10_r0 = 1#1), ∀ a, (k10_off12 arg8_r0) a + S1x128x128.size a ≤ S2x128x128.size a) ∧
  (∀ (k10_h5 : k10_cond5 i k10_t1 arg10_r0 = 1#1), ∀ a, (k10_off13 i arg10_r0) a + S128x128.size a ≤ S65536x128.size a) ∧
  (∀ (k10_h5 : k10_cond5 i k10_t1 arg10_r0 = 1#1), ∀ a, (k10_off14 arg8_r0) a + S1.size a ≤ S2.size a) ∧
  (∀ (k10_h7 : k10_cond7 i k10_t1 arg10_r0 = 1#1), ∀ a, (k10_off15 arg9_r0) a + S1x128x128.size a ≤ S2x128x128.size a) ∧
  (∀ (k10_h7 : k10_cond7 i k10_t1 arg10_r0 = 1#1), ∀ a, (k10_off16 i arg10_r0) a + S128x128.size a ≤ S65536x128.size a) ∧
  (∀ (k10_h7 : k10_cond7 i k10_t1 arg10_r0 = 1#1), ∀ a, (k10_off17 arg9_r0) a + S1.size a ≤ S2.size a)
theorem k10_off4_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h1 : k10_cond1 i k10_t1 arg10_r0 = 1#1), ∀ a, (k10_off4 arg6_r0) a + S1x1x128.size a ≤ S2x1x128.size a := fun i k10_t1 arg6_r0 arg7_r0 arg8_r0 arg9_r0 arg10_r0 k10_hw1 k10_h1 => k10_hw1.1 k10_h1
theorem k10_off5_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h1 : k10_cond1 i k10_t1 arg10_r0 = 1#1), ∀ a, (k10_off5 i arg10_r0) a + S1x128.size a ≤ S1x65536.size a := fun i k10_t1 arg6_r0 arg7_r0 arg8_r0 arg9_r0 arg10_r0 k10_hw1 k10_h1 => k10_hw1.2.1 k10_h1
theorem k10_off6_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h1 : k10_cond1 i k10_t1 arg10_r0 = 1#1), ∀ a, (k10_off6 arg6_r0) a + S1.size a ≤ S2.size a := fun i k10_t1 arg6_r0 arg7_r0 arg8_r0 arg9_r0 arg10_r0 k10_hw1 k10_h1 => k10_hw1.2.2.1 k10_h1
theorem k10_off7_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h2 : k10_cond2 i k10_t1 arg10_r0 = 1#1), ∀ a, (k10_off7 arg7_r0) a + S1x1x128.size a ≤ S2x1x128.size a := fun i k10_t1 arg6_r0 arg7_r0 arg8_r0 arg9_r0 arg10_r0 k10_hw1 k10_h2 => k10_hw1.2.2.2.1 k10_h2
theorem k10_off8_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h2 : k10_cond2 i k10_t1 arg10_r0 = 1#1), ∀ a, (k10_off8 i arg10_r0) a + S1x128.size a ≤ S1x65536.size a := fun i k10_t1 arg6_r0 arg7_r0 arg8_r0 arg9_r0 arg10_r0 k10_hw1 k10_h2 => k10_hw1.2.2.2.2.1 k10_h2
theorem k10_off9_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h2 : k10_cond2 i k10_t1 arg10_r0 = 1#1), ∀ a, (k10_off9 arg7_r0) a + S1.size a ≤ S2.size a := fun i k10_t1 arg6_r0 arg7_r0 arg8_r0 arg9_r0 arg10_r0 k10_hw1 k10_h2 => k10_hw1.2.2.2.2.2.1 k10_h2
theorem k10_off12_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h5 : k10_cond5 i k10_t1 arg10_r0 = 1#1), ∀ a, (k10_off12 arg8_r0) a + S1x128x128.size a ≤ S2x128x128.size a := fun i k10_t1 arg6_r0 arg7_r0 arg8_r0 arg9_r0 arg10_r0 k10_hw1 k10_h5 => k10_hw1.2.2.2.2.2.2.1 k10_h5
theorem k10_off13_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h5 : k10_cond5 i k10_t1 arg10_r0 = 1#1), ∀ a, (k10_off13 i arg10_r0) a + S128x128.size a ≤ S65536x128.size a := fun i k10_t1 arg6_r0 arg7_r0 arg8_r0 arg9_r0 arg10_r0 k10_hw1 k10_h5 => k10_hw1.2.2.2.2.2.2.2.1 k10_h5
theorem k10_off14_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h5 : k10_cond5 i k10_t1 arg10_r0 = 1#1), ∀ a, (k10_off14 arg8_r0) a + S1.size a ≤ S2.size a := fun i k10_t1 arg6_r0 arg7_r0 arg8_r0 arg9_r0 arg10_r0 k10_hw1 k10_h5 => k10_hw1.2.2.2.2.2.2.2.2.1 k10_h5
theorem k10_off15_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h7 : k10_cond7 i k10_t1 arg10_r0 = 1#1), ∀ a, (k10_off15 arg9_r0) a + S1x128x128.size a ≤ S2x128x128.size a := fun i k10_t1 arg6_r0 arg7_r0 arg8_r0 arg9_r0 arg10_r0 k10_hw1 k10_h7 => k10_hw1.2.2.2.2.2.2.2.2.2.1 k10_h7
theorem k10_off16_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h7 : k10_cond7 i k10_t1 arg10_r0 = 1#1), ∀ a, (k10_off16 i arg10_r0) a + S128x128.size a ≤ S65536x128.size a := fun i k10_t1 arg6_r0 arg7_r0 arg8_r0 arg9_r0 arg10_r0 k10_hw1 k10_h7 => k10_hw1.2.2.2.2.2.2.2.2.2.2.1 k10_h7
theorem k10_off17_inb : ∀ (i : grid10.Coords) (k10_t1 : Fin k10_t1_loop.trips) (arg6_r0 : BitVec 32) (arg7_r0 : BitVec 32) (arg8_r0 : BitVec 32) (arg9_r0 : BitVec 32) (arg10_r0 : BitVec 32) (k10_hw1 : k10_chk1 i k10_t1 arg6_r0 arg7_r0 arg8_r0 arg9_r0 arg10_r0), ∀ (k10_h7 : k10_cond7 i k10_t1 arg10_r0 = 1#1), ∀ a, (k10_off17 arg9_r0) a + S1.size a ≤ S2.size a := fun i k10_t1 arg6_r0 arg7_r0 arg8_r0 arg9_r0 arg10_r0 k10_hw1 k10_h7 => k10_hw1.2.2.2.2.2.2.2.2.2.2.2 k10_h7

def k10_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k10_off19 (i : grid10.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k10_chk5 (i : grid10.Coords) (v33_4_r0 : BitVec 32) : Prop :=
  (∀ a, (k10_off19 i v33_4_r0) a + S128x128.size a ≤ S65536x128.size a)
theorem k10_off19_inb : ∀ (i : grid10.Coords) (v33_4_r0 : BitVec 32) (k10_hw5 : k10_chk5 i v33_4_r0), ∀ a, (k10_off19 i v33_4_r0) a + S128x128.size a ≤ S65536x128.size a := fun i v33_4_r0 k10_hw5 => k10_hw5

def k10_off20 (v33_3_r0 : BitVec 32) : Fin 1 → Nat :=
  let c2_i32_47_r0 : BitVec 32 := 2#32
  let v54_r0 : BitVec 32 := Scalar.remui v33_3_r0 c2_i32_47_r0
  ![v54_r0.toNat]
def k10_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k10_chk4 (v33_3_r0 : BitVec 32) : Prop :=
  (∀ a, (k10_off18 v33_3_r0) a + S1x128x128.size a ≤ S2x128x128.size a) ∧
  (∀ a, (k10_off20 v33_3_r0) a + S1.size a ≤ S2.size a) ∧
  (∀ a, (k10_off21 v33_3_r0) a + S1x128x128.size a ≤ S2x128x128.size a)
theorem k10_off18_inb : ∀ (v33_3_r0 : BitVec 32) (k10_hw4 : k10_chk4 v33_3_r0), ∀ a, (k10_off18 v33_3_r0) a + S1x128x128.size a ≤ S2x128x128.size a := fun v33_3_r0 k10_hw4 => k10_hw4.1
theorem k10_off20_inb : ∀ (v33_3_r0 : BitVec 32) (k10_hw4 : k10_chk4 v33_3_r0), ∀ a, (k10_off20 v33_3_r0) a + S1.size a ≤ S2.size a := fun v33_3_r0 k10_hw4 => k10_hw4.2.1
theorem k10_off21_inb : ∀ (v33_3_r0 : BitVec 32) (k10_hw4 : k10_chk4 v33_3_r0), ∀ a, (k10_off21 v33_3_r0) a + S1x128x128.size a ≤ S2x128x128.size a := fun v33_3_r0 k10_hw4 => k10_hw4.2.2

abbrev grid11 : Pipeline.Grid := ⟨1, ![16], ![false]⟩

def cc11_transform_0 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S8x512x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S512x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S2x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S8x512x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨2, ![2, 16], ![false, false]⟩

def k12_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k12_off2 (i : grid12.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k12_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k12_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k12_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k12_cond1 (i : grid12.Coords) (k12_t1 : Fin k12_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k12_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k12_off5 (i : grid12.Coords) (arg10_r0 : BitVec 32) : Fin 2 → Nat :=
  let c0_i32_104_r0 : BitVec 32 := 0#32
  let c128_i32_101_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_101_r0 v76_r0
  ![0, v145_r0.toNat]
def k12_off6 (arg6_r0 : BitVec 32) : Fin 1 → Nat :=
  let c2_i32_100_r0 : BitVec 32 := 2#32
  let v144_r0 : BitVec 32 := Scalar.remui arg6_r0 c2_i32_100_r0
  ![v144_r0.toNat]
def k12_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k12_cond2 (i : grid12.Coords) (k12_t1 : Fin k12_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k12_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k12_off8 (i : grid12.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_100_r0 v66_r0
  ![0, v144_r0.toNat]
def k12_off9 (arg7_r0 : BitVec 32) : Fin 1 → Nat :=
  let c2_i32_101_r0 : BitVec 32 := 2#32
  let v145_r0 : BitVec 32 := Scalar.remui arg7_r0 c2_i32_101_r0
  ![v145_r0.toNat]
def k12_off10 (arg8_r0 : BitVec 32) : Fin 3 → Nat :=
  let c2_i32_82_r0 : BitVec 32 := 2#32
  let v109_r0 : BitVec 32 := Scalar.remui arg8_r0 c2_i32_82_r0
  let c0_i32_100_r1 : BitVec 32 := 0#32
  let c0_i32_101_r1 : BitVec 32 := 0#32
  ![v109_r0.toNat, 0, 0]

def k12_chk2 (arg8_r0 : BitVec 32) : Prop :=
  (∀ a, (k12_off10 arg8_r0) a + S1x128x128.size a ≤ S2x128x128.size a)
theorem k12_off10_inb : ∀ (arg8_r0 : BitVec 32) (k12_hw2 : k12_chk2 arg8_r0), ∀ a, (k12_off10 arg8_r0) a + S1x128x128.size a ≤ S2x128x128.size a := fun arg8_r0 k12_hw2 => k12_hw2

def k12_off11 (arg7_r0 : BitVec 32) : Fin 3 → Nat :=
  let c2_i32_81_r0 : BitVec 32 := 2#32
  let v108_r0 : BitVec 32 := Scalar.remui arg7_r0 c2_i32_81_r0
  let c0_i32_102_r1 : BitVec 32 := 0#32
  let c0_i32_103_r1 : BitVec 32 := 0#32
  ![v108_r0.toNat, 0, 0]

def k12_chk3 (arg7_r0 : BitVec 32) : Prop :=
  (∀ a, (k12_off11 arg7_r0) a + S1x1x128.size a ≤ S2x1x128.size a)
theorem k12_off11_inb : ∀ (arg7_r0 : BitVec 32) (k12_hw3 : k12_chk3 arg7_r0), ∀ a, (k12_off11 arg7_r0) a + S1x1x128.size a ≤ S2x1x128.size a := fun arg7_r0 k12_hw3 => k12_hw3

def k12_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k12_cond5 (i : grid12.Coords) (k12_t1 : Fin k12_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k12_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k12_off13 (i : grid12.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_101_r0 v66_r0
  let c0_i32_104_r0 : BitVec 32 := 0#32
  ![v145_r0.toNat, 0]
def k12_off14 (arg8_r0 : BitVec 32) : Fin 1 → Nat :=
  let c2_i32_100_r0 : BitVec 32 := 2#32
  let v144_r0 : BitVec 32 := Scalar.remui arg8_r0 c2_i32_100_r0
  ![v144_r0.toNat]
def k12_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k12_cond7 (i : grid12.Coords) (k12_t1 : Fin k12_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k12_t1
  let c0_i32_55_r0 : BitVec 32 := 0#32
  let v64_r0 : BitVec 1 := Scalar.cmpi .eq arg5_r0 c0_i32_55_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k12_off16 (i : grid12.Coords) (arg10_r0 : BitVec 32) : Fin 2 → Nat :=
  let c128_i32_101_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_101_r0 v71_r0
  let c0_i32_104_r0 : BitVec 32 := 0#32
  ![v145_r0.toNat, 0]
def k12_off17 (arg9_r0 : BitVec 32) : Fin 1 → Nat :=
  let c2_i32_100_r0 : BitVec 32 := 2#32
  let v144_r0 : BitVec 32 := Scalar.remui arg9_r0 c2_i32_100_r0
  ![v144_r0.toNat]

def k12_chk1 (i : grid12.Coords) (k12_t1 : Fin k12_t1_loop.trips) (arg6_r0 : BitVec 32) (arg7_r0 : BitVec 32) (arg8_r0 : BitVec 32) (arg9_r0 : BitVec 32) (arg10_r0 : BitVec 32) : Prop :=
  (∀ (k12_h1 : k12_cond1 i k12_t1 arg10_r0 = 1#1), ∀ a, (k12_off4 arg6_r0) a + S1x1x128.size a ≤ S2x1x128.size a) ∧
  (∀ (k12_h1 : k12_cond1 i k12_t1 arg10_r0 = 1#1), ∀ a, (k12_off5 i arg10_r0) a + S1x128.size a ≤ S1x65536.size a) ∧
  (∀ (k12_h1 : k12_cond1 i k12_t1 arg10_r0 = 1#1), ∀ a, (k12_off6 arg6_r0) a + S1.size a ≤ S2.size a) ∧
  (∀ (k12_h2 : k12_cond2 i k12_t1 arg10_r0 = 1#1), ∀ a, (k12_off7 arg7_r0) a + S1x1x128.size a ≤ S2x1x128.size a) ∧
  (∀ (k12_h2 : k12_cond2 i k12_t1 arg10_r0 = 1#1), ∀ a, (k12_off8 i arg10_r0) a + S1x128.size a ≤ S1x65536.size a) ∧
  (∀ (k12_h2 : k12_cond2 i k12_t1 arg10_r0 = 1#1), ∀ a, (k12_off9 arg7_r0) a + S1.size a ≤ S2.size a) ∧
  (∀ (k12_h5 : k12_cond5 i k12_t1 arg10_r0 = 1#1), ∀ a, (k12_off12 arg8_r0) a + S1x128x128.size a ≤ S2x128x128.size a) ∧
  (∀ (k12_h5 : k12_cond5 i k12_t1 arg10_r0 = 1#1), ∀ a, (k12_off13 i arg10_r0) a + S128x128.size a ≤ S65536x128.size a) ∧
  (∀ (k12_h5 : k12_cond5 i k12_t1 arg10_r0 = 1#1), ∀ a, (k12_off14 arg8_r0) a + S1.size a ≤ S2.size a) ∧
  (∀ (k12_h7 : k12_cond7 i k12_t1 arg10_r0 = 1#1), ∀ a, (k12_off15 arg9_r0) a + S1x128x128.size a ≤ S2x128x128.size a) ∧
  (∀ (k12_h7 : k12_cond7 i k12_t1 arg10_r0 = 1#1), ∀ a, (k12_off16 i arg10_r0) a + S128x128.size a ≤ S65536x128.size a) ∧
  (∀ (k12_h7 : k12_cond7 i k12_t1 arg10_r0 = 1#1), ∀ a, (k12_off17 arg9_r0) a + S1.size a ≤ S2.size a)
theorem k12_off4_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h1 : k12_cond1 i k12_t1 arg10_r0 = 1#1), ∀ a, (k12_off4 arg6_r0) a + S1x1x128.size a ≤ S2x1x128.size a := fun i k12_t1 arg6_r0 arg7_r0 arg8_r0 arg9_r0 arg10_r0 k12_hw1 k12_h1 => k12_hw1.1 k12_h1
theorem k12_off5_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h1 : k12_cond1 i k12_t1 arg10_r0 = 1#1), ∀ a, (k12_off5 i arg10_r0) a + S1x128.size a ≤ S1x65536.size a := fun i k12_t1 arg6_r0 arg7_r0 arg8_r0 arg9_r0 arg10_r0 k12_hw1 k12_h1 => k12_hw1.2.1 k12_h1
theorem k12_off6_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h1 : k12_cond1 i k12_t1 arg10_r0 = 1#1), ∀ a, (k12_off6 arg6_r0) a + S1.size a ≤ S2.size a := fun i k12_t1 arg6_r0 arg7_r0 arg8_r0 arg9_r0 arg10_r0 k12_hw1 k12_h1 => k12_hw1.2.2.1 k12_h1
theorem k12_off7_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h2 : k12_cond2 i k12_t1 arg10_r0 = 1#1), ∀ a, (k12_off7 arg7_r0) a + S1x1x128.size a ≤ S2x1x128.size a := fun i k12_t1 arg6_r0 arg7_r0 arg8_r0 arg9_r0 arg10_r0 k12_hw1 k12_h2 => k12_hw1.2.2.2.1 k12_h2
theorem k12_off8_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h2 : k12_cond2 i k12_t1 arg10_r0 = 1#1), ∀ a, (k12_off8 i arg10_r0) a + S1x128.size a ≤ S1x65536.size a := fun i k12_t1 arg6_r0 arg7_r0 arg8_r0 arg9_r0 arg10_r0 k12_hw1 k12_h2 => k12_hw1.2.2.2.2.1 k12_h2
theorem k12_off9_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h2 : k12_cond2 i k12_t1 arg10_r0 = 1#1), ∀ a, (k12_off9 arg7_r0) a + S1.size a ≤ S2.size a := fun i k12_t1 arg6_r0 arg7_r0 arg8_r0 arg9_r0 arg10_r0 k12_hw1 k12_h2 => k12_hw1.2.2.2.2.2.1 k12_h2
theorem k12_off12_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h5 : k12_cond5 i k12_t1 arg10_r0 = 1#1), ∀ a, (k12_off12 arg8_r0) a + S1x128x128.size a ≤ S2x128x128.size a := fun i k12_t1 arg6_r0 arg7_r0 arg8_r0 arg9_r0 arg10_r0 k12_hw1 k12_h5 => k12_hw1.2.2.2.2.2.2.1 k12_h5
theorem k12_off13_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h5 : k12_cond5 i k12_t1 arg10_r0 = 1#1), ∀ a, (k12_off13 i arg10_r0) a + S128x128.size a ≤ S65536x128.size a := fun i k12_t1 arg6_r0 arg7_r0 arg8_r0 arg9_r0 arg10_r0 k12_hw1 k12_h5 => k12_hw1.2.2.2.2.2.2.2.1 k12_h5
theorem k12_off14_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h5 : k12_cond5 i k12_t1 arg10_r0 = 1#1), ∀ a, (k12_off14 arg8_r0) a + S1.size a ≤ S2.size a := fun i k12_t1 arg6_r0 arg7_r0 arg8_r0 arg9_r0 arg10_r0 k12_hw1 k12_h5 => k12_hw1.2.2.2.2.2.2.2.2.1 k12_h5
theorem k12_off15_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h7 : k12_cond7 i k12_t1 arg10_r0 = 1#1), ∀ a, (k12_off15 arg9_r0) a + S1x128x128.size a ≤ S2x128x128.size a := fun i k12_t1 arg6_r0 arg7_r0 arg8_r0 arg9_r0 arg10_r0 k12_hw1 k12_h7 => k12_hw1.2.2.2.2.2.2.2.2.2.1 k12_h7
theorem k12_off16_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h7 : k12_cond7 i k12_t1 arg10_r0 = 1#1), ∀ a, (k12_off16 i arg10_r0) a + S128x128.size a ≤ S65536x128.size a := fun i k12_t1 arg6_r0 arg7_r0 arg8_r0 arg9_r0 arg10_r0 k12_hw1 k12_h7 => k12_hw1.2.2.2.2.2.2.2.2.2.2.1 k12_h7
theorem k12_off17_inb : ∀ (i : grid12.Coords) (k12_t1 : Fin k12_t1_loop.trips) (arg6_r0 : BitVec 32) (arg7_r0 : BitVec 32) (arg8_r0 : BitVec 32) (arg9_r0 : BitVec 32) (arg10_r0 : BitVec 32) (k12_hw1 : k12_chk1 i k12_t1 arg6_r0 arg7_r0 arg8_r0 arg9_r0 arg10_r0), ∀ (k12_h7 : k12_cond7 i k12_t1 arg10_r0 = 1#1), ∀ a, (k12_off17 arg9_r0) a + S1.size a ≤ S2.size a := fun i k12_t1 arg6_r0 arg7_r0 arg8_r0 arg9_r0 arg10_r0 k12_hw1 k12_h7 => k12_hw1.2.2.2.2.2.2.2.2.2.2.2 k12_h7

def k12_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k12_off19 (i : grid12.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k12_chk5 (i : grid12.Coords) (v33_4_r0 : BitVec 32) : Prop :=
  (∀ a, (k12_off19 i v33_4_r0) a + S128x128.size a ≤ S65536x128.size a)
theorem k12_off19_inb : ∀ (i : grid12.Coords) (v33_4_r0 : BitVec 32) (k12_hw5 : k12_chk5 i v33_4_r0), ∀ a, (k12_off19 i v33_4_r0) a + S128x128.size a ≤ S65536x128.size a := fun i v33_4_r0 k12_hw5 => k12_hw5

def k12_off20 (v33_3_r0 : BitVec 32) : Fin 1 → Nat :=
  let c2_i32_47_r0 : BitVec 32 := 2#32
  let v54_r0 : BitVec 32 := Scalar.remui v33_3_r0 c2_i32_47_r0
  ![v54_r0.toNat]
def k12_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k12_chk4 (v33_3_r0 : BitVec 32) : Prop :=
  (∀ a, (k12_off18 v33_3_r0) a + S1x128x128.size a ≤ S2x128x128.size a) ∧
  (∀ a, (k12_off20 v33_3_r0) a + S1.size a ≤ S2.size a) ∧
  (∀ a, (k12_off21 v33_3_r0) a + S1x128x128.size a ≤ S2x128x128.size a)
theorem k12_off18_inb : ∀ (v33_3_r0 : BitVec 32) (k12_hw4 : k12_chk4 v33_3_r0), ∀ a, (k12_off18 v33_3_r0) a + S1x128x128.size a ≤ S2x128x128.size a := fun v33_3_r0 k12_hw4 => k12_hw4.1
theorem k12_off20_inb : ∀ (v33_3_r0 : BitVec 32) (k12_hw4 : k12_chk4 v33_3_r0), ∀ a, (k12_off20 v33_3_r0) a + S1.size a ≤ S2.size a := fun v33_3_r0 k12_hw4 => k12_hw4.2.1
theorem k12_off21_inb : ∀ (v33_3_r0 : BitVec 32) (k12_hw4 : k12_chk4 v33_3_r0), ∀ a, (k12_off21 v33_3_r0) a + S1x128x128.size a ≤ S2x128x128.size a := fun v33_3_r0 k12_hw4 => k12_hw4.2.2

abbrev grid13 : Pipeline.Grid := ⟨1, ![16], ![false]⟩

def cc13_transform_0 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S8x512x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S512x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S2x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S8x512x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨2, ![2, 16], ![false, false]⟩

def k14_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k14_off2 (i : grid14.Coords) : Fin 2 → Nat :=
  let c0_i32_17_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c128_i32_r0 v7_r0
  ![0, v22_r0.toNat]
def k14_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k14_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k14_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k14_cond1 (i : grid14.Coords) (k14_t1 : Fin k14_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k14_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k14_off5 (i : grid14.Coords) (arg10_r0 : BitVec 32) : Fin 2 → Nat :=
  let c0_i32_104_r0 : BitVec 32 := 0#32
  let c128_i32_101_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c128_i32_101_r0 v76_r0
  ![0, v145_r0.toNat]
def k14_off6 (arg6_r0 : BitVec 32) : Fin 1 → Nat :=
  let c2_i32_100_r0 : BitVec 32 := 2#32
  let v144_r0 : BitVec 32 := Scalar.remui arg6_r0 c2_i32_100_r0
  ![v144_r0.toNat]
def k14_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k14_cond2 (i : grid14.Coords) (k14_t1 : Fin k14_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k14_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k14_off8 (i : grid14.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c128_i32_100_r0 v66_r0
  ![0, v144_r0.toNat]
def k14_off9 (arg7_r0 : BitVec 32) : Fin 1 → Nat :=
  let c2_i32_101_r0 : BitVec 32 := 2#32
  let v145_r0 : BitVec 32 := Scalar.remui arg7_r0 c2_i32_101_r0
  ![v145_r0.toNat]
def k14_off10 (arg8_r0 : BitVec 32) : Fin 3 → Nat :=
  let c2_i32_82_r0 : BitVec 32 := 2#32
  let v109_r0 : BitVec 32 := Scalar.remui arg8_r0 c2_i32_82_r0
  let c0_i32_100_r1 : BitVec 32 := 0#32
  let c0_i32_101_r1 : BitVec 32 := 0#32
  ![v109_r0.toNat, 0, 0]

def k14_chk2 (arg8_r0 : BitVec 32) : Prop :=
  (∀ a, (k14_off10 arg8_r0) a + S1x128x128.size a ≤ S2x128x128.size a)
theorem k14_off10_inb : ∀ (arg8_r0 : BitVec 32) (k14_hw2 : k14_chk2 arg8_r0), ∀ a, (k14_off10 arg8_r0) a + S1x128x128.size a ≤ S2x128x128.size a := fun arg8_r0 k14_hw2 => k14_hw2

def k14_off11 (arg7_r0 : BitVec 32) : Fin 3 → Nat :=
  let c2_i32_81_r0 : BitVec 32 := 2#32
  let v108_r0 : BitVec 32 := Scalar.remui arg7_r0 c2_i32_81_r0
  let c0_i32_102_r1 : BitVec 32 := 0#32
  let c0_i32_103_r1 : BitVec 32 := 0#32
  ![v108_r0.toNat, 0, 0]

def k14_chk3 (arg7_r0 : BitVec 32) : Prop :=
  (∀ a, (k14_off11 arg7_r0) a + S1x1x128.size a ≤ S2x1x128.size a)
theorem k14_off11_inb : ∀ (arg7_r0 : BitVec 32) (k14_hw3 : k14_chk3 arg7_r0), ∀ a, (k14_off11 arg7_r0) a + S1x1x128.size a ≤ S2x1x128.size a := fun arg7_r0 k14_hw3 => k14_hw3

def k14_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k14_cond5 (i : grid14.Coords) (k14_t1 : Fin k14_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k14_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k14_off13 (i : grid14.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c128_i32_101_r0 v66_r0
  let c0_i32_104_r0 : BitVec 32 := 0#32
  ![v145_r0.toNat, 0]
def k14_off14 (arg8_r0 : BitVec 32) : Fin 1 → Nat :=
  let c2_i32_100_r0 : BitVec 32 := 2#32
  let v144_r0 : BitVec 32 := Scalar.remui arg8_r0 c2_i32_100_r0
  ![v144_r0.toNat]
def k14_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k14_cond7 (i : grid14.Coords) (k14_t1 : Fin k14_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k14_t1
  let c0_i32_55_r0 : BitVec 32 := 0#32
  let v64_r0 : BitVec 1 := Scalar.cmpi .eq arg5_r0 c0_i32_55_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k14_off16 (i : grid14.Coords) (arg10_r0 : BitVec 32) : Fin 2 → Nat :=
  let c128_i32_101_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c128_i32_101_r0 v71_r0
  let c0_i32_104_r0 : BitVec 32 := 0#32
  ![v145_r0.toNat, 0]
def k14_off17 (arg9_r0 : BitVec 32) : Fin 1 → Nat :=
  let c2_i32_100_r0 : BitVec 32 := 2#32
  let v144_r0 : BitVec 32 := Scalar.remui arg9_r0 c2_i32_100_r0
  ![v144_r0.toNat]

def k14_chk1 (i : grid14.Coords) (k14_t1 : Fin k14_t1_loop.trips) (arg6_r0 : BitVec 32) (arg7_r0 : BitVec 32) (arg8_r0 : BitVec 32) (arg9_r0 : BitVec 32) (arg10_r0 : BitVec 32) : Prop :=
  (∀ (k14_h1 : k14_cond1 i k14_t1 arg10_r0 = 1#1), ∀ a, (k14_off4 arg6_r0) a + S1x1x128.size a ≤ S2x1x128.size a) ∧
  (∀ (k14_h1 : k14_cond1 i k14_t1 arg10_r0 = 1#1), ∀ a, (k14_off5 i arg10_r0) a + S1x128.size a ≤ S1x65536.size a) ∧
  (∀ (k14_h1 : k14_cond1 i k14_t1 arg10_r0 = 1#1), ∀ a, (k14_off6 arg6_r0) a + S1.size a ≤ S2.size a) ∧
  (∀ (k14_h2 : k14_cond2 i k14_t1 arg10_r0 = 1#1), ∀ a, (k14_off7 arg7_r0) a + S1x1x128.size a ≤ S2x1x128.size a) ∧
  (∀ (k14_h2 : k14_cond2 i k14_t1 arg10_r0 = 1#1), ∀ a, (k14_off8 i arg10_r0) a + S1x128.size a ≤ S1x65536.size a) ∧
  (∀ (k14_h2 : k14_cond2 i k14_t1 arg10_r0 = 1#1), ∀ a, (k14_off9 arg7_r0) a + S1.size a ≤ S2.size a) ∧
  (∀ (k14_h5 : k14_cond5 i k14_t1 arg10_r0 = 1#1), ∀ a, (k14_off12 arg8_r0) a + S1x128x128.size a ≤ S2x128x128.size a) ∧
  (∀ (k14_h5 : k14_cond5 i k14_t1 arg10_r0 = 1#1), ∀ a, (k14_off13 i arg10_r0) a + S128x128.size a ≤ S65536x128.size a) ∧
  (∀ (k14_h5 : k14_cond5 i k14_t1 arg10_r0 = 1#1), ∀ a, (k14_off14 arg8_r0) a + S1.size a ≤ S2.size a) ∧
  (∀ (k14_h7 : k14_cond7 i k14_t1 arg10_r0 = 1#1), ∀ a, (k14_off15 arg9_r0) a + S1x128x128.size a ≤ S2x128x128.size a) ∧
  (∀ (k14_h7 : k14_cond7 i k14_t1 arg10_r0 = 1#1), ∀ a, (k14_off16 i arg10_r0) a + S128x128.size a ≤ S65536x128.size a) ∧
  (∀ (k14_h7 : k14_cond7 i k14_t1 arg10_r0 = 1#1), ∀ a, (k14_off17 arg9_r0) a + S1.size a ≤ S2.size a)
theorem k14_off4_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h1 : k14_cond1 i k14_t1 arg10_r0 = 1#1), ∀ a, (k14_off4 arg6_r0) a + S1x1x128.size a ≤ S2x1x128.size a := fun i k14_t1 arg6_r0 arg7_r0 arg8_r0 arg9_r0 arg10_r0 k14_hw1 k14_h1 => k14_hw1.1 k14_h1
theorem k14_off5_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h1 : k14_cond1 i k14_t1 arg10_r0 = 1#1), ∀ a, (k14_off5 i arg10_r0) a + S1x128.size a ≤ S1x65536.size a := fun i k14_t1 arg6_r0 arg7_r0 arg8_r0 arg9_r0 arg10_r0 k14_hw1 k14_h1 => k14_hw1.2.1 k14_h1
theorem k14_off6_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h1 : k14_cond1 i k14_t1 arg10_r0 = 1#1), ∀ a, (k14_off6 arg6_r0) a + S1.size a ≤ S2.size a := fun i k14_t1 arg6_r0 arg7_r0 arg8_r0 arg9_r0 arg10_r0 k14_hw1 k14_h1 => k14_hw1.2.2.1 k14_h1
theorem k14_off7_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h2 : k14_cond2 i k14_t1 arg10_r0 = 1#1), ∀ a, (k14_off7 arg7_r0) a + S1x1x128.size a ≤ S2x1x128.size a := fun i k14_t1 arg6_r0 arg7_r0 arg8_r0 arg9_r0 arg10_r0 k14_hw1 k14_h2 => k14_hw1.2.2.2.1 k14_h2
theorem k14_off8_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h2 : k14_cond2 i k14_t1 arg10_r0 = 1#1), ∀ a, (k14_off8 i arg10_r0) a + S1x128.size a ≤ S1x65536.size a := fun i k14_t1 arg6_r0 arg7_r0 arg8_r0 arg9_r0 arg10_r0 k14_hw1 k14_h2 => k14_hw1.2.2.2.2.1 k14_h2
theorem k14_off9_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h2 : k14_cond2 i k14_t1 arg10_r0 = 1#1), ∀ a, (k14_off9 arg7_r0) a + S1.size a ≤ S2.size a := fun i k14_t1 arg6_r0 arg7_r0 arg8_r0 arg9_r0 arg10_r0 k14_hw1 k14_h2 => k14_hw1.2.2.2.2.2.1 k14_h2
theorem k14_off12_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h5 : k14_cond5 i k14_t1 arg10_r0 = 1#1), ∀ a, (k14_off12 arg8_r0) a + S1x128x128.size a ≤ S2x128x128.size a := fun i k14_t1 arg6_r0 arg7_r0 arg8_r0 arg9_r0 arg10_r0 k14_hw1 k14_h5 => k14_hw1.2.2.2.2.2.2.1 k14_h5
theorem k14_off13_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h5 : k14_cond5 i k14_t1 arg10_r0 = 1#1), ∀ a, (k14_off13 i arg10_r0) a + S128x128.size a ≤ S65536x128.size a := fun i k14_t1 arg6_r0 arg7_r0 arg8_r0 arg9_r0 arg10_r0 k14_hw1 k14_h5 => k14_hw1.2.2.2.2.2.2.2.1 k14_h5
theorem k14_off14_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h5 : k14_cond5 i k14_t1 arg10_r0 = 1#1), ∀ a, (k14_off14 arg8_r0) a + S1.size a ≤ S2.size a := fun i k14_t1 arg6_r0 arg7_r0 arg8_r0 arg9_r0 arg10_r0 k14_hw1 k14_h5 => k14_hw1.2.2.2.2.2.2.2.2.1 k14_h5
theorem k14_off15_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h7 : k14_cond7 i k14_t1 arg10_r0 = 1#1), ∀ a, (k14_off15 arg9_r0) a + S1x128x128.size a ≤ S2x128x128.size a := fun i k14_t1 arg6_r0 arg7_r0 arg8_r0 arg9_r0 arg10_r0 k14_hw1 k14_h7 => k14_hw1.2.2.2.2.2.2.2.2.2.1 k14_h7
theorem k14_off16_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h7 : k14_cond7 i k14_t1 arg10_r0 = 1#1), ∀ a, (k14_off16 i arg10_r0) a + S128x128.size a ≤ S65536x128.size a := fun i k14_t1 arg6_r0 arg7_r0 arg8_r0 arg9_r0 arg10_r0 k14_hw1 k14_h7 => k14_hw1.2.2.2.2.2.2.2.2.2.2.1 k14_h7
theorem k14_off17_inb : ∀ (i : grid14.Coords) (k14_t1 : Fin k14_t1_loop.trips) (arg6_r0 : BitVec 32) (arg7_r0 : BitVec 32) (arg8_r0 : BitVec 32) (arg9_r0 : BitVec 32) (arg10_r0 : BitVec 32) (k14_hw1 : k14_chk1 i k14_t1 arg6_r0 arg7_r0 arg8_r0 arg9_r0 arg10_r0), ∀ (k14_h7 : k14_cond7 i k14_t1 arg10_r0 = 1#1), ∀ a, (k14_off17 arg9_r0) a + S1.size a ≤ S2.size a := fun i k14_t1 arg6_r0 arg7_r0 arg8_r0 arg9_r0 arg10_r0 k14_hw1 k14_h7 => k14_hw1.2.2.2.2.2.2.2.2.2.2.2 k14_h7

def k14_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k14_off19 (i : grid14.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c128_i32_48_r0 v38_r0
  let c0_i32_51_r0 : BitVec 32 := 0#32
  ![v55_r0.toNat, 0]

def k14_chk5 (i : grid14.Coords) (v33_4_r0 : BitVec 32) : Prop :=
  (∀ a, (k14_off19 i v33_4_r0) a + S128x128.size a ≤ S65536x128.size a)
theorem k14_off19_inb : ∀ (i : grid14.Coords) (v33_4_r0 : BitVec 32) (k14_hw5 : k14_chk5 i v33_4_r0), ∀ a, (k14_off19 i v33_4_r0) a + S128x128.size a ≤ S65536x128.size a := fun i v33_4_r0 k14_hw5 => k14_hw5

def k14_off20 (v33_3_r0 : BitVec 32) : Fin 1 → Nat :=
  let c2_i32_47_r0 : BitVec 32 := 2#32
  let v54_r0 : BitVec 32 := Scalar.remui v33_3_r0 c2_i32_47_r0
  ![v54_r0.toNat]
def k14_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k14_chk4 (v33_3_r0 : BitVec 32) : Prop :=
  (∀ a, (k14_off18 v33_3_r0) a + S1x128x128.size a ≤ S2x128x128.size a) ∧
  (∀ a, (k14_off20 v33_3_r0) a + S1.size a ≤ S2.size a) ∧
  (∀ a, (k14_off21 v33_3_r0) a + S1x128x128.size a ≤ S2x128x128.size a)
theorem k14_off18_inb : ∀ (v33_3_r0 : BitVec 32) (k14_hw4 : k14_chk4 v33_3_r0), ∀ a, (k14_off18 v33_3_r0) a + S1x128x128.size a ≤ S2x128x128.size a := fun v33_3_r0 k14_hw4 => k14_hw4.1
theorem k14_off20_inb : ∀ (v33_3_r0 : BitVec 32) (k14_hw4 : k14_chk4 v33_3_r0), ∀ a, (k14_off20 v33_3_r0) a + S1.size a ≤ S2.size a := fun v33_3_r0 k14_hw4 => k14_hw4.2.1
theorem k14_off21_inb : ∀ (v33_3_r0 : BitVec 32) (k14_hw4 : k14_chk4 v33_3_r0), ∀ a, (k14_off21 v33_3_r0) a + S1x128x128.size a ≤ S2x128x128.size a := fun v33_3_r0 k14_hw4 => k14_hw4.2.2

abbrev grid15 : Pipeline.Grid := ⟨1, ![16], ![false]⟩

def cc15_transform_0 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S8x512x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S512x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S2x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S8x512x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev scKind : Fin 8 → Kind := fun | 0 => .scVector | 1 => .scVector | 2 => .scVector | 3 => .scVector | 4 => .scVector | 5 => .scVector | 6 => .scVector | 7 => .scVector | ⟨_ + 8, h⟩ => absurd h (Nat.not_lt.2 (Nat.le_add_left _ _))
abbrev scNCore : Fin 8 → Nat := fun | 0 => 2 | 1 => 2 | 2 => 2 | 3 => 2 | 4 => 2 | 5 => 2 | 6 => 2 | 7 => 2 | ⟨_ + 8, h⟩ => absurd h (Nat.not_lt.2 (Nat.le_add_left _ _))
abbrev scNSub : Fin 8 → Nat := fun | 0 => 16 | 1 => 16 | 2 => 16 | 3 => 16 | 4 => 16 | 5 => 16 | 6 => 16 | 7 => 16 | ⟨_ + 8, h⟩ => absurd h (Nat.not_lt.2 (Nat.le_add_left _ _))
-- ==== ReferenceIdeal.lean ====
abbrev S1024x512 : Shape := ⟨2, ![1024, 512]⟩
abbrev S30522x128 : Shape := ⟨2, ![30522, 128]⟩
abbrev S512x128 : Shape := ⟨2, ![512, 128]⟩
abbrev S2x128 : Shape := ⟨2, ![2, 128]⟩
abbrev S128 : Shape := ⟨1, ![128]⟩
abbrev S_ : Shape := ⟨0, ![]⟩
abbrev S1024x512x1 : Shape := ⟨3, ![1024, 512, 1]⟩
abbrev S1 : Shape := ⟨1, ![1]⟩
abbrev S1x1x1 : Shape := ⟨3, ![1, 1, 1]⟩
abbrev S1024x512x128 : Shape := ⟨3, ![1024, 512, 128]⟩
abbrev S512 : Shape := ⟨1, ![512]⟩
abbrev S512x1 : Shape := ⟨2, ![512, 1]⟩
abbrev S1x1 : Shape := ⟨2, ![1, 1]⟩
abbrev S1x512x128 : Shape := ⟨3, ![1, 512, 128]⟩
abbrev S1x1x128 : Shape := ⟨3, ![1, 1, 128]⟩

abbrev nBuf : Space → Nat
  | .hbm => 111
  | .vmem => 0
  | .smem => 0
  | _ => 0

abbrev bufTy : (tb : Table) → Fin (tcTables nBuf tb) → BufTy
  | .hbm, ⟨0, _⟩ => ⟨S1024x512, .i32⟩
  | .hbm, ⟨1, _⟩ => ⟨S30522x128, .f32⟩
  | .hbm, ⟨2, _⟩ => ⟨S512x128, .f32⟩
  | .hbm, ⟨3, _⟩ => ⟨S2x128, .f32⟩
  | .hbm, ⟨4, _⟩ => ⟨S128, .f32⟩
  | .hbm, ⟨5, _⟩ => ⟨S128, .f32⟩
  | .hbm, ⟨6, _⟩ => ⟨S_, .i32⟩
  | .hbm, ⟨7, _⟩ => ⟨S1024x512, .i32⟩
  | .hbm, ⟨8, _⟩ => ⟨S1024x512, .i1⟩
  | .hbm, ⟨9, _⟩ => ⟨S_, .i32⟩
  | .hbm, ⟨10, _⟩ => ⟨S1024x512, .i32⟩
  | .hbm, ⟨11, _⟩ => ⟨S1024x512, .i32⟩
  | .hbm, ⟨12, _⟩ => ⟨S1024x512, .i32⟩
  | .hbm, ⟨13, _⟩ => ⟨S1024x512x1, .i32⟩
  | .hbm, ⟨14, _⟩ => ⟨S1, .i32⟩
  | .hbm, ⟨15, _⟩ => ⟨S_, .i32⟩
  | .hbm, ⟨16, _⟩ => ⟨S1024x512x1, .i32⟩
  | .hbm, ⟨17, _⟩ => ⟨S1024x512x1, .i1⟩
  | .hbm, ⟨18, _⟩ => ⟨S1x1x1, .i32⟩
  | .hbm, ⟨19, _⟩ => ⟨S1024x512x1, .i32⟩
  | .hbm, ⟨20, _⟩ => ⟨S1024x512x1, .i1⟩
  | .hbm, ⟨21, _⟩ => ⟨S1024x512x1, .i1⟩
  | .hbm, ⟨22, _⟩ => ⟨S_, .i1⟩
  | .hbm, ⟨23, _⟩ => ⟨S1024x512, .i1⟩
  | .hbm, ⟨24, _⟩ => ⟨S1024x512x128, .f32⟩
  | .hbm, ⟨25, _⟩ => ⟨S1024x512x128, .i1⟩
  | .hbm, ⟨26, _⟩ => ⟨S_, .f32⟩
  | .hbm, ⟨27, _⟩ => ⟨S1024x512x128, .f32⟩
  | .hbm, ⟨28, _⟩ => ⟨S1024x512x128, .f32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S1, .i32⟩
  | .hbm, ⟨39, _⟩ => ⟨S_, .i32⟩
  | .hbm, ⟨40, _⟩ => ⟨S512x1, .i32⟩
  | .hbm, ⟨41, _⟩ => ⟨S512x1, .i1⟩
  | .hbm, ⟨42, _⟩ => ⟨S1x1, .i32⟩
  | .hbm, ⟨43, _⟩ => ⟨S512x1, .i32⟩
  | .hbm, ⟨44, _⟩ => ⟨S512x1, .i1⟩
  | .hbm, ⟨45, _⟩ => ⟨S512x1, .i1⟩
  | .hbm, ⟨46, _⟩ => ⟨S_, .i1⟩
  | .hbm, ⟨47, _⟩ => ⟨S512, .i1⟩
  | .hbm, ⟨48, _⟩ => ⟨S512x128, .f32⟩
  | .hbm, ⟨49, _⟩ => ⟨S512x128, .i1⟩
  | .hbm, ⟨50, _⟩ => ⟨S_, .f32⟩
  | .hbm, ⟨51, _⟩ => ⟨S512x128, .f32⟩
  | .hbm, ⟨52, _⟩ => ⟨S512x128, .f32⟩
  | .hbm, ⟨53, _⟩ => ⟨S1x512x128, .f32⟩
  | .hbm, ⟨54, _⟩ => ⟨S_, .i32⟩
  | .hbm, ⟨55, _⟩ => ⟨S1024x512, .i32⟩
  | .hbm, ⟨56, _⟩ => ⟨S_, .i32⟩
  | .hbm, ⟨57, _⟩ => ⟨S1024x512, .i32⟩
  | .hbm, ⟨58, _⟩ => ⟨S1024x512, .i1⟩
  | .hbm, ⟨59, _⟩ => ⟨S_, .i32⟩
  | .hbm, ⟨60, _⟩ => ⟨S1024x512, .i32⟩
  | .hbm, ⟨61, _⟩ => ⟨S1024x512, .i32⟩
  | .hbm, ⟨62, _⟩ => ⟨S1024x512, .i32⟩
  | .hbm, ⟨63, _⟩ => ⟨S1024x512x1, .i32⟩
  | .hbm, ⟨64, _⟩ => ⟨S1, .i32⟩
  | .hbm, ⟨65, _⟩ => ⟨S_, .i32⟩
  | .hbm, ⟨66, _⟩ => ⟨S1024x512x1, .i32⟩
  | .hbm, ⟨67, _⟩ => ⟨S1024x512x1, .i1⟩
  | .hbm, ⟨68, _⟩ => ⟨S1x1x1, .i32⟩
  | .hbm, ⟨69, _⟩ => ⟨S1024x512x1, .i32⟩
  | .hbm, ⟨70, _⟩ => ⟨S1024x512x1, .i1⟩
  | .hbm, ⟨71, _⟩ => ⟨S1024x512x1, .i1⟩
  | .hbm, ⟨72, _⟩ => ⟨S_, .i1⟩
  | .hbm, ⟨73, _⟩ => ⟨S1024x512, .i1⟩
  | .hbm, ⟨74, _⟩ => ⟨S1024x512x128, .f32⟩
  | .hbm, ⟨75, _⟩ => ⟨S1024x512x128, .i1⟩
  | .hbm, ⟨76, _⟩ => ⟨S_, .f32⟩
  | .hbm, ⟨77, _⟩ => ⟨S1024x512x128, .f32⟩
  | .hbm, ⟨78, _⟩ => ⟨S1024x512x128, .f32⟩
  | .hbm, ⟨79, _⟩ => ⟨S1024x512x128, .f32⟩
  | .hbm, ⟨80, _⟩ => ⟨S1024x512x128, .f32⟩
  | .hbm, ⟨81, _⟩ => ⟨S1024x512x128, .f32⟩
  | .hbm, ⟨82, _⟩ => ⟨S_, .f32⟩
  | .hbm, ⟨83, _⟩ => ⟨S1024x512, .f32⟩
  | .hbm, ⟨84, _⟩ => ⟨S1024x512x1, .f32⟩
  | .hbm, ⟨85, _⟩ => ⟨S_, .f32⟩
  | .hbm, ⟨86, _⟩ => ⟨S1024x512x1, .f32⟩
  | .hbm, ⟨87, _⟩ => ⟨S1024x512x1, .f32⟩
  | .hbm, ⟨88, _⟩ => ⟨S1024x512x128, .f32⟩
  | .hbm, ⟨89, _⟩ => ⟨S1024x512x128, .f32⟩
  | .hbm, ⟨90, _⟩ => ⟨S1024x512x128, .f32⟩
  | .hbm, ⟨91, _⟩ => ⟨S_, .f32⟩
  | .hbm, ⟨92, _⟩ => ⟨S1024x512, .f32⟩
  | .hbm, ⟨93, _⟩ => ⟨S1024x512x1, .f32⟩
  | .hbm, ⟨94, _⟩ => ⟨S_, .f32⟩
  | .hbm, ⟨95, _⟩ => ⟨S1024x512x1, .f32⟩
  | .hbm, ⟨96, _⟩ => ⟨S1024x512x1, .f32⟩
  | .hbm, ⟨97, _⟩ => ⟨S1024x512x128, .f32⟩
  | .hbm, ⟨98, _⟩ => ⟨S1024x512x128, .f32⟩
  | .hbm, ⟨99, _⟩ => ⟨S_, .f32⟩
  | .hbm, ⟨100, _⟩ => ⟨S1024x512x1, .f32⟩
  | .hbm, ⟨101, _⟩ => ⟨S1024x512x1, .f32⟩
  | .hbm, ⟨102, _⟩ => ⟨S1024x512x1, .f32⟩
  | .hbm, ⟨103, _⟩ => ⟨S1024x512x128, .f32⟩
  | .hbm, ⟨104, _⟩ => ⟨S1024x512x128, .f32⟩
  | .hbm, ⟨105, _⟩ => ⟨S1x1x128, .f32⟩
  | .hbm, ⟨106, _⟩ => ⟨S1024x512x128, .f32⟩
  | .hbm, ⟨107, _⟩ => ⟨S1024x512x128, .f32⟩
  | .hbm, ⟨108, _⟩ => ⟨S1x1x128, .f32⟩
  | .hbm, ⟨109, _⟩ => ⟨S1024x512x128, .f32⟩
  | .hbm, ⟨110, _⟩ => ⟨S1024x512x128, .f32⟩
  | _, _ => ⟨S1024x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v2 : Ref sig .tc := ⟨.hbm, 52, rfl⟩
abbrev main_v3 : Ref sig .tc := ⟨.hbm, 53, rfl⟩
abbrev main_c : Ref sig .tc := ⟨.hbm, 54, rfl⟩
abbrev main_v4 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_v8 : Ref sig .tc := ⟨.hbm, 81, rfl⟩
abbrev main_cst : Ref sig .tc := ⟨.hbm, 82, rfl⟩
abbrev main_v9 : Ref sig .tc := ⟨.hbm, 83, rfl⟩
abbrev main_v10 : Ref sig .tc := ⟨.hbm, 84, rfl⟩
abbrev main_cst_0 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_cst_1 : Ref sig .tc := ⟨.hbm, 91, rfl⟩
abbrev main_v16 : Ref sig .tc := ⟨.hbm, 92, rfl⟩
abbrev main_v17 : Ref sig .tc := ⟨.hbm, 93, rfl⟩
abbrev main_cst_2 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_cst_3 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩

abbrev nD : Nat := 1
abbrev τ : Topo := Topo.v7x

variable {F : FTy → Type} [FloatOps F]
-- ==== Proof.Words.lean ====
/-
  The words the gather kernel computes: every offset, every condition and every loop-carried counter, in closed form at the
  values the counters hold. One subcore's blocks are numbered `16 * (16 * core + subcore) + t` for `t < 16`.
-/
module

public import proofs.«01_k».proof.Proof.Gen.KernelIdeal
public import proofs.«01_k».proof.Proof.Gen.KernelIdeal.Skeleton

@[expose] public section

noncomputable section

namespace Cert.Embed

open Idealize.ShloMosaic Idealize.SL.Sem
open Cert.KernelIdeal Cert.KernelIdeal.Gen

/-- The first block of the subcore at `i`. -/
def base (i : grid0.Coords) : ℕ := 16 * (16 * (i 0).val + (i 1).val)

/-- The word of a number. -/
abbrev w (n : ℕ) : BitVec 32 := BitVec.ofNat 32 n

theorem base_lt (i : grid0.Coords) : base i + 16 ≤ 512 := by
  have h0 : (i 0).val < 2 := (i 0).isLt
  have h1 : (i 1).val < 16 := (i 1).isLt
  unfold base; omega

theorem trips_eq : k0_t1_loop.trips = 16 := by decide

/-- The kernel's first-block word. -/
def v4 (i : grid0.Coords) : BitVec 32 :=
  Scalar.muli (Scalar.addi (Scalar.addi 0#32 (Scalar.muli (BitVec.ofNat 32 (i 1).val) 1#32)) (Scalar.muli (BitVec.ofNat 32 (i 0).val) 16#32)) 16#32

section
variable (i : grid0.Coords) (t : Fin 16)

theorem cond1_eq : k0_cond1 i t (w t.val) = if t.val < 15 then 1#1 else 0#1 := by
  unfold k0_cond1
  have h0 : (i 0).val < 2 := (i 0).isLt
  have h1 : (i 1).val < 16 := (i 1).isLt
  generalize (i 0).val = a at *
  generalize (i 1).val = b at *
  revert t b a
  decide +kernel
theorem cond2_eq : k0_cond2 i t (w t.val) = 1#1 := by
  unfold k0_cond2
  have h0 : (i 0).val < 2 := (i 0).isLt
  have h1 : (i 1).val < 16 := (i 1).isLt
  generalize (i 0).val = a at *
  generalize (i 1).val = b at *
  revert t b a
  decide +kernel
theorem cond5_eq : k0_cond5 i t (w t.val) = 1#1 := by
  unfold k0_cond5
  have h0 : (i 0).val < 2 := (i 0).isLt
  have h1 : (i 1).val < 16 := (i 1).isLt
  generalize (i 0).val = a at *
  generalize (i 1).val = b at *
  revert t b a
  decide +kernel
theorem cond7_eq : k0_cond7 i t (w t.val) = if 1 ≤ t.val then 1#1 else 0#1 := by
  unfold k0_cond7
  have h0 : (i 0).val < 2 := (i 0).isLt
  have h1 : (i 1).val < 16 := (i 1).isLt
  generalize (i 0).val = a at *
  generalize (i 1).val = b at *
  revert t b a
  decide +kernel

theorem off5_eq (h : t.val < 15) : k0_off5 i (w t.val) = ![0, 128 * (base i + t.val + 1)] := by
  unfold k0_off5 base
  have h0 : (i 0).val < 2 := (i 0).isLt
  have h1 : (i 1).val < 16 := (i 1).isLt
  generalize (i 0).val = a at *
  generalize (i 1).val = b at *
  revert t b a
  decide +kernel
theorem off8_eq : k0_off8 i (w t.val) = ![0, 128 * (base i + t.val)] := by
  unfold k0_off8 base
  have h0 : (i 0).val < 2 := (i 0).isLt
  have h1 : (i 1).val < 16 := (i 1).isLt
  generalize (i 0).val = a at *
  generalize (i 1).val = b at *
  revert t b a
  decide +kernel
theorem off13_eq : k0_off13 i (w t.val) = ![128 * (base i + t.val), 0] := by
  unfold k0_off13 base
  have h0 : (i 0).val < 2 := (i 0).isLt
  have h1 : (i 1).val < 16 := (i 1).isLt
  generalize (i 0).val = a at *
  generalize (i 1).val = b at *
  revert t b a
  decide +kernel
theorem off16_eq (h : 1 ≤ t.val) : k0_off16 i (w t.val) = ![128 * (base i + (t.val - 1)), 0] := by
  unfold k0_off16 base
  have h0 : (i 0).val < 2 := (i 0).isLt
  have h1 : (i 1).val < 16 := (i 1).isLt
  generalize (i 0).val = a at *
  generalize (i 1).val = b at *
  revert t b a
  decide +kernel
theorem off2_eq : k0_off2 i = ![0, 128 * (base i + 0)] := by
  unfold k0_off2 base
  have h0 : (i 0).val < 2 := (i 0).isLt
  have h1 : (i 1).val < 16 := (i 1).isLt
  generalize (i 0).val = a at *
  generalize (i 1).val = b at *
  revert b a
  decide +kernel
theorem off19_eq : k0_off19 i (w 0) = ![128 * (base i + 15), 0] := by
  unfold k0_off19 base
  have h0 : (i 0).val < 2 := (i 0).isLt
  have h1 : (i 1).val < 16 := (i 1).isLt
  generalize (i 0).val = a at *
  generalize (i 1).val = b at *
  revert b a
  decide +kernel

theorem off4_eq (h : t.val < 15) : k0_off4 (w (min (t.val + 1) 16)) = ![(t.val + 1) % 2, 0, 0] := by revert t; decide +kernel
theorem off6_eq (h : t.val < 15) : k0_off6 (w (min (t.val + 1) 16)) = ![(t.val + 1) % 2] := by revert t; decide +kernel
theorem off7_eq : k0_off7 (w t.val) = ![t.val % 2, 0, 0] := by revert t; decide +kernel
theorem off9_eq : k0_off9 (w t.val) = ![t.val % 2] := by revert t; decide +kernel
theorem off10_eq : k0_off10 (w t.val) = ![t.val % 2, 0, 0] := by revert t; decide +kernel
theorem off11_eq : k0_off11 (w t.val) = ![t.val % 2, 0, 0] := by revert t; decide +kernel
theorem off12_eq : k0_off12 (w t.val) = ![t.val % 2, 0, 0] := by revert t; decide +kernel
theorem off14_eq : k0_off14 (w t.val) = ![t.val % 2] := by revert t; decide +kernel
theorem off15_eq : k0_off15 (w (t.val - 1)) = ![(t.val - 1) % 2, 0, 0] := by revert t; decide +kernel
theorem off17_eq : k0_off17 (w (t.val - 1)) = ![(t.val - 1) % 2] := by revert t; decide +kernel
theorem off18_eq : k0_off18 (w 15) = ![1, 0, 0] := by decide +kernel
theorem off20_eq : k0_off20 (w 15) = ![1] := by decide +kernel
theorem off21_eq : k0_off21 (w 15) = ![1, 0, 0] := by decide +kernel
theorem off1_eq : k0_off1 = ![0, 0, 0] := by decide +kernel
theorem off3_eq : k0_off3 = ![0] := by decide +kernel

/-! ## The counters -/

theorem next_words :
    (Scalar.select (Scalar.andi (Scalar.andi (Scalar.cmpi .ne (Scalar.addi (w t.val) (v4 i))
          (Scalar.addi (Scalar.select (Scalar.cmpi .eq (Scalar.select 1#1 (Scalar.addi (w t.val) 1#32) (w t.val)) 16#32) 0#32
            (Scalar.select 1#1 (Scalar.addi (w t.val) 1#32) (w t.val))) (v4 i)))
        (Scalar.xori (Scalar.cmpi .sge (Scf.iv 0#32 1#32 t.val) 15#32) 1#1)) 1#1) (Scalar.addi (w (min (t.val + 1) 16)) 1#32) (w (min (t.val + 1) 16))
      = w (min (t.val + 1 + 1) 16))
    ∧ (Scalar.select (Scalar.ori (Scalar.cmpi .ne (Scalar.addi (w t.val) (v4 i))
          (Scalar.addi (Scalar.select (Scalar.cmpi .eq (Scalar.select 1#1 (Scalar.addi (w t.val) 1#32) (w t.val)) 16#32) 0#32
            (Scalar.select 1#1 (Scalar.addi (w t.val) 1#32) (w t.val))) (v4 i))) (Scalar.cmpi .eq (Scf.iv 0#32 1#32 t.val) 15#32))
        (Scalar.addi (w t.val) 1#32) (w t.val) = w (t.val + 1))
    ∧ (Scalar.select (Scalar.andi (Scalar.ori (Scalar.cmpi .ne (Scalar.addi (w t.val) (v4 i))
          (Scalar.addi (Scalar.select (Scalar.cmpi .eq (Scalar.select 1#1 (Scalar.addi (w t.val) 1#32) (w t.val)) 16#32) 0#32
            (Scalar.select 1#1 (Scalar.addi (w t.val) 1#32) (w t.val))) (v4 i))) (Scalar.cmpi .eq (Scf.iv 0#32 1#32 t.val) 15#32)) 1#1)
        (Scalar.addi (w t.val) 1#32) (w t.val) = w (t.val + 1))
    ∧ (Scalar.select (Scalar.andi (Scalar.andi (Scalar.cmpi .ne (Scalar.addi (w t.val) (v4 i))
          (Scalar.addi (Scalar.select (Scalar.cmpi .eq (Scalar.select 1#1 (Scalar.subi (w t.val) 1#32) (w t.val)) 4294967295#32) 15#32
            (Scalar.select 1#1 (Scalar.subi (w t.val) 1#32) (w t.val))) (v4 i)))
          (Scalar.xori (Scalar.cmpi .eq (Scf.iv 0#32 1#32 t.val) 0#32) 1#1)) 1#1)
        (Scalar.addi (w (t.val - 1)) 1#32) (w (t.val - 1)) = w t.val)
    ∧ (Scalar.select (Scalar.cmpi .eq (Scalar.select 1#1 (Scalar.addi (w t.val) 1#32) (w t.val)) 16#32) 0#32
        (Scalar.select 1#1 (Scalar.addi (w t.val) 1#32) (w t.val)) = w ((t.val + 1) % 16)) := by
  unfold v4
  have h0 : (i 0).val < 2 := (i 0).isLt
  have h1 : (i 1).val < 16 := (i 1).isLt
  generalize (i 0).val = a at *
  generalize (i 1).val = b at *
  revert t b a
  decide +kernel

/-! ## The side conditions -/

theorem chk3_ok : k0_chk3 (w t.val) := by unfold k0_chk3; revert t; decide +kernel
theorem chk2_ok : k0_chk2 (w t.val) := by unfold k0_chk2; revert t; decide +kernel
theorem chk4_ok : k0_chk4 (w 15) := by unfold k0_chk4; decide +kernel
theorem chk5_ok : k0_chk5 i (w 0) := by
  unfold k0_chk5; rw [off19_eq]
  have := base_lt i
  intro a; fin_cases a
  · show 128 * (base i + 15) + 128 ≤ 65536; omega
  · show 0 + 128 ≤ 128; omega

theorem slot3_I (s : ℕ) : ∀ a, (![s % 2, 0, 0] : Fin 3 → ℕ) a + S1x1x128.size a ≤ S2x1x128.size a := by
  intro a; fin_cases a
  · show s % 2 + 1 ≤ 2; omega
  · show 0 + 1 ≤ 1; omega
  · show 0 + 128 ≤ 128; omega
theorem slot3_O (s : ℕ) : ∀ a, (![s % 2, 0, 0] : Fin 3 → ℕ) a + S1x128x128.size a ≤ S2x128x128.size a := by
  intro a; fin_cases a
  · show s % 2 + 1 ≤ 2; omega
  · show 0 + 128 ≤ 128; omega
  · show 0 + 128 ≤ 128; omega
theorem slot1 (s : ℕ) : ∀ a, (![s % 2] : Fin 1 → ℕ) a + S1.size a ≤ S2.size a := by
  intro a; fin_cases a
  show s % 2 + 1 ≤ 2; omega
theorem blockI (b : ℕ) (h : b < 512) : ∀ a, (![0, 128 * b] : Fin 2 → ℕ) a + S1x128.size a ≤ S1x65536.size a := by
  intro a; fin_cases a
  · show 0 + 1 ≤ 1; omega
  · show 128 * b + 128 ≤ 65536; omega
theorem blockO (b : ℕ) (h : b < 512) : ∀ a, (![128 * b, 0] : Fin 2 → ℕ) a + S128x128.size a ≤ S65536x128.size a := by
  intro a; fin_cases a
  · show 128 * b + 128 ≤ 65536; omega
  · show 0 + 128 ≤ 128; omega

theorem lt_of_cond1 (h : k0_cond1 i t (w t.val) = 1#1) : t.val < 15 := by
  rw [cond1_eq] at h; by_contra hc; rw [if_neg hc] at h; exact absurd h (by decide)
theorem le_of_cond7 (h : k0_cond7 i t (w t.val) = 1#1) : 1 ≤ t.val := by
  rw [cond7_eq] at h; by_contra hc; rw [if_neg hc] at h; exact absurd h (by decide)

theorem chk1_ok : k0_chk1 i t (w (min (t.val + 1) 16)) (w t.val) (w t.val) (w (t.val - 1)) (w t.val) := by
  unfold k0_chk1
  have hb := base_lt i
  refine ⟨fun h => ?_, fun h => ?_, fun h => ?_, fun h => ?_, fun h => ?_, fun h => ?_, fun h => ?_, fun h => ?_, fun h => ?_, fun h => ?_, fun h => ?_, fun h => ?_⟩
  · rw [off4_eq t (lt_of_cond1 i t h)]; exact slot3_I _
  · have := lt_of_cond1 i t h; rw [off5_eq i t this]; exact blockI _ (by omega)
  · rw [off6_eq t (lt_of_cond1 i t h)]; exact slot1 _
  · rw [off7_eq]; exact slot3_I _
  · rw [off8_eq]; exact blockI _ (by omega)
  · rw [off9_eq]; exact slot1 _
  · rw [off12_eq]; exact slot3_O _
  · rw [off13_eq]; exact blockO _ (by omega)
  · rw [off14_eq]; exact slot1 _
  · rw [off15_eq]; exact slot3_O _
  · rw [off16_eq i t (le_of_cond7 i t h)]; exact blockO _ (by omega)
  · rw [off17_eq]; exact slot1 _

end

/-- The values the loop carries before trip `t`. -/
def words (t : ℕ) : BitVec 32 × BitVec 32 × BitVec 32 × BitVec 32 × BitVec 32 :=
  (w (min (t + 1) 16), w t, w t, w (t - 1), w (t % 16))

end Cert.Embed
-- ==== Proof.Common.lean ====
/-
  What the modules share: the program's names, the resource algebra and its embeddings.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ViewIndex
public import Idealize.ShloMosaic.Lib.Scf

@[expose] public section

noncomputable section

namespace Cert.Embed

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

/-- The labels under the SparseCore calls: the eight pipelines'. -/
abbrev ΛP : Labels := Pipeline.Sig Λ₀ (Fin 8) fun p => (pcfgs (F := F) p).Adm
/-- The SparseCore calls' configuration. -/
abbrev K : SparseCore.Cfg τ sig (ΛP (F := F)) 8 := sc (F := F)
/-- The pipelines' definitions over the kernels'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The SparseCore calls' rounds, the pipelines' rounds, the transfers' counters. -/
abbrev UH : Type := URounds (GSem nD τ sig) ℕ
abbrev UP : Type := URounds (GSem nD τ sig) Unit
abbrev UU : Type := (UH × UP) × Counters

abbrev EH : Emb UH (MT nD τ sig (HIx 8) (Elt F) ℕ UU ℕ) := (Emb.inl : Emb UH (UH × UP)).trans embL
abbrev EP : Emb UP (MT nD τ sig (HIx 8) (Elt F) ℕ UU ℕ) := (Emb.inr : Emb UP (UH × UP)).trans embL

/-- The SparseCore, and the subcore on it, of the body at `i`. -/
abbrev cV (i : grid0.Coords) : Fin τ.nSC := (i 0).castLE hcore0
abbrev jV (i : grid0.Coords) : Fin τ.nSub := (i 1).castLE hsub0

end Cert.Embed
-- ==== Proof.Pieces.lean ====
/-
  The pieces one subcore of the gather kernel works on — the two slots of its index buffer and of its row buffer, its
  semaphores, its sixteen blocks of the index list and of the result — and the kernel's transfers as rules over them.
-/
module

public import proofs.«01_k».proof.Proof.Common

@[expose] public section

noncomputable section

namespace Cert.Embed

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

/-- The parity of a block's number: the slot it uses. -/
def par (t : ℕ) : Fin 2 := ⟨t % 2, Nat.mod_lt _ (by decide)⟩
theorem par_succ_succ (t : ℕ) : par (t + 1 + 1) = par t := Fin.ext (by show (t + 1 + 1) % 2 = t % 2; omega)
theorem par_ne (t : ℕ) : par t ≠ par (t + 1) := fun h => by have := congrArg Fin.val h; simp only [par] at this; omega

theorem inbI (s : Fin 2) : ∀ a, (![s.val, 0, 0] : Fin 3 → ℕ) a + S1x1x128.size a ≤ S2x1x128.size a := by revert s; decide
theorem inbO (s : Fin 2) : ∀ a, (![s.val, 0, 0] : Fin 3 → ℕ) a + S1x128x128.size a ≤ S2x128x128.size a := by revert s; decide
theorem inbS (s : Fin 2) : ∀ a, (![s.val] : Fin 1 → ℕ) a + S1.size a ≤ S2.size a := by revert s; decide
/-! ## The memrefs the kernel takes of its operands, at any offsets -/

section Refs
variable (A2 : Memref sig .scVector .hbm S30522x128 .f32) (A3 : Memref sig .scVector .hbm S1x65536 .i32) (A4 : Memref sig .scVector .hbm S65536x128 .f32)
  (AI : Memref sig .scVector .vmem S2x1x128 .i32) (AO : Memref sig .scVector .vmem S2x128x128 .f32) (sm : DmaSems sig S2)

/-- One slot of the index buffer. -/
abbrev iSl (off : Fin 3 → ℕ) (h : ∀ a, off a + S1x1x128.size a ≤ S2x1x128.size a) : Memref sig .scVector .vmem S1x128 .i32 :=
  (AI.slice (Rect.unit (s := S2x1x128) off S1x1x128.size h) (fun _ => rfl)).squeeze S1x128 squeezes_S1x1x128_S1x128
/-- The same slot as the list of a stream. -/
abbrev lst (off : Fin 3 → ℕ) (h : ∀ a, off a + S1x1x128.size a ≤ S2x1x128.size a) : Memref sig .scVector .vmem S128 .i32 :=
  ((iSl AI off h).slice (Rect.unit (s := S1x128) ![0, 0] S1x128.size inb_S1x128_S1x128_0_0) (fun _ => rfl)).squeeze S128 squeezes_S1x128_S128
/-- One slot of the row buffer. -/
abbrev oSl (off : Fin 3 → ℕ) (h : ∀ a, off a + S1x128x128.size a ≤ S2x128x128.size a) : Memref sig .scVector .vmem S128x128 .f32 :=
  (AO.slice (Rect.unit (s := S2x128x128) off S1x128x128.size h) (fun _ => rfl)).squeeze S128x128 squeezes_S1x128x128_S128x128
/-- One block of the index list. -/
abbrev iBl (off : Fin 2 → ℕ) (h : ∀ a, off a + S1x128.size a ≤ S1x65536.size a) : Memref sig .scVector .hbm S1x128 .i32 :=
  A3.slice (Rect.unit (s := S1x65536) off S1x128.size h) (fun _ => rfl)
/-- One block of the result. -/
abbrev oBl (off : Fin 2 → ℕ) (h : ∀ a, off a + S128x128.size a ≤ S65536x128.size a) : Memref sig .scVector .hbm S128x128 .f32 :=
  A4.slice (Rect.unit (s := S65536x128) off S128x128.size h) (fun _ => rfl)
/-- The table. -/
abbrev tbl : Memref sig .scVector .hbm S30522x128 .f32 :=
  A2.slice (Rect.unit (s := S30522x128) ![0, 0] S30522x128.size inb_S30522x128_S30522x128_0_0) (fun _ => rfl)
/-- One semaphore of a pair. -/
abbrev smS (off : Fin 1 → ℕ) (h : ∀ a, off a + S1.size a ≤ S2.size a) : DmaSem sig :=
  ((sm.slice (Rect.unit (s := S2) off S1.size h)).squeeze S_ squeezes_S1_S_).sem

/-! ### The list a slot holds -/

/-- Where the stream's list reads its slot. -/
def rho (x : S128.Idx) : S1x128.Idx :=
  (Rect.unit (s := S1x128) ![0, 0] S1x128.size inb_S1x128_S1x128_0_0).emb (Shape.reshapeEquiv squeezes_S1x128_S128.numel_eq x)

theorem read_lst (off) (h) (f) (x : S128.Idx) : (lst AI off h).view.read (Elt F) f x = (iSl AI off h).view.read (Elt F) f (rho x) := rfl

theorem set_lst (off) (h) : (lst AI off h).view.set = (iSl AI off h).view.set := by
  show (((iSl AI off h).view.slice (Rect.unit (s := S1x128) ![0, 0] S1x128.size inb_S1x128_S1x128_0_0)).reshape S128 squeezes_S1x128_S128.numel_eq).set = _
  rw [View.set_reshape, View.set_slice]
  have : (Rect.unit (s := S1x128) ![0, 0] S1x128.size inb_S1x128_S1x128_0_0).set = Finset.univ := by decide
  rw [this]; rfl
end Refs

/-! ## Points-tos of a view written whole -/

/-- Elements written through a view are those of any contents the view reads the payload from. -/
theorem pts_of_read (thr : Thread nD τ) {sp : Space} {s : Shape} {e : EltTy} (v : View sig thr.2.kind sp s e)
    (fd g : Buf (Elt F) (v.loc thr)) (X : s.Idx → Elt F e) (h : ∀ x, v.read (Elt F) g x = X x) :
    (v.loc thr ↦[v.set]{fullShare} v.write (Elt F) fd X Finset.univ : sProp 𝕄) = v.loc thr ↦[v.set]{fullShare} g :=
  pointsTo_congr fun i hi => by
    obtain ⟨x, -, rfl⟩ := Finset.mem_map.mp hi
    exact View.eq_of_read_eq (by rw [View.read_write_of_mem _ _ (Finset.mem_univ x), h])

/-! ## The transfers -/

section Steps
variable [FloatOps F]
variable (d : Dev nD) (i : grid0.Coords)
variable (A2 : Memref sig .scVector .hbm S30522x128 .f32) (A3 : Memref sig .scVector .hbm S1x65536 .i32) (A4 : Memref sig .scVector .hbm S65536x128 .f32)
  (AI : Memref sig .scVector .vmem S2x1x128 .i32) (AO : Memref sig .scVector .vmem S2x128x128 .f32) (s5 s6 : DmaSems sig S2) (sg : DmaSems sig S_)
variable (ft : Buf (Elt F) (A2.view.loc (V d (cV i) (jV i)))) (fi : Buf (Elt F) (A3.view.loc (V d (cV i) (jV i))))
  (fo want : Buf (Elt F) (A4.view.loc (V d (cV i) (jV i)))) (qt : PosShare TreeShare)

theorem blk_lt (j : Fin 16) : base i + j.val < 512 := by have := base_lt i; omega

/-- The subcore's `j`th block of the index list; of the result. -/
abbrev iBk (j : Fin 16) := iBl A3 ![0, 128 * (base i + j.val)] (blockI _ (blk_lt i j))
abbrev oBk (j : Fin 16) := oBl A4 ![128 * (base i + j.val), 0] (blockO _ (blk_lt i j))

/-- The slots and semaphores by parity. -/
abbrev iSt (s : Fin 2) := iSl AI ![s.val, 0, 0] (inbI s)
abbrev oSt (s : Fin 2) := oSl AO ![s.val, 0, 0] (inbO s)
abbrev smP (sm : DmaSems sig S2) (s : Fin 2) : DmaSem sig := smS sm ![s.val] (inbS s)

/-- The row numbers block `j` of the list holds. -/
def idsOf (j : Fin 16) (x : S128.Idx) : BitVec 32 := (iBk i A3 j).view.read (Elt F) fi (rho x)

/-- The rows of the table they name. -/
def gath (hin : ∀ j x, (idsOf d i A3 fi j x).toNat < 30522) (j : Fin 16) : S128x128.Idx → Elt F .f32 :=
  SparseCore.gatherPayload gathers_S30522x128_S128x128 ((tbl A2).view.read (Elt F) ft)
    (SparseCore.rows (F := F) (si := S128) (idsOf d i A3 fi j) rfl (hin j))

/-! ### What the subcore holds -/

/-- Block `j` of the list; of the result, as found and as left. -/
def IB (j : Fin 16) : sProp 𝕄 := (iBk i A3 j).view.loc (V d (cV i) (jV i)) ↦[(iBk i A3 j).view.set]{fullShare} fi
def OB (f : Buf (Elt F) (A4.view.loc (V d (cV i) (jV i)))) (j : Fin 16) : sProp 𝕄 :=
  (oBk i A4 j).view.loc (V d (cV i) (jV i)) ↦[(oBk i A4 j).view.set]{fullShare} f
/-- A slot at some contents. -/
def IS (s : Fin 2) : sProp 𝕄 := iprop(∃ f, (iSt AI s).view.loc (V d (cV i) (jV i)) ↦[(iSt AI s).view.set]{fullShare} f)
def OS (s : Fin 2) : sProp 𝕄 := iprop(∃ f, (oSt AO s).view.loc (V d (cV i) (jV i)) ↦[(oSt AO s).view.set]{fullShare} f)
/-- An index slot holding block `j` of the list. -/
def ISv (s : Fin 2) (j : Fin 16) : sProp 𝕄 :=
  iprop(∃ f, ⌜∀ x, (iSt AI s).view.read (Elt F) f x = (iBk i A3 j).view.read (Elt F) fi x⌝
    ∗ (iSt AI s).view.loc (V d (cV i) (jV i)) ↦[(iSt AI s).view.set]{fullShare} f)
/-- A row slot holding the rows block `j` of the list names. -/
def OSv (hin : ∀ j x, (idsOf d i A3 fi j x).toNat < 30522) (s : Fin 2) (j : Fin 16) : sProp 𝕄 :=
  iprop(∃ f, ⌜∀ x, (oSt AO s).view.read (Elt F) f x = gath d i A2 A3 ft fi hin j x⌝
    ∗ (oSt AO s).view.loc (V d (cV i) (jV i)) ↦[(oSt AO s).view.set]{fullShare} f)
/-- A share of the table. -/
def TB : sProp 𝕄 := (tbl A2).view.loc (V d (cV i) (jV i)) ↦[(tbl A2).view.set]{qt} ft
/-- A semaphore's counter at zero. -/
def Z0 (sm : DmaSem sig) : sProp 𝕄 := semVal ((V d (cV i) (jV i), .dma sm) : GSem nD τ sig) 0
/-- A fetch of block `j` into slot `s` in flight; a write-out. -/
def FI (s : Fin 2) (j : Fin 16) : sProp 𝕄 :=
  Transfers.Flight countersEmb (V d (cV i) (jV i)) (.dma (smP s5 s)) (default : HIx 8) ((iSt AI s).view.dmaCredit)
    iprop(ISv d i A3 AI fi s j ∗ IB d i A3 fi j)
def FO (s : Fin 2) (j : Fin 16) : sProp 𝕄 :=
  Transfers.Flight countersEmb (V d (cV i) (jV i)) (.dma (smP s6 s)) (default : HIx 8) ((oBk i A4 j).view.dmaCredit)
    iprop(OB d i A4 want j ∗ OS d i AO s)

local notation "WP" => wp frame (wpE (defs₀ (F := F)) 𝒱₀ (V d (cV i) (jV i)) none) Set.univ

theorem fetch_issue (s : Fin 2) (j : Fin 16) {o4 o5 o6} {h4 h5 h6} (e4 : o4 = ![s.val, 0, 0]) (e5 : o5 = ![0, 128 * (base i + j.val)]) (e6 : o6 = ![s.val])
    {p1 p2 p3} {Q : PUnit → sProp 𝕄} :
    iprop(IB d i A3 fi j ∗ IS d i AI s ∗ Z0 d i (smP s5 s))
      ⊢ iprop((FI d i A3 AI s5 fi s j -∗ Q ⟨⟩)
        -∗ WP (Prog.lift (.enqueueDma (iBl A3 o5 h5) (.here (iSl AI o4 h4)) (.dma (smS s5 o6 h6)) p1 p2 p3)) Q) := by
  subst e4 e5 e6
  unfold IB IS Z0 FI
  iintro ⟨Hb, ⟨%f, Hs⟩, Hz⟩ HQ
  iapply (Transfers.wp_dmaLocal countersEmb 𝒱₀ (V d (cV i) (jV i)) none (default : HIx 8) ((iSt AI s).view.dmaCredit) rfl
    (View.dmaCredit_pos _ (by decide)) (Finset.Subset.refl _)) $$ [Hb Hs Hz]
  · isplitl [Hb]; · iexact Hb
    isplitl [Hs]; · iexact Hs
    iexact Hz
  iintro Hfl
  rw [wp_ret]; imodintro
  iapply HQ
  iapply (Transfers.Flight_mono countersEmb _ ?_) $$ Hfl
  unfold ISv IB
  iintro ⟨Hs, Hb⟩
  isplitl [Hs]
  · iexists _; isplitr
    swap; · iexact Hs
    ipureintro; intro x
    exact View.read_write_of_mem _ _ (Finset.mem_univ x)
  · iexact Hb

/-- The write-out of slot `s`, holding the rows block `j` names: what it delivers is block `j` of the result as wanted. -/
theorem out_issue (hin : ∀ j x, (idsOf d i A3 fi j x).toNat < 30522)
    (hwant : ∀ j x, (oBk i A4 j).view.read (Elt F) want x = gath d i A2 A3 ft fi hin j x)
    (s : Fin 2) (j : Fin 16) {o12 o13 o14} {h12 h13 h14} (e12 : o12 = ![s.val, 0, 0]) (e13 : o13 = ![128 * (base i + j.val), 0]) (e14 : o14 = ![s.val])
    {p1 p2 p3} {Q : PUnit → sProp 𝕄} :
    iprop(OB d i A4 fo j ∗ OSv d i A2 A3 AO ft fi hin s j ∗ Z0 d i (smP s6 s))
      ⊢ iprop((FO d i A4 AO s6 want s j -∗ Q ⟨⟩)
        -∗ WP (Prog.lift (.enqueueDma (oSl AO o12 h12) (.here (oBl A4 o13 h13)) (.dma (smS s6 o14 h14)) p1 p2 p3)) Q) := by
  subst e12 e13 e14
  unfold OB OSv Z0 FO
  iintro ⟨Hb, ⟨%f, %hf, Hs⟩, Hz⟩ HQ
  iapply (Transfers.wp_dmaLocal countersEmb 𝒱₀ (V d (cV i) (jV i)) none (default : HIx 8) ((oBk i A4 j).view.dmaCredit) rfl
    (View.dmaCredit_pos _ (by decide)) (Finset.Subset.refl _)) $$ [Hb Hs Hz]
  · isplitl [Hs]; · iexact Hs
    isplitl [Hb]; · iexact Hb
    iexact Hz
  iintro Hfl
  rw [wp_ret]; imodintro
  iapply HQ
  iapply (Transfers.Flight_mono countersEmb _ ?_) $$ Hfl
  have e := pts_of_read (V d (cV i) (jV i)) (oBk i A4 j).view fo want ((oSt AO s).view.read (Elt F) f) fun x => by rw [hwant, ← hf]
  unfold OB OS
  iintro ⟨Hb, Hs⟩
  isplitl [Hb]
  · iapply (Entails.of_eq e); iexact Hb
  · iexists _; iexact Hs

/-- The gather of the rows a slot's list names into the row slot, and its wait. -/
theorem gather_step (hin : ∀ j x, (idsOf d i A3 fi j x).toNat < 30522) (s s' : Fin 2) (j : Fin 16)
    {O : CellTallies nD τ sig (HIx 8)} {W : Waits sig (HIx 8)}
    (hmw : (levAts (K (F := F)).L (K (F := F)).lev : sProp 𝕄) ⊢ Transfers.MayWaits (V d (cV i) (jV i)) (default : HIx 8) O)
    {o10 o11 o10'} {h10 h11 h10'} (e10 : o10 = ![s'.val, 0, 0]) (e10' : o10' = ![s'.val, 0, 0]) (e11 : o11 = ![s.val, 0, 0])
    {p1 p2 p3 p4 p5 p6 p7} {Q : PUnit → sProp 𝕄} :
    iprop(levAts (K (F := F)).L (K (F := F)).lev ∗ TB d i A2 ft qt ∗ ISv d i A3 AI fi s j ∗ OS d i AO s' ∗ Z0 d i sg.sem ∗ owes (V d (cV i) (jV i)) O W)
      ⊢ iprop((TB d i A2 ft qt ∗ IS d i AI s ∗ OSv d i A2 A3 AO ft fi hin s' j ∗ Z0 d i sg.sem
            ∗ owes (V d (cV i) (jV i)) O (insert (SemLoc.dma sg.sem, default) W) -∗ Q ⟨⟩)
        -∗ WP (SparseCore.enqueueIndirectGather p1 (tbl A2) (oSl AO o10 h10) gathers_S30522x128_S128x128 (lst AI o11 h11) p2 sg.sem p3 p4 p5
            >>= fun _ => SparseCore.waitIndirectGather sg.sem (tbl A2) (oSl AO o10' h10') p6 p7) Q) := by
  subst e10 e10' e11
  unfold TB IS ISv OS OSv Z0
  iintro ⟨Hlv, Ht, ⟨%f, %hf, Hi⟩, ⟨%g, Ho⟩, Hz, HO⟩ HQ
  ihave Hmw := hmw $$ Hlv
  have hl : (lst AI ![s.val, 0, 0] (inbI s)).view.set = (iSt AI s).view.set := set_lst AI _ _
  have hr : ∀ x, (lst AI ![s.val, 0, 0] (inbI s)).view.read (Elt F) f x = idsOf d i A3 fi j x := fun x => hf (rho x)
  have hi : ∀ x, ((lst AI ![s.val, 0, 0] (inbI s)).view.read (Elt F) f x).toNat < S30522x128.size gathers_S30522x128_S128x128.axis :=
    fun x => (hr x) ▸ hin j x
  ihave Hi' := (Entails.of_eq (show ((iSt AI s).view.loc (V d (cV i) (jV i)) ↦[(iSt AI s).view.set]{fullShare} f : sProp 𝕄)
    = (lst AI ![s.val, 0, 0] (inbI s)).view.loc (V d (cV i) (jV i)) ↦[(lst AI ![s.val, 0, 0] (inbI s)).view.set]{fullShare} f by rw [hl])) $$ Hi
  iapply (SparseCore.wp_indirectGatherLocal countersEmb 𝒱₀ (V d (cV i) (jV i)) none (hg := gathers_S30522x128_S128x128) (default : HIx 8)
      (oSt AO s').view.dmaCredit (SparseCore.sum_rowCredit_eq_dmaCredit _ _ (fun _ => rfl)) (by decide) hi) $$ [Ht Ho Hi' Hz]
  · isplitl [Ht]; · iexact Ht
    isplitl [Ho]; · iexact Ho
    isplitl [Hi']; · iexact Hi'
    iexact Hz
  iintro Hfl
  iapply (Transfers.wp_waitLocalO countersEmb 𝒱₀ (V d (cV i) (jV i)) none (default : HIx 8) (rfl : (oSt AO s').view.dmaCredit = _)) $$ [Hfl HO Hmw]
  · isplitl [Hfl]; · iexact Hfl
    isplitl [HO]; · iexact HO
    iapply (Transfers.MayWaits.elim (SemLoc.dma sg.sem)) $$ Hmw
  iintro ⟨⟨Ho, Ht, Hi⟩, Hz, HO⟩
  rw [wp_ret]; imodintro
  iapply HQ
  isplitl [Ht]; · iexact Ht
  isplitl [Hi]
  · iexists f
    iapply (Entails.of_eq (show ((lst AI ![s.val, 0, 0] (inbI s)).view.loc (V d (cV i) (jV i)) ↦[(lst AI ![s.val, 0, 0] (inbI s)).view.set]{fullShare} f : sProp 𝕄)
      = (iSt AI s).view.loc (V d (cV i) (jV i)) ↦[(iSt AI s).view.set]{fullShare} f by rw [hl])) $$ Hi
  isplitl [Ho]
  · iexists _; isplitr
    swap; · iexact Ho
    ipureintro; intro x
    refine (View.read_write_of_mem _ _ (Finset.mem_univ x)).trans ?_
    have hr' : (lst AI ![s.val, 0, 0] (inbI s)).view.read (Elt F) f = idsOf d i A3 fi j := funext hr
    unfold gath SparseCore.gatherPayload SparseCore.rows
    simp only [hr']
  isplitl [Hz] <;> iassumption

/-- The wait for a fetch. -/
theorem fetch_wait (s : Fin 2) (j : Fin 16) {O : CellTallies nD τ sig (HIx 8)} {W : Waits sig (HIx 8)}
    (hmw : (levAts (K (F := F)).L (K (F := F)).lev : sProp 𝕄) ⊢ Transfers.MayWaits (V d (cV i) (jV i)) (default : HIx 8) O)
    {o7 o8 o9} {h7 h8 h9} (e7 : o7 = ![s.val, 0, 0]) (e9 : o9 = ![s.val]) {p1 p2} {Q : PUnit → sProp 𝕄} :
    iprop(levAts (K (F := F)).L (K (F := F)).lev ∗ FI d i A3 AI s5 fi s j ∗ owes (V d (cV i) (jV i)) O W)
      ⊢ iprop((ISv d i A3 AI fi s j ∗ IB d i A3 fi j ∗ Z0 d i (smP s5 s)
            ∗ owes (V d (cV i) (jV i)) O (insert (SemLoc.dma (smP s5 s), default) W) -∗ Q ⟨⟩)
        -∗ WP (Prog.lift (.waitDma2 (smS s5 o9 h9) (iBl A3 o8 h8) (iSl AI o7 h7) p1 p2)) Q) := by
  subst e7 e9
  unfold FI Z0
  iintro ⟨Hlv, Hfl, HO⟩ HQ
  ihave Hmw := hmw $$ Hlv
  iapply (Transfers.wp_waitLocalO countersEmb 𝒱₀ (V d (cV i) (jV i)) none (default : HIx 8) (rfl : (iSt AI s).view.dmaCredit = _)) $$ [Hfl HO Hmw]
  · isplitl [Hfl]; · iexact Hfl
    isplitl [HO]; · iexact HO
    iapply (Transfers.MayWaits.elim (SemLoc.dma (smP s5 s))) $$ Hmw
  iintro ⟨⟨Hi, Hb⟩, Hz, HO⟩
  rw [wp_ret]; imodintro
  iapply HQ
  isplitl [Hi]; · iexact Hi
  isplitl [Hb]; · iexact Hb
  isplitl [Hz] <;> iassumption

/-- The wait for a write-out. -/
theorem out_wait (s : Fin 2) (j : Fin 16) {O : CellTallies nD τ sig (HIx 8)} {W : Waits sig (HIx 8)}
    (hmw : (levAts (K (F := F)).L (K (F := F)).lev : sProp 𝕄) ⊢ Transfers.MayWaits (V d (cV i) (jV i)) (default : HIx 8) O)
    {o15 o16 o17} {h15 h16 h17} (e16 : o16 = ![128 * (base i + j.val), 0]) (e17 : o17 = ![s.val]) {p1 p2} {Q : PUnit → sProp 𝕄} :
    iprop(levAts (K (F := F)).L (K (F := F)).lev ∗ FO d i A4 AO s6 want s j ∗ owes (V d (cV i) (jV i)) O W)
      ⊢ iprop((OB d i A4 want j ∗ OS d i AO s ∗ Z0 d i (smP s6 s)
            ∗ owes (V d (cV i) (jV i)) O (insert (SemLoc.dma (smP s6 s), default) W) -∗ Q ⟨⟩)
        -∗ WP (Prog.lift (.waitDma2 (smS s6 o17 h17) (oSl AO o15 h15) (oBl A4 o16 h16) p1 p2)) Q) := by
  subst e16 e17
  unfold FO Z0
  iintro ⟨Hlv, Hfl, HO⟩ HQ
  ihave Hmw := hmw $$ Hlv
  iapply (Transfers.wp_waitLocalO countersEmb 𝒱₀ (V d (cV i) (jV i)) none (default : HIx 8) (rfl : (oBk i A4 j).view.dmaCredit = _)) $$ [Hfl HO Hmw]
  · isplitl [Hfl]; · iexact Hfl
    isplitl [HO]; · iexact HO
    iapply (Transfers.MayWaits.elim (SemLoc.dma (smP s6 s))) $$ Hmw
  iintro ⟨⟨Hi, Hb⟩, Hz, HO⟩
  rw [wp_ret]; imodintro
  iapply HQ
  isplitl [Hi]; · iexact Hi
  isplitl [Hb]; · iexact Hb
  isplitl [Hz] <;> iassumption

end Steps

end Cert.Embed
-- ==== Proof.Loop.lean ====
/-
  One subcore's run of the gather kernel: the pipeline's loop by its invariant, and the whole body.
-/
module

public import proofs.«01_k».proof.Proof.Pieces

@[expose] public section

noncomputable section

namespace Cert.Embed

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 8) (Elt F) ℕ UU ℕ

/-! ## Blocks taken one by one -/

/-- The blocks from `t` on are block `t` and the blocks from `t + 1` on. -/
theorem take_from (Φ : Fin 16 → sProp 𝕄) (t : Fin 16) :
    bigSep (Finset.univ.filter fun j : Fin 16 => t.val ≤ j.val) Φ
      = iprop(Φ t ∗ bigSep (Finset.univ.filter fun j : Fin 16 => t.val + 1 ≤ j.val) Φ) := by
  rw [← SparseCore.bigSep_insert' (by simp)]
  congr 1; ext j; simp only [Finset.mem_filter, Finset.mem_univ, true_and, Finset.mem_insert, Fin.ext_iff]; omega
/-- The blocks before `t + 1` are block `t` and the blocks before `t`. -/
theorem put_before (Φ : Fin 16 → sProp 𝕄) (t : Fin 16) :
    bigSep (Finset.univ.filter fun j : Fin 16 => j.val < t.val + 1) Φ
      = iprop(Φ t ∗ bigSep (Finset.univ.filter fun j : Fin 16 => j.val < t.val) Φ) := by
  rw [← SparseCore.bigSep_insert' (by simp)]
  congr 1; ext j; simp only [Finset.mem_filter, Finset.mem_univ, true_and, Finset.mem_insert, Fin.ext_iff]; omega
/-- Past the last block there is none. -/
theorem from_end (Φ : Fin 16 → sProp 𝕄) {n : ℕ} (h : 16 ≤ n) : bigSep (Finset.univ.filter fun j : Fin 16 => n ≤ j.val) Φ = iprop(emp) := by
  rw [Finset.filter_false_of_mem (fun j _ => by have := j.isLt; omega)]; rfl
theorem before_start (Φ : Fin 16 → sProp 𝕄) : bigSep (Finset.univ.filter fun j : Fin 16 => j.val < 0) Φ = iprop(emp) := by
  rw [Finset.filter_false_of_mem (fun j _ => by omega)]; rfl
theorem from_start (Φ : Fin 16 → sProp 𝕄) : bigSep (Finset.univ.filter fun j : Fin 16 => 0 ≤ j.val) Φ = bigSep Finset.univ Φ := by
  rw [Finset.filter_true_of_mem (fun j _ => by omega)]
theorem before_end (Φ : Fin 16 → sProp 𝕄) : bigSep (Finset.univ.filter fun j : Fin 16 => j.val < 16) Φ = bigSep Finset.univ Φ := by
  rw [Finset.filter_true_of_mem (fun j _ => j.isLt)]

section Loop
variable (d : Dev nD) (i : grid0.Coords)
variable (A2 : Memref sig .scVector .hbm S30522x128 .f32) (A3 : Memref sig .scVector .hbm S1x65536 .i32) (A4 : Memref sig .scVector .hbm S65536x128 .f32)
  (AI : Memref sig .scVector .vmem S2x1x128 .i32) (AO : Memref sig .scVector .vmem S2x128x128 .f32) (s5 s6 : DmaSems sig S2) (sg : DmaSems sig S_)
variable (ft : Buf (Elt F) (A2.view.loc (V d (cV i) (jV i)))) (fi : Buf (Elt F) (A3.view.loc (V d (cV i) (jV i))))
  (fo want : Buf (Elt F) (A4.view.loc (V d (cV i) (jV i)))) (qt : PosShare TreeShare)
variable (O : CellTallies nD τ sig (HIx 8)) (W : Waits sig (HIx 8))

/-- What holds before trip `t`: block `t` of the list on its way into its slot, the other index slot free; the table's
    share; block `t - 1` of the result on its way out of its slot, the other row slot free; the blocks not yet reached as
    found, the blocks written as wanted. -/
def Inv (t : ℕ) : sProp 𝕄 :=
  iprop(levAts (K (F := F)).L (K (F := F)).lev
    ∗ (if h : t < 16 then FI d i A3 AI s5 fi (par t) ⟨t, h⟩ else iprop(IS d i AI (par t) ∗ Z0 d i (smP s5 (par t))))
    ∗ (IS d i AI (par (t + 1)) ∗ Z0 d i (smP s5 (par (t + 1))))
    ∗ bigSep (Finset.univ.filter fun j : Fin 16 => t + 1 ≤ j.val) (IB d i A3 fi)
    ∗ bigSep (Finset.univ.filter fun j : Fin 16 => j.val < t) (IB d i A3 fi)
    ∗ (TB d i A2 ft qt ∗ Z0 d i sg.sem)
    ∗ (if h : 1 ≤ t ∧ t ≤ 16 then FO d i A4 AO s6 want (par (t + 1)) ⟨t - 1, by omega⟩ else iprop(OS d i AO (par (t + 1)) ∗ Z0 d i (smP s6 (par (t + 1)))))
    ∗ (OS d i AO (par t) ∗ Z0 d i (smP s6 (par t)))
    ∗ bigSep (Finset.univ.filter fun j : Fin 16 => t ≤ j.val) (OB d i A4 fo)
    ∗ bigSep (Finset.univ.filter fun j : Fin 16 => j.val < t - 1) (OB d i A4 want)
    ∗ ∃ W', ⌜∀ p ∈ W', p ∈ W ∨ p.2 = none⌝ ∗ owes (V d (cV i) (jV i)) O W')

local notation "WP" => wp frame (wpE (defs₀ (F := F)) 𝒱₀ (V d (cV i) (jV i)) none) Set.univ

/-- A side condition that holds. -/
theorem assume_lift {P : Prop} {dec : Decidable P} (h : P) {Q : PLift P → sProp 𝕄} : Q ⟨h⟩ ⊢ WP (Prog.lift (.assume P dec)) Q := by
  iintro HQ
  iapply (wp_assume 𝒱₀ (V d (cV i) (jV i)) none Set.univ h)
  rw [wp_ret]; imodintro; iexact HQ

variable (H2 : A2.IsWhole) (H3 : A3.IsWhole) (H4 : A4.IsWhole) (HI : AI.IsWhole) (HO : AO.IsWhole)

/-- The values the body computes of its counters at trip `t`. -/
abbrev x66 (t : ℕ) : BitVec 32 := Scalar.addi (w t) (v4 i)
abbrev x71 (t : ℕ) : BitVec 32 := Scalar.addi (Scalar.select (Scalar.cmpi .eq (Scalar.select 1#1 (Scalar.subi (w t) 1#32) (w t)) 4294967295#32) 15#32
            (Scalar.select 1#1 (Scalar.subi (w t) 1#32) (w t))) (v4 i)
abbrev x76 (t : ℕ) : BitVec 32 := Scalar.addi (Scalar.select (Scalar.cmpi .eq (Scalar.select 1#1 (Scalar.addi (w t) 1#32) (w t)) 16#32) 0#32
            (Scalar.select 1#1 (Scalar.addi (w t) 1#32) (w t))) (v4 i)
abbrev x91 (t : ℕ) : BitVec 32 := Scalar.select (Scalar.andi (Scalar.andi (Scalar.cmpi .ne (x66 i t) (x76 i t))
        (Scalar.xori (Scalar.cmpi .sge (Scf.iv 0#32 1#32 t) 15#32) 1#1)) 1#1) (Scalar.addi (w (min (t + 1) 16)) 1#32) (w (min (t + 1) 16))

/-- The values carried on are those of trip `t + 1`. -/
theorem next_tuple (t : Fin 16) :
    (x91 i t.val, Scalar.select (Scalar.ori (Scalar.cmpi .ne (x66 i t.val) (x76 i t.val)) (Scalar.cmpi .eq (Scf.iv 0#32 1#32 t.val) 15#32))
        (Scalar.addi (w t.val) 1#32) (w t.val),
      Scalar.select (Scalar.andi (Scalar.ori (Scalar.cmpi .ne (x66 i t.val) (x76 i t.val)) (Scalar.cmpi .eq (Scf.iv 0#32 1#32 t.val) 15#32)) 1#1)
        (Scalar.addi (w t.val) 1#32) (w t.val),
      Scalar.select (Scalar.andi (Scalar.andi (Scalar.cmpi .ne (x66 i t.val) (x71 i t.val)) (Scalar.xori (Scalar.cmpi .eq (Scf.iv 0#32 1#32 t.val) 0#32) 1#1)) 1#1)
        (Scalar.addi (w (t.val - 1)) 1#32) (w (t.val - 1)),
      Scalar.select (Scalar.cmpi .eq (Scalar.select 1#1 (Scalar.addi (w t.val) 1#32) (w t.val)) 16#32) 0#32
        (Scalar.select 1#1 (Scalar.addi (w t.val) 1#32) (w t.val)))
      = (w (min (t.val + 1 + 1) 16), w (t.val + 1), w (t.val + 1), w (t.val + 1 - 1), w ((t.val + 1) % 16)) := by
  obtain ⟨e1, e2, e3, e4, e5⟩ := next_words i t
  unfold x91 x76 x71 x66
  rw [e1, e2, e3, e4, e5, Nat.add_sub_cancel]

/-- The first part of a trip: the fetch of the next block, if there is one. -/
theorem part1_spec (t : Fin 16) {Q} :
    iprop((IS d i AI (par (t.val + 1)) ∗ Z0 d i (smP s5 (par (t.val + 1))))
        ∗ bigSep (Finset.univ.filter fun j : Fin 16 => t.val + 1 ≤ j.val) (IB d i A3 fi))
      ⊢ iprop(((if h : t.val + 1 < 16 then FI d i A3 AI s5 fi (par (t.val + 1)) ⟨t.val + 1, h⟩
              else iprop(IS d i AI (par (t.val + 1)) ∗ Z0 d i (smP s5 (par (t.val + 1)))))
            ∗ bigSep (Finset.univ.filter fun j : Fin 16 => t.val + 1 + 1 ≤ j.val) (IB d i A3 fi)
            -∗ Q ⟨chk3_ok t, chk2_ok t, chk1_ok i t, Scf.iv 0#32 1#32 t.val, Scalar.cmpi .eq (Scf.iv 0#32 1#32 t.val) 0#32,
                Scalar.cmpi .eq (Scf.iv 0#32 1#32 t.val) 15#32, x66 i t.val, x71 i t.val, x76 i t.val, x91 i t.val, Scalar.cmpi .ne (x66 i t.val) (x71 i t.val)⟩)
        -∗ WP (k0_part1 i A2 H2 A3 H3 A4 H4 AI HI s5 AO HO s6 sg (v4 i) 0#32 1#32 t (w (min (t.val + 1) 16)) (w t.val) (w t.val) (w (t.val - 1)) (w t.val)) Q) := by
  rw [k0_part1_eq_skeleton]; unfold k0_part1_skel
  simp only [wp_bind]
  by_cases h : t.val < 15
  · have hc : k0_cond1 i t (w t.val) = 1#1 := by rw [cond1_eq, if_pos h]
    have h' : t.val + 1 < 16 := by omega
    rw [dif_pos h', take_from (IB d i A3 fi) ⟨t.val + 1, h'⟩]
    iintro ⟨⟨His, Hz5⟩, ⟨Hb, Hip⟩⟩ HQ
    iapply (assume_lift d i (chk3_ok t))
    iapply (assume_lift d i (chk2_ok t))
    iapply (assume_lift d i (chk1_ok i t))
    simp only [dif_pos hc, wp_bind, wp_pure]
    iapply (fetch_issue d i A3 AI s5 fi (par (t.val + 1)) ⟨t.val + 1, h'⟩ (off4_eq t h) (off5_eq i t h) (off6_eq t h)) $$ [His Hz5 Hb]
    · isplitl [Hb]; · iexact Hb
      isplitl [His] <;> iassumption
    iintro Hfi
    imodintro; iapply HQ
    isplitl [Hfi] <;> iassumption
  · have hc : ¬ k0_cond1 i t (w t.val) = 1#1 := by rw [cond1_eq, if_neg h]; decide
    have h' : ¬ t.val + 1 < 16 := by omega
    have e : bigSep (Finset.univ.filter fun j : Fin 16 => t.val + 1 ≤ j.val) (IB d i A3 fi)
        = bigSep (Finset.univ.filter fun j : Fin 16 => t.val + 1 + 1 ≤ j.val) (IB d i A3 fi) := by
      rw [from_end _ (by omega), from_end _ (by omega)]
    rw [dif_neg h', e]
    iintro ⟨⟨His, Hz5⟩, Hip⟩ HQ
    iapply (assume_lift d i (chk3_ok t))
    iapply (assume_lift d i (chk2_ok t))
    iapply (assume_lift d i (chk1_ok i t))
    simp only [dif_neg hc, wp_bind, wp_pure]
    imodintro; iapply HQ
    isplitl [His Hz5]
    · isplitl [His] <;> iassumption
    · iexact Hip

/-- The second part: the wait for this block of the list and the gather of the rows it names. -/
theorem part2_spec (hin : ∀ j x, (idsOf d i A3 fi j x).toNat < 30522)
    (hmw : (levAts (K (F := F)).L (K (F := F)).lev : sProp 𝕄) ⊢ Transfers.MayWaits (V d (cV i) (jV i)) (default : HIx 8) O)
    (t : Fin 16) {h3 h2 h1 a5 a64 a65 a66 a71 a76 a96} {Q} :
    iprop(levAts (K (F := F)).L (K (F := F)).lev ∗ FI d i A3 AI s5 fi (par t.val) t ∗ TB d i A2 ft qt ∗ Z0 d i sg.sem ∗ OS d i AO (par t.val)
        ∗ owes (V d (cV i) (jV i)) O W)
      ⊢ iprop(((IS d i AI (par t.val) ∗ Z0 d i (smP s5 (par t.val))) ∗ IB d i A3 fi t ∗ (TB d i A2 ft qt ∗ Z0 d i sg.sem) ∗ OSv d i A2 A3 AO ft fi hin (par t.val) t
            ∗ owes (V d (cV i) (jV i)) O (insert (SemLoc.dma sg.sem, default) (insert (SemLoc.dma (smP s5 (par t.val)), default) W)) -∗ Q ⟨⟩)
        -∗ WP (k0_part2 i A2 H2 A3 H3 A4 H4 AI HI s5 AO HO s6 sg t (w (min (t.val + 1) 16)) (w t.val) (w t.val) (w (t.val - 1)) (w t.val)
            h3 h2 h1 a5 a64 a65 a66 a71 a76 a96) Q) := by
  rw [k0_part2_eq_skeleton]; unfold k0_part2_skel
  rw [dif_pos (cond2_eq i t)]
  simp only [ite_self]
  iintro ⟨#Hlv, Hfi, Ht, Hzg, Hos, HO⟩ HQ
  rw [wp_bind]
  iapply (fetch_wait d i A3 AI s5 fi (par t.val) t hmw (off7_eq t) (off9_eq t)) $$ [Hfi HO]
  · isplitr; · iexact Hlv
    isplitl [Hfi] <;> iassumption
  iintro ⟨Hi, Hb, Hz5, HO⟩
  iapply (gather_step d i A2 A3 AI AO sg ft fi qt hin (par t.val) (par t.val) t hmw (off10_eq t) (off12_eq t) (off11_eq t)) $$ [Hi Ht Hzg Hos HO]
  · isplitr; · iexact Hlv
    isplitl [Ht]; · iexact Ht
    isplitl [Hi]; · iexact Hi
    isplitl [Hos]; · iexact Hos
    isplitl [Hzg] <;> iassumption
  iintro ⟨Ht, Hi, Hosv, Hzg, HO⟩
  iapply HQ
  isplitl [Hi Hz5]
  · isplitl [Hi] <;> iassumption
  isplitl [Hb]; · iexact Hb
  isplitl [Ht Hzg]
  · isplitl [Ht] <;> iassumption
  isplitl [Hosv] <;> iassumption

theorem off17_par (t : Fin 16) (h : 1 ≤ t.val) : k0_off17 (w (t.val - 1)) = ![(par (t.val + 1)).val] := by
  rw [off17_eq]; congr 1; show (t.val - 1) % 2 = (t.val + 1) % 2; omega

set_option maxHeartbeats 4000000 in
theorem step (hin : ∀ j x, (idsOf d i A3 fi j x).toNat < 30522)
    (hwant : ∀ j x, (oBk i A4 j).view.read (Elt F) want x = gath d i A2 A3 ft fi hin j x)
    (hmw : (levAts (K (F := F)).L (K (F := F)).lev : sProp 𝕄) ⊢ Transfers.MayWaits (V d (cV i) (jV i)) (default : HIx 8) O)
    (t : Fin 16) :
    Inv d i A2 A3 A4 AI AO s5 s6 sg ft fi fo want qt O W t.val
      ⊢ WP (k0_t1_body i A2 H2 A3 H3 A4 H4 AI HI s5 AO HO s6 sg (v4 i) t (words t.val))
          fun acc => iprop(⌜acc = words (t.val + 1)⌝ ∗ Inv d i A2 A3 A4 AI AO s5 s6 sg ft fi fo want qt O W (t.val + 1)) := by
  unfold words
  rw [Nat.mod_eq_of_lt t.isLt]
  unfold k0_t1_body
  unfold Inv
  rw [dif_pos t.isLt, take_from (OB d i A4 fo) t, put_before (IB d i A3 fi) t]
  iintro ⟨#Hlv, Hfi, ⟨His, Hz5⟩, Hip, Hid, ⟨Ht, Hzg⟩, Hfo, ⟨Hos, Hz6⟩, ⟨Hob, Hop⟩, Hod, ⟨%W', %hW', HO⟩⟩
  rw [wp_bind]
  iapply (part1_spec d i A2 A3 A4 AI AO s5 s6 sg fi H2 H3 H4 HI HO t) $$ [His Hz5 Hip]
  · isplitl [His Hz5]
    · isplitl [His] <;> iassumption
    · iexact Hip
  iintro ⟨Hfi', Hip⟩
  dsimp only
  rw [wp_bind]
  iapply (part2_spec d i A2 A3 A4 AI AO s5 s6 sg ft fi qt O W' H2 H3 H4 HI HO hin hmw t) $$ [Hfi Ht Hzg Hos HO]
  · isplitr; · iexact Hlv
    isplitl [Hfi]; · iexact Hfi
    isplitl [Ht]; · iexact Ht
    isplitl [Hzg]; · iexact Hzg
    isplitl [Hos] <;> iassumption
  iintro ⟨Hi, Hb, Htz, Hosv, HO⟩
  rw [dif_pos (cond5_eq i t)]
  simp only [ite_self, wp_bind]
  iapply (out_issue d i A2 A3 A4 AO s6 ft fi fo want hin hwant (par t.val) t (off12_eq t) (off13_eq i t) (off14_eq t)) $$ [Hosv Hz6 Hob]
  · isplitl [Hob]; · iexact Hob
    isplitl [Hosv] <;> iassumption
  iintro Hfo'
  have hn : 1 ≤ t.val + 1 ∧ t.val + 1 ≤ 16 := ⟨by omega, by have := t.isLt; omega⟩
  have hW3 : ∀ p ∈ insert (SemLoc.dma sg.sem, (default : HIx 8)) (insert (SemLoc.dma (smP s5 (par t.val)), default) W'), p ∈ W ∨ p.2 = none := by
    intro p hp
    rcases Finset.mem_insert.mp hp with rfl | hp
    · exact Or.inr rfl
    rcases Finset.mem_insert.mp hp with rfl | hp
    · exact Or.inr rfl
    exact hW' p hp
  have hw := next_tuple i t
  by_cases h : 1 ≤ t.val
  · have hc : k0_cond7 i t (w t.val) = 1#1 := by rw [cond7_eq, if_pos h]
    have hd : 1 ≤ t.val ∧ t.val ≤ 16 := ⟨h, by omega⟩
    simp only [dif_pos hc, dif_pos hd, wp_bind, wp_pure]
    iapply (out_wait d i A4 AO s6 want (par (t.val + 1)) ⟨t.val - 1, by omega⟩ hmw (off16_eq i t h) (off17_par t h)) $$ [Hfo HO]
    · isplitr; · iexact Hlv
      isplitl [Hfo] <;> iassumption
    iintro ⟨How, Hos, Hz6, HO⟩
    have hput : bigSep (Finset.univ.filter fun j : Fin 16 => j.val < t.val) (OB d i A4 want)
        = iprop(OB d i A4 want ⟨t.val - 1, by omega⟩ ∗ bigSep (Finset.univ.filter fun j : Fin 16 => j.val < t.val - 1) (OB d i A4 want)) := by
      have := put_before (OB d i A4 want) ⟨t.val - 1, by omega⟩
      rwa [show (⟨t.val - 1, by omega⟩ : Fin 16).val + 1 = t.val by show t.val - 1 + 1 = t.val; omega] at this
    simp only [par_succ_succ, Nat.add_sub_cancel, dif_pos hn, hput]
    imodintro
    isplitr
    · ipureintro; exact hw
    isplitr; · iexact Hlv
    isplitl [Hfi']; · iexact Hfi'
    isplitl [Hi]; · iexact Hi
    isplitl [Hip]; · iexact Hip
    isplitl [Hb Hid]; · isplitl [Hb] <;> iassumption
    isplitl [Htz]; · iexact Htz
    isplitl [Hfo']; · iexact Hfo'
    isplitl [Hos Hz6]; · isplitl [Hos] <;> iassumption
    isplitl [Hop]; · iexact Hop
    isplitl [How Hod]; · isplitl [How] <;> iassumption
    iexists (insert (SemLoc.dma (smP s6 (par (t.val + 1))), default) (insert (SemLoc.dma sg.sem, default) (insert (SemLoc.dma (smP s5 (par t.val)), default) W')))
    isplitr
    · ipureintro; exact fun p hp => by
        rcases Finset.mem_insert.mp hp with e | hp
        · exact Or.inr (congrArg Prod.snd e)
        exact hW3 p hp
    iexact HO
  · have hc : ¬ k0_cond7 i t (w t.val) = 1#1 := by rw [cond7_eq, if_neg h]; decide
    have hd : ¬ (1 ≤ t.val ∧ t.val ≤ 16) := fun hh => h hh.1
    have ht : t.val = 0 := by omega
    simp only [dif_neg hc, dif_neg hd, wp_bind, wp_pure]
    have hput : bigSep (Finset.univ.filter fun j : Fin 16 => j.val < t.val) (OB d i A4 want)
        = bigSep (Finset.univ.filter fun j : Fin 16 => j.val < t.val - 1) (OB d i A4 want) := by
      rw [ht]
    simp only [par_succ_succ, Nat.add_sub_cancel, dif_pos hn, hput]
    imodintro
    isplitr
    · ipureintro; exact hw
    isplitr; · iexact Hlv
    isplitl [Hfi']; · iexact Hfi'
    isplitl [Hi]; · iexact Hi
    isplitl [Hip]; · iexact Hip
    isplitl [Hb Hid]; · isplitl [Hb] <;> iassumption
    isplitl [Htz]; · iexact Htz
    isplitl [Hfo']; · iexact Hfo'
    isplitl [Hfo]; · iexact Hfo
    isplitl [Hop]; · iexact Hop
    isplitl [Hod]; · iexact Hod
    iexists _
    isplitr
    · ipureintro; exact hW3
    iexact HO

end Loop

end Cert.Embed
-- ==== Proof.Body.lean ====
/-
  One subcore's run of the gather kernel, whole: from its blocks of the list and of the result, its two index slots, its
  two row slots and its share of the table, to the same with its blocks of the result holding the rows asked for.
-/
module

public import proofs.«01_k».proof.Proof.Loop

@[expose] public section

noncomputable section

namespace Cert.Embed

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 8) (Elt F) ℕ UU ℕ

section Body
variable (d : Dev nD) (i : grid0.Coords)
variable (A2 : Memref sig .scVector .hbm S30522x128 .f32) (A3 : Memref sig .scVector .hbm S1x65536 .i32) (A4 : Memref sig .scVector .hbm S65536x128 .f32)
  (AI : Memref sig .scVector .vmem S2x1x128 .i32) (AO : Memref sig .scVector .vmem S2x128x128 .f32) (s5 s6 : DmaSems sig S2) (sg : DmaSems sig S_)
variable (ft : Buf (Elt F) (A2.view.loc (V d (cV i) (jV i)))) (fi : Buf (Elt F) (A3.view.loc (V d (cV i) (jV i))))
  (fo want : Buf (Elt F) (A4.view.loc (V d (cV i) (jV i)))) (qt : PosShare TreeShare)
variable (O : CellTallies nD τ sig (HIx 8)) (W : Waits sig (HIx 8))
variable (H2 : A2.IsWhole) (H3 : A3.IsWhole) (H4 : A4.IsWhole) (HI : AI.IsWhole) (HO : AO.IsWhole)

local notation "WP" => wp frame (wpE (defs₀ (F := F)) 𝒱₀ (V d (cV i) (jV i)) none) Set.univ

/-- The first fetch. -/
theorem part3_spec {Q} :
    iprop(IB d i A3 fi 0 ∗ IS d i AI 0 ∗ Z0 d i (smP s5 0))
      ⊢ iprop((FI d i A3 AI s5 fi 0 0 -∗ Q (v4 i))
        -∗ WP (k0_part3 i A2 H2 A3 H3 A4 H4 AI HI s5 AO HO s6 sg) Q) := by
  rw [k0_part3_eq_skeleton]; unfold k0_part3_skel v4
  simp only [wp_bind, wp_pure]
  iintro H HQ
  iapply (fetch_issue d i A3 AI s5 fi 0 0 off1_eq (off2_eq i) off3_eq) $$ [H]
  · iexact H
  iintro Hfi
  imodintro
  ihave H := HQ $$ Hfi
  iexact H

/-- The loop, and the side conditions of what follows it. -/
theorem part4_spec (hin : ∀ j x, (idsOf d i A3 fi j x).toNat < 30522)
    (hwant : ∀ j x, (oBk i A4 j).view.read (Elt F) want x = gath d i A2 A3 ft fi hin j x)
    (hmw : (levAts (K (F := F)).L (K (F := F)).lev : sProp 𝕄) ⊢ Transfers.MayWaits (V d (cV i) (jV i)) (default : HIx 8) O) {Q} :
    Inv d i A2 A3 A4 AI AO s5 s6 sg ft fi fo want qt O W 0
      ⊢ iprop((Inv d i A2 A3 A4 AI AO s5 s6 sg ft fi fo want qt O W 16 -∗ Q ⟨w 15, w 0, chk5_ok i, chk4_ok⟩)
        -∗ WP (k0_part4 i A2 H2 A3 H3 A4 H4 AI HI s5 AO HO s6 sg (v4 i)) Q) := by
  rw [k0_part4_eq_skeleton]; unfold k0_part4_skel
  simp only [wp_bind, wp_pure]
  have hb : ∀ (t : Fin (Scf.trips k0_t1_loop.lb k0_t1_loop.ub k0_t1_loop.st)) (acc : BitVec 32 × BitVec 32 × BitVec 32 × BitVec 32 × BitVec 32),
      iprop(⌜acc = words t.val⌝ ∗ Inv d i A2 A3 A4 AI AO s5 s6 sg ft fi fo want qt O W t.val)
        ⊢ WP (k0_t1_body i A2 H2 A3 H3 A4 H4 AI HI s5 AO HO s6 sg (v4 i) t acc)
          fun acc => iprop(⌜acc = words (t.val + 1)⌝ ∗ Inv d i A2 A3 A4 AI AO s5 s6 sg ft fi fo want qt O W (t.val + 1)) := by
    intro t acc
    iintro ⟨%e, H⟩
    subst e
    iapply (step d i A2 A3 A4 AI AO s5 s6 sg ft fi fo want qt O W H2 H3 H4 HI HO hin hwant hmw t) $$ H
  iintro H HQ
  iapply (Scf.wp_for _ _ _ k0_t1_loop.lb k0_t1_loop.ub k0_t1_loop.st _ _ (k0_t1_body i A2 H2 A3 H3 A4 H4 AI HI s5 AO HO s6 sg (v4 i)) (fun t acc => iprop(⌜acc = words t⌝ ∗ Inv d i A2 A3 A4 AI AO s5 s6 sg ft fi fo want qt O W t)) hb)
  isplitl [H]
  · isplitr
    · ipureintro; rfl
    · iexact H
  iintro %acc ⟨%e, H⟩
  have e' : acc = (w 16, w 16, w 16, w 15, w 0) := e
  subst e'
  iapply (assume_lift d i (chk5_ok i))
  iapply (assume_lift d i chk4_ok)
  imodintro
  iapply HQ; iexact H

theorem Inv_start :
    iprop(levAts (K (F := F)).L (K (F := F)).lev ∗ FI d i A3 AI s5 fi 0 0 ∗ (IS d i AI 1 ∗ Z0 d i (smP s5 1))
        ∗ bigSep (Finset.univ.filter fun j : Fin 16 => 0 + 1 ≤ j.val) (IB d i A3 fi) ∗ (TB d i A2 ft qt ∗ Z0 d i sg.sem)
        ∗ (OS d i AO 1 ∗ Z0 d i (smP s6 1)) ∗ (OS d i AO 0 ∗ Z0 d i (smP s6 0)) ∗ bigSep Finset.univ (OB d i A4 fo) ∗ owes (V d (cV i) (jV i)) O W)
      ⊢ Inv d i A2 A3 A4 AI AO s5 s6 sg ft fi fo want qt O W 0 := by
  unfold Inv
  rw [dif_pos (by decide), dif_neg (by decide), before_start, before_start, from_start]
  iintro ⟨Hlv, Hfi, Hi1, Hip, Ht, Hos1, Hos, Hop, HO⟩
  isplitl [Hlv]; · iexact Hlv
  isplitl [Hfi]; · iexact Hfi
  isplitl [Hi1]; · iexact Hi1
  isplitl [Hip]; · iexact Hip
  isplitr; · iempintro
  isplitl [Ht]; · iexact Ht
  isplitl [Hos1]; · iexact Hos1
  isplitl [Hos]; · iexact Hos
  isplitl [Hop]; · iexact Hop
  isplitr; · iempintro
  iexists W; isplitr
  · ipureintro; exact fun p hp => Or.inl hp
  · iexact HO

theorem Inv_end :
    Inv d i A2 A3 A4 AI AO s5 s6 sg ft fi fo want qt O W 16
      ⊢ iprop((IS d i AI 0 ∗ Z0 d i (smP s5 0)) ∗ (IS d i AI 1 ∗ Z0 d i (smP s5 1)) ∗ bigSep Finset.univ (IB d i A3 fi) ∗ (TB d i A2 ft qt ∗ Z0 d i sg.sem)
        ∗ FO d i A4 AO s6 want 1 15 ∗ (OS d i AO 0 ∗ Z0 d i (smP s6 0)) ∗ bigSep (Finset.univ.filter fun j : Fin 16 => j.val < 16 - 1) (OB d i A4 want)
        ∗ ∃ W', ⌜∀ p ∈ W', p ∈ W ∨ p.2 = none⌝ ∗ owes (V d (cV i) (jV i)) O W') := by
  unfold Inv
  rw [dif_neg (by decide), dif_pos (by decide), before_end]
  iintro ⟨-, Hi0, Hi1, -, Hid, Ht, Hfo, Hos, -, Hod, HO⟩
  isplitl [Hi0]; · iexact Hi0
  isplitl [Hi1]; · iexact Hi1
  isplitl [Hid]; · iexact Hid
  isplitl [Ht]; · iexact Ht
  isplitl [Hfo]; · iexact Hfo
  isplitl [Hos]; · iexact Hos
  isplitl [Hod] <;> iassumption

/-- What the subcore holds before and after: `f` is what its blocks of the result hold. -/
def Held (f : Buf (Elt F) (A4.view.loc (V d (cV i) (jV i)))) : sProp 𝕄 :=
  iprop(bigSep Finset.univ (IB d i A3 fi) ∗ TB d i A2 ft qt ∗ bigSep Finset.univ (OB d i A4 f))
/-- Its slots and semaphores. -/
def Slots : sProp 𝕄 :=
  iprop((IS d i AI 0 ∗ Z0 d i (smP s5 0)) ∗ (IS d i AI 1 ∗ Z0 d i (smP s5 1)) ∗ (OS d i AO 0 ∗ Z0 d i (smP s6 0)) ∗ (OS d i AO 1 ∗ Z0 d i (smP s6 1)) ∗ Z0 d i sg.sem)

theorem body_spec (hin : ∀ j x, (idsOf d i A3 fi j x).toNat < 30522)
    (hwant : ∀ j x, (oBk i A4 j).view.read (Elt F) want x = gath d i A2 A3 ft fi hin j x)
    (hmw : (levAts (K (F := F)).L (K (F := F)).lev : sProp 𝕄) ⊢ Transfers.MayWaits (V d (cV i) (jV i)) (default : HIx 8) O) :
    iprop(levAts (K (F := F)).L (K (F := F)).lev ∗ Held d i A2 A3 A4 ft fi qt fo ∗ Slots d i AI AO s5 s6 sg ∗ owes (V d (cV i) (jV i)) O W)
      ⊢ WP (cc0_k i A2 H2 A3 H3 A4 H4 AI HI s5 AO HO s6 sg) fun _ =>
          iprop(Held d i A2 A3 A4 ft fi qt want ∗ Slots d i AI AO s5 s6 sg ∗ ∃ W', ⌜∀ p ∈ W', p ∈ W ∨ p.2 = none⌝ ∗ owes (V d (cV i) (jV i)) O W') := by
  rw [cc0_k_eq_skeleton]; unfold cc0_k_skel Held Slots
  have h0 : bigSep Finset.univ (IB d i A3 fi) = iprop(IB d i A3 fi 0 ∗ bigSep (Finset.univ.filter fun j : Fin 16 => 0 + 1 ≤ j.val) (IB d i A3 fi)) := by
    rw [← from_start]; exact take_from (IB d i A3 fi) 0
  have hput : bigSep Finset.univ (OB d i A4 want)
      = iprop(OB d i A4 want 15 ∗ bigSep (Finset.univ.filter fun j : Fin 16 => j.val < 16 - 1) (OB d i A4 want)) := by
    rw [← before_end]; exact put_before (OB d i A4 want) 15
  iintro ⟨#Hlv, ⟨Hib, Ht, Hop⟩, ⟨⟨His, Hz5⟩, Hi1, Hos, Hos1, Hzg⟩, HO⟩
  ihave Hib' := (Entails.of_eq h0) $$ Hib
  icases Hib' with ⟨Hb, Hip⟩
  rw [wp_bind]
  iapply (part3_spec d i A2 A3 A4 AI AO s5 s6 sg fi H2 H3 H4 HI HO) $$ [Hb His Hz5]
  · isplitl [Hb]; · iexact Hb
    isplitl [His] <;> iassumption
  iintro Hfi
  rw [wp_bind]
  iapply (part4_spec d i A2 A3 A4 AI AO s5 s6 sg ft fi fo want qt O W H2 H3 H4 HI HO hin hwant hmw) $$ [Hfi Hi1 Hip Ht Hzg Hos Hos1 Hop HO]
  · iapply (Inv_start d i A2 A3 A4 AI AO s5 s6 sg ft fi fo want qt O W)
    isplitr; · iexact Hlv
    isplitl [Hfi]; · iexact Hfi
    isplitl [Hi1]; · iexact Hi1
    isplitl [Hip]; · iexact Hip
    isplitl [Ht Hzg]; · isplitl [Ht] <;> iassumption
    isplitl [Hos1]; · iexact Hos1
    isplitl [Hos]; · iexact Hos
    isplitl [Hop] <;> iassumption
  iintro HI
  ihave HI' := (Inv_end d i A2 A3 A4 AI AO s5 s6 sg ft fi fo want qt O W) $$ HI
  icases HI' with ⟨Hi0, Hi1, Hid, ⟨Ht, Hzg⟩, Hfo, Hos, Hod, ⟨%W', %hW', HO⟩⟩
  dsimp only
  simp only [wp_bind, wp_pure]
  iapply (out_wait d i A4 AO s6 want 1 15 hmw (off19_eq i) off20_eq) $$ [Hfo HO]
  · isplitr; · iexact Hlv
    isplitl [Hfo] <;> iassumption
  iintro ⟨How, Hos1, Hz61, HO⟩
  imodintro
  isplitl [Hid Ht How Hod]
  · isplitl [Hid]; · iexact Hid
    isplitl [Ht]; · iexact Ht
    iapply (Entails.of_eq hput.symm)
    isplitl [How] <;> iassumption
  isplitl [Hi0 Hi1 Hos Hos1 Hz61 Hzg]
  · isplitl [Hi0]; · iexact Hi0
    isplitl [Hi1]; · iexact Hi1
    isplitl [Hos]; · iexact Hos
    isplitl [Hos1 Hz61]; · isplitl [Hos1] <;> iassumption
    iexact Hzg
  iexists (insert (SemLoc.dma (smP s6 1), default) W'); isplitr
  · ipureintro; intro p hp
    rcases Finset.mem_insert.mp hp with e | hp
    · exact Or.inr (congrArg Prod.snd e)
    · exact hW' p hp
  · iexact HO

end Body

end Cert.Embed
-- ==== Proof.Want.lean ====
/-
  What the gather leaves: row `r` of the result is the row of the table the `r`th entry of the index list names. Each
  block a subcore gathers is that function's block.
-/
module

public import proofs.«01_k».proof.Proof.Body

@[expose] public section

noncomputable section

namespace Cert.Embed

open Cert.KernelIdeal Cert.KernelIdeal.Gen
open Idealize.ShloMosaic
open Idealize.ShloMosaic.SparseCore (S V T)

variable {F : FTy → Type}

/-- The rows of a table that a list of row numbers names. -/
def gathered {α : Type} (tab : S30522x128.Idx → α) (ids : S1x65536.Idx → BitVec 32) : S65536x128.Idx → α :=
  fun x => tab (Shape.pair ⟨(ids (Shape.pair (0 : Fin 1) (x 0))).toNat % 30522, Nat.mod_lt _ (by decide)⟩ (x 1))

/-- An index of a list, by its one coordinate. -/
def at1 (k : Fin 128) : S128.Idx := fun a => match a with | 0 => k

theorem rho_eq (k : Fin 128) : rho (S128.rowMajor.symm k) = Shape.pair (0 : Fin 1) k := by
  have e1 : S128.rowMajor.symm k = at1 k :=
    (Equiv.symm_apply_eq _).2 (Fin.ext (Shape.rowMajor_val_one (d := ![128]) (at1 k)).symm)
  have e2 : Shape.reshapeEquiv squeezes_S1x128_S128.numel_eq (at1 k) = (Shape.pair (0 : Fin 1) k : S1x128.Idx) :=
    Shape.reshapeEquiv_eq_of_rowMajor _
      (((Shape.rowMajor_pair_val (d := ![1, 128]) (0 : Fin 1) k).trans (show 0 * 128 + k.val = k.val by omega)).trans (Shape.rowMajor_val_one (d := ![128]) (at1 k)).symm)
  refine (congrArg _ ((congrArg _ e1).trans e2) : rho (S128.rowMajor.symm k) = (Rect.unit (s := S1x128) ![0, 0] S1x128.size inb_S1x128_S1x128_0_0).emb (Shape.pair (0 : Fin 1) k)).trans ?_
  funext a; apply Fin.ext
  match a with
  | 0 => rfl
  | 1 => show 0 + 1 * k.val = k.val; omega

section
variable [FloatOps F]
variable (d : Dev nD) (i : grid0.Coords)
variable (A2 : Memref sig .scVector .hbm S30522x128 .f32) (A3 : Memref sig .scVector .hbm S1x65536 .i32) (A4 : Memref sig .scVector .hbm S65536x128 .f32)
variable (ft : Buf (Elt F) (A2.view.loc (V d (cV i) (jV i)))) (fi : Buf (Elt F) (A3.view.loc (V d (cV i) (jV i))))
  (want : Buf (Elt F) (A4.view.loc (V d (cV i) (jV i))))

theorem idsOf_eq (j : Fin 16) (k : Fin 128) :
    idsOf d i A3 fi j (S128.rowMajor.symm k) = A3.view.read (Elt F) fi
      (Shape.pair (0 : Fin 1) (⟨128 * (base i + j.val) + k.val, by have := blk_lt i j; omega⟩ : Fin 65536)) := by
  unfold idsOf
  rw [rho_eq]
  refine congrArg (A3.view.read (Elt F) fi) (funext fun a => Fin.ext ?_)
  match a with
  | 0 => rfl
  | 1 => show 128 * (base i + j.val) + 1 * k.val = _; simp [Shape.pair]

theorem gath_eq (hin : ∀ j x, (idsOf d i A3 fi j x).toNat < 30522)
    (hw : ∀ y, A4.view.read (Elt F) want y = gathered (A2.view.read (Elt F) ft) (A3.view.read (Elt F) fi) y) (j : Fin 16) (x : S128x128.Idx) :
    (oBk i A4 j).view.read (Elt F) want x = gath d i A2 A3 ft fi hin j x := by
  have hk := idsOf_eq d i A3 fi j (x 0)
  have hlt := hin j (S128.rowMajor.symm (x 0))
  refine (hw _).trans ?_
  unfold gathered gath SparseCore.gatherPayload
  refine congrArg (A2.view.read (Elt F) ft) (funext fun a => Fin.ext ?_)
  match a with
  | 0 =>
    show (A3.view.read (Elt F) fi _).toNat % 30522 = 0 + 1 * (idsOf d i A3 fi j (S128.rowMajor.symm (x 0))).toNat
    rw [hk] at hlt ⊢
    rw [Nat.zero_add, Nat.one_mul, ← Nat.mod_eq_of_lt hlt]
    congr 2
    refine congrArg (A3.view.read (Elt F) fi) (funext fun a => Fin.ext ?_)
    match a with
    | 0 => rfl
    | 1 => show 128 * (base i + j.val) + 1 * (x 0).val = 128 * (base i + j.val) + (x 0).val; omega
  | 1 => show 0 + 1 * (x 1).val = 0 + 1 * (x 1).val; rfl
end

end Cert.Embed
-- ==== Proof.Tile.lean ====
/-
  One subcore's task, from its own buffers and semaphores: the two staging buffers as their slots, the five
  semaphores it uses picked out of all its own.
-/
module

public import proofs.«01_k».proof.Proof.Want
public import Idealize.ShloMosaic.Lib.Ring

@[expose] public section

noncomputable section

namespace Cert.Embed

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

/-! ## A staging buffer as its two slots -/

section Slots
variable (AI : Memref sig .scVector .vmem S2x1x128 .i32) (AO : Memref sig .scVector .vmem S2x128x128 .f32)

/-- The part of the staging buffer that slot `s` is. -/
def iJ (s : Fin 2) : Finset AI.view.ty.Idx := (iSt AI s).view.set
/-- As `iJ`, of the rows' staging buffer. -/
def oJ (s : Fin 2) : Finset AO.view.ty.Idx := (oSt AO s).view.set

theorem iSt_disjoint (s s' : Fin 2) (h : s ≠ s') : Disjoint (iJ AI s) (iJ AI s') := by
  show Disjoint ((AI.view.slice (Rect.unit (s := S2x1x128) ![s.val, 0, 0] S1x1x128.size (inbI s))).reshape S1x128 squeezes_S1x1x128_S1x128.numel_eq).set
    ((AI.view.slice (Rect.unit (s := S2x1x128) ![s'.val, 0, 0] S1x1x128.size (inbI s'))).reshape S1x128 squeezes_S1x1x128_S1x128.numel_eq).set
  rw [View.set_reshape, View.set_reshape]
  refine View.disjoint_slice_of_sep _ _ _ 0 rfl rfl ?_
  show s.val + 1 ≤ s'.val ∨ s'.val + 1 ≤ s.val
  have : s.val ≠ s'.val := fun e => h (Fin.ext e)
  omega

theorem iSt_cover (hw : AI.view.set = Finset.univ) : Finset.univ.biUnion (iJ AI) = Finset.univ := by
  refine Finset.eq_univ_of_forall fun x => ?_
  obtain ⟨y, -, rfl⟩ := Finset.mem_map.mp (show x ∈ AI.view.set from hw ▸ Finset.mem_univ x)
  refine Finset.mem_biUnion.mpr ⟨y 0, Finset.mem_univ _, ?_⟩
  show _ ∈ ((AI.view.slice (Rect.unit (s := S2x1x128) ![(y 0).val, 0, 0] S1x1x128.size (inbI (y 0)))).reshape S1x128 squeezes_S1x1x128_S1x128.numel_eq).set
  rw [View.set_reshape, View.set_slice]
  refine Finset.mem_map_of_mem _ (Rect.mem_set_unit.mpr fun a => ?_)
  match a with
  | 0 => exact ⟨Nat.le_refl _, Nat.lt_succ_self _⟩
  | 1 => exact ⟨Nat.zero_le _, (Nat.zero_add _).symm ▸ (y 1).isLt⟩
  | 2 => exact ⟨Nat.zero_le _, (Nat.zero_add _).symm ▸ (y 2).isLt⟩

theorem oSt_disjoint (s s' : Fin 2) (h : s ≠ s') : Disjoint (oJ AO s) (oJ AO s') := by
  show Disjoint ((AO.view.slice (Rect.unit (s := S2x128x128) ![s.val, 0, 0] S1x128x128.size (inbO s))).reshape S128x128 squeezes_S1x128x128_S128x128.numel_eq).set
    ((AO.view.slice (Rect.unit (s := S2x128x128) ![s'.val, 0, 0] S1x128x128.size (inbO s'))).reshape S128x128 squeezes_S1x128x128_S128x128.numel_eq).set
  rw [View.set_reshape, View.set_reshape]
  refine View.disjoint_slice_of_sep _ _ _ 0 rfl rfl ?_
  show s.val + 1 ≤ s'.val ∨ s'.val + 1 ≤ s.val
  have : s.val ≠ s'.val := fun e => h (Fin.ext e)
  omega

theorem oSt_cover (hw : AO.view.set = Finset.univ) : Finset.univ.biUnion (oJ AO) = Finset.univ := by
  refine Finset.eq_univ_of_forall fun x => ?_
  obtain ⟨y, -, rfl⟩ := Finset.mem_map.mp (show x ∈ AO.view.set from hw ▸ Finset.mem_univ x)
  refine Finset.mem_biUnion.mpr ⟨y 0, Finset.mem_univ _, ?_⟩
  show _ ∈ ((AO.view.slice (Rect.unit (s := S2x128x128) ![(y 0).val, 0, 0] S1x128x128.size (inbO (y 0)))).reshape S128x128 squeezes_S1x128x128_S128x128.numel_eq).set
  rw [View.set_reshape, View.set_slice]
  refine Finset.mem_map_of_mem _ (Rect.mem_set_unit.mpr fun a => ?_)
  match a with
  | 0 => exact ⟨Nat.le_refl _, Nat.lt_succ_self _⟩
  | 1 => exact ⟨Nat.zero_le _, (Nat.zero_add _).symm ▸ (y 1).isLt⟩
  | 2 => exact ⟨Nat.zero_le _, (Nat.zero_add _).symm ▸ (y 2).isLt⟩

variable (d : Dev nD) (i : grid0.Coords)

theorem I_split (hw : AI.view.set = Finset.univ) :
    iprop(∃ f, AI.view.loc (V d (cV i) (jV i)) ↦{fullShare} f) ⊢ (iprop(IS d i AI 0 ∗ IS d i AI 1) : sProp 𝕄) :=
  Ring.slots2_split (U := UU) (Ix := HIx 8) (Name := ℕ) (Lvl := ℕ) (ℓ := AI.view.loc (V d (cV i) (jV i))) (q := fullShare)
    (iJ AI) (iSt_disjoint AI) (iSt_cover AI hw)
    (fun f => AI.view.loc (V d (cV i) (jV i)) ↦[iJ AI 0]{fullShare} f) (fun f => AI.view.loc (V d (cV i) (jV i)) ↦[iJ AI 1]{fullShare} f)
    (fun _ => rfl) (fun _ => rfl)
theorem I_join (hw : AI.view.set = Finset.univ) :
    (iprop(IS d i AI 0 ∗ IS d i AI 1) : sProp 𝕄) ⊢ iprop(∃ f, AI.view.loc (V d (cV i) (jV i)) ↦{fullShare} f) :=
  Ring.slots2_join (U := UU) (Ix := HIx 8) (Name := ℕ) (Lvl := ℕ) (ℓ := AI.view.loc (V d (cV i) (jV i))) (q := fullShare)
    (iJ AI) (iSt_disjoint AI) (iSt_cover AI hw)
    (fun f => AI.view.loc (V d (cV i) (jV i)) ↦[iJ AI 0]{fullShare} f) (fun f => AI.view.loc (V d (cV i) (jV i)) ↦[iJ AI 1]{fullShare} f)
    (fun _ => rfl) (fun _ => rfl)
theorem O_split (hw : AO.view.set = Finset.univ) :
    iprop(∃ f, AO.view.loc (V d (cV i) (jV i)) ↦{fullShare} f) ⊢ (iprop(OS d i AO 0 ∗ OS d i AO 1) : sProp 𝕄) :=
  Ring.slots2_split (U := UU) (Ix := HIx 8) (Name := ℕ) (Lvl := ℕ) (ℓ := AO.view.loc (V d (cV i) (jV i))) (q := fullShare)
    (oJ AO) (oSt_disjoint AO) (oSt_cover AO hw)
    (fun f => AO.view.loc (V d (cV i) (jV i)) ↦[oJ AO 0]{fullShare} f) (fun f => AO.view.loc (V d (cV i) (jV i)) ↦[oJ AO 1]{fullShare} f)
    (fun _ => rfl) (fun _ => rfl)
theorem O_join (hw : AO.view.set = Finset.univ) :
    (iprop(OS d i AO 0 ∗ OS d i AO 1) : sProp 𝕄) ⊢ iprop(∃ f, AO.view.loc (V d (cV i) (jV i)) ↦{fullShare} f) :=
  Ring.slots2_join (U := UU) (Ix := HIx 8) (Name := ℕ) (Lvl := ℕ) (ℓ := AO.view.loc (V d (cV i) (jV i))) (q := fullShare)
    (oJ AO) (oSt_disjoint AO) (oSt_cover AO hw)
    (fun f => AO.view.loc (V d (cV i) (jV i)) ↦[oJ AO 0]{fullShare} f) (fun f => AO.view.loc (V d (cV i) (jV i)) ↦[oJ AO 1]{fullShare} f)
    (fun _ => rfl) (fun _ => rfl)
end Slots

/-! ## The task's semaphores and buffers among the subcore's own -/

section Own
variable (d : Dev nD) (c : Fin τ.nSC) (j : Fin τ.nSub)

theorem own_buffers (r r' : Ref sig .scVector) (h : ((Proc.scVector c j).devRef r).owner = .proc (Proc.scVector c j))
    (h' : ((Proc.scVector c j).devRef r').owner = .proc (Proc.scVector c j)) (hne : r' ≠ r) :
    (ownBufs (V d c j) : sProp 𝕄)
      = iprop((∃ f, (V d c j).loc r ↦{fullShare} f) ∗ (∃ f, (V d c j).loc r' ↦{fullShare} f)
          ∗ bigSep (((ownRefs (τ := τ) (.scVector c j)).erase ((Proc.scVector c j).devRef r)).erase ((Proc.scVector c j).devRef r'))
              fun b => iprop(∃ f, ((d, b) : Loc nD τ sig) ↦{fullShare} f)) := by
  unfold ownBufs
  refine (SparseCore.bigSep_erase' (SparseCore.Cfg.mem_ownRefs_of_owner (p := Proc.scVector c j) (b := (Proc.scVector c j).devRef r) h)).trans ?_
  rw [SparseCore.bigSep_erase' (Finset.mem_erase.mpr ⟨fun e => absurd (Proc.devRef_injective _ e) hne,
    SparseCore.Cfg.mem_ownRefs_of_owner (p := Proc.scVector c j) (b := (Proc.scVector c j).devRef r') h'⟩)]

/-- A semaphore of the subcore, as one of the machine's. -/
abbrev cellOf (a : DmaSem sig) : GSem nD τ sig := (V d c j, .dma a)

theorem cellOf_ne {a b : DmaSem sig} (h : a ≠ b) : cellOf d c j a ≠ cellOf d c j b := fun e => h (by
  have := congrArg Prod.snd e; exact SemLoc.dma.inj this)

theorem own_semaphores (a b x y z : DmaSem sig)
    (hs : ∀ t ∈ [a, b, x, y, z], (SemLoc.dma t : SemLoc sig).isScoped .scVector = true) (hn : [a, b, x, y, z].Nodup) :
    (ownSems0 (V d c j) : sProp 𝕄)
      = iprop(semVal (cellOf d c j a) 0 ∗ semVal (cellOf d c j b) 0 ∗ semVal (cellOf d c j x) 0 ∗ semVal (cellOf d c j y) 0 ∗ semVal (cellOf d c j z) 0
          ∗ bigSep ((((((ownCells (V d c j)).erase (cellOf d c j a)).erase (cellOf d c j b)).erase (cellOf d c j x)).erase (cellOf d c j y)).erase (cellOf d c j z))
              fun g => semVal g 0) := by
  have m : ∀ t ∈ [a, b, x, y, z], cellOf d c j t ∈ ownCells (V d c j) := fun t ht => mem_ownCells.mpr ⟨rfl, hs t ht⟩
  simp only [List.nodup_cons, List.mem_cons, List.not_mem_nil, not_or, or_false, not_false_eq_true, and_true, List.nodup_nil] at hn
  obtain ⟨⟨ab, ax, ay, az⟩, ⟨bx, by', bz⟩, ⟨xy, xz⟩, yz⟩ := hn
  have e : ∀ {s t : DmaSem sig} {A : Finset (GSem nD τ sig)}, ¬ s = t → cellOf d c j t ∈ A → cellOf d c j t ∈ A.erase (cellOf d c j s) :=
    fun h hA => Finset.mem_erase.mpr ⟨cellOf_ne d c j (Ne.symm h), hA⟩
  unfold ownSems0
  rw [SparseCore.bigSep_erase' (m a (by simp)),
    SparseCore.bigSep_erase' (e ab (m b (by simp))),
    SparseCore.bigSep_erase' (e bx (e ax (m x (by simp)))),
    SparseCore.bigSep_erase' (e xy (e by' (e ay (m y (by simp))))),
    SparseCore.bigSep_erase' (e yz (e xz (e bz (e az (m z (by simp))))))]
end Own

/-! ## The task -/

section Task
variable [FloatOps F]
variable (d : Dev nD) (i : grid0.Coords)
variable (A2 : Memref sig .scVector .hbm S30522x128 .f32) (A3 : Memref sig .scVector .hbm S1x65536 .i32) (A4 : Memref sig .scVector .hbm S65536x128 .f32)
  (AI : Memref sig .scVector .vmem S2x1x128 .i32) (AO : Memref sig .scVector .vmem S2x128x128 .f32) (s5 s6 : DmaSems sig S2) (sg : DmaSems sig S_)
variable (ft : Buf (Elt F) (A2.view.loc (V d (cV i) (jV i)))) (fi : Buf (Elt F) (A3.view.loc (V d (cV i) (jV i))))
  (fo want : Buf (Elt F) (A4.view.loc (V d (cV i) (jV i)))) (qt : PosShare TreeShare)
variable (O : CellTallies nD τ sig (HIx 8)) (W : Waits sig (HIx 8))
variable (H2 : A2.IsWhole) (H3 : A3.IsWhole) (H4 : A4.IsWhole) (HI : AI.IsWhole) (HO : AO.IsWhole)

theorem task {RB RS : sProp 𝕄}
    (hB : (ownBufs (V d (cV i) (jV i)) : sProp 𝕄)
      = iprop((∃ f, AI.view.loc (V d (cV i) (jV i)) ↦{fullShare} f) ∗ (∃ f, AO.view.loc (V d (cV i) (jV i)) ↦{fullShare} f) ∗ RB))
    (hS : (ownSems0 (V d (cV i) (jV i)) : sProp 𝕄)
      = iprop(Z0 d i (smP s5 0) ∗ Z0 d i (smP s5 1) ∗ Z0 d i (smP s6 0) ∗ Z0 d i (smP s6 1) ∗ Z0 d i sg.sem ∗ RS))
    (hin : ∀ y, (A3.view.read (Elt F) fi y : BitVec 32).toNat < 30522)
    (hw : ∀ y, A4.view.read (Elt F) want y = gathered (A2.view.read (Elt F) ft) (A3.view.read (Elt F) fi) y)
    (hO : ∀ g, O g none = 0) :
    iprop(levAts (K (F := F)).L (K (F := F)).lev ∗ emp ∗ Held d i A2 A3 A4 ft fi qt fo
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ (cc0_k i A2 H2 A3 H3 A4 H4 AI HI s5 AO HO s6 sg) fun _ =>
          iprop(Held d i A2 A3 A4 ft fi qt want ∗ scopedBufs (V d (cV i) (jV i)) ∗ scopedSems0 (V d (cV i) (jV i))
            ∗ ∃ W', ⌜∀ p ∈ W', p ∈ W ∨ p.2 = none⌝ ∗ owes (V d (cV i) (jV i)) O W') := by
  have hin' : ∀ j x, (idsOf d i A3 fi j x).toNat < 30522 := fun j x => hin _
  rw [(K (F := F)).scopedBufs_V facts d (cV i) (jV i), SparseCore.Cfg.scopedSems0_V (Val := Elt F) d (cV i) (jV i), hB, hS]
  iintro ⟨#Hlv, -, HH, ⟨HI, HOo, HRB⟩, ⟨Ha, Hb, Hx, Hy, Hz, HRS⟩, HO⟩
  ihave HI' := (I_split AI d i HI.set_eq_univ) $$ HI
  icases HI' with ⟨HI0, HI1⟩
  ihave HO' := (O_split AO d i HO.set_eq_univ) $$ HOo
  icases HO' with ⟨HO0, HO1⟩
  iapply (wp_wand frame) $$ [HH HI0 HI1 HO0 HO1 Ha Hb Hx Hy Hz HO]
  · iapply (body_spec d i A2 A3 A4 AI AO s5 s6 sg ft fi fo want qt O W H2 H3 H4 HI HO hin'
      (gath_eq d i A2 A3 A4 ft fi want hin' hw) ((K (F := F)).mayWaits_none (thr := V d (cV i) (jV i)) hO))
    unfold Slots
    isplitr; · iexact Hlv
    isplitl [HH]; · iexact HH
    isplitr [HO]
    · isplitl [HI0 Ha]; · isplitl [HI0] <;> iassumption
      isplitl [HI1 Hb]; · isplitl [HI1] <;> iassumption
      isplitl [HO0 Hx]; · isplitl [HO0] <;> iassumption
      isplitl [HO1 Hy]; · isplitl [HO1] <;> iassumption
      iexact Hz
    · iexact HO
  unfold Slots
  iintro %_ ⟨HH, ⟨⟨HI0, Ha⟩, ⟨HI1, Hb⟩, ⟨HO0, Hx⟩, ⟨HO1, Hy⟩, Hz⟩, HO⟩
  isplitl [HH]; · iexact HH
  isplitl [HI0 HI1 HO0 HO1 HRB]
  · isplitl [HI0 HI1]
    · iapply (I_join AI d i HI.set_eq_univ); isplitl [HI0] <;> iassumption
    isplitl [HO0 HO1]
    · iapply (O_join AO d i HO.set_eq_univ); isplitl [HO0] <;> iassumption
    iexact HRB
  isplitl [Ha Hb Hx Hy Hz HRS]
  · isplitl [Ha]; · iexact Ha
    isplitl [Hb]; · iexact Hb
    isplitl [Hx]; · iexact Hx
    isplitl [Hy]; · iexact Hy
    isplitl [Hz] <;> iassumption
  iexact HO

end Task

end Cert.Embed
-- ==== Proof.Calls.lean ====
/-
  The eight SparseCore calls: what each subcore takes and brings back, each task proved, each call's operands dealt to
  the thirty-two subcores and gathered again.
-/
module

public import proofs.«01_k».proof.Proof.Tile

@[expose] public section

noncomputable section

namespace Cert.Embed

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 8) (Elt F) ℕ UU ℕ

/-! ## The list of each call, the share of the table each subcore holds -/

/-- The list call `q` gathers by: rows `128 q` to `128 q + 127` of the token ids, end to end. -/
def rows {α : Type} (q : Fin 8) (ids : S1024x512.Idx → α) : S1x65536.Idx → α := fun y =>
  ids (Shape.pair ⟨128 * q.val + (y 1).val / 512, by
    have h : (y 1).val < 65536 := (y 1).isLt
    have := q.isLt
    show _ < 1024
    omega⟩ ⟨(y 1).val % 512, Nat.mod_lt _ (by decide)⟩)

/-- The place of subcore `j` of SparseCore `c` in the grid. -/
def coo (c : Fin 2) (j : Fin 16) : grid0.Coords := fun | 0 => c | 1 => j | ⟨_ + 2, h⟩ => absurd h (Nat.not_lt.2 (Nat.le_add_left _ _))

/-- The share of the table a subcore holds during a call: a half of the whole for each SparseCore, cut among its subcores. -/
def qT (c : Fin 2) (j : Fin 16) : PosShare TreeShare := piece (piece fullShare 1 c) 15 j

variable (m : (ℓ : Loc nD τ sig) → Buf (Elt F) ℓ)

/-- The token ids and the table of device `d` at the launch. -/
abbrev ids₀ (d : Dev nD) : S1024x512.Idx → BitVec 32 := m ((SparseCore.T d).loc main_arg0)
abbrev tab₀ (d : Dev nD) : S30522x128.Idx → Elt F .f32 := m ((SparseCore.T d).loc main_arg1)

/-- The rows call `q` brings. -/
def got (d : Dev nD) (q : Fin 8) : S65536x128.Idx → Elt F .f32 := gathered (tab₀ m d) (rows q (ids₀ m d))

/-- What is asked of the launch memory: every token id names a row of the table. -/
def PreOK : Prop := ∀ (d : Dev nD) (j : S1024x512.Idx), (ids₀ m d j).toNat < 30522

/-- What a subcore takes for call `q`: its blocks of the list, its share of the table, its blocks of the result. -/
def goX (q : Fin 8) (d : Dev nD) (c : Fin 2) (j : Fin 16) : sProp 𝕄 := match q with
  | 0 => Held d (coo c j) (Memref.whole main_arg1_scv) (Memref.whole main_v3_scv) (Memref.whole main_v4_scv) (tab₀ m d) (rows 0 (ids₀ m d)) (qT c j) (m ((SparseCore.T d).loc main_v4))
  | 1 => Held d (coo c j) (Memref.whole main_arg1_scv) (Memref.whole main_v8_scv) (Memref.whole main_v9_scv) (tab₀ m d) (rows 1 (ids₀ m d)) (qT c j) (m ((SparseCore.T d).loc main_v9))
  | 2 => Held d (coo c j) (Memref.whole main_arg1_scv) (Memref.whole main_v13_scv) (Memref.whole main_v14_scv) (tab₀ m d) (rows 2 (ids₀ m d)) (qT c j) (m ((SparseCore.T d).loc main_v14))
  | 3 => Held d (coo c j) (Memref.whole main_arg1_scv) (Memref.whole main_v18_scv) (Memref.whole main_v19_scv) (tab₀ m d) (rows 3 (ids₀ m d)) (qT c j) (m ((SparseCore.T d).loc main_v19))
  | 4 => Held d (coo c j) (Memref.whole main_arg1_scv) (Memref.whole main_v23_scv) (Memref.whole main_v24_scv) (tab₀ m d) (rows 4 (ids₀ m d)) (qT c j) (m ((SparseCore.T d).loc main_v24))
  | 5 => Held d (coo c j) (Memref.whole main_arg1_scv) (Memref.whole main_v28_scv) (Memref.whole main_v29_scv) (tab₀ m d) (rows 5 (ids₀ m d)) (qT c j) (m ((SparseCore.T d).loc main_v29))
  | 6 => Held d (coo c j) (Memref.whole main_arg1_scv) (Memref.whole main_v33_scv) (Memref.whole main_v34_scv) (tab₀ m d) (rows 6 (ids₀ m d)) (qT c j) (m ((SparseCore.T d).loc main_v34))
  | 7 => Held d (coo c j) (Memref.whole main_arg1_scv) (Memref.whole main_v38_scv) (Memref.whole main_v39_scv) (tab₀ m d) (rows 7 (ids₀ m d)) (qT c j) (m ((SparseCore.T d).loc main_v39))
/-- What it brings back: the same, the blocks of the result written. -/
def tdX (q : Fin 8) (d : Dev nD) (c : Fin 2) (j : Fin 16) : sProp 𝕄 := match q with
  | 0 => Held d (coo c j) (Memref.whole main_arg1_scv) (Memref.whole main_v3_scv) (Memref.whole main_v4_scv) (tab₀ m d) (rows 0 (ids₀ m d)) (qT c j) (got m d 0)
  | 1 => Held d (coo c j) (Memref.whole main_arg1_scv) (Memref.whole main_v8_scv) (Memref.whole main_v9_scv) (tab₀ m d) (rows 1 (ids₀ m d)) (qT c j) (got m d 1)
  | 2 => Held d (coo c j) (Memref.whole main_arg1_scv) (Memref.whole main_v13_scv) (Memref.whole main_v14_scv) (tab₀ m d) (rows 2 (ids₀ m d)) (qT c j) (got m d 2)
  | 3 => Held d (coo c j) (Memref.whole main_arg1_scv) (Memref.whole main_v18_scv) (Memref.whole main_v19_scv) (tab₀ m d) (rows 3 (ids₀ m d)) (qT c j) (got m d 3)
  | 4 => Held d (coo c j) (Memref.whole main_arg1_scv) (Memref.whole main_v23_scv) (Memref.whole main_v24_scv) (tab₀ m d) (rows 4 (ids₀ m d)) (qT c j) (got m d 4)
  | 5 => Held d (coo c j) (Memref.whole main_arg1_scv) (Memref.whole main_v28_scv) (Memref.whole main_v29_scv) (tab₀ m d) (rows 5 (ids₀ m d)) (qT c j) (got m d 5)
  | 6 => Held d (coo c j) (Memref.whole main_arg1_scv) (Memref.whole main_v33_scv) (Memref.whole main_v34_scv) (tab₀ m d) (rows 6 (ids₀ m d)) (qT c j) (got m d 6)
  | 7 => Held d (coo c j) (Memref.whole main_arg1_scv) (Memref.whole main_v38_scv) (Memref.whole main_v39_scv) (tab₀ m d) (rows 7 (ids₀ m d)) (qT c j) (got m d 7)

omit [FloatOps F] in
theorem Held_storable (d : Dev nD) (i : grid0.Coords) (A2 : Memref sig .scVector .hbm S30522x128 .f32) (A3 : Memref sig .scVector .hbm S1x65536 .i32)
    (A4 : Memref sig .scVector .hbm S65536x128 .f32) (ft : Buf (Elt F) (A2.view.loc (V d (cV i) (jV i)))) (fi : Buf (Elt F) (A3.view.loc (V d (cV i) (jV i))))
    (qt : PosShare TreeShare) (f : Buf (Elt F) (A4.view.loc (V d (cV i) (jV i)))) :
    BI.Storable (upEmb : UEmb _ 𝕄) (Held d i A2 A3 A4 ft fi qt f) := by
  unfold Held IB OB TB
  infer_instance

instance goX_storable (q : Fin 8) (d : Dev nD) (c : Fin 2) (j : Fin 16) : BI.Storable (upEmb : UEmb _ 𝕄) (goX m q d c j) := match q with
  | 0 => Held_storable ..
  | 1 => Held_storable ..
  | 2 => Held_storable ..
  | 3 => Held_storable ..
  | 4 => Held_storable ..
  | 5 => Held_storable ..
  | 6 => Held_storable ..
  | 7 => Held_storable ..
instance tdX_storable (q : Fin 8) (d : Dev nD) (c : Fin 2) (j : Fin 16) : BI.Storable (upEmb : UEmb _ 𝕄) (tdX m q d c j) := match q with
  | 0 => Held_storable ..
  | 1 => Held_storable ..
  | 2 => Held_storable ..
  | 3 => Held_storable ..
  | 4 => Held_storable ..
  | 5 => Held_storable ..
  | 6 => Held_storable ..
  | 7 => Held_storable ..

/-- The whole of a call's handshakes: a SparseCore takes what its subcores take. -/
def P : (K (F := F)).Pay (nD := nD) (Val := Elt F) (Name := ℕ) (U := UU) where
  st q d c := bigSep Finset.univ fun i : Fin ((K (F := F)).nSub q) => goX m q d ((K (F := F)).core q c) ((K (F := F)).sub q i)
  dn q d c := bigSep Finset.univ fun i : Fin ((K (F := F)).nSub q) => tdX m q d ((K (F := F)).core q c) ((K (F := F)).sub q i)
  go q d c i := goX m q d ((K (F := F)).core q c) ((K (F := F)).sub q i)
  td q d c i := tdX m q d ((K (F := F)).core q c) ((K (F := F)).sub q i)
  x := fun _ _ => iprop(emp)

instance P_storable : (P (F := F) m).IsStorable where
  st q d c := (inferInstance : BI.Storable (upEmb : UEmb _ 𝕄) (bigSep Finset.univ fun i : Fin ((K (F := F)).nSub q) => goX m q d ((K (F := F)).core q c) ((K (F := F)).sub q i)))
  dn q d c := (inferInstance : BI.Storable (upEmb : UEmb _ 𝕄) (bigSep Finset.univ fun i : Fin ((K (F := F)).nSub q) => tdX m q d ((K (F := F)).core q c) ((K (F := F)).sub q i)))
  go q d c i := goX_storable ..
  td q d c i := tdX_storable ..

theorem vecSplit (q : Fin 8) : (K (F := F)).VecSplit' (P m) q := by
  intro d c
  show (bigSep Finset.univ fun i : Fin ((K (F := F)).nSub q) => goX m q d ((K (F := F)).core q c) ((K (F := F)).sub q i))
    ⊢ |={Set.univ}=> iprop((bigSep Finset.univ fun i : Fin ((K (F := F)).nSub q) => goX m q d ((K (F := F)).core q c) ((K (F := F)).sub q i))
      ∗ ((bigSep Finset.univ fun i : Fin ((K (F := F)).nSub q) => tdX m q d ((K (F := F)).core q c) ((K (F := F)).sub q i))
        -∗ bigSep Finset.univ fun i : Fin ((K (F := F)).nSub q) => tdX m q d ((K (F := F)).core q c) ((K (F := F)).sub q i)))
  iintro H; imodintro
  isplitl [H]; · iexact H
  iintro H; iexact H

/-! ## Each call's task -/

omit [FloatOps F] in
theorem obl_post {thr : Thread nD τ} {A B C : sProp 𝕄} {O : CellTallies nD τ sig (HIx 8)} {W : Waits sig (HIx 8)} {q : Fin 8} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem rows_lt {m : (ℓ : Loc nD τ sig) → Buf (Elt F) ℓ} (h : PreOK m) (d : Dev nD) (q : Fin 8) (y : S1x65536.Idx) :
    (rows q (ids₀ m d) y).toNat < 30522 := h d _

theorem vector0 (c : Fin τ.nSC) (s : Fin τ.nSub) :
    defs₀ (F := F) (.scVector c s) 0 ()
      = SparseCore.onTile hcore0 hsub0 (fun c s => cc0_k (coo c s)
          (Memref.whole main_arg1_scv) (Memref.isWhole_whole _) (Memref.whole main_v3_scv) (Memref.isWhole_whole _) (Memref.whole main_v4_scv) (Memref.isWhole_whole _)
          (Memref.whole cc0_scoped0) (Memref.isWhole_whole _) cc0_scoped1 (Memref.whole cc0_scoped2) (Memref.isWhole_whole _) cc0_scoped3 cc0_scoped4) ⟨⟩ c s := rfl

set_option maxRecDepth 16384 in
theorem tileObl0 (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vector0]; simp only [SparseCore.onTile, hci, and_self, ↓reduceDIte]
  exact (task d (coo ((K (F := F)).core 0 c) ((K (F := F)).sub 0 i)) (Memref.whole main_arg1_scv) (Memref.whole main_v3_scv) (Memref.whole main_v4_scv)
      (Memref.whole cc0_scoped0) (Memref.whole cc0_scoped2) cc0_scoped1 cc0_scoped3 cc0_scoped4 (tab₀ m d) (rows 0 (ids₀ m d)) (m ((SparseCore.T d).loc main_v4)) (got m d 0)
      (qT ((K (F := F)).core 0 c) ((K (F := F)).sub 0 i)) O W (Memref.isWhole_whole _) (Memref.isWhole_whole _) (Memref.isWhole_whole _) (Memref.isWhole_whole _) (Memref.isWhole_whole _)
      (own_buffers d _ _ cc0_scoped0 cc0_scoped2 rfl rfl (by decide))
      (own_semaphores d _ _ (smP cc0_scoped1 0) (smP cc0_scoped1 1) (smP cc0_scoped3 0) (smP cc0_scoped3 1) cc0_scoped4.sem (by decide) (by decide))
      (fun y => rows_lt hpre d 0 y) (fun _ => rfl) hO).trans (wp_mono frame _ _ fun _ => obl_post)

theorem vector1 (c : Fin τ.nSC) (s : Fin τ.nSub) :
    defs₀ (F := F) (.scVector c s) 2 ()
      = SparseCore.onTile hcore2 hsub2 (fun c s => cc0_k (coo c s)
          (Memref.whole main_arg1_scv) (Memref.isWhole_whole _) (Memref.whole main_v8_scv) (Memref.isWhole_whole _) (Memref.whole main_v9_scv) (Memref.isWhole_whole _)
          (Memref.whole cc2_scoped0) (Memref.isWhole_whole _) cc2_scoped1 (Memref.whole cc2_scoped2) (Memref.isWhole_whole _) cc2_scoped3 cc2_scoped4) ⟨⟩ c s := rfl

set_option maxRecDepth 16384 in
theorem tileObl1 (hpre : PreOK m) : (K (F := F)).TileObl (D (F := F)) 𝒱 (P m) v₀ 1 := by
  intro d c i O W hO _ _
  simp only [show (P m).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [vector1]; simp only [SparseCore.onTile, hci, and_self, ↓reduceDIte]
  exact (task d (coo ((K (F := F)).core 1 c) ((K (F := F)).sub 1 i)) (Memref.whole main_arg1_scv) (Memref.whole main_v8_scv) (Memref.whole main_v9_scv)
      (Memref.whole cc2_scoped0) (Memref.whole cc2_scoped2) cc2_scoped1 cc2_scoped3 cc2_scoped4 (tab₀ m d) (rows 1 (ids₀ m d)) (m ((SparseCore.T d).loc main_v9)) (got m d 1)
      (qT ((K (F := F)).core 1 c) ((K (F := F)).sub 1 i)) O W (Memref.isWhole_whole _) (Memref.isWhole_whole _) (Memref.isWhole_whole _) (Memref.isWhole_whole _) (Memref.isWhole_whole _)
      (own_buffers d _ _ cc2_scoped0 cc2_scoped2 rfl rfl (by decide))
      (own_semaphores d _ _ (smP cc2_scoped1 0) (smP cc2_scoped1 1) (smP cc2_scoped3 0) (smP cc2_scoped3 1) cc2_scoped4.sem (by decide) (by decide))
      (fun y => rows_lt hpre d 1 y) (fun _ => rfl) hO).trans (wp_mono frame _ _ fun _ => obl_post)

theorem vector2 (c : Fin τ.nSC) (s : Fin τ.nSub) :
    defs₀ (F := F) (.scVector c s) 4 ()
      = SparseCore.onTile hcore4 hsub4 (fun c s => cc0_k (coo c s)
          (Memref.whole main_arg1_scv) (Memref.isWhole_whole _) (Memref.whole main_v13_scv) (Memref.isWhole_whole _) (Memref.whole main_v14_scv) (Memref.isWhole_whole _)
          (Memref.whole cc4_scoped0) (Memref.isWhole_whole _) cc4_scoped1 (Memref.whole cc4_scoped2) (Memref.isWhole_whole _) cc4_scoped3 cc4_scoped4) ⟨⟩ c s := rfl

set_option maxRecDepth 16384 in
theorem tileObl2 (hpre : PreOK m) : (K (F := F)).TileObl (D (F := F)) 𝒱 (P m) v₀ 2 := by
  intro d c i O W hO _ _
  simp only [show (P m).ox = fun _ _ => 0 from rfl, add_zero]
  have hci : ((K (F := F)).core 2 c).val < grid0.bound 0 ∧ ((K (F := F)).sub 2 i).val < grid0.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [vector2]; simp only [SparseCore.onTile, hci, and_self, ↓reduceDIte]
  exact (task d (coo ((K (F := F)).core 2 c) ((K (F := F)).sub 2 i)) (Memref.whole main_arg1_scv) (Memref.whole main_v13_scv) (Memref.whole main_v14_scv)
      (Memref.whole cc4_scoped0) (Memref.whole cc4_scoped2) cc4_scoped1 cc4_scoped3 cc4_scoped4 (tab₀ m d) (rows 2 (ids₀ m d)) (m ((SparseCore.T d).loc main_v14)) (got m d 2)
      (qT ((K (F := F)).core 2 c) ((K (F := F)).sub 2 i)) O W (Memref.isWhole_whole _) (Memref.isWhole_whole _) (Memref.isWhole_whole _) (Memref.isWhole_whole _) (Memref.isWhole_whole _)
      (own_buffers d _ _ cc4_scoped0 cc4_scoped2 rfl rfl (by decide))
      (own_semaphores d _ _ (smP cc4_scoped1 0) (smP cc4_scoped1 1) (smP cc4_scoped3 0) (smP cc4_scoped3 1) cc4_scoped4.sem (by decide) (by decide))
      (fun y => rows_lt hpre d 2 y) (fun _ => rfl) hO).trans (wp_mono frame _ _ fun _ => obl_post)

theorem vector3 (c : Fin τ.nSC) (s : Fin τ.nSub) :
    defs₀ (F := F) (.scVector c s) 6 ()
      = SparseCore.onTile hcore6 hsub6 (fun c s => cc0_k (coo c s)
          (Memref.whole main_arg1_scv) (Memref.isWhole_whole _) (Memref.whole main_v18_scv) (Memref.isWhole_whole _) (Memref.whole main_v19_scv) (Memref.isWhole_whole _)
          (Memref.whole cc6_scoped0) (Memref.isWhole_whole _) cc6_scoped1 (Memref.whole cc6_scoped2) (Memref.isWhole_whole _) cc6_scoped3 cc6_scoped4) ⟨⟩ c s := rfl

set_option maxRecDepth 16384 in
theorem tileObl3 (hpre : PreOK m) : (K (F := F)).TileObl (D (F := F)) 𝒱 (P m) v₀ 3 := by
  intro d c i O W hO _ _
  simp only [show (P m).ox = fun _ _ => 0 from rfl, add_zero]
  have hci : ((K (F := F)).core 3 c).val < grid0.bound 0 ∧ ((K (F := F)).sub 3 i).val < grid0.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [vector3]; simp only [SparseCore.onTile, hci, and_self, ↓reduceDIte]
  exact (task d (coo ((K (F := F)).core 3 c) ((K (F := F)).sub 3 i)) (Memref.whole main_arg1_scv) (Memref.whole main_v18_scv) (Memref.whole main_v19_scv)
      (Memref.whole cc6_scoped0) (Memref.whole cc6_scoped2) cc6_scoped1 cc6_scoped3 cc6_scoped4 (tab₀ m d) (rows 3 (ids₀ m d)) (m ((SparseCore.T d).loc main_v19)) (got m d 3)
      (qT ((K (F := F)).core 3 c) ((K (F := F)).sub 3 i)) O W (Memref.isWhole_whole _) (Memref.isWhole_whole _) (Memref.isWhole_whole _) (Memref.isWhole_whole _) (Memref.isWhole_whole _)
      (own_buffers d _ _ cc6_scoped0 cc6_scoped2 rfl rfl (by decide))
      (own_semaphores d _ _ (smP cc6_scoped1 0) (smP cc6_scoped1 1) (smP cc6_scoped3 0) (smP cc6_scoped3 1) cc6_scoped4.sem (by decide) (by decide))
      (fun y => rows_lt hpre d 3 y) (fun _ => rfl) hO).trans (wp_mono frame _ _ fun _ => obl_post)

theorem vector4 (c : Fin τ.nSC) (s : Fin τ.nSub) :
    defs₀ (F := F) (.scVector c s) 8 ()
      = SparseCore.onTile hcore8 hsub8 (fun c s => cc0_k (coo c s)
          (Memref.whole main_arg1_scv) (Memref.isWhole_whole _) (Memref.whole main_v23_scv) (Memref.isWhole_whole _) (Memref.whole main_v24_scv) (Memref.isWhole_whole _)
          (Memref.whole cc8_scoped0) (Memref.isWhole_whole _) cc8_scoped1 (Memref.whole cc8_scoped2) (Memref.isWhole_whole _) cc8_scoped3 cc8_scoped4) ⟨⟩ c s := rfl

set_option maxRecDepth 16384 in
theorem tileObl4 (hpre : PreOK m) : (K (F := F)).TileObl (D (F := F)) 𝒱 (P m) v₀ 4 := by
  intro d c i O W hO _ _
  simp only [show (P m).ox = fun _ _ => 0 from rfl, add_zero]
  have hci : ((K (F := F)).core 4 c).val < grid0.bound 0 ∧ ((K (F := F)).sub 4 i).val < grid0.bound 1 := ⟨c.isLt, i.isLt⟩
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  rw [vector4]; simp only [SparseCore.onTile, hci, and_self, ↓reduceDIte]
  exact (task d (coo ((K (F := F)).core 4 c) ((K (F := F)).sub 4 i)) (Memref.whole main_arg1_scv) (Memref.whole main_v23_scv) (Memref.whole main_v24_scv)
      (Memref.whole cc8_scoped0) (Memref.whole cc8_scoped2) cc8_scoped1 cc8_scoped3 cc8_scoped4 (tab₀ m d) (rows 4 (ids₀ m d)) (m ((SparseCore.T d).loc main_v24)) (got m d 4)
      (qT ((K (F := F)).core 4 c) ((K (F := F)).sub 4 i)) O W (Memref.isWhole_whole _) (Memref.isWhole_whole _) (Memref.isWhole_whole _) (Memref.isWhole_whole _) (Memref.isWhole_whole _)
      (own_buffers d _ _ cc8_scoped0 cc8_scoped2 rfl rfl (by decide))
      (own_semaphores d _ _ (smP cc8_scoped1 0) (smP cc8_scoped1 1) (smP cc8_scoped3 0) (smP cc8_scoped3 1) cc8_scoped4.sem (by decide) (by decide))
      (fun y => rows_lt hpre d 4 y) (fun _ => rfl) hO).trans (wp_mono frame _ _ fun _ => obl_post)

theorem vector5 (c : Fin τ.nSC) (s : Fin τ.nSub) :
    defs₀ (F := F) (.scVector c s) 10 ()
      = SparseCore.onTile hcore10 hsub10 (fun c s => cc0_k (coo c s)
          (Memref.whole main_arg1_scv) (Memref.isWhole_whole _) (Memref.whole main_v28_scv) (Memref.isWhole_whole _) (Memref.whole main_v29_scv) (Memref.isWhole_whole _)
          (Memref.whole cc10_scoped0) (Memref.isWhole_whole _) cc10_scoped1 (Memref.whole cc10_scoped2) (Memref.isWhole_whole _) cc10_scoped3 cc10_scoped4) ⟨⟩ c s := rfl

set_option maxRecDepth 16384 in
theorem tileObl5 (hpre : PreOK m) : (K (F := F)).TileObl (D (F := F)) 𝒱 (P m) v₀ 5 := by
  intro d c i O W hO _ _
  simp only [show (P m).ox = fun _ _ => 0 from rfl, add_zero]
  have hci : ((K (F := F)).core 5 c).val < grid0.bound 0 ∧ ((K (F := F)).sub 5 i).val < grid0.bound 1 := ⟨c.isLt, i.isLt⟩
  change _ ⊢ wp _ _ _ (Pipeline.liftProg (defs₀ (F := F) (.scVector ((K (F := F)).core 5 c) ((K (F := F)).sub 5 i)) 10 ())) _
  refine BI.Entails.trans ?_ (Pipeline.wp_liftProg (D (F := F)) (Pipeline.defs_kernel pcfgs defs₀) 𝒱₀ _ Set.univ none _ _)
  rw [vector5]; simp only [SparseCore.onTile, hci, and_self, ↓reduceDIte]
  exact (task d (coo ((K (F := F)).core 5 c) ((K (F := F)).sub 5 i)) (Memref.whole main_arg1_scv) (Memref.whole main_v28_scv) (Memref.whole main_v29_scv)
      (Memref.whole cc10_scoped0) (Memref.whole cc10_scoped2) cc10_scoped1 cc10_scoped3 cc10_scoped4 (tab₀ m d) (rows 5 (ids₀ m d)) (m ((SparseCore.T d).loc main_v29)) (got m d 5)
      (qT ((K (F := F)).core 5 c) ((K (F := F)).sub 5 i)) O W (Memref.isWhole_whole _) (Memref.isWhole_whole _) (Memref.isWhole_whole _) (Memref.isWhole_whole _) (Memref.isWhole_whole _)
      (own_buffers d _ _ cc10_scoped0 cc10_scoped2 rfl rfl (by decide))
      (own_semaphores d _ _ (smP cc10_scoped1 0) (smP cc10_scoped1 1) (smP cc10_scoped3 0) (smP cc10_scoped3 1) cc10_scoped4.sem (by decide) (by decide))
      (fun y => rows_lt hpre d 5 y) (fun _ => rfl) hO).trans (wp_mono frame _ _ fun _ => obl_post)

theorem vector6 (c : Fin τ.nSC) (s : Fin τ.nSub) :
    defs₀ (F := F) (.scVector c s) 12 ()
      = SparseCore.onTile hcore12 hsub12 (fun c s => cc0_k (coo c s)
          (Memref.whole main_arg1_scv) (Memref.isWhole_whole _) (Memref.whole main_v33_scv) (Memref.isWhole_whole _) (Memref.whole main_v34_scv) (Memref.isWhole_whole _)
          (Memref.whole cc12_scoped0) (Memref.isWhole_whole _) cc12_scoped1 (Memref.whole cc12_scoped2) (Memref.isWhole_whole _) cc12_scoped3 cc12_scoped4) ⟨⟩ c s := rfl

set_option maxRecDepth 16384 in
theorem tileObl6 (hpre : PreOK m) : (K (F := F)).TileObl (D (F := F)) 𝒱 (P m) v₀ 6 := by
  intro d c i O W hO _ _
  simp only [show (P m).ox = fun _ _ => 0 from rfl, add_zero]
  have hci : ((K (F := F)).core 6 c).val < grid0.bound 0 ∧ ((K (F := F)).sub 6 i).val < grid0.bound 1 := ⟨c.isLt, i.isLt⟩
  change _ ⊢ wp _ _ _ (Pipeline.liftProg (defs₀ (F := F) (.scVector ((K (F := F)).core 6 c) ((K (F := F)).sub 6 i)) 12 ())) _
  refine BI.Entails.trans ?_ (Pipeline.wp_liftProg (D (F := F)) (Pipeline.defs_kernel pcfgs defs₀) 𝒱₀ _ Set.univ none _ _)
  rw [vector6]; simp only [SparseCore.onTile, hci, and_self, ↓reduceDIte]
  exact (task d (coo ((K (F := F)).core 6 c) ((K (F := F)).sub 6 i)) (Memref.whole main_arg1_scv) (Memref.whole main_v33_scv) (Memref.whole main_v34_scv)
      (Memref.whole cc12_scoped0) (Memref.whole cc12_scoped2) cc12_scoped1 cc12_scoped3 cc12_scoped4 (tab₀ m d) (rows 6 (ids₀ m d)) (m ((SparseCore.T d).loc main_v34)) (got m d 6)
      (qT ((K (F := F)).core 6 c) ((K (F := F)).sub 6 i)) O W (Memref.isWhole_whole _) (Memref.isWhole_whole _) (Memref.isWhole_whole _) (Memref.isWhole_whole _) (Memref.isWhole_whole _)
      (own_buffers d _ _ cc12_scoped0 cc12_scoped2 rfl rfl (by decide))
      (own_semaphores d _ _ (smP cc12_scoped1 0) (smP cc12_scoped1 1) (smP cc12_scoped3 0) (smP cc12_scoped3 1) cc12_scoped4.sem (by decide) (by decide))
      (fun y => rows_lt hpre d 6 y) (fun _ => rfl) hO).trans (wp_mono frame _ _ fun _ => obl_post)

theorem vector7 (c : Fin τ.nSC) (s : Fin τ.nSub) :
    defs₀ (F := F) (.scVector c s) 14 ()
      = SparseCore.onTile hcore14 hsub14 (fun c s => cc0_k (coo c s)
          (Memref.whole main_arg1_scv) (Memref.isWhole_whole _) (Memref.whole main_v38_scv) (Memref.isWhole_whole _) (Memref.whole main_v39_scv) (Memref.isWhole_whole _)
          (Memref.whole cc14_scoped0) (Memref.isWhole_whole _) cc14_scoped1 (Memref.whole cc14_scoped2) (Memref.isWhole_whole _) cc14_scoped3 cc14_scoped4) ⟨⟩ c s := rfl

set_option maxRecDepth 16384 in
theorem tileObl7 (hpre : PreOK m) : (K (F := F)).TileObl (D (F := F)) 𝒱 (P m) v₀ 7 := by
  intro d c i O W hO _ _
  simp only [show (P m).ox = fun _ _ => 0 from rfl, add_zero]
  have hci : ((K (F := F)).core 7 c).val < grid0.bound 0 ∧ ((K (F := F)).sub 7 i).val < grid0.bound 1 := ⟨c.isLt, i.isLt⟩
  change _ ⊢ wp _ _ _ (Pipeline.liftProg (defs₀ (F := F) (.scVector ((K (F := F)).core 7 c) ((K (F := F)).sub 7 i)) 14 ())) _
  refine BI.Entails.trans ?_ (Pipeline.wp_liftProg (D (F := F)) (Pipeline.defs_kernel pcfgs defs₀) 𝒱₀ _ Set.univ none _ _)
  rw [vector7]; simp only [SparseCore.onTile, hci, and_self, ↓reduceDIte]
  exact (task d (coo ((K (F := F)).core 7 c) ((K (F := F)).sub 7 i)) (Memref.whole main_arg1_scv) (Memref.whole main_v38_scv) (Memref.whole main_v39_scv)
      (Memref.whole cc14_scoped0) (Memref.whole cc14_scoped2) cc14_scoped1 cc14_scoped3 cc14_scoped4 (tab₀ m d) (rows 7 (ids₀ m d)) (m ((SparseCore.T d).loc main_v39)) (got m d 7)
      (qT ((K (F := F)).core 7 c) ((K (F := F)).sub 7 i)) O W (Memref.isWhole_whole _) (Memref.isWhole_whole _) (Memref.isWhole_whole _) (Memref.isWhole_whole _) (Memref.isWhole_whole _)
      (own_buffers d _ _ cc14_scoped0 cc14_scoped2 rfl rfl (by decide))
      (own_semaphores d _ _ (smP cc14_scoped1 0) (smP cc14_scoped1 1) (smP cc14_scoped3 0) (smP cc14_scoped3 1) cc14_scoped4.sem (by decide) (by decide))
      (fun y => rows_lt hpre d 7 y) (fun _ => rfl) hO).trans (wp_mono frame _ _ fun _ => obl_post)

theorem tileObl (hpre : PreOK m) (q : Fin 8) : (K (F := F)).TileObl (D (F := F)) 𝒱 (P m) v₀ q := match q with
  | 0 => tileObl0 m hpre
  | 1 => tileObl1 m hpre
  | 2 => tileObl2 m hpre
  | 3 => tileObl3 m hpre
  | 4 => tileObl4 m hpre
  | 5 => tileObl5 m hpre
  | 6 => tileObl6 m hpre
  | 7 => tileObl7 m hpre

end Cert.Embed

end
-- ==== Proof.Deal.lean ====
/-
  A call's operands dealt to the thirty-two subcores, and its result gathered again.
-/
module

public import proofs.«01_k».proof.Proof.Calls

@[expose] public section

noncomputable section

namespace Cert.Embed

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 8) (Elt F) ℕ UU ℕ

/-! ## The blocks of the list and of the result are apart, and are all of them -/

section Blocks
variable (A3 : Memref sig .scVector .hbm S1x65536 .i32) (A4 : Memref sig .scVector .hbm S65536x128 .f32)

/-- A subcore's block, by SparseCore, subcore and position. -/
abbrev Blk : Type := (_ : Fin 2) × (_ : Fin 16) × Fin 16
/-- Its place among the 512 blocks. -/
def place (b : Blk) : ℕ := base (coo b.1 b.2.1) + b.2.2.val

omit [FloatOps F] in
theorem place_inj {b b' : Blk} (h : b ≠ b') : place b < place b' ∨ place b' < place b := by
  obtain ⟨c, j, k⟩ := b; obtain ⟨c', j', k'⟩ := b'
  by_contra hn
  have e : place ⟨c, j, k⟩ = place ⟨c', j', k'⟩ := by omega
  have e' : 16 * (16 * c.val + j.val) + k.val = 16 * (16 * c'.val + j'.val) + k'.val := e
  have := j.isLt; have := j'.isLt; have := k.isLt; have := k'.isLt
  have h1 : c = c' := Fin.ext (by omega)
  have h2 : j = j' := Fin.ext (by omega)
  have h3 : k = k' := Fin.ext (by omega)
  exact h (by rw [h1, h2, h3])

theorem place_surj (n : ℕ) (hn : n < 512) : ∃ b : Blk, place b = n :=
  ⟨⟨⟨n / 256, by omega⟩, ⟨n / 16 % 16, by omega⟩, ⟨n % 16, by omega⟩⟩, by
    show 16 * (16 * (n / 256) + n / 16 % 16) + n % 16 = n
    omega⟩

def iP (b : Blk) : Finset A3.view.ty.Idx := (iBk (coo b.1 b.2.1) A3 b.2.2).view.set
def oP (b : Blk) : Finset A4.view.ty.Idx := (oBk (coo b.1 b.2.1) A4 b.2.2).view.set

theorem inI (b : Blk) : ∀ a, (![0, 128 * place b] : Fin 2 → ℕ) a + S1x128.size a ≤ S1x65536.size a := blockI _ (blk_lt (coo b.1 b.2.1) b.2.2)
theorem inO (b : Blk) : ∀ a, (![128 * place b, 0] : Fin 2 → ℕ) a + S128x128.size a ≤ S65536x128.size a := blockO _ (blk_lt (coo b.1 b.2.1) b.2.2)

theorem iP_eq (b : Blk) : iP A3 b = (A3.view.slice (Rect.unit (s := S1x65536) ![0, 128 * place b] S1x128.size (inI b))).set := rfl
theorem oP_eq (b : Blk) : oP A4 b = (A4.view.slice (Rect.unit (s := S65536x128) ![128 * place b, 0] S128x128.size (inO b))).set := rfl

theorem iP_disjoint (b b' : Blk) (h : b ≠ b') : Disjoint (iP A3 b) (iP A3 b') := by
  rw [iP_eq, iP_eq]
  refine View.disjoint_slice_of_sep _ _ _ 1 rfl rfl ?_
  show 128 * place b + 128 ≤ 128 * place b' ∨ 128 * place b' + 128 ≤ 128 * place b
  have := place_inj h
  omega
theorem oP_disjoint (b b' : Blk) (h : b ≠ b') : Disjoint (oP A4 b) (oP A4 b') := by
  rw [oP_eq, oP_eq]
  refine View.disjoint_slice_of_sep _ _ _ 0 rfl rfl ?_
  show 128 * place b + 128 ≤ 128 * place b' ∨ 128 * place b' + 128 ≤ 128 * place b
  have := place_inj h
  omega

theorem iP_cover (hw : A3.view.set = Finset.univ) : Finset.univ.biUnion (iP A3) = Finset.univ := by
  refine Finset.eq_univ_of_forall fun x => ?_
  obtain ⟨y, -, rfl⟩ := Finset.mem_map.mp (show x ∈ A3.view.set from hw ▸ Finset.mem_univ x)
  have hy : (y 1).val < 65536 := (y 1).isLt
  obtain ⟨b, hb⟩ := place_surj ((y 1).val / 128) (by omega)
  refine Finset.mem_biUnion.mpr ⟨b, Finset.mem_univ _, ?_⟩
  rw [iP_eq, View.set_slice]
  refine Finset.mem_map_of_mem _ (Rect.mem_set_unit.mpr fun a => ?_)
  match a with
  | 0 => exact ⟨Nat.zero_le _, (Nat.zero_add _).symm ▸ (y 0).isLt⟩
  | 1 => show 128 * place b ≤ (y 1).val ∧ (y 1).val < 128 * place b + 128; omega
theorem oP_cover (hw : A4.view.set = Finset.univ) : Finset.univ.biUnion (oP A4) = Finset.univ := by
  refine Finset.eq_univ_of_forall fun x => ?_
  obtain ⟨y, -, rfl⟩ := Finset.mem_map.mp (show x ∈ A4.view.set from hw ▸ Finset.mem_univ x)
  have hy : (y 0).val < 65536 := (y 0).isLt
  obtain ⟨b, hb⟩ := place_surj ((y 0).val / 128) (by omega)
  refine Finset.mem_biUnion.mpr ⟨b, Finset.mem_univ _, ?_⟩
  rw [oP_eq, View.set_slice]
  refine Finset.mem_map_of_mem _ (Rect.mem_set_unit.mpr fun a => ?_)
  match a with
  | 0 => show 128 * place b ≤ (y 0).val ∧ (y 0).val < 128 * place b + 128; omega
  | 1 => exact ⟨Nat.zero_le _, (Nat.zero_add _).symm ▸ (y 1).isLt⟩

omit [FloatOps F] in
theorem tbl_set (A2 : Memref sig .scVector .hbm S30522x128 .f32) (hw : A2.view.set = Finset.univ) :
    ((tbl A2).view.set : Finset A2.view.ty.Idx) = Finset.univ := by
  refine Finset.eq_univ_of_forall fun x => ?_
  obtain ⟨y, -, rfl⟩ := Finset.mem_map.mp (show x ∈ A2.view.set from hw ▸ Finset.mem_univ x)
  show _ ∈ (A2.view.slice (Rect.unit (s := S30522x128) ![0, 0] S30522x128.size inb_S30522x128_S30522x128_0_0)).set
  rw [View.set_slice]
  refine Finset.mem_map_of_mem _ (Rect.mem_set_unit.mpr fun a => ?_)
  match a with
  | 0 => exact ⟨Nat.zero_le _, (Nat.zero_add _).symm ▸ (y 0).isLt⟩
  | 1 => exact ⟨Nat.zero_le _, (Nat.zero_add _).symm ▸ (y 1).isLt⟩
end Blocks

/-! ## A buffer dealt by blocks, or by shares -/

section Deal
variable {ℓ : Loc nD τ sig}

omit [FloatOps F] in
theorem deal_blocks (f : Buf (Elt F) ℓ) (S : Blk → Finset (Idx ℓ)) (hd : ∀ b b', b ≠ b' → Disjoint (S b) (S b')) (hc : Finset.univ.biUnion S = Finset.univ) :
    (ℓ ↦{fullShare} f : sProp 𝕄) = bigSep Finset.univ fun c => bigSep Finset.univ fun j => bigSep Finset.univ fun k => ℓ ↦[S ⟨c, j, k⟩]{fullShare} f := by
  have h := pointsTo_biUnion (Ix := HIx 8) (Name := ℕ) (U := UU) (Lvl := ℕ) (q := fullShare) (f := f) Finset.univ S (fun b _ b' _ => hd b b')
  rw [hc] at h
  rw [h, Pipeline.bigSep_univ_sigma]
  exact bigSep_congr fun c _ => Pipeline.bigSep_univ_sigma _

omit [FloatOps F] in
theorem deal_shares (f : Buf (Elt F) ℓ) (I : Finset (Idx ℓ)) :
    (ℓ ↦[I]{fullShare} f : sProp 𝕄) = bigSep Finset.univ fun c => bigSep Finset.univ fun j => ℓ ↦[I]{qT c j} f := by
  rw [pointsTo_pieces I f 1 fullShare]
  exact bigSep_congr fun c _ => pointsTo_pieces I f 15 _

/-- A family along the same numbers. -/
theorem bigSep_renumber {n k : ℕ} (h : n = k) (co : Fin n → Fin k) (hco : ∀ c, (co c).val = c.val) (Φ : Fin k → sProp 𝕄) :
    (bigSep Finset.univ fun c => Φ (co c)) = bigSep Finset.univ Φ := by
  subst h
  rw [show co = id from funext fun c => Fin.ext (hco c)]; rfl

/-- A call's SparseCores and subcores are all of them. -/
theorem cores (q : Fin 8) (h : (K (F := F)).nCore q = 2) (h' : (K (F := F)).nSub q = 16) (Φ : Fin 2 → Fin 16 → sProp 𝕄) :
    (bigSep Finset.univ fun c : Fin ((K (F := F)).nCore q) => bigSep Finset.univ fun i : Fin ((K (F := F)).nSub q) =>
        Φ ((K (F := F)).core q c) ((K (F := F)).sub q i)) = bigSep Finset.univ fun c => bigSep Finset.univ fun j => Φ c j :=
  (bigSep_congr fun c _ => bigSep_renumber h' (fun i => (K (F := F)).sub q i) (fun _ => rfl) _).trans
    (bigSep_renumber h (fun c => (K (F := F)).core q c) (fun _ => rfl) (fun c => bigSep Finset.univ fun j => Φ c j))

omit [FloatOps F] in
theorem swap_le (A B C : sProp 𝕄) : iprop(A ∗ B ∗ C) ⊢ iprop(B ∗ A ∗ C) := by
  iintro ⟨HA, HB, HC⟩
  isplitl [HB]; · iexact HB
  isplitl [HA] <;> iassumption

omit [FloatOps F] in
/-- A call's three buffers, dealt. -/
theorem deal3 {ℓ2 ℓ3 ℓ4 : Loc nD τ sig} (f2 : Buf (Elt F) ℓ2) (f3 : Buf (Elt F) ℓ3) (f4 : Buf (Elt F) ℓ4) (I : Finset (Idx ℓ2)) (hI : I = Finset.univ)
    (S3 : Blk → Finset (Idx ℓ3)) (hd3 : ∀ b b', b ≠ b' → Disjoint (S3 b) (S3 b')) (hc3 : Finset.univ.biUnion S3 = Finset.univ)
    (S4 : Blk → Finset (Idx ℓ4)) (hd4 : ∀ b b', b ≠ b' → Disjoint (S4 b) (S4 b')) (hc4 : Finset.univ.biUnion S4 = Finset.univ) :
    (iprop((ℓ2 ↦{fullShare} f2) ∗ (ℓ3 ↦{fullShare} f3) ∗ (ℓ4 ↦{fullShare} f4)) : sProp 𝕄)
      = bigSep Finset.univ fun c : Fin 2 => bigSep Finset.univ fun j : Fin 16 => iprop((bigSep Finset.univ fun k => ℓ3 ↦[S3 ⟨c, j, k⟩]{fullShare} f3)
          ∗ (ℓ2 ↦[I]{qT c j} f2) ∗ bigSep Finset.univ fun k => ℓ4 ↦[S4 ⟨c, j, k⟩]{fullShare} f4) := by
  rw [deal_blocks f3 S3 hd3 hc3, deal_blocks f4 S4 hd4 hc4, show (ℓ2 ↦{fullShare} f2 : sProp 𝕄) = ℓ2 ↦[I]{fullShare} f2 by rw [hI], deal_shares f2 I]
  simp only [bigSep_sep']
  exact BI.Entails.antisymm (swap_le _ _ _) (swap_le _ _ _)
end Deal

/-! ## Each call's -/

variable (m : (ℓ : Loc nD τ sig) → Buf (Elt F) ℓ)

omit [FloatOps F] in
theorem held0 (d : Dev nD) (f2 : Buf (Elt F) ((SparseCore.T d).loc main_arg1)) (f3 : Buf (Elt F) ((SparseCore.T d).loc main_v3)) (f4 : Buf (Elt F) ((SparseCore.T d).loc main_v4)) :
    (bigSep Finset.univ fun c : Fin 2 => bigSep Finset.univ fun j : Fin 16 =>
        (Held d (coo c j) (Memref.whole main_arg1_scv) (Memref.whole main_v3_scv) (Memref.whole main_v4_scv) f2 f3 (qT c j) f4 : sProp 𝕄))
      = iprop(((SparseCore.T d).loc main_arg1 ↦{fullShare} f2) ∗ ((SparseCore.T d).loc main_v3 ↦{fullShare} f3) ∗ (SparseCore.T d).loc main_v4 ↦{fullShare} f4) := by
  rw [deal3 (ℓ2 := (SparseCore.T d).loc main_arg1) (ℓ3 := (SparseCore.T d).loc main_v3) (ℓ4 := (SparseCore.T d).loc main_v4) f2 f3 f4
    _ (tbl_set (Memref.whole main_arg1_scv) (Memref.isWhole_whole _).set_eq_univ)
    _ (iP_disjoint (Memref.whole main_v3_scv)) (iP_cover (Memref.whole main_v3_scv) (Memref.isWhole_whole _).set_eq_univ)
    _ (oP_disjoint (Memref.whole main_v4_scv)) (oP_cover (Memref.whole main_v4_scv) (Memref.isWhole_whole _).set_eq_univ)]
  refine bigSep_congr fun c _ => bigSep_congr fun j _ => ?_
  unfold Held
  refine congrArg₂ _ (bigSep_congr fun k _ => ?_) (congrArg₂ _ ?_ (bigSep_congr fun k _ => ?_))
  · unfold IB iP; rfl
  · unfold TB; rfl
  · unfold OB oP; rfl

theorem goX_eq0 (d : Dev nD) (c : Fin 2) (j : Fin 16) : goX m 0 d c j = Held d (coo c j) (Memref.whole main_arg1_scv) (Memref.whole main_v3_scv) (Memref.whole main_v4_scv) (tab₀ m d) (rows 0 (ids₀ m d)) (qT c j) (m ((SparseCore.T d).loc main_v4)) := rfl
theorem st_eq0 (d : Dev nD) : (bigSep Finset.univ fun c : Fin ((K (F := F)).nCore 0) => (P m).st 0 d c)
    = iprop(((SparseCore.T d).loc main_arg1 ↦{fullShare} tab₀ m d) ∗ ((SparseCore.T d).loc main_v3 ↦{fullShare} rows 0 (ids₀ m d)) ∗ (SparseCore.T d).loc main_v4 ↦{fullShare} m ((SparseCore.T d).loc main_v4)) := by
  refine (cores 0 rfl rfl (goX m 0 d)).trans ?_
  refine Eq.trans ?_ (held0 d (tab₀ m d) (rows 0 (ids₀ m d)) (m ((SparseCore.T d).loc main_v4)))
  exact bigSep_congr fun c _ => bigSep_congr fun j _ => goX_eq0 m d c j
theorem tdX_eq0 (d : Dev nD) (c : Fin 2) (j : Fin 16) : tdX m 0 d c j = Held d (coo c j) (Memref.whole main_arg1_scv) (Memref.whole main_v3_scv) (Memref.whole main_v4_scv) (tab₀ m d) (rows 0 (ids₀ m d)) (qT c j) (got m d 0) := rfl
theorem dn_eq0 (d : Dev nD) : (bigSep Finset.univ fun c : Fin ((K (F := F)).nCore 0) => (P m).dn 0 d c)
    = iprop(((SparseCore.T d).loc main_arg1 ↦{fullShare} tab₀ m d) ∗ ((SparseCore.T d).loc main_v3 ↦{fullShare} rows 0 (ids₀ m d)) ∗ (SparseCore.T d).loc main_v4 ↦{fullShare} got m d 0) := by
  refine (cores 0 rfl rfl (tdX m 0 d)).trans ?_
  refine Eq.trans ?_ (held0 d (tab₀ m d) (rows 0 (ids₀ m d)) (got m d 0))
  exact bigSep_congr fun c _ => bigSep_congr fun j _ => tdX_eq0 m d c j
omit [FloatOps F] in
theorem held1 (d : Dev nD) (f2 : Buf (Elt F) ((SparseCore.T d).loc main_arg1)) (f3 : Buf (Elt F) ((SparseCore.T d).loc main_v8)) (f4 : Buf (Elt F) ((SparseCore.T d).loc main_v9)) :
    (bigSep Finset.univ fun c : Fin 2 => bigSep Finset.univ fun j : Fin 16 =>
        (Held d (coo c j) (Memref.whole main_arg1_scv) (Memref.whole main_v8_scv) (Memref.whole main_v9_scv) f2 f3 (qT c j) f4 : sProp 𝕄))
      = iprop(((SparseCore.T d).loc main_arg1 ↦{fullShare} f2) ∗ ((SparseCore.T d).loc main_v8 ↦{fullShare} f3) ∗ (SparseCore.T d).loc main_v9 ↦{fullShare} f4) := by
  rw [deal3 (ℓ2 := (SparseCore.T d).loc main_arg1) (ℓ3 := (SparseCore.T d).loc main_v8) (ℓ4 := (SparseCore.T d).loc main_v9) f2 f3 f4
    _ (tbl_set (Memref.whole main_arg1_scv) (Memref.isWhole_whole _).set_eq_univ)
    _ (iP_disjoint (Memref.whole main_v8_scv)) (iP_cover (Memref.whole main_v8_scv) (Memref.isWhole_whole _).set_eq_univ)
    _ (oP_disjoint (Memref.whole main_v9_scv)) (oP_cover (Memref.whole main_v9_scv) (Memref.isWhole_whole _).set_eq_univ)]
  refine bigSep_congr fun c _ => bigSep_congr fun j _ => ?_
  unfold Held
  refine congrArg₂ _ (bigSep_congr fun k _ => ?_) (congrArg₂ _ ?_ (bigSep_congr fun k _ => ?_))
  · unfold IB iP; rfl
  · unfold TB; rfl
  · unfold OB oP; rfl

theorem goX_eq1 (d : Dev nD) (c : Fin 2) (j : Fin 16) : goX m 1 d c j = Held d (coo c j) (Memref.whole main_arg1_scv) (Memref.whole main_v8_scv) (Memref.whole main_v9_scv) (tab₀ m d) (rows 1 (ids₀ m d)) (qT c j) (m ((SparseCore.T d).loc main_v9)) := rfl
theorem st_eq1 (d : Dev nD) : (bigSep Finset.univ fun c : Fin ((K (F := F)).nCore 1) => (P m).st 1 d c)
    = iprop(((SparseCore.T d).loc main_arg1 ↦{fullShare} tab₀ m d) ∗ ((SparseCore.T d).loc main_v8 ↦{fullShare} rows 1 (ids₀ m d)) ∗ (SparseCore.T d).loc main_v9 ↦{fullShare} m ((SparseCore.T d).loc main_v9)) := by
  refine (cores 1 rfl rfl (goX m 1 d)).trans ?_
  refine Eq.trans ?_ (held1 d (tab₀ m d) (rows 1 (ids₀ m d)) (m ((SparseCore.T d).loc main_v9)))
  exact bigSep_congr fun c _ => bigSep_congr fun j _ => goX_eq1 m d c j
theorem tdX_eq1 (d : Dev nD) (c : Fin 2) (j : Fin 16) : tdX m 1 d c j = Held d (coo c j) (Memref.whole main_arg1_scv) (Memref.whole main_v8_scv) (Memref.whole main_v9_scv) (tab₀ m d) (rows 1 (ids₀ m d)) (qT c j) (got m d 1) := rfl
theorem dn_eq1 (d : Dev nD) : (bigSep Finset.univ fun c : Fin ((K (F := F)).nCore 1) => (P m).dn 1 d c)
    = iprop(((SparseCore.T d).loc main_arg1 ↦{fullShare} tab₀ m d) ∗ ((SparseCore.T d).loc main_v8 ↦{fullShare} rows 1 (ids₀ m d)) ∗ (SparseCore.T d).loc main_v9 ↦{fullShare} got m d 1) := by
  refine (cores 1 rfl rfl (tdX m 1 d)).trans ?_
  refine Eq.trans ?_ (held1 d (tab₀ m d) (rows 1 (ids₀ m d)) (got m d 1))
  exact bigSep_congr fun c _ => bigSep_congr fun j _ => tdX_eq1 m d c j
omit [FloatOps F] in
theorem held2 (d : Dev nD) (f2 : Buf (Elt F) ((SparseCore.T d).loc main_arg1)) (f3 : Buf (Elt F) ((SparseCore.T d).loc main_v13)) (f4 : Buf (Elt F) ((SparseCore.T d).loc main_v14)) :
    (bigSep Finset.univ fun c : Fin 2 => bigSep Finset.univ fun j : Fin 16 =>
        (Held d (coo c j) (Memref.whole main_arg1_scv) (Memref.whole main_v13_scv) (Memref.whole main_v14_scv) f2 f3 (qT c j) f4 : sProp 𝕄))
      = iprop(((SparseCore.T d).loc main_arg1 ↦{fullShare} f2) ∗ ((SparseCore.T d).loc main_v13 ↦{fullShare} f3) ∗ (SparseCore.T d).loc main_v14 ↦{fullShare} f4) := by
  rw [deal3 (ℓ2 := (SparseCore.T d).loc main_arg1) (ℓ3 := (SparseCore.T d).loc main_v13) (ℓ4 := (SparseCore.T d).loc main_v14) f2 f3 f4
    _ (tbl_set (Memref.whole main_arg1_scv) (Memref.isWhole_whole _).set_eq_univ)
    _ (iP_disjoint (Memref.whole main_v13_scv)) (iP_cover (Memref.whole main_v13_scv) (Memref.isWhole_whole _).set_eq_univ)
    _ (oP_disjoint (Memref.whole main_v14_scv)) (oP_cover (Memref.whole main_v14_scv) (Memref.isWhole_whole _).set_eq_univ)]
  refine bigSep_congr fun c _ => bigSep_congr fun j _ => ?_
  unfold Held
  refine congrArg₂ _ (bigSep_congr fun k _ => ?_) (congrArg₂ _ ?_ (bigSep_congr fun k _ => ?_))
  · unfold IB iP; rfl
  · unfold TB; rfl
  · unfold OB oP; rfl

theorem goX_eq2 (d : Dev nD) (c : Fin 2) (j : Fin 16) : goX m 2 d c j = Held d (coo c j) (Memref.whole main_arg1_scv) (Memref.whole main_v13_scv) (Memref.whole main_v14_scv) (tab₀ m d) (rows 2 (ids₀ m d)) (qT c j) (m ((SparseCore.T d).loc main_v14)) := rfl
theorem st_eq2 (d : Dev nD) : (bigSep Finset.univ fun c : Fin ((K (F := F)).nCore 2) => (P m).st 2 d c)
    = iprop(((SparseCore.T d).loc main_arg1 ↦{fullShare} tab₀ m d) ∗ ((SparseCore.T d).loc main_v13 ↦{fullShare} rows 2 (ids₀ m d)) ∗ (SparseCore.T d).loc main_v14 ↦{fullShare} m ((SparseCore.T d).loc main_v14)) := by
  refine (cores 2 rfl rfl (goX m 2 d)).trans ?_
  refine Eq.trans ?_ (held2 d (tab₀ m d) (rows 2 (ids₀ m d)) (m ((SparseCore.T d).loc main_v14)))
  exact bigSep_congr fun c _ => bigSep_congr fun j _ => goX_eq2 m d c j
theorem tdX_eq2 (d : Dev nD) (c : Fin 2) (j : Fin 16) : tdX m 2 d c j = Held d (coo c j) (Memref.whole main_arg1_scv) (Memref.whole main_v13_scv) (Memref.whole main_v14_scv) (tab₀ m d) (rows 2 (ids₀ m d)) (qT c j) (got m d 2) := rfl
theorem dn_eq2 (d : Dev nD) : (bigSep Finset.univ fun c : Fin ((K (F := F)).nCore 2) => (P m).dn 2 d c)
    = iprop(((SparseCore.T d).loc main_arg1 ↦{fullShare} tab₀ m d) ∗ ((SparseCore.T d).loc main_v13 ↦{fullShare} rows 2 (ids₀ m d)) ∗ (SparseCore.T d).loc main_v14 ↦{fullShare} got m d 2) := by
  refine (cores 2 rfl rfl (tdX m 2 d)).trans ?_
  refine Eq.trans ?_ (held2 d (tab₀ m d) (rows 2 (ids₀ m d)) (got m d 2))
  exact bigSep_congr fun c _ => bigSep_congr fun j _ => tdX_eq2 m d c j
omit [FloatOps F] in
theorem held3 (d : Dev nD) (f2 : Buf (Elt F) ((SparseCore.T d).loc main_arg1)) (f3 : Buf (Elt F) ((SparseCore.T d).loc main_v18)) (f4 : Buf (Elt F) ((SparseCore.T d).loc main_v19)) :
    (bigSep Finset.univ fun c : Fin 2 => bigSep Finset.univ fun j : Fin 16 =>
        (Held d (coo c j) (Memref.whole main_arg1_scv) (Memref.whole main_v18_scv) (Memref.whole main_v19_scv) f2 f3 (qT c j) f4 : sProp 𝕄))
      = iprop(((SparseCore.T d).loc main_arg1 ↦{fullShare} f2) ∗ ((SparseCore.T d).loc main_v18 ↦{fullShare} f3) ∗ (SparseCore.T d).loc main_v19 ↦{fullShare} f4) := by
  rw [deal3 (ℓ2 := (SparseCore.T d).loc main_arg1) (ℓ3 := (SparseCore.T d).loc main_v18) (ℓ4 := (SparseCore.T d).loc main_v19) f2 f3 f4
    _ (tbl_set (Memref.whole main_arg1_scv) (Memref.isWhole_whole _).set_eq_univ)
    _ (iP_disjoint (Memref.whole main_v18_scv)) (iP_cover (Memref.whole main_v18_scv) (Memref.isWhole_whole _).set_eq_univ)
    _ (oP_disjoint (Memref.whole main_v19_scv)) (oP_cover (Memref.whole main_v19_scv) (Memref.isWhole_whole _).set_eq_univ)]
  refine bigSep_congr fun c _ => bigSep_congr fun j _ => ?_
  unfold Held
  refine congrArg₂ _ (bigSep_congr fun k _ => ?_) (congrArg₂ _ ?_ (bigSep_congr fun k _ => ?_))
  · unfold IB iP; rfl
  · unfold TB; rfl
  · unfold OB oP; rfl

theorem goX_eq3 (d : Dev nD) (c : Fin 2) (j : Fin 16) : goX m 3 d c j = Held d (coo c j) (Memref.whole main_arg1_scv) (Memref.whole main_v18_scv) (Memref.whole main_v19_scv) (tab₀ m d) (rows 3 (ids₀ m d)) (qT c j) (m ((SparseCore.T d).loc main_v19)) := rfl
theorem st_eq3 (d : Dev nD) : (bigSep Finset.univ fun c : Fin ((K (F := F)).nCore 3) => (P m).st 3 d c)
    = iprop(((SparseCore.T d).loc main_arg1 ↦{fullShare} tab₀ m d) ∗ ((SparseCore.T d).loc main_v18 ↦{fullShare} rows 3 (ids₀ m d)) ∗ (SparseCore.T d).loc main_v19 ↦{fullShare} m ((SparseCore.T d).loc main_v19)) := by
  refine (cores 3 rfl rfl (goX m 3 d)).trans ?_
  refine Eq.trans ?_ (held3 d (tab₀ m d) (rows 3 (ids₀ m d)) (m ((SparseCore.T d).loc main_v19)))
  exact bigSep_congr fun c _ => bigSep_congr fun j _ => goX_eq3 m d c j
theorem tdX_eq3 (d : Dev nD) (c : Fin 2) (j : Fin 16) : tdX m 3 d c j = Held d (coo c j) (Memref.whole main_arg1_scv) (Memref.whole main_v18_scv) (Memref.whole main_v19_scv) (tab₀ m d) (rows 3 (ids₀ m d)) (qT c j) (got m d 3) := rfl
theorem dn_eq3 (d : Dev nD) : (bigSep Finset.univ fun c : Fin ((K (F := F)).nCore 3) => (P m).dn 3 d c)
    = iprop(((SparseCore.T d).loc main_arg1 ↦{fullShare} tab₀ m d) ∗ ((SparseCore.T d).loc main_v18 ↦{fullShare} rows 3 (ids₀ m d)) ∗ (SparseCore.T d).loc main_v19 ↦{fullShare} got m d 3) := by
  refine (cores 3 rfl rfl (tdX m 3 d)).trans ?_
  refine Eq.trans ?_ (held3 d (tab₀ m d) (rows 3 (ids₀ m d)) (got m d 3))
  exact bigSep_congr fun c _ => bigSep_congr fun j _ => tdX_eq3 m d c j
omit [FloatOps F] in
theorem held4 (d : Dev nD) (f2 : Buf (Elt F) ((SparseCore.T d).loc main_arg1)) (f3 : Buf (Elt F) ((SparseCore.T d).loc main_v23)) (f4 : Buf (Elt F) ((SparseCore.T d).loc main_v24)) :
    (bigSep Finset.univ fun c : Fin 2 => bigSep Finset.univ fun j : Fin 16 =>
        (Held d (coo c j) (Memref.whole main_arg1_scv) (Memref.whole main_v23_scv) (Memref.whole main_v24_scv) f2 f3 (qT c j) f4 : sProp 𝕄))
      = iprop(((SparseCore.T d).loc main_arg1 ↦{fullShare} f2) ∗ ((SparseCore.T d).loc main_v23 ↦{fullShare} f3) ∗ (SparseCore.T d).loc main_v24 ↦{fullShare} f4) := by
  rw [deal3 (ℓ2 := (SparseCore.T d).loc main_arg1) (ℓ3 := (SparseCore.T d).loc main_v23) (ℓ4 := (SparseCore.T d).loc main_v24) f2 f3 f4
    _ (tbl_set (Memref.whole main_arg1_scv) (Memref.isWhole_whole _).set_eq_univ)
    _ (iP_disjoint (Memref.whole main_v23_scv)) (iP_cover (Memref.whole main_v23_scv) (Memref.isWhole_whole _).set_eq_univ)
    _ (oP_disjoint (Memref.whole main_v24_scv)) (oP_cover (Memref.whole main_v24_scv) (Memref.isWhole_whole _).set_eq_univ)]
  refine bigSep_congr fun c _ => bigSep_congr fun j _ => ?_
  unfold Held
  refine congrArg₂ _ (bigSep_congr fun k _ => ?_) (congrArg₂ _ ?_ (bigSep_congr fun k _ => ?_))
  · unfold IB iP; rfl
  · unfold TB; rfl
  · unfold OB oP; rfl

theorem goX_eq4 (d : Dev nD) (c : Fin 2) (j : Fin 16) : goX m 4 d c j = Held d (coo c j) (Memref.whole main_arg1_scv) (Memref.whole main_v23_scv) (Memref.whole main_v24_scv) (tab₀ m d) (rows 4 (ids₀ m d)) (qT c j) (m ((SparseCore.T d).loc main_v24)) := rfl
theorem st_eq4 (d : Dev nD) : (bigSep Finset.univ fun c : Fin ((K (F := F)).nCore 4) => (P m).st 4 d c)
    = iprop(((SparseCore.T d).loc main_arg1 ↦{fullShare} tab₀ m d) ∗ ((SparseCore.T d).loc main_v23 ↦{fullShare} rows 4 (ids₀ m d)) ∗ (SparseCore.T d).loc main_v24 ↦{fullShare} m ((SparseCore.T d).loc main_v24)) := by
  refine (cores 4 rfl rfl (goX m 4 d)).trans ?_
  refine Eq.trans ?_ (held4 d (tab₀ m d) (rows 4 (ids₀ m d)) (m ((SparseCore.T d).loc main_v24)))
  exact bigSep_congr fun c _ => bigSep_congr fun j _ => goX_eq4 m d c j
theorem tdX_eq4 (d : Dev nD) (c : Fin 2) (j : Fin 16) : tdX m 4 d c j = Held d (coo c j) (Memref.whole main_arg1_scv) (Memref.whole main_v23_scv) (Memref.whole main_v24_scv) (tab₀ m d) (rows 4 (ids₀ m d)) (qT c j) (got m d 4) := rfl
theorem dn_eq4 (d : Dev nD) : (bigSep Finset.univ fun c : Fin ((K (F := F)).nCore 4) => (P m).dn 4 d c)
    = iprop(((SparseCore.T d).loc main_arg1 ↦{fullShare} tab₀ m d) ∗ ((SparseCore.T d).loc main_v23 ↦{fullShare} rows 4 (ids₀ m d)) ∗ (SparseCore.T d).loc main_v24 ↦{fullShare} got m d 4) := by
  refine (cores 4 rfl rfl (tdX m 4 d)).trans ?_
  refine Eq.trans ?_ (held4 d (tab₀ m d) (rows 4 (ids₀ m d)) (got m d 4))
  exact bigSep_congr fun c _ => bigSep_congr fun j _ => tdX_eq4 m d c j
omit [FloatOps F] in
theorem held5 (d : Dev nD) (f2 : Buf (Elt F) ((SparseCore.T d).loc main_arg1)) (f3 : Buf (Elt F) ((SparseCore.T d).loc main_v28)) (f4 : Buf (Elt F) ((SparseCore.T d).loc main_v29)) :
    (bigSep Finset.univ fun c : Fin 2 => bigSep Finset.univ fun j : Fin 16 =>
        (Held d (coo c j) (Memref.whole main_arg1_scv) (Memref.whole main_v28_scv) (Memref.whole main_v29_scv) f2 f3 (qT c j) f4 : sProp 𝕄))
      = iprop(((SparseCore.T d).loc main_arg1 ↦{fullShare} f2) ∗ ((SparseCore.T d).loc main_v28 ↦{fullShare} f3) ∗ (SparseCore.T d).loc main_v29 ↦{fullShare} f4) := by
  rw [deal3 (ℓ2 := (SparseCore.T d).loc main_arg1) (ℓ3 := (SparseCore.T d).loc main_v28) (ℓ4 := (SparseCore.T d).loc main_v29) f2 f3 f4
    _ (tbl_set (Memref.whole main_arg1_scv) (Memref.isWhole_whole _).set_eq_univ)
    _ (iP_disjoint (Memref.whole main_v28_scv)) (iP_cover (Memref.whole main_v28_scv) (Memref.isWhole_whole _).set_eq_univ)
    _ (oP_disjoint (Memref.whole main_v29_scv)) (oP_cover (Memref.whole main_v29_scv) (Memref.isWhole_whole _).set_eq_univ)]
  refine bigSep_congr fun c _ => bigSep_congr fun j _ => ?_
  unfold Held
  refine congrArg₂ _ (bigSep_congr fun k _ => ?_) (congrArg₂ _ ?_ (bigSep_congr fun k _ => ?_))
  · unfold IB iP; rfl
  · unfold TB; rfl
  · unfold OB oP; rfl

theorem goX_eq5 (d : Dev nD) (c : Fin 2) (j : Fin 16) : goX m 5 d c j = Held d (coo c j) (Memref.whole main_arg1_scv) (Memref.whole main_v28_scv) (Memref.whole main_v29_scv) (tab₀ m d) (rows 5 (ids₀ m d)) (qT c j) (m ((SparseCore.T d).loc main_v29)) := rfl
theorem st_eq5 (d : Dev nD) : (bigSep Finset.univ fun c : Fin ((K (F := F)).nCore 5) => (P m).st 5 d c)
    = iprop(((SparseCore.T d).loc main_arg1 ↦{fullShare} tab₀ m d) ∗ ((SparseCore.T d).loc main_v28 ↦{fullShare} rows 5 (ids₀ m d)) ∗ (SparseCore.T d).loc main_v29 ↦{fullShare} m ((SparseCore.T d).loc main_v29)) := by
  refine (cores 5 rfl rfl (goX m 5 d)).trans ?_
  refine Eq.trans ?_ (held5 d (tab₀ m d) (rows 5 (ids₀ m d)) (m ((SparseCore.T d).loc main_v29)))
  exact bigSep_congr fun c _ => bigSep_congr fun j _ => goX_eq5 m d c j
theorem tdX_eq5 (d : Dev nD) (c : Fin 2) (j : Fin 16) : tdX m 5 d c j = Held d (coo c j) (Memref.whole main_arg1_scv) (Memref.whole main_v28_scv) (Memref.whole main_v29_scv) (tab₀ m d) (rows 5 (ids₀ m d)) (qT c j) (got m d 5) := rfl
theorem dn_eq5 (d : Dev nD) : (bigSep Finset.univ fun c : Fin ((K (F := F)).nCore 5) => (P m).dn 5 d c)
    = iprop(((SparseCore.T d).loc main_arg1 ↦{fullShare} tab₀ m d) ∗ ((SparseCore.T d).loc main_v28 ↦{fullShare} rows 5 (ids₀ m d)) ∗ (SparseCore.T d).loc main_v29 ↦{fullShare} got m d 5) := by
  refine (cores 5 rfl rfl (tdX m 5 d)).trans ?_
  refine Eq.trans ?_ (held5 d (tab₀ m d) (rows 5 (ids₀ m d)) (got m d 5))
  exact bigSep_congr fun c _ => bigSep_congr fun j _ => tdX_eq5 m d c j
omit [FloatOps F] in
theorem held6 (d : Dev nD) (f2 : Buf (Elt F) ((SparseCore.T d).loc main_arg1)) (f3 : Buf (Elt F) ((SparseCore.T d).loc main_v33)) (f4 : Buf (Elt F) ((SparseCore.T d).loc main_v34)) :
    (bigSep Finset.univ fun c : Fin 2 => bigSep Finset.univ fun j : Fin 16 =>
        (Held d (coo c j) (Memref.whole main_arg1_scv) (Memref.whole main_v33_scv) (Memref.whole main_v34_scv) f2 f3 (qT c j) f4 : sProp 𝕄))
      = iprop(((SparseCore.T d).loc main_arg1 ↦{fullShare} f2) ∗ ((SparseCore.T d).loc main_v33 ↦{fullShare} f3) ∗ (SparseCore.T d).loc main_v34 ↦{fullShare} f4) := by
  rw [deal3 (ℓ2 := (SparseCore.T d).loc main_arg1) (ℓ3 := (SparseCore.T d).loc main_v33) (ℓ4 := (SparseCore.T d).loc main_v34) f2 f3 f4
    _ (tbl_set (Memref.whole main_arg1_scv) (Memref.isWhole_whole _).set_eq_univ)
    _ (iP_disjoint (Memref.whole main_v33_scv)) (iP_cover (Memref.whole main_v33_scv) (Memref.isWhole_whole _).set_eq_univ)
    _ (oP_disjoint (Memref.whole main_v34_scv)) (oP_cover (Memref.whole main_v34_scv) (Memref.isWhole_whole _).set_eq_univ)]
  refine bigSep_congr fun c _ => bigSep_congr fun j _ => ?_
  unfold Held
  refine congrArg₂ _ (bigSep_congr fun k _ => ?_) (congrArg₂ _ ?_ (bigSep_congr fun k _ => ?_))
  · unfold IB iP; rfl
  · unfold TB; rfl
  · unfold OB oP; rfl

theorem goX_eq6 (d : Dev nD) (c : Fin 2) (j : Fin 16) : goX m 6 d c j = Held d (coo c j) (Memref.whole main_arg1_scv) (Memref.whole main_v33_scv) (Memref.whole main_v34_scv) (tab₀ m d) (rows 6 (ids₀ m d)) (qT c j) (m ((SparseCore.T d).loc main_v34)) := rfl
theorem st_eq6 (d : Dev nD) : (bigSep Finset.univ fun c : Fin ((K (F := F)).nCore 6) => (P m).st 6 d c)
    = iprop(((SparseCore.T d).loc main_arg1 ↦{fullShare} tab₀ m d) ∗ ((SparseCore.T d).loc main_v33 ↦{fullShare} rows 6 (ids₀ m d)) ∗ (SparseCore.T d).loc main_v34 ↦{fullShare} m ((SparseCore.T d).loc main_v34)) := by
  refine (cores 6 rfl rfl (goX m 6 d)).trans ?_
  refine Eq.trans ?_ (held6 d (tab₀ m d) (rows 6 (ids₀ m d)) (m ((SparseCore.T d).loc main_v34)))
  exact bigSep_congr fun c _ => bigSep_congr fun j _ => goX_eq6 m d c j
theorem tdX_eq6 (d : Dev nD) (c : Fin 2) (j : Fin 16) : tdX m 6 d c j = Held d (coo c j) (Memref.whole main_arg1_scv) (Memref.whole main_v33_scv) (Memref.whole main_v34_scv) (tab₀ m d) (rows 6 (ids₀ m d)) (qT c j) (got m d 6) := rfl
theorem dn_eq6 (d : Dev nD) : (bigSep Finset.univ fun c : Fin ((K (F := F)).nCore 6) => (P m).dn 6 d c)
    = iprop(((SparseCore.T d).loc main_arg1 ↦{fullShare} tab₀ m d) ∗ ((SparseCore.T d).loc main_v33 ↦{fullShare} rows 6 (ids₀ m d)) ∗ (SparseCore.T d).loc main_v34 ↦{fullShare} got m d 6) := by
  refine (cores 6 rfl rfl (tdX m 6 d)).trans ?_
  refine Eq.trans ?_ (held6 d (tab₀ m d) (rows 6 (ids₀ m d)) (got m d 6))
  exact bigSep_congr fun c _ => bigSep_congr fun j _ => tdX_eq6 m d c j
omit [FloatOps F] in
theorem held7 (d : Dev nD) (f2 : Buf (Elt F) ((SparseCore.T d).loc main_arg1)) (f3 : Buf (Elt F) ((SparseCore.T d).loc main_v38)) (f4 : Buf (Elt F) ((SparseCore.T d).loc main_v39)) :
    (bigSep Finset.univ fun c : Fin 2 => bigSep Finset.univ fun j : Fin 16 =>
        (Held d (coo c j) (Memref.whole main_arg1_scv) (Memref.whole main_v38_scv) (Memref.whole main_v39_scv) f2 f3 (qT c j) f4 : sProp 𝕄))
      = iprop(((SparseCore.T d).loc main_arg1 ↦{fullShare} f2) ∗ ((SparseCore.T d).loc main_v38 ↦{fullShare} f3) ∗ (SparseCore.T d).loc main_v39 ↦{fullShare} f4) := by
  rw [deal3 (ℓ2 := (SparseCore.T d).loc main_arg1) (ℓ3 := (SparseCore.T d).loc main_v38) (ℓ4 := (SparseCore.T d).loc main_v39) f2 f3 f4
    _ (tbl_set (Memref.whole main_arg1_scv) (Memref.isWhole_whole _).set_eq_univ)
    _ (iP_disjoint (Memref.whole main_v38_scv)) (iP_cover (Memref.whole main_v38_scv) (Memref.isWhole_whole _).set_eq_univ)
    _ (oP_disjoint (Memref.whole main_v39_scv)) (oP_cover (Memref.whole main_v39_scv) (Memref.isWhole_whole _).set_eq_univ)]
  refine bigSep_congr fun c _ => bigSep_congr fun j _ => ?_
  unfold Held
  refine congrArg₂ _ (bigSep_congr fun k _ => ?_) (congrArg₂ _ ?_ (bigSep_congr fun k _ => ?_))
  · unfold IB iP; rfl
  · unfold TB; rfl
  · unfold OB oP; rfl

theorem goX_eq7 (d : Dev nD) (c : Fin 2) (j : Fin 16) : goX m 7 d c j = Held d (coo c j) (Memref.whole main_arg1_scv) (Memref.whole main_v38_scv) (Memref.whole main_v39_scv) (tab₀ m d) (rows 7 (ids₀ m d)) (qT c j) (m ((SparseCore.T d).loc main_v39)) := rfl
theorem st_eq7 (d : Dev nD) : (bigSep Finset.univ fun c : Fin ((K (F := F)).nCore 7) => (P m).st 7 d c)
    = iprop(((SparseCore.T d).loc main_arg1 ↦{fullShare} tab₀ m d) ∗ ((SparseCore.T d).loc main_v38 ↦{fullShare} rows 7 (ids₀ m d)) ∗ (SparseCore.T d).loc main_v39 ↦{fullShare} m ((SparseCore.T d).loc main_v39)) := by
  refine (cores 7 rfl rfl (goX m 7 d)).trans ?_
  refine Eq.trans ?_ (held7 d (tab₀ m d) (rows 7 (ids₀ m d)) (m ((SparseCore.T d).loc main_v39)))
  exact bigSep_congr fun c _ => bigSep_congr fun j _ => goX_eq7 m d c j
theorem tdX_eq7 (d : Dev nD) (c : Fin 2) (j : Fin 16) : tdX m 7 d c j = Held d (coo c j) (Memref.whole main_arg1_scv) (Memref.whole main_v38_scv) (Memref.whole main_v39_scv) (tab₀ m d) (rows 7 (ids₀ m d)) (qT c j) (got m d 7) := rfl
theorem dn_eq7 (d : Dev nD) : (bigSep Finset.univ fun c : Fin ((K (F := F)).nCore 7) => (P m).dn 7 d c)
    = iprop(((SparseCore.T d).loc main_arg1 ↦{fullShare} tab₀ m d) ∗ ((SparseCore.T d).loc main_v38 ↦{fullShare} rows 7 (ids₀ m d)) ∗ (SparseCore.T d).loc main_v39 ↦{fullShare} got m d 7) := by
  refine (cores 7 rfl rfl (tdX m 7 d)).trans ?_
  refine Eq.trans ?_ (held7 d (tab₀ m d) (rows 7 (ids₀ m d)) (got m d 7))
  exact bigSep_congr fun c _ => bigSep_congr fun j _ => tdX_eq7 m d c j

end Cert.Embed

end
-- ==== Proof.Ln.lean ====
/-
  The normalisation's body: from the block of gathered rows, the position rows, the token-type rows, the scale and the
  shift it leaves the normalised block.
-/
module

public import proofs.«01_k».proof.Proof.Common
public import proofs.«01_k».proof.Proof.Gen.KernelIdeal.Skeleton
public import Idealize.ShloMosaic.Lib.Pipeline.Value
public import Idealize.ShloMosaic.Lib.VecWindow

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 8) (Elt F) ℕ UU ℕ

/-- The block the body stores, of the five it loads. -/
def lnBlock (x : Vec F S8x512x128 .f32) (p : Vec F S512x128 .f32) (t : Vec F S2x128 .f32) (g b : Vec F S1x128 .f32) :
    FVec F S8x512x128 .f32 :=
  k1_pay1 (k1_pay2 x p t g b)

section Whole

variable {cs : CoreSpace} {s : Shape} {e : EltTy} {α : Type} {d : Dev nD} {E : Set ℕ}

/-- A load of a memref whole. -/
theorem load_whole (A : Memref sig .tc cs s e) {off : Fin s.rank → ℕ} (inb : ∀ a, off a + s.size a ≤ s.size a) (h0 : off = fun _ => 0)
    (hl : A.view.LoadsAt (Rect.unit off s.size inb).toLoadRect)
    (k : (s.Idx → Elt F e) → Prog (TpuEff nD τ sig (Elt F) Λ₀ .tc) α) (X : s.Idx → Elt F e) (Q : α → sProp 𝕄) :
    iprop(owns (Name := ℕ) (U := UU) (Lvl := ℕ) (Ix := HIx 8) (d : Thread nD τ) A fullShare X
      ∗ (owns (d : Thread nD τ) A fullShare X -∗ wp frame (wpE (defs₀ (F := F)) 𝒱₀ d none) E (k X) Q))
      ⊢ wp frame (wpE (defs₀ (F := F)) 𝒱₀ d none) E (.op (.load A (Rect.unit off s.size inb).toLoadRect hl) k) Q := by
  unfold owns
  iintro ⟨⟨%f, %hf, H⟩, Hk⟩
  iapply (wp_load 𝒱₀ (d : Thread nD τ) none E (S := A.view.set) (q := fullShare) (f := f) (View.setOn_subset_set _ _)) $$ H
  iintro H
  have e1 : A.view.readAt (Elt F) (Rect.unit off s.size inb).toLoadRect f = X := by
    rw [View.readAt_eq_ld, hf]; exact View.ld_unit_zero h0 inb X
  rw [e1]
  iapply Hk
  iexists f; isplitr; · ipureintro; exact hf
  iexact H

/-- A store to a memref whole. -/
theorem store_whole (A : Memref sig .tc cs s e) {off : Fin s.rank → ℕ} (inb : ∀ a, off a + s.size a ≤ s.size a) (h0 : off = fun _ => 0)
    (w : s.Idx → Elt F e) (hx : (A.access (Rect.unit off s.size inb)).Stores Finset.univ) (hm : (Finset.univ : Finset s.Idx) = Finset.univ ∨ ∀ a, (Rect.unit off s.size inb).stride a = 1)
    (k : PUnit → Prog (TpuEff nD τ sig (Elt F) Λ₀ .tc) α) (X : s.Idx → Elt F e) (Q : α → sProp 𝕄) :
    iprop(owns (Name := ℕ) (U := UU) (Lvl := ℕ) (Ix := HIx 8) (d : Thread nD τ) A fullShare X
      ∗ (owns (d : Thread nD τ) A fullShare w -∗ wp frame (wpE (defs₀ (F := F)) 𝒱₀ d none) E (k ⟨⟩) Q))
      ⊢ wp frame (wpE (defs₀ (F := F)) 𝒱₀ d none) E (.op (.store A (Rect.unit off s.size inb) w Finset.univ hx hm) k) Q := by
  unfold owns
  iintro ⟨⟨%f, -, H⟩, Hk⟩
  iapply (wp_store 𝒱₀ (d : Thread nD τ) none E (S := A.view.set) (f := f) (m := A) (r := Rect.unit off s.size inb) (w := w) (hx := hx) (hm := hm)
    ((View.setOn_subset_set _ _).trans (View.set_slice_subset _ _))) $$ H
  iintro H
  iapply Hk
  iexists _; isplitr; swap; · iexact H
  ipureintro
  exact View.read_writes_full A.view f inb w []

end Whole

theorem ln_spec (d : Dev nD) (i : grid1.Coords) (E : Set ℕ)
    (A1 : Memref sig .tc .vmem S8x512x128 .f32) (h1 : A1.IsWhole) (A2 : Memref sig .tc .vmem S512x128 .f32) (h2 : A2.IsWhole)
    (A3 : Memref sig .tc .vmem S2x128 .f32) (h3 : A3.IsWhole) (A4 : Memref sig .tc .vmem S1x128 .f32) (h4 : A4.IsWhole)
    (A5 : Memref sig .tc .vmem S1x128 .f32) (h5 : A5.IsWhole) (A6 : Memref sig .tc .vmem S8x512x128 .f32) (h6 : A6.IsWhole)
    (x : Vec F S8x512x128 .f32) (p : Vec F S512x128 .f32) (t : Vec F S2x128 .f32) (g b : Vec F S1x128 .f32) (y : Vec F S8x512x128 .f32) (Q : PUnit → sProp 𝕄) :
    iprop((owns (d : Thread nD τ) A1 fullShare x ∗ owns (d : Thread nD τ) A2 fullShare p ∗ owns (d : Thread nD τ) A3 fullShare t
        ∗ owns (d : Thread nD τ) A4 fullShare g ∗ owns (d : Thread nD τ) A5 fullShare b ∗ owns (d : Thread nD τ) A6 fullShare y)
      ∗ ((owns (d : Thread nD τ) A1 fullShare x ∗ owns (d : Thread nD τ) A2 fullShare p ∗ owns (d : Thread nD τ) A3 fullShare t
        ∗ owns (d : Thread nD τ) A4 fullShare g ∗ owns (d : Thread nD τ) A5 fullShare b ∗ owns (d : Thread nD τ) A6 fullShare (lnBlock x p t g b)) -∗ Q ⟨⟩))
      ⊢ wp frame (wpE (defs₀ (F := F)) 𝒱₀ d none) E (cc1__ln_body i A1 h1 A2 h2 A3 h3 A4 h4 A5 h5 A6 h6) Q := by
  rw [cc1__ln_body_eq_skeleton]
  unfold cc1__ln_body_skel
  rw [k1_part1_eq_skeleton]
  unfold k1_part1_skel
  simp only [Prog.lift, Prog.bind_op, Prog.bind_ret, bind_assoc, pure_bind]
  iintro ⟨⟨H1, H2, H3, H4, H5, H6⟩, Hk⟩
  iapply (load_whole A1 _ (by decide) _ _ x Q) $$ [H1 H2 H3 H4 H5 H6 Hk]
  isplitl [H1]; · iexact H1
  iintro H1
  iapply (load_whole A2 _ (by decide) _ _ p Q) $$ [H1 H2 H3 H4 H5 H6 Hk]
  isplitl [H2]; · iexact H2
  iintro H2
  iapply (load_whole A3 _ (by decide) _ _ t Q) $$ [H1 H2 H3 H4 H5 H6 Hk]
  isplitl [H3]; · iexact H3
  iintro H3
  iapply (load_whole A4 _ (by decide) _ _ g Q) $$ [H1 H2 H3 H4 H5 H6 Hk]
  isplitl [H4]; · iexact H4
  iintro H4
  iapply (load_whole A5 _ (by decide) _ _ b Q) $$ [H1 H2 H3 H4 H5 H6 Hk]
  isplitl [H5]; · iexact H5
  iintro H5
  iapply (load_whole A6 _ (by decide) _ _ y Q) $$ [H1 H2 H3 H4 H5 H6 Hk]
  isplitl [H6]; · iexact H6
  iintro H6
  iapply (store_whole A6 _ (by decide) _ _ _ _ y Q) $$ [H1 H2 H3 H4 H5 H6 Hk]
  isplitl [H6]; · iexact H6
  iintro H6
  sl_step
  iapply Hk
  isplitl [H1]; · iexact H1
  isplitl [H2]; · iexact H2
  isplitl [H3]; · iexact H3
  isplitl [H4]; · iexact H4
  isplitl [H5]; · iexact H5
  iexact H6

end Cert.Embed

end
-- ==== Proof.Whole.lean ====
/-
  The normalisation of a whole chunk of 128 sequences, block by block of 8; and what the thread of the TensorCore owes
  between the SparseCore calls.
-/
module

public import proofs.«01_k».proof.Proof.Ln
public import proofs.«01_k».proof.Proof.Gen.KernelIdeal.Launch
public import Idealize.ShloMosaic.Lib.Pipeline.ValueKit

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 8) (Elt F) ℕ UU ℕ

/-- An index of a chunk, and one of a block of it. -/
def at128 (a : Fin 128) (b : Fin 512) (c : Fin 128) : S128x512x128.Idx := fun | 0 => a | 1 => b | 2 => c
def at8 (a : Fin 8) (b : Fin 512) (c : Fin 128) : S8x512x128.Idx := fun | 0 => a | 1 => b | 2 => c

/-- The block of 8 sequences that sequence `a` of a chunk lies in. -/
def blockOf {α : Type} (x : S128x512x128.Idx → α) (a : Fin 128) : S8x512x128.Idx → α :=
  fun z => x (at128 ⟨8 * (a.val / 8) + (z 0).val, by have := (z 0).isLt; have := a.isLt; simp at *; omega⟩ (z 1) (z 2))

/-- The chunk normalised. -/
def lnAll (x : S128x512x128.Idx → Elt F .f32) (p : Vec F S512x128 .f32) (t : Vec F S2x128 .f32) (g b : Vec F S1x128 .f32) :
    S128x512x128.Idx → Elt F .f32 :=
  fun i => lnBlock (blockOf x (i 0)) p t g b (at8 ⟨(i 0).val % 8, Nat.mod_lt _ (by decide)⟩ (i 1) (i 2))

theorem lnAll_eq {x : S128x512x128.Idx → Elt F .f32} {p p' : Vec F S512x128 .f32} {t t' : Vec F S2x128 .f32} {g g' b b' : Vec F S1x128 .f32}
    {x' : Vec F S8x512x128 .f32} (k : ℕ) {y : S8x512x128.Idx} {i : S128x512x128.Idx}
    (hi : ∀ a, (i a).val = (if a = 0 then 8 * k else 0) + (y a).val)
    (hx : ∀ (z : S8x512x128.Idx) (j : S128x512x128.Idx), (∀ a, (j a).val = (if a = 0 then 8 * k else 0) + (z a).val) → x' z = x j)
    (hp : p' = p) (ht : t' = t) (hg : g' = g) (hb : b' = b) :
    lnBlock x' p' t' g' b' y = lnAll x p t g b i := by
  subst hp; subst ht; subst hg; subst hb
  unfold lnAll
  have h0 := hi 0
  have h1 := hi 1
  have h2 := hi 2
  have l0 : (y 0).val < 8 := (y 0).isLt
  simp only [if_pos, if_neg, show ((1 : Fin 3) = 0) = False from by decide, show ((2 : Fin 3) = 0) = False from by decide, if_false, zero_add] at h0 h1 h2
  have hx' : x' = blockOf x (i 0) := funext fun z => by
    refine hx z _ fun a => ?_
    match a with
    | 0 =>
      show 8 * ((i 0).val / 8) + (z 0).val = _
      rw [h0]; simp only [if_true]; omega
    | 1 => show (z 1).val = 0 + (z 1).val; omega
    | 2 => show (z 2).val = 0 + (z 2).val; omega
  have hy : y = at8 ⟨(i 0).val % 8, Nat.mod_lt _ (by decide)⟩ (i 1) (i 2) := funext fun a => Fin.ext (by
    match a with
    | 0 => show (y 0).val = (i 0).val % 8; omega
    | 1 => exact h1.symm
    | 2 => exact h2.symm)
  rw [hx', ← hy]

/-- The waits the TensorCore may have recorded before the SparseCore call numbered `n`. -/
def heard (n : ℕ) (c : Dev nD) : Set (SemLoc sig × HIx 8) :=
  {p | (K (F := F)).lev (((c : Thread nD τ)), p.1) p.2 ≤ 8 * n}

theorem Otc_none (n : ℕ) (c : Dev nD) (g : GSem nD τ sig) : (K (F := F)).Otc c n g none = 0 := by
  by_contra h
  have := (K (F := F)).lev_of_Otc_pos (Nat.pos_of_ne_zero h)
  rw [SparseCore.Cfg.lev_none] at this; omega

theorem heard_of_bound {cfg : Pipeline.Cfg sig Λ₀} {n : ℕ} {c : Dev nD} {x : SemLoc sig × HIx 8}
    (h : x ∈ heard (F := F) n c ∪ cfg.waitPairs none) : x ∈ heard (F := F) n c := by
  rcases h with h | ⟨w, s, rfl⟩
  · exact h
  · show (K (F := F)).lev _ _ ≤ _
    rw [SparseCore.Cfg.lev_none]; exact Nat.zero_le _

/-- The pipelines take no tables. -/
abbrev adm : (p : Fin 8) → (pcfgs (F := F) p).Adm := fun p => (cfgs p).toPCfg_adm

/-- Proof data for a pipeline that a region does not run. -/
def noDat {cfg : Pipeline.Cfg sig Λ₀} (c : Dev nD) : Pipeline.Dat τ (Elt F) (HIx 8) ℕ UU ℕ cfg c where
  A _ := fun _ => Classical.arbitrary _
  after _ _ := fun _ => Classical.arbitrary _
  Φ _ := BI.emp
  q _ := fullShare
  owed _ := 0

end Cert.Embed

end
-- ==== Proof.Host.lean ====
/-
  The TensorCore's program step by step: the array operations, a SparseCore call, a region; over all its buffers held at
  a valuation.
-/
module

public import proofs.«01_k».proof.Proof.Deal
public import proofs.«01_k».proof.Proof.Whole

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 8) (Elt F) ℕ UU ℕ

instance EP_landsIn : (EP : Emb UP 𝕄).LandsIn upEmb := by unfold EP; infer_instance

/-- Contents of the TensorCore's buffers. -/
abbrev Vl (F : FTy → Type) := Valuation τ sig (Elt F)

/-- The TensorCore's buffers that live through the program. -/
def ucRefs : Finset (DevRef τ sig) := (StableHlo.tcRefs τ sig).filter (¬ ·.isScoped)

omit [FloatOps F] in
theorem unscopedBufs_held (c : Dev nD) (W : Vl F) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, by simp [op.no_scoped b hb]⟩

/-- The contents `W`, but `f` at `r`. -/
def put (W : Vl F) (r : Ref sig .tc) (f : r.ty.Contents (Elt F)) : Vl F := Function.update W (Proc.devRef .tc r) f

omit [FloatOps F] in
theorem put_self (W : Vl F) (r : Ref sig .tc) (f : r.ty.Contents (Elt F)) : put W r f r = f := Function.update_self ..
omit [FloatOps F] in
theorem put_ne (W : Vl F) {r s : Ref sig .tc} (f : r.ty.Contents (Elt F)) (h : s ≠ r) : put W r f s = W s :=
  Function.update_of_ne (StableHlo.devRef_ne_of_ne h) ..

omit [FloatOps F] in
theorem mem_ucRefs {b : Ref sig .tc} (h : (Proc.devRef (τ := τ) .tc b).isScoped = false) : Proc.devRef (τ := τ) .tc b ∈ ucRefs :=
  Finset.mem_filter.mpr ⟨StableHlo.devRef_mem_tcRefs b, by simp [h]⟩

/-- Three buffers out of those held, the last put back with other contents. -/
theorem held_three (d : Dev nD) {a b c : Ref sig .tc}
    (ha : (Proc.devRef (τ := τ) .tc a).isScoped = false) (hb : (Proc.devRef (τ := τ) .tc b).isScoped = false) (hc : (Proc.devRef (τ := τ) .tc c).isScoped = false)
    (hab : a ≠ b) (hac : a ≠ c) (hbc : b ≠ c) (W : Vl F) (f : c.ty.Contents (Elt F)) :
    ∃ R : sProp 𝕄,
      (StableHlo.held (d : Thread nD τ) ucRefs W
        = iprop((((d : Thread nD τ).loc a ↦{fullShare} W a) ∗ ((d : Thread nD τ).loc b ↦{fullShare} W b) ∗ (d : Thread nD τ).loc c ↦{fullShare} W c) ∗ R))
      ∧ (StableHlo.held (d : Thread nD τ) ucRefs (put W c f)
        = iprop((((d : Thread nD τ).loc a ↦{fullShare} W a) ∗ ((d : Thread nD τ).loc b ↦{fullShare} W b) ∗ (d : Thread nD τ).loc c ↦{fullShare} f) ∗ R)) := by
  have hT : ({Proc.devRef .tc a, Proc.devRef .tc b, Proc.devRef .tc c} : Finset (DevRef τ sig)) ⊆ ucRefs := by
    intro x hx
    simp only [Finset.mem_insert, Finset.mem_singleton] at hx
    rcases hx with rfl | rfl | rfl
    · exact mem_ucRefs ha
    · exact mem_ucRefs hb
    · exact mem_ucRefs hc
  have hin (V : Vl F) : (StableHlo.held (d : Thread nD τ) {Proc.devRef .tc a, Proc.devRef .tc b, Proc.devRef .tc c} V : sProp 𝕄)
      = iprop(((d : Thread nD τ).loc a ↦{fullShare} V a) ∗ ((d : Thread nD τ).loc b ↦{fullShare} V b) ∗ (d : Thread nD τ).loc c ↦{fullShare} V c) := by
    unfold StableHlo.held
    rw [SparseCore.bigSep_insert' (by
        simp only [Finset.mem_insert, Finset.mem_singleton, not_or]
        exact ⟨StableHlo.devRef_ne_of_ne hab, StableHlo.devRef_ne_of_ne hac⟩),
      SparseCore.bigSep_insert' (by
        simp only [Finset.mem_singleton]; exact StableHlo.devRef_ne_of_ne hbc), bigSep_singleton]
  refine ⟨StableHlo.held (d : Thread nD τ) (ucRefs \ {Proc.devRef .tc a, Proc.devRef .tc b, Proc.devRef .tc c}) W, ?_, ?_⟩
  · rw [StableHlo.held_sub_split _ hT W, hin]
  · rw [StableHlo.held_sub_split _ hT, hin, put_self, put_ne W f hac, put_ne W f hbc]
    refine congrArg _ (StableHlo.held_congr _ fun x hx => Function.update_of_ne (fun h => ?_) ..)
    exact (Finset.mem_sdiff.mp hx).2 (by simp [h])

variable (m : (ℓ : Loc nD τ sig) → Buf (Elt F) ℓ) (κ : GSem nD τ sig → ℕ)

/-- A SparseCore call: of the three buffers it is handed it leaves the last at what the subcores wrote. -/
theorem sc_step (d : Dev nD) (q : Fin 8) {a b c : Ref sig .tc}
    (ha : (Proc.devRef (τ := τ) .tc a).isScoped = false) (hb : (Proc.devRef (τ := τ) .tc b).isScoped = false) (hc : (Proc.devRef (τ := τ) .tc c).isScoped = false)
    (hab : a ≠ b) (hac : a ≠ c) (hbc : b ≠ c) (W : Vl F) (f : c.ty.Contents (Elt F))
    (hst : (bigSep Finset.univ fun c : Fin ((K (F := F)).nCore q) => (P m).st q d c)
      = iprop(((d : Thread nD τ).loc a ↦{fullShare} W a) ∗ ((d : Thread nD τ).loc b ↦{fullShare} W b) ∗ (d : Thread nD τ).loc c ↦{fullShare} W c))
    (hdn : (bigSep Finset.univ fun c : Fin ((K (F := F)).nCore q) => (P m).dn q d c)
      = iprop(((d : Thread nD τ).loc a ↦{fullShare} W a) ∗ ((d : Thread nD τ).loc b ↦{fullShare} W b) ∗ (d : Thread nD τ).loc c ↦{fullShare} f))
    (Q : PUnit → sProp 𝕄) :
    iprop((K (F := F)).ctx EH (P m) κ ∗ (K (F := F)).tcSt EH d q.val ∗ StableHlo.held (d : Thread nD τ) ucRefs W
        ∗ (((K (F := F)).tcSt EH d (q.val + 1) ∗ StableHlo.held (d : Thread nD τ) ucRefs (put W c f)) -∗ Q ⟨⟩))
      ⊢ wp frame (wpE ((K (F := F)).defs (D (F := F))) 𝒱 (SparseCore.T d) none) Set.univ ((K (F := F)).run d q) Q := by
  obtain ⟨R, h1, h2⟩ := held_three (F := F) d ha hb hc hab hac hbc W f
  rw [h1, h2, ← hst, ← hdn]
  iintro ⟨#Hctx, Hst, ⟨Hin, HR⟩, Hk⟩
  iapply ((K (F := F)).wp_run (D (F := F)) 𝒱 (EH := EH) (P := P m) κ d q) $$ [Hst Hin HR Hk]
  isplitr; · iexact Hctx
  isplitl [Hst]; · iexact Hst
  isplitl [Hin]; · iexact Hin
  iintro ⟨Hst, Hdn⟩
  iapply Hk
  isplitl [Hst]; · iexact Hst
  isplitl [Hdn] <;> iassumption

/-- What a region needs of the thread's state between the calls, and gives back. -/
theorem tcSt_open (d : Dev nD) (n : ℕ) :
    ∃ R : sProp 𝕄, (K (F := F)).tcSt EH d n
      = iprop((∃ W : Waits sig (HIx 8), ⌜↑W ⊆ heard (F := F) n d⌝ ∗ owes (d : Thread nD τ) ((K (F := F)).Otc d n) W) ∗ R) := by
  refine ⟨iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1))), ?_⟩
  unfold SparseCore.Cfg.tcSt
  rfl

/-- A region of the TensorCore. -/
theorem region_step (d : Dev nD) (n : ℕ) (p : Fin 8)
    (pd : (p : Fin 8) → (c : Dev nD) → Pipeline.Dat τ (Elt F) (HIx 8) ℕ UU ℕ (Pipeline.pin (pcfgs (F := F)) adm p) c)
    (W W' : Vl F)
    (R : Pipeline.RegionSeg (pcfgs (F := F)) adm pd none defs₀ 𝒱₀ ((K (F := F)).L (nD := nD)) (K (F := F)).lev p)
    (hpre : R.pre d = iprop(unscopedBufs d (fun b => W b) ∗ ∃ X : Waits sig (HIx 8), ⌜↑X ⊆ heard (F := F) n d⌝ ∗ owes (d : Thread nD τ) ((K (F := F)).Otc d n) X))
    (hpost : R.post d = iprop(unscopedBufs d (fun b => W' b) ∗ ∃ X : Waits sig (HIx 8), ⌜↑X ⊆ heard (F := F) n d⌝ ∗ owes (d : Thread nD τ) ((K (F := F)).Otc d n) X))
    [∀ e, Nonempty (Elt F e)] (Q : PUnit → sProp 𝕄) :
    iprop((K (F := F)).ctx EH (P m) κ ∗ (K (F := F)).tcSt EH d n ∗ boundary (d : Thread nD τ) ∗ StableHlo.held (d : Thread nD τ) ucRefs W
        ∗ Pipeline.cellsGhost (Pipeline.pin (pcfgs (F := F)) adm) EP p d ∗ Pipeline.toksInit (Pipeline.pin (pcfgs (F := F)) adm) EP p d
        ∗ (((K (F := F)).tcSt EH d n ∗ boundary (d : Thread nD τ) ∗ StableHlo.held (d : Thread nD τ) ucRefs W') -∗ Q ⟨⟩))
      ⊢ wp frame (wpE ((K (F := F)).defs (D (F := F))) 𝒱 (SparseCore.T d) none) Set.univ
          (Prog.lift (.customCall (SparseCore.inner (Pipeline.entry p)) ())) Q := by
  obtain ⟨X, hX⟩ := tcSt_open (F := F) d n
  rw [hX, ← unscopedBufs_held d W, ← unscopedBufs_held d W']
  refine BI.Entails.trans ?_ ((K (F := F)).wp_liftProg (D (F := F)) 𝒱 (SparseCore.T d) Set.univ none (Prog.lift (.customCall (Pipeline.entry p) ())) Q)
  have h := Pipeline.RegionSeg.wp (pcfgs (F := F)) adm pd none cellOf_inj EP defs₀ 𝒱₀ ((K (F := F)).L (nD := nD)) (K (F := F)).lev R d none
    (fun u hu => absurd hu (Option.not_mem_none u)) (fun _ => .ret ⟨⟩) Q
  rw [hpre, hpost] at h
  refine BI.Entails.trans ?_ h
  show (_ : sProp 𝕄) ⊢ _
  iintro ⟨#Hctx, ⟨HO, HX⟩, Hb, Hh, Hg, Ht, Hk⟩
  isplitl [HX Hk]
  · iintro ⟨Hb, Hh, HO⟩
    rw [wp_ret]
    imodintro
    iapply Hk
    isplitl [HO HX]
    · isplitl [HO] <;> iassumption
    isplitl [Hb] <;> iassumption
  isplitl [Hb]; · iexact Hb
  isplitl [Hh HO]
  · isplitl [Hh] <;> iassumption
  isplitr
  · iapply ((K (F := F)).ctx_levAts κ); iexact Hctx
  isplitl [Hg] <;> iassumption

end Cert.Embed

end
-- ==== Proof.Chain.lean ====
/-
  What each of the eight chunks leaves, and what holds between the chunks.
-/
module

public import proofs.«01_k».proof.Proof.Host

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rows of the token ids a chunk cuts out, laid end to end. -/
theorem rows_eq {α : Type} (q : Fin 8) (ids : S1024x512.Idx → α) (off : Fin 2 → ℕ) (ho : off = ![128 * q.val, 0])
    (h : S1024x512.Slices off S128x512) (h' : S128x512.ShapeCasts S1x65536) :
    shapeCast S1x65536 (extractStridedSlice S128x512 off ids h) h' = rows q ids := by
  subst ho
  funext y
  have h0 : (y 0).val = 0 := by have : (y 0).val < 1 := (y 0).isLt; omega
  have h1 : (y 1).val < 65536 := (y 1).isLt
  refine (shapeCast_apply _ h' y (Shape.pair ⟨(y 1).val / 512, by show _ < 128; omega⟩ ⟨(y 1).val % 512, Nat.mod_lt _ (by decide)⟩) ?_).trans ?_
  · rw [rowMajor_val2 _ 512 rfl, rowMajor_val2 _ 65536 rfl]
    show (y 1).val / 512 * 512 + (y 1).val % 512 = (y 0).val * 65536 + (y 1).val
    omega
  · unfold extractStridedSlice rows
    refine congrArg ids (funext fun a => Fin.ext ?_)
    match a with
    | 0 => rfl
    | 1 => exact Nat.zero_add _

variable (m : (ℓ : Loc nD τ sig) → Buf (Elt F) ℓ)

/-- The scale and the shift, as rows. -/
def gam (d : Dev nD) : Vec F S1x128 .f32 := shapeCast S1x128 (m ((d : Thread nD τ).loc main_arg4)) shapeCasts_S128_S1x128
def bet (d : Dev nD) : Vec F S1x128 .f32 := shapeCast S1x128 (m ((d : Thread nD τ).loc main_arg5)) shapeCasts_S128_S1x128

/-- What chunk `q` leaves: the rows gathered by its ids, normalised. -/
def outAt (d : Dev nD) (q : Fin 8) : S128x512x128.Idx → Elt F .f32 :=
  lnAll (shapeCast S128x512x128 (got m d q) shapeCasts_S65536x128_S128x512x128)
    (m ((d : Thread nD τ).loc main_arg2)) (m ((d : Thread nD τ).loc main_arg3)) (gam m d) (bet m d)

/-- The program's result. -/
def whole (d : Dev nD) : S1024x512x128.Idx → Elt F .f32 :=
  concatenate S1024x512x128 0 [⟨S128x512x128, outAt m d 0⟩, ⟨S128x512x128, outAt m d 1⟩, ⟨S128x512x128, outAt m d 2⟩, ⟨S128x512x128, outAt m d 3⟩,
      ⟨S128x512x128, outAt m d 4⟩, ⟨S128x512x128, outAt m d 5⟩, ⟨S128x512x128, outAt m d 6⟩, ⟨S128x512x128, outAt m d 7⟩]
    concatenates_S128x512x128_S128x512x128_S128x512x128_S128x512x128_S128x512x128_S128x512x128_S128x512x128_S128x512x128_S1024x512x128_d0

/-- The buffers chunk `q` writes. -/
def five : Fin 8 → List (Ref sig .tc)
  | 0 => [main_v2, main_v3, main_v4, main_v5, main_v6]
  | 1 => [main_v7, main_v8, main_v9, main_v10, main_v11]
  | 2 => [main_v12, main_v13, main_v14, main_v15, main_v16]
  | 3 => [main_v17, main_v18, main_v19, main_v20, main_v21]
  | 4 => [main_v22, main_v23, main_v24, main_v25, main_v26]
  | 5 => [main_v27, main_v28, main_v29, main_v30, main_v31]
  | 6 => [main_v32, main_v33, main_v34, main_v35, main_v36]
  | 7 => [main_v37, main_v38, main_v39, main_v40, main_v41]

theorem v0_not_five : ∀ q : Fin 8, main_v0 ∉ five q := by decide
theorem v1_not_five : ∀ q : Fin 8, main_v1 ∉ five q := by decide

/-- Before the chunk numbered `n`: a buffer no earlier operation wrote is as at launch, the scale and shift are as rows. -/
structure Before (d : Dev nD) (n : ℕ) (W : Vl F) : Prop where
  clean : ∀ r : Ref sig .tc, r ≠ main_v0 → r ≠ main_v1 → (∀ q : Fin 8, q.val < n → r ∉ five q) → W r = m ((d : Thread nD τ).loc r)
  scale : W main_v0 = gam m d
  shift : W main_v1 = bet m d

/-- Chunk `q`, from `W` to `W'`. -/
structure Chunk (d : Dev nD) (q : Fin 8) (W W' : Vl F) : Prop where
  before : Before m d (q.val + 1) W'
  keeps : ∀ r : Ref sig .tc, r ∉ five q → W' r = W r

theorem Chunk.mk' {d : Dev nD} {q : Fin 8} {W W' : Vl F} (h : Before m d q.val W) (k : ∀ r : Ref sig .tc, r ∉ five q → W' r = W r) :
    Chunk m d q W W' where
  keeps := k
  before :=
    { clean := fun r h0 h1 hr => (k r (hr q (Nat.lt_succ_self _))).trans (h.clean r h0 h1 fun p hp => hr p (Nat.lt_succ_of_lt hp))
      scale := (k _ (v0_not_five q)).trans h.scale
      shift := (k _ (v1_not_five q)).trans h.shift }

end Cert.Embed

end
-- ==== Proof.Region1.lean ====
/-
  One of the normalisation's pipelines: what it writes, and its region of the program, from the unscoped buffers at a
  valuation to the same at the valuation with the result written.
-/
module

public import proofs.«01_k».proof.Proof.Whole
public import proofs.«01_k».proof.Proof.Gen.KernelIdeal.Points

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 8) (Elt F) ℕ UU ℕ

variable (V : (c : Dev nD) → (b : Ref sig .tc) → Buf (Elt F) ((c : Thread nD τ).loc b))

/-! ## Call 1 -/

/-- Its proof data from the valuation `V`, before the SparseCore call numbered `n`. -/
def dat1 (n : ℕ) (c : Dev nD) : Dat τ (Elt F) (HIx 8) ℕ UU ℕ cfg1 c where
  A w := V c (Pipeline.arrRef spec1 w)
  after w t := match w with
    | ⟨0, _⟩ => ((cfg1.win 0).blk t).view.read (Elt F) (V c main_v5)
    | ⟨1, _⟩ => ((cfg1.win 1).blk t).view.read (Elt F) (V c main_arg2)
    | ⟨2, _⟩ => ((cfg1.win 2).blk t).view.read (Elt F) (V c main_arg3)
    | ⟨3, _⟩ => ((cfg1.win 3).blk t).view.read (Elt F) (V c main_v0)
    | ⟨4, _⟩ => ((cfg1.win 4).blk t).view.read (Elt F) (V c main_v1)
    | ⟨5, _⟩ => lnBlock (((cfg1.win 0).blk t).view.read (Elt F) (V c main_v5))
        (((cfg1.win 1).blk t).view.read (Elt F) (V c main_arg2)) (((cfg1.win 2).blk t).view.read (Elt F) (V c main_arg3))
        (((cfg1.win 3).blk t).view.read (Elt F) (V c main_v0)) (((cfg1.win 4).blk t).view.read (Elt F) (V c main_v1))
  Φ _ := Pipeline.scopedRest (Ix := HIx 8) (Name := ℕ) (U := UU) (Lvl := ℕ) (Val := Elt F) spec1 c
  q _ := fullShare
  owed _ := (K (F := F)).Otc c n
  recorded _ := heard (F := F) n c

theorem before1 (n : ℕ) (c : Dev nD) (t : Fin cfg1.N) :
(∀ d, (dat1 V n c).before 0 t d = ((cfg1.win 0).blk t).view.read (Elt F) (V c main_v5)) ∧
    (∀ d, (dat1 V n c).before 1 t d = ((cfg1.win 1).blk t).view.read (Elt F) (V c main_arg2)) ∧
    (∀ d, (dat1 V n c).before 2 t d = ((cfg1.win 2).blk t).view.read (Elt F) (V c main_arg3)) ∧
    (∀ d, (dat1 V n c).before 3 t d = ((cfg1.win 3).blk t).view.read (Elt F) (V c main_v0)) ∧
    (∀ d, (dat1 V n c).before 4 t d = ((cfg1.win 4).blk t).view.read (Elt F) (V c main_v1)) :=
  ⟨fun d => (dat1 V n c).before_in_eq_fetched 0 rfl (fun _ => rfl) (fun _ _ _ => rfl) (fun _ => rfl) t d,
    fun d => (dat1 V n c).before_in_eq_fetched 1 rfl (fun _ => rfl) (fun _ _ _ => rfl) (fun _ => rfl) t d,
    fun d => (dat1 V n c).before_in_eq_fetched 2 rfl (fun _ => rfl) (fun _ _ _ => rfl) (fun _ => rfl) t d,
    fun d => (dat1 V n c).before_in_eq_fetched 3 rfl (fun _ => rfl) (fun _ _ _ => rfl) (fun _ => rfl) t d,
    fun d => (dat1 V n c).before_in_eq_fetched 4 rfl (fun _ => rfl) (fun _ _ _ => rfl) (fun _ => rfl) t d⟩

theorem body1 (n : ℕ) (c : Dev nD) : BodyObligation (dat1 V n c) (defs₀ (F := F)) 𝒱₀ none Set.univ := fun t => by
  obtain ⟨b0, b1, b2, b3, b4⟩ := before1 V n c t
  rw [bigSep_W1, bigSep_W1]
  dsimp only
  simp only [b0, b1, b2, b3, b4]
  rw [show (dat1 V n c).Φ t.succ = (dat1 V n c).Φ t.castSucc from rfl,
    show (dat1 V n c).owesAt none t.succ = (dat1 V n c).owesAt none t.castSucc from rfl]
  iintro ⟨HΦ, HO, ⟨%d0, H0⟩, ⟨%d1, H1⟩, ⟨%d2, H2⟩, ⟨%d3, H3⟩, ⟨%d4, H4⟩, ⟨%d5, H5⟩⟩
  iapply (ln_spec c (grid1.coords t) Set.univ (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5)) _ _ _ _ _ _ _)
    $$ [HΦ HO H0 H1 H2 H3 H4 H5]
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-- What it leaves in its result. -/
theorem out1 (n : ℕ) (c : Dev nD) :
    (dat1 V n c).arrAt 5 cfg1.N = lnAll (V c main_v5) (V c main_arg2) (V c main_arg3) (V c main_v0) (V c main_v1) := by
  have e0 : ∀ t : Fin cfg1.N, win1_0.index t = ![t.val, 0, 0] := (by decide +kernel : ∀ t : Fin grid1.N, _)
  have e5 : ∀ t : Fin cfg1.N, win1_5.index t = ![t.val, 0, 0] := (by decide +kernel : ∀ t : Fin grid1.N, _)
  have e1 : ∀ t : Fin cfg1.N, win1_1.index t = ![0, 0] := (by decide +kernel : ∀ t : Fin grid1.N, _)
  have e2 : ∀ t : Fin cfg1.N, win1_2.index t = ![0, 0] := (by decide +kernel : ∀ t : Fin grid1.N, _)
  have e3 : ∀ t : Fin cfg1.N, win1_3.index t = ![0, 0] := (by decide +kernel : ∀ t : Fin grid1.N, _)
  have e4 : ∀ t : Fin cfg1.N, win1_4.index t = ![0, 0] := (by decide +kernel : ∀ t : Fin grid1.N, _)
  refine (dat1 V n c).arrAt_eq_of_covers 5 _ (by decide +kernel) fun t hf y => ?_
  refine lnAll_eq (t.val) (y := y) (i := ((cfg1.win 5).blk t).view.emb y) ?_ ?_ ?_ ?_ ?_ ?_
  · intro a
    fin_cases a
    · blk_simp [e5]; simp; omega
    · blk_simp [e5]; simp
    · blk_simp [e5]; simp
  · intro z j hj; show V c main_v5 (((cfg1.win 0).blk t).view.emb z) = _
    refine congrArg _ (funext fun a => Fin.ext ?_)
    rw [hj a]
    fin_cases a
    · blk_simp [e0]; simp; omega
    · blk_simp [e0]; simp
    · blk_simp [e0]; simp
  · funext z; show V c main_arg2 (((cfg1.win 1).blk t).view.emb z) = _
    refine congrArg _ ?_
    blk_ext [e1]
  · funext z; show V c main_arg3 (((cfg1.win 2).blk t).view.emb z) = _
    refine congrArg _ ?_
    blk_ext [e2]
  · funext z; show V c main_v0 (((cfg1.win 3).blk t).view.emb z) = _
    refine congrArg _ ?_
    blk_ext [e3]
  · funext z; show V c main_v1 (((cfg1.win 4).blk t).view.emb z) = _
    refine congrArg _ ?_
    blk_ext [e4]

/-- The family it belongs to. -/
def pdats1 (n : ℕ) : (p : Fin 8) → (c : Dev nD) → Dat τ (Elt F) (HIx 8) ℕ UU ℕ (Pipeline.pin (pcfgs (F := F)) adm p) c
  | ⟨0, _⟩ => fun c => dat1 V n c
  | ⟨1, _⟩ => fun c => noDat c
  | ⟨2, _⟩ => fun c => noDat c
  | ⟨3, _⟩ => fun c => noDat c
  | ⟨4, _⟩ => fun c => noDat c
  | ⟨5, _⟩ => fun c => noDat c
  | ⟨6, _⟩ => fun c => noDat c
  | ⟨7, _⟩ => fun c => noDat c

variable (Vp : (c : Dev nD) → (b : Ref sig .tc) → Buf (Elt F) ((c : Thread nD τ).loc b)) in
set_option backward.isDefEq.respectTransparency.types false in
/-- Its region, from the valuation `V` to `Vp`, which has the result normalised and is `V` elsewhere. -/
def reg1 (n : ℕ) (hout : ∀ c, Vp c main_v6 = lnAll (V c main_v5) (V c main_arg2) (V c main_arg3) (V c main_v0) (V c main_v1))
    (hne : ∀ c (b : Ref sig .tc), b ≠ main_v6 → Vp c b = V c b) :
    Pipeline.RegionSeg (pcfgs (F := F)) adm (pdats1 V n) none defs₀ 𝒱₀ ((K (F := F)).L (nD := nD)) (K (F := F)).lev 0 where
  win := launch1.win.to₀
  block_pos := launch1.block_pos
  stage_whole := launch1.stage_whole
  K := PEmpty
  osem k := k.elim
  ho := Pipeline.OwnSemFacts.none _
  hbody c := (body1 V n c).loose
  hwaits c := Pipeline.cellsWaits_intro _ _ _ _ _ fun w s t => (K (F := F)).mayWait_none _ (Otc_none n c)
  pre c := iprop(unscopedBufs c (V c) ∗ ∃ W : Waits sig (HIx 8), ⌜↑W ⊆ heard (F := F) n c⌝ ∗ owes (c : Thread nD τ) ((K (F := F)).Otc c n) W)
  post c := iprop(unscopedBufs c (Vp c) ∗ ∃ W : Waits sig (HIx 8), ⌜↑W ⊆ heard (F := F) n c⌝ ∗ owes (c : Thread nD τ) ((K (F := F)).Otc c n) W)
  X _ := BI.emp
  Y _ := BI.emp
  Z c := Pipeline.unscopedRest (Ix := HIx 8) (Name := ℕ) (U := UU) (Lvl := ℕ) spec1 c (V c)
  hentry c := by
    rw [Pipeline.ownSems0_none]
    have hsplit := Pipeline.arrays_of_unscopedBufs (p := 0) (pcfgs (F := F)) adm (pdats1 V n) launch1.win launch1.arr_whole c
      ((pdats1 V n 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats1 V n 0 c).Φ 0 = Pipeline.scopedRest (Ix := HIx 8) (Name := ℕ) (U := UU) (Lvl := ℕ) (Val := Elt F) spec1 c from rfl]
    iintro ⟨-, -, Hr⟩; iexact Hr
  hout c := by
    rw [Pipeline.ownSems0_none, show (pdats1 V n 0 c).Φ (Fin.last _) = Pipeline.scopedRest (Ix := HIx 8) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 8) (Name := ℕ) (U := UU) (Lvl := ℕ) launch1.win launch1.arr_whole c
      (pdats1 V n) ((pdats1 V n 0 c).share_full fun _ => rfl) (V c) (Vp c) ((pdats1 V n 0 c).arrAt · cfg1.N)
      (fun w => by
        fin_cases w
        · exact ((pdats1 V n 0 c).arrAt_in 0 rfl _).trans (hne c main_v5 (by decide)).symm
        · exact ((pdats1 V n 0 c).arrAt_in 1 rfl _).trans (hne c main_arg2 (by decide)).symm
        · exact ((pdats1 V n 0 c).arrAt_in 2 rfl _).trans (hne c main_arg3 (by decide)).symm
        · exact ((pdats1 V n 0 c).arrAt_in 3 rfl _).trans (hne c main_v0 (by decide)).symm
        · exact ((pdats1 V n 0 c).arrAt_in 4 rfl _).trans (hne c main_v1 (by decide)).symm
        · exact (out1 V n c).trans (hout c).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact fun x h => heard_of_bound (hW h)
    iexact HO

end Cert.Embed

end
-- ==== Proof.Chunk0.lean ====
/-
  The chunk numbered 0: its ids cut out and laid end to end, the rows gathered by the subcores, the rows normalised.
-/
module

public import proofs.«01_k».proof.Proof.Chain
public import proofs.«01_k».proof.Proof.Region1

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 8) (Elt F) ℕ UU ℕ

variable (m : (ℓ : Loc nD τ sig) → Buf (Elt F) ℓ) (κ : GSem nD τ sig → ℕ)

/-- The array operations of the chunk. -/
abbrev cut0 : HloOp τ sig (Elt F) := StableHlo.unary main_arg0 main_v2 ((extractStridedSlice S128x512 ![0, 0] · slices_S1024x512_S128x512_0_0) : (⟨S1024x512, .i32⟩ : BufTy).Contents (Elt F) → (⟨S128x512, .i32⟩ : BufTy).Contents (Elt F))
abbrev lay0 : HloOp τ sig (Elt F) := StableHlo.reshape main_v2 main_v3 (rfl : (.i32 : EltTy) = .i32) shapeCasts_S128x512_S1x65536
abbrev fold0 : HloOp τ sig (Elt F) := StableHlo.reshape main_v4 main_v5 (rfl : (.f32 : EltTy) = .f32) shapeCasts_S65536x128_S128x512x128

/-- The contents after each step of it. -/
def atSplit0 (W : Vl F) : Vl F := lay0.result (cut0.result W)
def atGot0 (d : Dev nD) (W : Vl F) : Vl F := fold0.result (put (atSplit0 W) main_v4 (got m d 0))
def atEnd0 (d : Dev nD) (W : Vl F) : Vl F := put (atGot0 m d W) main_v6 (outAt m d 0)

omit [FloatOps F] in
theorem atSplit0_ne (W : Vl F) {r : Ref sig .tc} (h2 : r ≠ main_v2) (h3 : r ≠ main_v3) : atSplit0 W r = W r :=
  (StableHlo.reshape_result_ne _ _ _ _ _ _ _ h3).trans (StableHlo.unary_result_ne _ _ _ _ _ _ h2)

theorem atGot0_ne (d : Dev nD) (W : Vl F) {r : Ref sig .tc} (h2 : r ≠ main_v2) (h3 : r ≠ main_v3) (h4 : r ≠ main_v4) (h5 : r ≠ main_v5) :
    atGot0 m d W r = W r :=
  (StableHlo.reshape_result_ne _ _ _ _ _ _ _ h5).trans ((put_ne _ _ h4).trans (atSplit0_ne W h2 h3))

variable {m} {d : Dev nD} {W : Vl F}

theorem atSplit0_list (h : Before m d 0 W) : atSplit0 W main_v3 = rows 0 (ids₀ m d) := by
  have e0 : W main_arg0 = ids₀ m d := h.clean main_arg0 (by decide) (by decide) fun p _ => by revert p; decide
  refine (StableHlo.reshape_result main_v2 main_v3 rfl shapeCasts_S128x512_S1x65536 _ _ (cut0.result W)).trans ?_
  rw [show cut0.result W main_v2 = extractStridedSlice S128x512 ![0, 0] (ids₀ m d) slices_S1024x512_S128x512_0_0 from
    (StableHlo.unary_result main_arg0 main_v2 _ _ _ W).trans (congrArg (extractStridedSlice S128x512 ![0, 0] · slices_S1024x512_S128x512_0_0) e0)]
  exact rows_eq 0 (ids₀ m d) _ rfl _ _

theorem atGot0_fold : atGot0 m d W main_v5 = shapeCast S128x512x128 (got m d 0) shapeCasts_S65536x128_S128x512x128 := by
  refine (StableHlo.reshape_result main_v4 main_v5 rfl shapeCasts_S65536x128_S128x512x128 _ _ _).trans ?_
  rw [put_self]; rfl

theorem atEnd0_out : atEnd0 m d W main_v6 = outAt m d 0 := put_self _ _ _

theorem chunk0 (h : Before m d 0 W) : Chunk m d 0 W (atEnd0 m d W) :=
  Chunk.mk' m h fun r hr => by
    have hr' : r ∉ [main_v2, main_v3, main_v4, main_v5, main_v6] := hr
    simp only [List.mem_cons, List.not_mem_nil, or_false, not_or] at hr'
    obtain ⟨h2, h3, h4, h5, h6⟩ := hr'
    exact (put_ne _ _ h6).trans (atGot0_ne m d W h2 h3 h4 h5)

/-- The chunk's steps, from the buffers at `W` to the buffers at its end. -/
theorem wp_chunk0 [∀ e, Nonempty (Elt F e)] (h : Before m d 0 W) (R : sProp 𝕄) :
    iprop((K (F := F)).ctx EH (P m) κ ∗ (K (F := F)).tcSt EH d 0 ∗ boundary (d : Thread nD τ) ∗ StableHlo.held (d : Thread nD τ) ucRefs W
        ∗ Pipeline.cellsGhost (Pipeline.pin (pcfgs (F := F)) adm) EP 0 d ∗ Pipeline.toksInit (Pipeline.pin (pcfgs (F := F)) adm) EP 0 d
        ∗ (((K (F := F)).tcSt EH d (0 + 1) ∗ boundary (d : Thread nD τ) ∗ StableHlo.held (d : Thread nD τ) ucRefs (atEnd0 m d W)) -∗ R))
      ⊢ wp frame (wpE ((K (F := F)).defs (D (F := F))) 𝒱 (SparseCore.T d) none) Set.univ (hlo rfl cut0 fun _ => .ret PUnit.unit) fun _ =>
          wp frame (wpE ((K (F := F)).defs (D (F := F))) 𝒱 (SparseCore.T d) none) Set.univ (hlo rfl lay0 fun _ => .ret PUnit.unit) fun _ =>
          wp frame (wpE ((K (F := F)).defs (D (F := F))) 𝒱 (SparseCore.T d) none) Set.univ ((K (F := F)).run d 0) fun _ =>
          wp frame (wpE ((K (F := F)).defs (D (F := F))) 𝒱 (SparseCore.T d) none) Set.univ (hlo rfl fold0 fun _ => .ret PUnit.unit) fun _ =>
          wp frame (wpE ((K (F := F)).defs (D (F := F))) 𝒱 (SparseCore.T d) none) Set.univ
            (Prog.lift (.customCall (SparseCore.inner (Pipeline.entry 0)) ())) fun _ => R := by
  have e1 : atSplit0 W main_arg1 = tab₀ m d :=
    (atSplit0_ne W (by decide) (by decide)).trans (h.clean main_arg1 (by decide) (by decide) fun p _ => by revert p; decide)
  have e4 : atSplit0 W main_v4 = m ((d : Thread nD τ).loc main_v4) :=
    (atSplit0_ne W (by decide) (by decide)).trans (h.clean main_v4 (by decide) (by decide) (fun p hp => absurd hp (Nat.not_lt_zero _)))
  have a2 : atGot0 m d W main_arg2 = m ((d : Thread nD τ).loc main_arg2) :=
    (atGot0_ne m d W (by decide) (by decide) (by decide) (by decide)).trans (h.clean main_arg2 (by decide) (by decide) fun p _ => by revert p; decide)
  have a3 : atGot0 m d W main_arg3 = m ((d : Thread nD τ).loc main_arg3) :=
    (atGot0_ne m d W (by decide) (by decide) (by decide) (by decide)).trans (h.clean main_arg3 (by decide) (by decide) fun p _ => by revert p; decide)
  have a0 : atGot0 m d W main_v0 = gam m d := (atGot0_ne m d W (by decide) (by decide) (by decide) (by decide)).trans h.scale
  have b0 : atGot0 m d W main_v1 = bet m d := (atGot0_ne m d W (by decide) (by decide) (by decide) (by decide)).trans h.shift
  have hout : outAt m d 0 = lnAll (atGot0 m d W main_v5) (atGot0 m d W main_arg2) (atGot0 m d W main_arg3) (atGot0 m d W main_v0) (atGot0 m d W main_v1) := by
    rw [atGot0_fold, a2, a3, a0, b0]; rfl
  have hcall := sc_step m κ d 0 (a := main_arg1) (b := main_v3) (c := main_v4) rfl rfl rfl (by decide) (by decide) (by decide)
    (atSplit0 W) (got m d 0) ((st_eq0 m d).trans (by rw [e1, atSplit0_list h, e4])) ((dn_eq0 m d).trans (by rw [e1, atSplit0_list h]))
  have hreg := region_step m κ d (0 + 1) 0 _ (atGot0 m d W) (atEnd0 m d W)
    (reg1 (fun _ b => atGot0 m d W b) (fun _ b => atEnd0 m d W b) (0 + 1)
      (fun _ => atEnd0_out.trans hout) (fun _ b hb => put_ne _ _ hb)) rfl rfl
  iintro ⟨#Hctx, Hst, Hb, Hh, Hg, Ht, Hk⟩
  iapply (StableHlo.wp_hlo_within 𝒱 (d : Thread nD τ) none Set.univ (sub_ucRefs cut0 (StableHlo.unary_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs lay0 (StableHlo.reshape_bufs_sub ..))) $$ [Hb Hh]
  · isplitl [Hb] <;> iassumption
  iintro ⟨Hb, Hh⟩
  rw [wp_ret]; imodintro
  iapply (hcall _) $$ [Hst Hh Hb Hg Ht Hk]
  isplitr; · iexact Hctx
  isplitl [Hst]; · iexact Hst
  isplitl [Hh]; · iexact Hh
  iintro ⟨Hst, Hh⟩
  iapply (StableHlo.wp_hlo_within 𝒱 (d : Thread nD τ) none Set.univ (sub_ucRefs fold0 (StableHlo.reshape_bufs_sub ..))) $$ [Hb Hh]
  · isplitl [Hb] <;> iassumption
  iintro ⟨Hb, Hh⟩
  rw [wp_ret]; imodintro
  iapply (hreg _) $$ [Hst Hh Hb Hg Ht Hk]
  isplitr; · iexact Hctx
  isplitl [Hst]; · iexact Hst
  isplitl [Hb]; · iexact Hb
  isplitl [Hh]; · iexact Hh
  isplitl [Hg]; · iexact Hg
  isplitl [Ht]; · iexact Ht
  iexact Hk

end Cert.Embed

end
-- ==== Proof.Region3.lean ====
/-
  One of the normalisation's pipelines: what it writes, and its region of the program, from the unscoped buffers at a
  valuation to the same at the valuation with the result written.
-/
module

public import proofs.«01_k».proof.Proof.Whole
public import proofs.«01_k».proof.Proof.Gen.KernelIdeal.Points

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 8) (Elt F) ℕ UU ℕ

variable (V : (c : Dev nD) → (b : Ref sig .tc) → Buf (Elt F) ((c : Thread nD τ).loc b))

/-! ## Call 3 -/

/-- Its proof data from the valuation `V`, before the SparseCore call numbered `n`. -/
def dat3 (n : ℕ) (c : Dev nD) : Dat τ (Elt F) (HIx 8) ℕ UU ℕ cfg3 c where
  A w := V c (Pipeline.arrRef spec3 w)
  after w t := match w with
    | ⟨0, _⟩ => ((cfg3.win 0).blk t).view.read (Elt F) (V c main_v10)
    | ⟨1, _⟩ => ((cfg3.win 1).blk t).view.read (Elt F) (V c main_arg2)
    | ⟨2, _⟩ => ((cfg3.win 2).blk t).view.read (Elt F) (V c main_arg3)
    | ⟨3, _⟩ => ((cfg3.win 3).blk t).view.read (Elt F) (V c main_v0)
    | ⟨4, _⟩ => ((cfg3.win 4).blk t).view.read (Elt F) (V c main_v1)
    | ⟨5, _⟩ => lnBlock (((cfg3.win 0).blk t).view.read (Elt F) (V c main_v10))
        (((cfg3.win 1).blk t).view.read (Elt F) (V c main_arg2)) (((cfg3.win 2).blk t).view.read (Elt F) (V c main_arg3))
        (((cfg3.win 3).blk t).view.read (Elt F) (V c main_v0)) (((cfg3.win 4).blk t).view.read (Elt F) (V c main_v1))
  Φ _ := Pipeline.scopedRest (Ix := HIx 8) (Name := ℕ) (U := UU) (Lvl := ℕ) (Val := Elt F) spec3 c
  q _ := fullShare
  owed _ := (K (F := F)).Otc c n
  recorded _ := heard (F := F) n c

theorem before3 (n : ℕ) (c : Dev nD) (t : Fin cfg3.N) :
(∀ d, (dat3 V n c).before 0 t d = ((cfg3.win 0).blk t).view.read (Elt F) (V c main_v10)) ∧
    (∀ d, (dat3 V n c).before 1 t d = ((cfg3.win 1).blk t).view.read (Elt F) (V c main_arg2)) ∧
    (∀ d, (dat3 V n c).before 2 t d = ((cfg3.win 2).blk t).view.read (Elt F) (V c main_arg3)) ∧
    (∀ d, (dat3 V n c).before 3 t d = ((cfg3.win 3).blk t).view.read (Elt F) (V c main_v0)) ∧
    (∀ d, (dat3 V n c).before 4 t d = ((cfg3.win 4).blk t).view.read (Elt F) (V c main_v1)) :=
  ⟨fun d => (dat3 V n c).before_in_eq_fetched 0 rfl (fun _ => rfl) (fun _ _ _ => rfl) (fun _ => rfl) t d,
    fun d => (dat3 V n c).before_in_eq_fetched 1 rfl (fun _ => rfl) (fun _ _ _ => rfl) (fun _ => rfl) t d,
    fun d => (dat3 V n c).before_in_eq_fetched 2 rfl (fun _ => rfl) (fun _ _ _ => rfl) (fun _ => rfl) t d,
    fun d => (dat3 V n c).before_in_eq_fetched 3 rfl (fun _ => rfl) (fun _ _ _ => rfl) (fun _ => rfl) t d,
    fun d => (dat3 V n c).before_in_eq_fetched 4 rfl (fun _ => rfl) (fun _ _ _ => rfl) (fun _ => rfl) t d⟩

theorem body3 (n : ℕ) (c : Dev nD) : BodyObligation (dat3 V n c) (defs₀ (F := F)) 𝒱₀ none Set.univ := fun t => by
  obtain ⟨b0, b1, b2, b3, b4⟩ := before3 V n c t
  rw [bigSep_W3, bigSep_W3]
  dsimp only
  simp only [b0, b1, b2, b3, b4]
  rw [show (dat3 V n c).Φ t.succ = (dat3 V n c).Φ t.castSucc from rfl,
    show (dat3 V n c).owesAt none t.succ = (dat3 V n c).owesAt none t.castSucc from rfl]
  iintro ⟨HΦ, HO, ⟨%d0, H0⟩, ⟨%d1, H1⟩, ⟨%d2, H2⟩, ⟨%d3, H3⟩, ⟨%d4, H4⟩, ⟨%d5, H5⟩⟩
  iapply (ln_spec c (grid3.coords t) Set.univ (st3_0 t) (hstage3_0 ((cfg3.slots t 0).cast nbuf3_0)) (st3_1 t) (hstage3_1 ((cfg3.slots t 1).cast nbuf3_1))
    (st3_2 t) (hstage3_2 ((cfg3.slots t 2).cast nbuf3_2)) (st3_3 t) (hstage3_3 ((cfg3.slots t 3).cast nbuf3_3))
    (st3_4 t) (hstage3_4 ((cfg3.slots t 4).cast nbuf3_4)) (st3_5 t) (hstage3_5 ((cfg3.slots t 5).cast nbuf3_5)) _ _ _ _ _ _ _)
    $$ [HΦ HO H0 H1 H2 H3 H4 H5]
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-- What it leaves in its result. -/
theorem out3 (n : ℕ) (c : Dev nD) :
    (dat3 V n c).arrAt 5 cfg3.N = lnAll (V c main_v10) (V c main_arg2) (V c main_arg3) (V c main_v0) (V c main_v1) := by
  have e0 : ∀ t : Fin cfg3.N, win3_0.index t = ![t.val, 0, 0] := (by decide +kernel : ∀ t : Fin grid3.N, _)
  have e5 : ∀ t : Fin cfg3.N, win3_5.index t = ![t.val, 0, 0] := (by decide +kernel : ∀ t : Fin grid3.N, _)
  have e1 : ∀ t : Fin cfg3.N, win3_1.index t = ![0, 0] := (by decide +kernel : ∀ t : Fin grid3.N, _)
  have e2 : ∀ t : Fin cfg3.N, win3_2.index t = ![0, 0] := (by decide +kernel : ∀ t : Fin grid3.N, _)
  have e3 : ∀ t : Fin cfg3.N, win3_3.index t = ![0, 0] := (by decide +kernel : ∀ t : Fin grid3.N, _)
  have e4 : ∀ t : Fin cfg3.N, win3_4.index t = ![0, 0] := (by decide +kernel : ∀ t : Fin grid3.N, _)
  refine (dat3 V n c).arrAt_eq_of_covers 5 _ (by decide +kernel) fun t hf y => ?_
  refine lnAll_eq (t.val) (y := y) (i := ((cfg3.win 5).blk t).view.emb y) ?_ ?_ ?_ ?_ ?_ ?_
  · intro a
    fin_cases a
    · blk_simp [e5]; simp; omega
    · blk_simp [e5]; simp
    · blk_simp [e5]; simp
  · intro z j hj; show V c main_v10 (((cfg3.win 0).blk t).view.emb z) = _
    refine congrArg _ (funext fun a => Fin.ext ?_)
    rw [hj a]
    fin_cases a
    · blk_simp [e0]; simp; omega
    · blk_simp [e0]; simp
    · blk_simp [e0]; simp
  · funext z; show V c main_arg2 (((cfg3.win 1).blk t).view.emb z) = _
    refine congrArg _ ?_
    blk_ext [e1]
  · funext z; show V c main_arg3 (((cfg3.win 2).blk t).view.emb z) = _
    refine congrArg _ ?_
    blk_ext [e2]
  · funext z; show V c main_v0 (((cfg3.win 3).blk t).view.emb z) = _
    refine congrArg _ ?_
    blk_ext [e3]
  · funext z; show V c main_v1 (((cfg3.win 4).blk t).view.emb z) = _
    refine congrArg _ ?_
    blk_ext [e4]

/-- The family it belongs to. -/
def pdats3 (n : ℕ) : (p : Fin 8) → (c : Dev nD) → Dat τ (Elt F) (HIx 8) ℕ UU ℕ (Pipeline.pin (pcfgs (F := F)) adm p) c
  | ⟨0, _⟩ => fun c => noDat c
  | ⟨1, _⟩ => fun c => dat3 V n c
  | ⟨2, _⟩ => fun c => noDat c
  | ⟨3, _⟩ => fun c => noDat c
  | ⟨4, _⟩ => fun c => noDat c
  | ⟨5, _⟩ => fun c => noDat c
  | ⟨6, _⟩ => fun c => noDat c
  | ⟨7, _⟩ => fun c => noDat c

variable (Vp : (c : Dev nD) → (b : Ref sig .tc) → Buf (Elt F) ((c : Thread nD τ).loc b)) in
set_option backward.isDefEq.respectTransparency.types false in
/-- Its region, from the valuation `V` to `Vp`, which has the result normalised and is `V` elsewhere. -/
def reg3 (n : ℕ) (hout : ∀ c, Vp c main_v11 = lnAll (V c main_v10) (V c main_arg2) (V c main_arg3) (V c main_v0) (V c main_v1))
    (hne : ∀ c (b : Ref sig .tc), b ≠ main_v11 → Vp c b = V c b) :
    Pipeline.RegionSeg (pcfgs (F := F)) adm (pdats3 V n) none defs₀ 𝒱₀ ((K (F := F)).L (nD := nD)) (K (F := F)).lev 1 where
  win := launch3.win.to₀
  block_pos := launch3.block_pos
  stage_whole := launch3.stage_whole
  K := PEmpty
  osem k := k.elim
  ho := Pipeline.OwnSemFacts.none _
  hbody c := (body3 V n c).loose
  hwaits c := Pipeline.cellsWaits_intro _ _ _ _ _ fun w s t => (K (F := F)).mayWait_none _ (Otc_none n c)
  pre c := iprop(unscopedBufs c (V c) ∗ ∃ W : Waits sig (HIx 8), ⌜↑W ⊆ heard (F := F) n c⌝ ∗ owes (c : Thread nD τ) ((K (F := F)).Otc c n) W)
  post c := iprop(unscopedBufs c (Vp c) ∗ ∃ W : Waits sig (HIx 8), ⌜↑W ⊆ heard (F := F) n c⌝ ∗ owes (c : Thread nD τ) ((K (F := F)).Otc c n) W)
  X _ := BI.emp
  Y _ := BI.emp
  Z c := Pipeline.unscopedRest (Ix := HIx 8) (Name := ℕ) (U := UU) (Lvl := ℕ) spec3 c (V c)
  hentry c := by
    rw [Pipeline.ownSems0_none]
    have hsplit := Pipeline.arrays_of_unscopedBufs (p := 1) (pcfgs (F := F)) adm (pdats3 V n) launch3.win launch3.arr_whole c
      ((pdats3 V n 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats3 V n 1 c).Φ 0 = Pipeline.scopedRest (Ix := HIx 8) (Name := ℕ) (U := UU) (Lvl := ℕ) (Val := Elt F) spec3 c from rfl]
    iintro ⟨-, -, Hr⟩; iexact Hr
  hout c := by
    rw [Pipeline.ownSems0_none, show (pdats3 V n 1 c).Φ (Fin.last _) = Pipeline.scopedRest (Ix := HIx 8) (Name := ℕ) (U := UU) (Lvl := ℕ) (Val := Elt F) spec3 c from rfl]
    iintro Hr
    isplitr; · iempintro
    isplitr; · iempintro
    iexact Hr
  hexit c := by
    have hjoin := Pipeline.unscopedBufs_of_arrays (p := 1) (pcfgs (F := F)) adm (Ix := HIx 8) (Name := ℕ) (U := UU) (Lvl := ℕ) launch3.win launch3.arr_whole c
      (pdats3 V n) ((pdats3 V n 1 c).share_full fun _ => rfl) (V c) (Vp c) ((pdats3 V n 1 c).arrAt · cfg3.N)
      (fun w => by
        fin_cases w
        · exact ((pdats3 V n 1 c).arrAt_in 0 rfl _).trans (hne c main_v10 (by decide)).symm
        · exact ((pdats3 V n 1 c).arrAt_in 1 rfl _).trans (hne c main_arg2 (by decide)).symm
        · exact ((pdats3 V n 1 c).arrAt_in 2 rfl _).trans (hne c main_arg3 (by decide)).symm
        · exact ((pdats3 V n 1 c).arrAt_in 3 rfl _).trans (hne c main_v0 (by decide)).symm
        · exact ((pdats3 V n 1 c).arrAt_in 4 rfl _).trans (hne c main_v1 (by decide)).symm
        · exact (out3 V n c).trans (hout c).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact fun x h => heard_of_bound (hW h)
    iexact HO

end Cert.Embed

end
-- ==== Proof.Chunk1.lean ====
/-
  The chunk numbered 1: its ids cut out and laid end to end, the rows gathered by the subcores, the rows normalised.
-/
module

public import proofs.«01_k».proof.Proof.Chain
public import proofs.«01_k».proof.Proof.Region3

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 8) (Elt F) ℕ UU ℕ

variable (m : (ℓ : Loc nD τ sig) → Buf (Elt F) ℓ) (κ : GSem nD τ sig → ℕ)

/-- The array operations of the chunk. -/
abbrev cut1 : HloOp τ sig (Elt F) := StableHlo.unary main_arg0 main_v7 ((extractStridedSlice S128x512 ![128, 0] · slices_S1024x512_S128x512_128_0) : (⟨S1024x512, .i32⟩ : BufTy).Contents (Elt F) → (⟨S128x512, .i32⟩ : BufTy).Contents (Elt F))
abbrev lay1 : HloOp τ sig (Elt F) := StableHlo.reshape main_v7 main_v8 (rfl : (.i32 : EltTy) = .i32) shapeCasts_S128x512_S1x65536
abbrev fold1 : HloOp τ sig (Elt F) := StableHlo.reshape main_v9 main_v10 (rfl : (.f32 : EltTy) = .f32) shapeCasts_S65536x128_S128x512x128

/-- The contents after each step of it. -/
def atSplit1 (W : Vl F) : Vl F := lay1.result (cut1.result W)
def atGot1 (d : Dev nD) (W : Vl F) : Vl F := fold1.result (put (atSplit1 W) main_v9 (got m d 1))
def atEnd1 (d : Dev nD) (W : Vl F) : Vl F := put (atGot1 m d W) main_v11 (outAt m d 1)

omit [FloatOps F] in
theorem atSplit1_ne (W : Vl F) {r : Ref sig .tc} (h2 : r ≠ main_v7) (h3 : r ≠ main_v8) : atSplit1 W r = W r :=
  (StableHlo.reshape_result_ne _ _ _ _ _ _ _ h3).trans (StableHlo.unary_result_ne _ _ _ _ _ _ h2)

theorem atGot1_ne (d : Dev nD) (W : Vl F) {r : Ref sig .tc} (h2 : r ≠ main_v7) (h3 : r ≠ main_v8) (h4 : r ≠ main_v9) (h5 : r ≠ main_v10) :
    atGot1 m d W r = W r :=
  (StableHlo.reshape_result_ne _ _ _ _ _ _ _ h5).trans ((put_ne _ _ h4).trans (atSplit1_ne W h2 h3))

variable {m} {d : Dev nD} {W : Vl F}

theorem atSplit1_list (h : Before m d 1 W) : atSplit1 W main_v8 = rows 1 (ids₀ m d) := by
  have e0 : W main_arg0 = ids₀ m d := h.clean main_arg0 (by decide) (by decide) fun p _ => by revert p; decide
  refine (StableHlo.reshape_result main_v7 main_v8 rfl shapeCasts_S128x512_S1x65536 _ _ (cut1.result W)).trans ?_
  rw [show cut1.result W main_v7 = extractStridedSlice S128x512 ![128, 0] (ids₀ m d) slices_S1024x512_S128x512_128_0 from
    (StableHlo.unary_result main_arg0 main_v7 _ _ _ W).trans (congrArg (extractStridedSlice S128x512 ![128, 0] · slices_S1024x512_S128x512_128_0) e0)]
  exact rows_eq 1 (ids₀ m d) _ rfl _ _

theorem atGot1_fold : atGot1 m d W main_v10 = shapeCast S128x512x128 (got m d 1) shapeCasts_S65536x128_S128x512x128 := by
  refine (StableHlo.reshape_result main_v9 main_v10 rfl shapeCasts_S65536x128_S128x512x128 _ _ _).trans ?_
  rw [put_self]; rfl

theorem atEnd1_out : atEnd1 m d W main_v11 = outAt m d 1 := put_self _ _ _

theorem chunk1 (h : Before m d 1 W) : Chunk m d 1 W (atEnd1 m d W) :=
  Chunk.mk' m h fun r hr => by
    have hr' : r ∉ [main_v7, main_v8, main_v9, main_v10, main_v11] := hr
    simp only [List.mem_cons, List.not_mem_nil, or_false, not_or] at hr'
    obtain ⟨h2, h3, h4, h5, h6⟩ := hr'
    exact (put_ne _ _ h6).trans (atGot1_ne m d W h2 h3 h4 h5)

/-- The chunk's steps, from the buffers at `W` to the buffers at its end. -/
theorem wp_chunk1 [∀ e, Nonempty (Elt F e)] (h : Before m d 1 W) (R : sProp 𝕄) :
    iprop((K (F := F)).ctx EH (P m) κ ∗ (K (F := F)).tcSt EH d 1 ∗ boundary (d : Thread nD τ) ∗ StableHlo.held (d : Thread nD τ) ucRefs W
        ∗ Pipeline.cellsGhost (Pipeline.pin (pcfgs (F := F)) adm) EP 1 d ∗ Pipeline.toksInit (Pipeline.pin (pcfgs (F := F)) adm) EP 1 d
        ∗ (((K (F := F)).tcSt EH d (1 + 1) ∗ boundary (d : Thread nD τ) ∗ StableHlo.held (d : Thread nD τ) ucRefs (atEnd1 m d W)) -∗ R))
      ⊢ wp frame (wpE ((K (F := F)).defs (D (F := F))) 𝒱 (SparseCore.T d) none) Set.univ (hlo rfl cut1 fun _ => .ret PUnit.unit) fun _ =>
          wp frame (wpE ((K (F := F)).defs (D (F := F))) 𝒱 (SparseCore.T d) none) Set.univ (hlo rfl lay1 fun _ => .ret PUnit.unit) fun _ =>
          wp frame (wpE ((K (F := F)).defs (D (F := F))) 𝒱 (SparseCore.T d) none) Set.univ ((K (F := F)).run d 1) fun _ =>
          wp frame (wpE ((K (F := F)).defs (D (F := F))) 𝒱 (SparseCore.T d) none) Set.univ (hlo rfl fold1 fun _ => .ret PUnit.unit) fun _ =>
          wp frame (wpE ((K (F := F)).defs (D (F := F))) 𝒱 (SparseCore.T d) none) Set.univ
            (Prog.lift (.customCall (SparseCore.inner (Pipeline.entry 1)) ())) fun _ => R := by
  have e1 : atSplit1 W main_arg1 = tab₀ m d :=
    (atSplit1_ne W (by decide) (by decide)).trans (h.clean main_arg1 (by decide) (by decide) fun p _ => by revert p; decide)
  have e4 : atSplit1 W main_v9 = m ((d : Thread nD τ).loc main_v9) :=
    (atSplit1_ne W (by decide) (by decide)).trans (h.clean main_v9 (by decide) (by decide) (by decide))
  have a2 : atGot1 m d W main_arg2 = m ((d : Thread nD τ).loc main_arg2) :=
    (atGot1_ne m d W (by decide) (by decide) (by decide) (by decide)).trans (h.clean main_arg2 (by decide) (by decide) fun p _ => by revert p; decide)
  have a3 : atGot1 m d W main_arg3 = m ((d : Thread nD τ).loc main_arg3) :=
    (atGot1_ne m d W (by decide) (by decide) (by decide) (by decide)).trans (h.clean main_arg3 (by decide) (by decide) fun p _ => by revert p; decide)
  have a0 : atGot1 m d W main_v0 = gam m d := (atGot1_ne m d W (by decide) (by decide) (by decide) (by decide)).trans h.scale
  have b0 : atGot1 m d W main_v1 = bet m d := (atGot1_ne m d W (by decide) (by decide) (by decide) (by decide)).trans h.shift
  have hout : outAt m d 1 = lnAll (atGot1 m d W main_v10) (atGot1 m d W main_arg2) (atGot1 m d W main_arg3) (atGot1 m d W main_v0) (atGot1 m d W main_v1) := by
    rw [atGot1_fold, a2, a3, a0, b0]; rfl
  have hcall := sc_step m κ d 1 (a := main_arg1) (b := main_v8) (c := main_v9) rfl rfl rfl (by decide) (by decide) (by decide)
    (atSplit1 W) (got m d 1) ((st_eq1 m d).trans (by rw [e1, atSplit1_list h, e4])) ((dn_eq1 m d).trans (by rw [e1, atSplit1_list h]))
  have hreg := region_step m κ d (1 + 1) 1 _ (atGot1 m d W) (atEnd1 m d W)
    (reg3 (fun _ b => atGot1 m d W b) (fun _ b => atEnd1 m d W b) (1 + 1)
      (fun _ => atEnd1_out.trans hout) (fun _ b hb => put_ne _ _ hb)) rfl rfl
  iintro ⟨#Hctx, Hst, Hb, Hh, Hg, Ht, Hk⟩
  iapply (StableHlo.wp_hlo_within 𝒱 (d : Thread nD τ) none Set.univ (sub_ucRefs cut1 (StableHlo.unary_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs lay1 (StableHlo.reshape_bufs_sub ..))) $$ [Hb Hh]
  · isplitl [Hb] <;> iassumption
  iintro ⟨Hb, Hh⟩
  rw [wp_ret]; imodintro
  iapply (hcall _) $$ [Hst Hh Hb Hg Ht Hk]
  isplitr; · iexact Hctx
  isplitl [Hst]; · iexact Hst
  isplitl [Hh]; · iexact Hh
  iintro ⟨Hst, Hh⟩
  iapply (StableHlo.wp_hlo_within 𝒱 (d : Thread nD τ) none Set.univ (sub_ucRefs fold1 (StableHlo.reshape_bufs_sub ..))) $$ [Hb Hh]
  · isplitl [Hb] <;> iassumption
  iintro ⟨Hb, Hh⟩
  rw [wp_ret]; imodintro
  iapply (hreg _) $$ [Hst Hh Hb Hg Ht Hk]
  isplitr; · iexact Hctx
  isplitl [Hst]; · iexact Hst
  isplitl [Hb]; · iexact Hb
  isplitl [Hh]; · iexact Hh
  isplitl [Hg]; · iexact Hg
  isplitl [Ht]; · iexact Ht
  iexact Hk

end Cert.Embed

end
-- ==== Proof.Region5.lean ====
/-
  One of the normalisation's pipelines: what it writes, and its region of the program, from the unscoped buffers at a
  valuation to the same at the valuation with the result written.
-/
module

public import proofs.«01_k».proof.Proof.Whole
public import proofs.«01_k».proof.Proof.Gen.KernelIdeal.Points

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 8) (Elt F) ℕ UU ℕ

variable (V : (c : Dev nD) → (b : Ref sig .tc) → Buf (Elt F) ((c : Thread nD τ).loc b))

/-! ## Call 5 -/

/-- Its proof data from the valuation `V`, before the SparseCore call numbered `n`. -/
def dat5 (n : ℕ) (c : Dev nD) : Dat τ (Elt F) (HIx 8) ℕ UU ℕ cfg5 c where
  A w := V c (Pipeline.arrRef spec5 w)
  after w t := match w with
    | ⟨0, _⟩ => ((cfg5.win 0).blk t).view.read (Elt F) (V c main_v15)
    | ⟨1, _⟩ => ((cfg5.win 1).blk t).view.read (Elt F) (V c main_arg2)
    | ⟨2, _⟩ => ((cfg5.win 2).blk t).view.read (Elt F) (V c main_arg3)
    | ⟨3, _⟩ => ((cfg5.win 3).blk t).view.read (Elt F) (V c main_v0)
    | ⟨4, _⟩ => ((cfg5.win 4).blk t).view.read (Elt F) (V c main_v1)
    | ⟨5, _⟩ => lnBlock (((cfg5.win 0).blk t).view.read (Elt F) (V c main_v15))
        (((cfg5.win 1).blk t).view.read (Elt F) (V c main_arg2)) (((cfg5.win 2).blk t).view.read (Elt F) (V c main_arg3))
        (((cfg5.win 3).blk t).view.read (Elt F) (V c main_v0)) (((cfg5.win 4).blk t).view.read (Elt F) (V c main_v1))
  Φ _ := Pipeline.scopedRest (Ix := HIx 8) (Name := ℕ) (U := UU) (Lvl := ℕ) (Val := Elt F) spec5 c
  q _ := fullShare
  owed _ := (K (F := F)).Otc c n
  recorded _ := heard (F := F) n c

theorem before5 (n : ℕ) (c : Dev nD) (t : Fin cfg5.N) :
(∀ d, (dat5 V n c).before 0 t d = ((cfg5.win 0).blk t).view.read (Elt F) (V c main_v15)) ∧
    (∀ d, (dat5 V n c).before 1 t d = ((cfg5.win 1).blk t).view.read (Elt F) (V c main_arg2)) ∧
    (∀ d, (dat5 V n c).before 2 t d = ((cfg5.win 2).blk t).view.read (Elt F) (V c main_arg3)) ∧
    (∀ d, (dat5 V n c).before 3 t d = ((cfg5.win 3).blk t).view.read (Elt F) (V c main_v0)) ∧
    (∀ d, (dat5 V n c).before 4 t d = ((cfg5.win 4).blk t).view.read (Elt F) (V c main_v1)) :=
  ⟨fun d => (dat5 V n c).before_in_eq_fetched 0 rfl (fun _ => rfl) (fun _ _ _ => rfl) (fun _ => rfl) t d,
    fun d => (dat5 V n c).before_in_eq_fetched 1 rfl (fun _ => rfl) (fun _ _ _ => rfl) (fun _ => rfl) t d,
    fun d => (dat5 V n c).before_in_eq_fetched 2 rfl (fun _ => rfl) (fun _ _ _ => rfl) (fun _ => rfl) t d,
    fun d => (dat5 V n c).before_in_eq_fetched 3 rfl (fun _ => rfl) (fun _ _ _ => rfl) (fun _ => rfl) t d,
    fun d => (dat5 V n c).before_in_eq_fetched 4 rfl (fun _ => rfl) (fun _ _ _ => rfl) (fun _ => rfl) t d⟩

theorem body5 (n : ℕ) (c : Dev nD) : BodyObligation (dat5 V n c) (defs₀ (F := F)) 𝒱₀ none Set.univ := fun t => by
  obtain ⟨b0, b1, b2, b3, b4⟩ := before5 V n c t
  rw [bigSep_W5, bigSep_W5]
  dsimp only
  simp only [b0, b1, b2, b3, b4]
  rw [show (dat5 V n c).Φ t.succ = (dat5 V n c).Φ t.castSucc from rfl,
    show (dat5 V n c).owesAt none t.succ = (dat5 V n c).owesAt none t.castSucc from rfl]
  iintro ⟨HΦ, HO, ⟨%d0, H0⟩, ⟨%d1, H1⟩, ⟨%d2, H2⟩, ⟨%d3, H3⟩, ⟨%d4, H4⟩, ⟨%d5, H5⟩⟩
  iapply (ln_spec c (grid5.coords t) Set.univ (st5_0 t) (hstage5_0 ((cfg5.slots t 0).cast nbuf5_0)) (st5_1 t) (hstage5_1 ((cfg5.slots t 1).cast nbuf5_1))
    (st5_2 t) (hstage5_2 ((cfg5.slots t 2).cast nbuf5_2)) (st5_3 t) (hstage5_3 ((cfg5.slots t 3).cast nbuf5_3))
    (st5_4 t) (hstage5_4 ((cfg5.slots t 4).cast nbuf5_4)) (st5_5 t) (hstage5_5 ((cfg5.slots t 5).cast nbuf5_5)) _ _ _ _ _ _ _)
    $$ [HΦ HO H0 H1 H2 H3 H4 H5]
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-- What it leaves in its result. -/
theorem out5 (n : ℕ) (c : Dev nD) :
    (dat5 V n c).arrAt 5 cfg5.N = lnAll (V c main_v15) (V c main_arg2) (V c main_arg3) (V c main_v0) (V c main_v1) := by
  have e0 : ∀ t : Fin cfg5.N, win5_0.index t = ![t.val, 0, 0] := (by decide +kernel : ∀ t : Fin grid5.N, _)
  have e5 : ∀ t : Fin cfg5.N, win5_5.index t = ![t.val, 0, 0] := (by decide +kernel : ∀ t : Fin grid5.N, _)
  have e1 : ∀ t : Fin cfg5.N, win5_1.index t = ![0, 0] := (by decide +kernel : ∀ t : Fin grid5.N, _)
  have e2 : ∀ t : Fin cfg5.N, win5_2.index t = ![0, 0] := (by decide +kernel : ∀ t : Fin grid5.N, _)
  have e3 : ∀ t : Fin cfg5.N, win5_3.index t = ![0, 0] := (by decide +kernel : ∀ t : Fin grid5.N, _)
  have e4 : ∀ t : Fin cfg5.N, win5_4.index t = ![0, 0] := (by decide +kernel : ∀ t : Fin grid5.N, _)
  refine (dat5 V n c).arrAt_eq_of_covers 5 _ (by decide +kernel) fun t hf y => ?_
  refine lnAll_eq (t.val) (y := y) (i := ((cfg5.win 5).blk t).view.emb y) ?_ ?_ ?_ ?_ ?_ ?_
  · intro a
    fin_cases a
    · blk_simp [e5]; simp; omega
    · blk_simp [e5]; simp
    · blk_simp [e5]; simp
  · intro z j hj; show V c main_v15 (((cfg5.win 0).blk t).view.emb z) = _
    refine congrArg _ (funext fun a => Fin.ext ?_)
    rw [hj a]
    fin_cases a
    · blk_simp [e0]; simp; omega
    · blk_simp [e0]; simp
    · blk_simp [e0]; simp
  · funext z; show V c main_arg2 (((cfg5.win 1).blk t).view.emb z) = _
    refine congrArg _ ?_
    blk_ext [e1]
  · funext z; show V c main_arg3 (((cfg5.win 2).blk t).view.emb z) = _
    refine congrArg _ ?_
    blk_ext [e2]
  · funext z; show V c main_v0 (((cfg5.win 3).blk t).view.emb z) = _
    refine congrArg _ ?_
    blk_ext [e3]
  · funext z; show V c main_v1 (((cfg5.win 4).blk t).view.emb z) = _
    refine congrArg _ ?_
    blk_ext [e4]

/-- The family it belongs to. -/
def pdats5 (n : ℕ) : (p : Fin 8) → (c : Dev nD) → Dat τ (Elt F) (HIx 8) ℕ UU ℕ (Pipeline.pin (pcfgs (F := F)) adm p) c
  | ⟨0, _⟩ => fun c => noDat c
  | ⟨1, _⟩ => fun c => noDat c
  | ⟨2, _⟩ => fun c => dat5 V n c
  | ⟨3, _⟩ => fun c => noDat c
  | ⟨4, _⟩ => fun c => noDat c
  | ⟨5, _⟩ => fun c => noDat c
  | ⟨6, _⟩ => fun c => noDat c
  | ⟨7, _⟩ => fun c => noDat c

variable (Vp : (c : Dev nD) → (b : Ref sig .tc) → Buf (Elt F) ((c : Thread nD τ).loc b)) in
set_option backward.isDefEq.respectTransparency.types false in
/-- Its region, from the valuation `V` to `Vp`, which has the result normalised and is `V` elsewhere. -/
def reg5 (n : ℕ) (hout : ∀ c, Vp c main_v16 = lnAll (V c main_v15) (V c main_arg2) (V c main_arg3) (V c main_v0) (V c main_v1))
    (hne : ∀ c (b : Ref sig .tc), b ≠ main_v16 → Vp c b = V c b) :
    Pipeline.RegionSeg (pcfgs (F := F)) adm (pdats5 V n) none defs₀ 𝒱₀ ((K (F := F)).L (nD := nD)) (K (F := F)).lev 2 where
  win := launch5.win.to₀
  block_pos := launch5.block_pos
  stage_whole := launch5.stage_whole
  K := PEmpty
  osem k := k.elim
  ho := Pipeline.OwnSemFacts.none _
  hbody c := (body5 V n c).loose
  hwaits c := Pipeline.cellsWaits_intro _ _ _ _ _ fun w s t => (K (F := F)).mayWait_none _ (Otc_none n c)
  pre c := iprop(unscopedBufs c (V c) ∗ ∃ W : Waits sig (HIx 8), ⌜↑W ⊆ heard (F := F) n c⌝ ∗ owes (c : Thread nD τ) ((K (F := F)).Otc c n) W)
  post c := iprop(unscopedBufs c (Vp c) ∗ ∃ W : Waits sig (HIx 8), ⌜↑W ⊆ heard (F := F) n c⌝ ∗ owes (c : Thread nD τ) ((K (F := F)).Otc c n) W)
  X _ := BI.emp
  Y _ := BI.emp
  Z c := Pipeline.unscopedRest (Ix := HIx 8) (Name := ℕ) (U := UU) (Lvl := ℕ) spec5 c (V c)
  hentry c := by
    rw [Pipeline.ownSems0_none]
    have hsplit := Pipeline.arrays_of_unscopedBufs (p := 2) (pcfgs (F := F)) adm (pdats5 V n) launch5.win launch5.arr_whole c
      ((pdats5 V n 2 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats5 V n 2 c).Φ 0 = Pipeline.scopedRest (Ix := HIx 8) (Name := ℕ) (U := UU) (Lvl := ℕ) (Val := Elt F) spec5 c from rfl]
    iintro ⟨-, -, Hr⟩; iexact Hr
  hout c := by
    rw [Pipeline.ownSems0_none, show (pdats5 V n 2 c).Φ (Fin.last _) = Pipeline.scopedRest (Ix := HIx 8) (Name := ℕ) (U := UU) (Lvl := ℕ) (Val := Elt F) spec5 c from rfl]
    iintro Hr
    isplitr; · iempintro
    isplitr; · iempintro
    iexact Hr
  hexit c := by
    have hjoin := Pipeline.unscopedBufs_of_arrays (p := 2) (pcfgs (F := F)) adm (Ix := HIx 8) (Name := ℕ) (U := UU) (Lvl := ℕ) launch5.win launch5.arr_whole c
      (pdats5 V n) ((pdats5 V n 2 c).share_full fun _ => rfl) (V c) (Vp c) ((pdats5 V n 2 c).arrAt · cfg5.N)
      (fun w => by
        fin_cases w
        · exact ((pdats5 V n 2 c).arrAt_in 0 rfl _).trans (hne c main_v15 (by decide)).symm
        · exact ((pdats5 V n 2 c).arrAt_in 1 rfl _).trans (hne c main_arg2 (by decide)).symm
        · exact ((pdats5 V n 2 c).arrAt_in 2 rfl _).trans (hne c main_arg3 (by decide)).symm
        · exact ((pdats5 V n 2 c).arrAt_in 3 rfl _).trans (hne c main_v0 (by decide)).symm
        · exact ((pdats5 V n 2 c).arrAt_in 4 rfl _).trans (hne c main_v1 (by decide)).symm
        · exact (out5 V n c).trans (hout c).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact fun x h => heard_of_bound (hW h)
    iexact HO

end Cert.Embed

end
-- ==== Proof.Chunk2.lean ====
/-
  The chunk numbered 2: its ids cut out and laid end to end, the rows gathered by the subcores, the rows normalised.
-/
module

public import proofs.«01_k».proof.Proof.Chain
public import proofs.«01_k».proof.Proof.Region5

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 8) (Elt F) ℕ UU ℕ

variable (m : (ℓ : Loc nD τ sig) → Buf (Elt F) ℓ) (κ : GSem nD τ sig → ℕ)

/-- The array operations of the chunk. -/
abbrev cut2 : HloOp τ sig (Elt F) := StableHlo.unary main_arg0 main_v12 ((extractStridedSlice S128x512 ![256, 0] · slices_S1024x512_S128x512_256_0) : (⟨S1024x512, .i32⟩ : BufTy).Contents (Elt F) → (⟨S128x512, .i32⟩ : BufTy).Contents (Elt F))
abbrev lay2 : HloOp τ sig (Elt F) := StableHlo.reshape main_v12 main_v13 (rfl : (.i32 : EltTy) = .i32) shapeCasts_S128x512_S1x65536
abbrev fold2 : HloOp τ sig (Elt F) := StableHlo.reshape main_v14 main_v15 (rfl : (.f32 : EltTy) = .f32) shapeCasts_S65536x128_S128x512x128

/-- The contents after each step of it. -/
def atSplit2 (W : Vl F) : Vl F := lay2.result (cut2.result W)
def atGot2 (d : Dev nD) (W : Vl F) : Vl F := fold2.result (put (atSplit2 W) main_v14 (got m d 2))
def atEnd2 (d : Dev nD) (W : Vl F) : Vl F := put (atGot2 m d W) main_v16 (outAt m d 2)

omit [FloatOps F] in
theorem atSplit2_ne (W : Vl F) {r : Ref sig .tc} (h2 : r ≠ main_v12) (h3 : r ≠ main_v13) : atSplit2 W r = W r :=
  (StableHlo.reshape_result_ne _ _ _ _ _ _ _ h3).trans (StableHlo.unary_result_ne _ _ _ _ _ _ h2)

theorem atGot2_ne (d : Dev nD) (W : Vl F) {r : Ref sig .tc} (h2 : r ≠ main_v12) (h3 : r ≠ main_v13) (h4 : r ≠ main_v14) (h5 : r ≠ main_v15) :
    atGot2 m d W r = W r :=
  (StableHlo.reshape_result_ne _ _ _ _ _ _ _ h5).trans ((put_ne _ _ h4).trans (atSplit2_ne W h2 h3))

variable {m} {d : Dev nD} {W : Vl F}

theorem atSplit2_list (h : Before m d 2 W) : atSplit2 W main_v13 = rows 2 (ids₀ m d) := by
  have e0 : W main_arg0 = ids₀ m d := h.clean main_arg0 (by decide) (by decide) fun p _ => by revert p; decide
  refine (StableHlo.reshape_result main_v12 main_v13 rfl shapeCasts_S128x512_S1x65536 _ _ (cut2.result W)).trans ?_
  rw [show cut2.result W main_v12 = extractStridedSlice S128x512 ![256, 0] (ids₀ m d) slices_S1024x512_S128x512_256_0 from
    (StableHlo.unary_result main_arg0 main_v12 _ _ _ W).trans (congrArg (extractStridedSlice S128x512 ![256, 0] · slices_S1024x512_S128x512_256_0) e0)]
  exact rows_eq 2 (ids₀ m d) _ rfl _ _

theorem atGot2_fold : atGot2 m d W main_v15 = shapeCast S128x512x128 (got m d 2) shapeCasts_S65536x128_S128x512x128 := by
  refine (StableHlo.reshape_result main_v14 main_v15 rfl shapeCasts_S65536x128_S128x512x128 _ _ _).trans ?_
  rw [put_self]; rfl

theorem atEnd2_out : atEnd2 m d W main_v16 = outAt m d 2 := put_self _ _ _

theorem chunk2 (h : Before m d 2 W) : Chunk m d 2 W (atEnd2 m d W) :=
  Chunk.mk' m h fun r hr => by
    have hr' : r ∉ [main_v12, main_v13, main_v14, main_v15, main_v16] := hr
    simp only [List.mem_cons, List.not_mem_nil, or_false, not_or] at hr'
    obtain ⟨h2, h3, h4, h5, h6⟩ := hr'
    exact (put_ne _ _ h6).trans (atGot2_ne m d W h2 h3 h4 h5)

/-- The chunk's steps, from the buffers at `W` to the buffers at its end. -/
theorem wp_chunk2 [∀ e, Nonempty (Elt F e)] (h : Before m d 2 W) (R : sProp 𝕄) :
    iprop((K (F := F)).ctx EH (P m) κ ∗ (K (F := F)).tcSt EH d 2 ∗ boundary (d : Thread nD τ) ∗ StableHlo.held (d : Thread nD τ) ucRefs W
        ∗ Pipeline.cellsGhost (Pipeline.pin (pcfgs (F := F)) adm) EP 2 d ∗ Pipeline.toksInit (Pipeline.pin (pcfgs (F := F)) adm) EP 2 d
        ∗ (((K (F := F)).tcSt EH d (2 + 1) ∗ boundary (d : Thread nD τ) ∗ StableHlo.held (d : Thread nD τ) ucRefs (atEnd2 m d W)) -∗ R))
      ⊢ wp frame (wpE ((K (F := F)).defs (D (F := F))) 𝒱 (SparseCore.T d) none) Set.univ (hlo rfl cut2 fun _ => .ret PUnit.unit) fun _ =>
          wp frame (wpE ((K (F := F)).defs (D (F := F))) 𝒱 (SparseCore.T d) none) Set.univ (hlo rfl lay2 fun _ => .ret PUnit.unit) fun _ =>
          wp frame (wpE ((K (F := F)).defs (D (F := F))) 𝒱 (SparseCore.T d) none) Set.univ ((K (F := F)).run d 2) fun _ =>
          wp frame (wpE ((K (F := F)).defs (D (F := F))) 𝒱 (SparseCore.T d) none) Set.univ (hlo rfl fold2 fun _ => .ret PUnit.unit) fun _ =>
          wp frame (wpE ((K (F := F)).defs (D (F := F))) 𝒱 (SparseCore.T d) none) Set.univ
            (Prog.lift (.customCall (SparseCore.inner (Pipeline.entry 2)) ())) fun _ => R := by
  have e1 : atSplit2 W main_arg1 = tab₀ m d :=
    (atSplit2_ne W (by decide) (by decide)).trans (h.clean main_arg1 (by decide) (by decide) fun p _ => by revert p; decide)
  have e4 : atSplit2 W main_v14 = m ((d : Thread nD τ).loc main_v14) :=
    (atSplit2_ne W (by decide) (by decide)).trans (h.clean main_v14 (by decide) (by decide) (by decide))
  have a2 : atGot2 m d W main_arg2 = m ((d : Thread nD τ).loc main_arg2) :=
    (atGot2_ne m d W (by decide) (by decide) (by decide) (by decide)).trans (h.clean main_arg2 (by decide) (by decide) fun p _ => by revert p; decide)
  have a3 : atGot2 m d W main_arg3 = m ((d : Thread nD τ).loc main_arg3) :=
    (atGot2_ne m d W (by decide) (by decide) (by decide) (by decide)).trans (h.clean main_arg3 (by decide) (by decide) fun p _ => by revert p; decide)
  have a0 : atGot2 m d W main_v0 = gam m d := (atGot2_ne m d W (by decide) (by decide) (by decide) (by decide)).trans h.scale
  have b0 : atGot2 m d W main_v1 = bet m d := (atGot2_ne m d W (by decide) (by decide) (by decide) (by decide)).trans h.shift
  have hout : outAt m d 2 = lnAll (atGot2 m d W main_v15) (atGot2 m d W main_arg2) (atGot2 m d W main_arg3) (atGot2 m d W main_v0) (atGot2 m d W main_v1) := by
    rw [atGot2_fold, a2, a3, a0, b0]; rfl
  have hcall := sc_step m κ d 2 (a := main_arg1) (b := main_v13) (c := main_v14) rfl rfl rfl (by decide) (by decide) (by decide)
    (atSplit2 W) (got m d 2) ((st_eq2 m d).trans (by rw [e1, atSplit2_list h, e4])) ((dn_eq2 m d).trans (by rw [e1, atSplit2_list h]))
  have hreg := region_step m κ d (2 + 1) 2 _ (atGot2 m d W) (atEnd2 m d W)
    (reg5 (fun _ b => atGot2 m d W b) (fun _ b => atEnd2 m d W b) (2 + 1)
      (fun _ => atEnd2_out.trans hout) (fun _ b hb => put_ne _ _ hb)) rfl rfl
  iintro ⟨#Hctx, Hst, Hb, Hh, Hg, Ht, Hk⟩
  iapply (StableHlo.wp_hlo_within 𝒱 (d : Thread nD τ) none Set.univ (sub_ucRefs cut2 (StableHlo.unary_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs lay2 (StableHlo.reshape_bufs_sub ..))) $$ [Hb Hh]
  · isplitl [Hb] <;> iassumption
  iintro ⟨Hb, Hh⟩
  rw [wp_ret]; imodintro
  iapply (hcall _) $$ [Hst Hh Hb Hg Ht Hk]
  isplitr; · iexact Hctx
  isplitl [Hst]; · iexact Hst
  isplitl [Hh]; · iexact Hh
  iintro ⟨Hst, Hh⟩
  iapply (StableHlo.wp_hlo_within 𝒱 (d : Thread nD τ) none Set.univ (sub_ucRefs fold2 (StableHlo.reshape_bufs_sub ..))) $$ [Hb Hh]
  · isplitl [Hb] <;> iassumption
  iintro ⟨Hb, Hh⟩
  rw [wp_ret]; imodintro
  iapply (hreg _) $$ [Hst Hh Hb Hg Ht Hk]
  isplitr; · iexact Hctx
  isplitl [Hst]; · iexact Hst
  isplitl [Hb]; · iexact Hb
  isplitl [Hh]; · iexact Hh
  isplitl [Hg]; · iexact Hg
  isplitl [Ht]; · iexact Ht
  iexact Hk

end Cert.Embed

end
-- ==== Proof.Region7.lean ====
/-
  One of the normalisation's pipelines: what it writes, and its region of the program, from the unscoped buffers at a
  valuation to the same at the valuation with the result written.
-/
module

public import proofs.«01_k».proof.Proof.Whole
public import proofs.«01_k».proof.Proof.Gen.KernelIdeal.Points

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 8) (Elt F) ℕ UU ℕ

variable (V : (c : Dev nD) → (b : Ref sig .tc) → Buf (Elt F) ((c : Thread nD τ).loc b))

/-! ## Call 7 -/

/-- Its proof data from the valuation `V`, before the SparseCore call numbered `n`. -/
def dat7 (n : ℕ) (c : Dev nD) : Dat τ (Elt F) (HIx 8) ℕ UU ℕ cfg7 c where
  A w := V c (Pipeline.arrRef spec7 w)
  after w t := match w with
    | ⟨0, _⟩ => ((cfg7.win 0).blk t).view.read (Elt F) (V c main_v20)
    | ⟨1, _⟩ => ((cfg7.win 1).blk t).view.read (Elt F) (V c main_arg2)
    | ⟨2, _⟩ => ((cfg7.win 2).blk t).view.read (Elt F) (V c main_arg3)
    | ⟨3, _⟩ => ((cfg7.win 3).blk t).view.read (Elt F) (V c main_v0)
    | ⟨4, _⟩ => ((cfg7.win 4).blk t).view.read (Elt F) (V c main_v1)
    | ⟨5, _⟩ => lnBlock (((cfg7.win 0).blk t).view.read (Elt F) (V c main_v20))
        (((cfg7.win 1).blk t).view.read (Elt F) (V c main_arg2)) (((cfg7.win 2).blk t).view.read (Elt F) (V c main_arg3))
        (((cfg7.win 3).blk t).view.read (Elt F) (V c main_v0)) (((cfg7.win 4).blk t).view.read (Elt F) (V c main_v1))
  Φ _ := Pipeline.scopedRest (Ix := HIx 8) (Name := ℕ) (U := UU) (Lvl := ℕ) (Val := Elt F) spec7 c
  q _ := fullShare
  owed _ := (K (F := F)).Otc c n
  recorded _ := heard (F := F) n c

theorem before7 (n : ℕ) (c : Dev nD) (t : Fin cfg7.N) :
(∀ d, (dat7 V n c).before 0 t d = ((cfg7.win 0).blk t).view.read (Elt F) (V c main_v20)) ∧
    (∀ d, (dat7 V n c).before 1 t d = ((cfg7.win 1).blk t).view.read (Elt F) (V c main_arg2)) ∧
    (∀ d, (dat7 V n c).before 2 t d = ((cfg7.win 2).blk t).view.read (Elt F) (V c main_arg3)) ∧
    (∀ d, (dat7 V n c).before 3 t d = ((cfg7.win 3).blk t).view.read (Elt F) (V c main_v0)) ∧
    (∀ d, (dat7 V n c).before 4 t d = ((cfg7.win 4).blk t).view.read (Elt F) (V c main_v1)) :=
  ⟨fun d => (dat7 V n c).before_in_eq_fetched 0 rfl (fun _ => rfl) (fun _ _ _ => rfl) (fun _ => rfl) t d,
    fun d => (dat7 V n c).before_in_eq_fetched 1 rfl (fun _ => rfl) (fun _ _ _ => rfl) (fun _ => rfl) t d,
    fun d => (dat7 V n c).before_in_eq_fetched 2 rfl (fun _ => rfl) (fun _ _ _ => rfl) (fun _ => rfl) t d,
    fun d => (dat7 V n c).before_in_eq_fetched 3 rfl (fun _ => rfl) (fun _ _ _ => rfl) (fun _ => rfl) t d,
    fun d => (dat7 V n c).before_in_eq_fetched 4 rfl (fun _ => rfl) (fun _ _ _ => rfl) (fun _ => rfl) t d⟩

theorem body7 (n : ℕ) (c : Dev nD) : BodyObligation (dat7 V n c) (defs₀ (F := F)) 𝒱₀ none Set.univ := fun t => by
  obtain ⟨b0, b1, b2, b3, b4⟩ := before7 V n c t
  rw [bigSep_W7, bigSep_W7]
  dsimp only
  simp only [b0, b1, b2, b3, b4]
  rw [show (dat7 V n c).Φ t.succ = (dat7 V n c).Φ t.castSucc from rfl,
    show (dat7 V n c).owesAt none t.succ = (dat7 V n c).owesAt none t.castSucc from rfl]
  iintro ⟨HΦ, HO, ⟨%d0, H0⟩, ⟨%d1, H1⟩, ⟨%d2, H2⟩, ⟨%d3, H3⟩, ⟨%d4, H4⟩, ⟨%d5, H5⟩⟩
  iapply (ln_spec c (grid7.coords t) Set.univ (st7_0 t) (hstage7_0 ((cfg7.slots t 0).cast nbuf7_0)) (st7_1 t) (hstage7_1 ((cfg7.slots t 1).cast nbuf7_1))
    (st7_2 t) (hstage7_2 ((cfg7.slots t 2).cast nbuf7_2)) (st7_3 t) (hstage7_3 ((cfg7.slots t 3).cast nbuf7_3))
    (st7_4 t) (hstage7_4 ((cfg7.slots t 4).cast nbuf7_4)) (st7_5 t) (hstage7_5 ((cfg7.slots t 5).cast nbuf7_5)) _ _ _ _ _ _ _)
    $$ [HΦ HO H0 H1 H2 H3 H4 H5]
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-- What it leaves in its result. -/
theorem out7 (n : ℕ) (c : Dev nD) :
    (dat7 V n c).arrAt 5 cfg7.N = lnAll (V c main_v20) (V c main_arg2) (V c main_arg3) (V c main_v0) (V c main_v1) := by
  have e0 : ∀ t : Fin cfg7.N, win7_0.index t = ![t.val, 0, 0] := (by decide +kernel : ∀ t : Fin grid7.N, _)
  have e5 : ∀ t : Fin cfg7.N, win7_5.index t = ![t.val, 0, 0] := (by decide +kernel : ∀ t : Fin grid7.N, _)
  have e1 : ∀ t : Fin cfg7.N, win7_1.index t = ![0, 0] := (by decide +kernel : ∀ t : Fin grid7.N, _)
  have e2 : ∀ t : Fin cfg7.N, win7_2.index t = ![0, 0] := (by decide +kernel : ∀ t : Fin grid7.N, _)
  have e3 : ∀ t : Fin cfg7.N, win7_3.index t = ![0, 0] := (by decide +kernel : ∀ t : Fin grid7.N, _)
  have e4 : ∀ t : Fin cfg7.N, win7_4.index t = ![0, 0] := (by decide +kernel : ∀ t : Fin grid7.N, _)
  refine (dat7 V n c).arrAt_eq_of_covers 5 _ (by decide +kernel) fun t hf y => ?_
  refine lnAll_eq (t.val) (y := y) (i := ((cfg7.win 5).blk t).view.emb y) ?_ ?_ ?_ ?_ ?_ ?_
  · intro a
    fin_cases a
    · blk_simp [e5]; simp; omega
    · blk_simp [e5]; simp
    · blk_simp [e5]; simp
  · intro z j hj; show V c main_v20 (((cfg7.win 0).blk t).view.emb z) = _
    refine congrArg _ (funext fun a => Fin.ext ?_)
    rw [hj a]
    fin_cases a
    · blk_simp [e0]; simp; omega
    · blk_simp [e0]; simp
    · blk_simp [e0]; simp
  · funext z; show V c main_arg2 (((cfg7.win 1).blk t).view.emb z) = _
    refine congrArg _ ?_
    blk_ext [e1]
  · funext z; show V c main_arg3 (((cfg7.win 2).blk t).view.emb z) = _
    refine congrArg _ ?_
    blk_ext [e2]
  · funext z; show V c main_v0 (((cfg7.win 3).blk t).view.emb z) = _
    refine congrArg _ ?_
    blk_ext [e3]
  · funext z; show V c main_v1 (((cfg7.win 4).blk t).view.emb z) = _
    refine congrArg _ ?_
    blk_ext [e4]

/-- The family it belongs to. -/
def pdats7 (n : ℕ) : (p : Fin 8) → (c : Dev nD) → Dat τ (Elt F) (HIx 8) ℕ UU ℕ (Pipeline.pin (pcfgs (F := F)) adm p) c
  | ⟨0, _⟩ => fun c => noDat c
  | ⟨1, _⟩ => fun c => noDat c
  | ⟨2, _⟩ => fun c => noDat c
  | ⟨3, _⟩ => fun c => dat7 V n c
  | ⟨4, _⟩ => fun c => noDat c
  | ⟨5, _⟩ => fun c => noDat c
  | ⟨6, _⟩ => fun c => noDat c
  | ⟨7, _⟩ => fun c => noDat c

variable (Vp : (c : Dev nD) → (b : Ref sig .tc) → Buf (Elt F) ((c : Thread nD τ).loc b)) in
set_option backward.isDefEq.respectTransparency.types false in
/-- Its region, from the valuation `V` to `Vp`, which has the result normalised and is `V` elsewhere. -/
def reg7 (n : ℕ) (hout : ∀ c, Vp c main_v21 = lnAll (V c main_v20) (V c main_arg2) (V c main_arg3) (V c main_v0) (V c main_v1))
    (hne : ∀ c (b : Ref sig .tc), b ≠ main_v21 → Vp c b = V c b) :
    Pipeline.RegionSeg (pcfgs (F := F)) adm (pdats7 V n) none defs₀ 𝒱₀ ((K (F := F)).L (nD := nD)) (K (F := F)).lev 3 where
  win := launch7.win.to₀
  block_pos := launch7.block_pos
  stage_whole := launch7.stage_whole
  K := PEmpty
  osem k := k.elim
  ho := Pipeline.OwnSemFacts.none _
  hbody c := (body7 V n c).loose
  hwaits c := Pipeline.cellsWaits_intro _ _ _ _ _ fun w s t => (K (F := F)).mayWait_none _ (Otc_none n c)
  pre c := iprop(unscopedBufs c (V c) ∗ ∃ W : Waits sig (HIx 8), ⌜↑W ⊆ heard (F := F) n c⌝ ∗ owes (c : Thread nD τ) ((K (F := F)).Otc c n) W)
  post c := iprop(unscopedBufs c (Vp c) ∗ ∃ W : Waits sig (HIx 8), ⌜↑W ⊆ heard (F := F) n c⌝ ∗ owes (c : Thread nD τ) ((K (F := F)).Otc c n) W)
  X _ := BI.emp
  Y _ := BI.emp
  Z c := Pipeline.unscopedRest (Ix := HIx 8) (Name := ℕ) (U := UU) (Lvl := ℕ) spec7 c (V c)
  hentry c := by
    rw [Pipeline.ownSems0_none]
    have hsplit := Pipeline.arrays_of_unscopedBufs (p := 3) (pcfgs (F := F)) adm (pdats7 V n) launch7.win launch7.arr_whole c
      ((pdats7 V n 3 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats7 V n 3 c).Φ 0 = Pipeline.scopedRest (Ix := HIx 8) (Name := ℕ) (U := UU) (Lvl := ℕ) (Val := Elt F) spec7 c from rfl]
    iintro ⟨-, -, Hr⟩; iexact Hr
  hout c := by
    rw [Pipeline.ownSems0_none, show (pdats7 V n 3 c).Φ (Fin.last _) = Pipeline.scopedRest (Ix := HIx 8) (Name := ℕ) (U := UU) (Lvl := ℕ) (Val := Elt F) spec7 c from rfl]
    iintro Hr
    isplitr; · iempintro
    isplitr; · iempintro
    iexact Hr
  hexit c := by
    have hjoin := Pipeline.unscopedBufs_of_arrays (p := 3) (pcfgs (F := F)) adm (Ix := HIx 8) (Name := ℕ) (U := UU) (Lvl := ℕ) launch7.win launch7.arr_whole c
      (pdats7 V n) ((pdats7 V n 3 c).share_full fun _ => rfl) (V c) (Vp c) ((pdats7 V n 3 c).arrAt · cfg7.N)
      (fun w => by
        fin_cases w
        · exact ((pdats7 V n 3 c).arrAt_in 0 rfl _).trans (hne c main_v20 (by decide)).symm
        · exact ((pdats7 V n 3 c).arrAt_in 1 rfl _).trans (hne c main_arg2 (by decide)).symm
        · exact ((pdats7 V n 3 c).arrAt_in 2 rfl _).trans (hne c main_arg3 (by decide)).symm
        · exact ((pdats7 V n 3 c).arrAt_in 3 rfl _).trans (hne c main_v0 (by decide)).symm
        · exact ((pdats7 V n 3 c).arrAt_in 4 rfl _).trans (hne c main_v1 (by decide)).symm
        · exact (out7 V n c).trans (hout c).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact fun x h => heard_of_bound (hW h)
    iexact HO

end Cert.Embed

end
-- ==== Proof.Chunk3.lean ====
/-
  The chunk numbered 3: its ids cut out and laid end to end, the rows gathered by the subcores, the rows normalised.
-/
module

public import proofs.«01_k».proof.Proof.Chain
public import proofs.«01_k».proof.Proof.Region7

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 8) (Elt F) ℕ UU ℕ

variable (m : (ℓ : Loc nD τ sig) → Buf (Elt F) ℓ) (κ : GSem nD τ sig → ℕ)

/-- The array operations of the chunk. -/
abbrev cut3 : HloOp τ sig (Elt F) := StableHlo.unary main_arg0 main_v17 ((extractStridedSlice S128x512 ![384, 0] · slices_S1024x512_S128x512_384_0) : (⟨S1024x512, .i32⟩ : BufTy).Contents (Elt F) → (⟨S128x512, .i32⟩ : BufTy).Contents (Elt F))
abbrev lay3 : HloOp τ sig (Elt F) := StableHlo.reshape main_v17 main_v18 (rfl : (.i32 : EltTy) = .i32) shapeCasts_S128x512_S1x65536
abbrev fold3 : HloOp τ sig (Elt F) := StableHlo.reshape main_v19 main_v20 (rfl : (.f32 : EltTy) = .f32) shapeCasts_S65536x128_S128x512x128

/-- The contents after each step of it. -/
def atSplit3 (W : Vl F) : Vl F := lay3.result (cut3.result W)
def atGot3 (d : Dev nD) (W : Vl F) : Vl F := fold3.result (put (atSplit3 W) main_v19 (got m d 3))
def atEnd3 (d : Dev nD) (W : Vl F) : Vl F := put (atGot3 m d W) main_v21 (outAt m d 3)

omit [FloatOps F] in
theorem atSplit3_ne (W : Vl F) {r : Ref sig .tc} (h2 : r ≠ main_v17) (h3 : r ≠ main_v18) : atSplit3 W r = W r :=
  (StableHlo.reshape_result_ne _ _ _ _ _ _ _ h3).trans (StableHlo.unary_result_ne _ _ _ _ _ _ h2)

theorem atGot3_ne (d : Dev nD) (W : Vl F) {r : Ref sig .tc} (h2 : r ≠ main_v17) (h3 : r ≠ main_v18) (h4 : r ≠ main_v19) (h5 : r ≠ main_v20) :
    atGot3 m d W r = W r :=
  (StableHlo.reshape_result_ne _ _ _ _ _ _ _ h5).trans ((put_ne _ _ h4).trans (atSplit3_ne W h2 h3))

variable {m} {d : Dev nD} {W : Vl F}

theorem atSplit3_list (h : Before m d 3 W) : atSplit3 W main_v18 = rows 3 (ids₀ m d) := by
  have e0 : W main_arg0 = ids₀ m d := h.clean main_arg0 (by decide) (by decide) fun p _ => by revert p; decide
  refine (StableHlo.reshape_result main_v17 main_v18 rfl shapeCasts_S128x512_S1x65536 _ _ (cut3.result W)).trans ?_
  rw [show cut3.result W main_v17 = extractStridedSlice S128x512 ![384, 0] (ids₀ m d) slices_S1024x512_S128x512_384_0 from
    (StableHlo.unary_result main_arg0 main_v17 _ _ _ W).trans (congrArg (extractStridedSlice S128x512 ![384, 0] · slices_S1024x512_S128x512_384_0) e0)]
  exact rows_eq 3 (ids₀ m d) _ rfl _ _

theorem atGot3_fold : atGot3 m d W main_v20 = shapeCast S128x512x128 (got m d 3) shapeCasts_S65536x128_S128x512x128 := by
  refine (StableHlo.reshape_result main_v19 main_v20 rfl shapeCasts_S65536x128_S128x512x128 _ _ _).trans ?_
  rw [put_self]; rfl

theorem atEnd3_out : atEnd3 m d W main_v21 = outAt m d 3 := put_self _ _ _

theorem chunk3 (h : Before m d 3 W) : Chunk m d 3 W (atEnd3 m d W) :=
  Chunk.mk' m h fun r hr => by
    have hr' : r ∉ [main_v17, main_v18, main_v19, main_v20, main_v21] := hr
    simp only [List.mem_cons, List.not_mem_nil, or_false, not_or] at hr'
    obtain ⟨h2, h3, h4, h5, h6⟩ := hr'
    exact (put_ne _ _ h6).trans (atGot3_ne m d W h2 h3 h4 h5)

/-- The chunk's steps, from the buffers at `W` to the buffers at its end. -/
theorem wp_chunk3 [∀ e, Nonempty (Elt F e)] (h : Before m d 3 W) (R : sProp 𝕄) :
    iprop((K (F := F)).ctx EH (P m) κ ∗ (K (F := F)).tcSt EH d 3 ∗ boundary (d : Thread nD τ) ∗ StableHlo.held (d : Thread nD τ) ucRefs W
        ∗ Pipeline.cellsGhost (Pipeline.pin (pcfgs (F := F)) adm) EP 3 d ∗ Pipeline.toksInit (Pipeline.pin (pcfgs (F := F)) adm) EP 3 d
        ∗ (((K (F := F)).tcSt EH d (3 + 1) ∗ boundary (d : Thread nD τ) ∗ StableHlo.held (d : Thread nD τ) ucRefs (atEnd3 m d W)) -∗ R))
      ⊢ wp frame (wpE ((K (F := F)).defs (D (F := F))) 𝒱 (SparseCore.T d) none) Set.univ (hlo rfl cut3 fun _ => .ret PUnit.unit) fun _ =>
          wp frame (wpE ((K (F := F)).defs (D (F := F))) 𝒱 (SparseCore.T d) none) Set.univ (hlo rfl lay3 fun _ => .ret PUnit.unit) fun _ =>
          wp frame (wpE ((K (F := F)).defs (D (F := F))) 𝒱 (SparseCore.T d) none) Set.univ ((K (F := F)).run d 3) fun _ =>
          wp frame (wpE ((K (F := F)).defs (D (F := F))) 𝒱 (SparseCore.T d) none) Set.univ (hlo rfl fold3 fun _ => .ret PUnit.unit) fun _ =>
          wp frame (wpE ((K (F := F)).defs (D (F := F))) 𝒱 (SparseCore.T d) none) Set.univ
            (Prog.lift (.customCall (SparseCore.inner (Pipeline.entry 3)) ())) fun _ => R := by
  have e1 : atSplit3 W main_arg1 = tab₀ m d :=
    (atSplit3_ne W (by decide) (by decide)).trans (h.clean main_arg1 (by decide) (by decide) fun p _ => by revert p; decide)
  have e4 : atSplit3 W main_v19 = m ((d : Thread nD τ).loc main_v19) :=
    (atSplit3_ne W (by decide) (by decide)).trans (h.clean main_v19 (by decide) (by decide) (by decide))
  have a2 : atGot3 m d W main_arg2 = m ((d : Thread nD τ).loc main_arg2) :=
    (atGot3_ne m d W (by decide) (by decide) (by decide) (by decide)).trans (h.clean main_arg2 (by decide) (by decide) fun p _ => by revert p; decide)
  have a3 : atGot3 m d W main_arg3 = m ((d : Thread nD τ).loc main_arg3) :=
    (atGot3_ne m d W (by decide) (by decide) (by decide) (by decide)).trans (h.clean main_arg3 (by decide) (by decide) fun p _ => by revert p; decide)
  have a0 : atGot3 m d W main_v0 = gam m d := (atGot3_ne m d W (by decide) (by decide) (by decide) (by decide)).trans h.scale
  have b0 : atGot3 m d W main_v1 = bet m d := (atGot3_ne m d W (by decide) (by decide) (by decide) (by decide)).trans h.shift
  have hout : outAt m d 3 = lnAll (atGot3 m d W main_v20) (atGot3 m d W main_arg2) (atGot3 m d W main_arg3) (atGot3 m d W main_v0) (atGot3 m d W main_v1) := by
    rw [atGot3_fold, a2, a3, a0, b0]; rfl
  have hcall := sc_step m κ d 3 (a := main_arg1) (b := main_v18) (c := main_v19) rfl rfl rfl (by decide) (by decide) (by decide)
    (atSplit3 W) (got m d 3) ((st_eq3 m d).trans (by rw [e1, atSplit3_list h, e4])) ((dn_eq3 m d).trans (by rw [e1, atSplit3_list h]))
  have hreg := region_step m κ d (3 + 1) 3 _ (atGot3 m d W) (atEnd3 m d W)
    (reg7 (fun _ b => atGot3 m d W b) (fun _ b => atEnd3 m d W b) (3 + 1)
      (fun _ => atEnd3_out.trans hout) (fun _ b hb => put_ne _ _ hb)) rfl rfl
  iintro ⟨#Hctx, Hst, Hb, Hh, Hg, Ht, Hk⟩
  iapply (StableHlo.wp_hlo_within 𝒱 (d : Thread nD τ) none Set.univ (sub_ucRefs cut3 (StableHlo.unary_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs lay3 (StableHlo.reshape_bufs_sub ..))) $$ [Hb Hh]
  · isplitl [Hb] <;> iassumption
  iintro ⟨Hb, Hh⟩
  rw [wp_ret]; imodintro
  iapply (hcall _) $$ [Hst Hh Hb Hg Ht Hk]
  isplitr; · iexact Hctx
  isplitl [Hst]; · iexact Hst
  isplitl [Hh]; · iexact Hh
  iintro ⟨Hst, Hh⟩
  iapply (StableHlo.wp_hlo_within 𝒱 (d : Thread nD τ) none Set.univ (sub_ucRefs fold3 (StableHlo.reshape_bufs_sub ..))) $$ [Hb Hh]
  · isplitl [Hb] <;> iassumption
  iintro ⟨Hb, Hh⟩
  rw [wp_ret]; imodintro
  iapply (hreg _) $$ [Hst Hh Hb Hg Ht Hk]
  isplitr; · iexact Hctx
  isplitl [Hst]; · iexact Hst
  isplitl [Hb]; · iexact Hb
  isplitl [Hh]; · iexact Hh
  isplitl [Hg]; · iexact Hg
  isplitl [Ht]; · iexact Ht
  iexact Hk

end Cert.Embed

end
-- ==== Proof.Region9.lean ====
/-
  One of the normalisation's pipelines: what it writes, and its region of the program, from the unscoped buffers at a
  valuation to the same at the valuation with the result written.
-/
module

public import proofs.«01_k».proof.Proof.Whole
public import proofs.«01_k».proof.Proof.Gen.KernelIdeal.Points

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 8) (Elt F) ℕ UU ℕ

variable (V : (c : Dev nD) → (b : Ref sig .tc) → Buf (Elt F) ((c : Thread nD τ).loc b))

/-! ## Call 9 -/

/-- Its proof data from the valuation `V`, before the SparseCore call numbered `n`. -/
def dat9 (n : ℕ) (c : Dev nD) : Dat τ (Elt F) (HIx 8) ℕ UU ℕ cfg9 c where
  A w := V c (Pipeline.arrRef spec9 w)
  after w t := match w with
    | ⟨0, _⟩ => ((cfg9.win 0).blk t).view.read (Elt F) (V c main_v25)
    | ⟨1, _⟩ => ((cfg9.win 1).blk t).view.read (Elt F) (V c main_arg2)
    | ⟨2, _⟩ => ((cfg9.win 2).blk t).view.read (Elt F) (V c main_arg3)
    | ⟨3, _⟩ => ((cfg9.win 3).blk t).view.read (Elt F) (V c main_v0)
    | ⟨4, _⟩ => ((cfg9.win 4).blk t).view.read (Elt F) (V c main_v1)
    | ⟨5, _⟩ => lnBlock (((cfg9.win 0).blk t).view.read (Elt F) (V c main_v25))
        (((cfg9.win 1).blk t).view.read (Elt F) (V c main_arg2)) (((cfg9.win 2).blk t).view.read (Elt F) (V c main_arg3))
        (((cfg9.win 3).blk t).view.read (Elt F) (V c main_v0)) (((cfg9.win 4).blk t).view.read (Elt F) (V c main_v1))
  Φ _ := Pipeline.scopedRest (Ix := HIx 8) (Name := ℕ) (U := UU) (Lvl := ℕ) (Val := Elt F) spec9 c
  q _ := fullShare
  owed _ := (K (F := F)).Otc c n
  recorded _ := heard (F := F) n c

theorem before9 (n : ℕ) (c : Dev nD) (t : Fin cfg9.N) :
(∀ d, (dat9 V n c).before 0 t d = ((cfg9.win 0).blk t).view.read (Elt F) (V c main_v25)) ∧
    (∀ d, (dat9 V n c).before 1 t d = ((cfg9.win 1).blk t).view.read (Elt F) (V c main_arg2)) ∧
    (∀ d, (dat9 V n c).before 2 t d = ((cfg9.win 2).blk t).view.read (Elt F) (V c main_arg3)) ∧
    (∀ d, (dat9 V n c).before 3 t d = ((cfg9.win 3).blk t).view.read (Elt F) (V c main_v0)) ∧
    (∀ d, (dat9 V n c).before 4 t d = ((cfg9.win 4).blk t).view.read (Elt F) (V c main_v1)) :=
  ⟨fun d => (dat9 V n c).before_in_eq_fetched 0 rfl (fun _ => rfl) (fun _ _ _ => rfl) (fun _ => rfl) t d,
    fun d => (dat9 V n c).before_in_eq_fetched 1 rfl (fun _ => rfl) (fun _ _ _ => rfl) (fun _ => rfl) t d,
    fun d => (dat9 V n c).before_in_eq_fetched 2 rfl (fun _ => rfl) (fun _ _ _ => rfl) (fun _ => rfl) t d,
    fun d => (dat9 V n c).before_in_eq_fetched 3 rfl (fun _ => rfl) (fun _ _ _ => rfl) (fun _ => rfl) t d,
    fun d => (dat9 V n c).before_in_eq_fetched 4 rfl (fun _ => rfl) (fun _ _ _ => rfl) (fun _ => rfl) t d⟩

theorem body9 (n : ℕ) (c : Dev nD) : BodyObligation (dat9 V n c) (defs₀ (F := F)) 𝒱₀ none Set.univ := fun t => by
  obtain ⟨b0, b1, b2, b3, b4⟩ := before9 V n c t
  rw [bigSep_W9, bigSep_W9]
  dsimp only
  simp only [b0, b1, b2, b3, b4]
  rw [show (dat9 V n c).Φ t.succ = (dat9 V n c).Φ t.castSucc from rfl,
    show (dat9 V n c).owesAt none t.succ = (dat9 V n c).owesAt none t.castSucc from rfl]
  iintro ⟨HΦ, HO, ⟨%d0, H0⟩, ⟨%d1, H1⟩, ⟨%d2, H2⟩, ⟨%d3, H3⟩, ⟨%d4, H4⟩, ⟨%d5, H5⟩⟩
  iapply (ln_spec c (grid9.coords t) Set.univ (st9_0 t) (hstage9_0 ((cfg9.slots t 0).cast nbuf9_0)) (st9_1 t) (hstage9_1 ((cfg9.slots t 1).cast nbuf9_1))
    (st9_2 t) (hstage9_2 ((cfg9.slots t 2).cast nbuf9_2)) (st9_3 t) (hstage9_3 ((cfg9.slots t 3).cast nbuf9_3))
    (st9_4 t) (hstage9_4 ((cfg9.slots t 4).cast nbuf9_4)) (st9_5 t) (hstage9_5 ((cfg9.slots t 5).cast nbuf9_5)) _ _ _ _ _ _ _)
    $$ [HΦ HO H0 H1 H2 H3 H4 H5]
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-- What it leaves in its result. -/
theorem out9 (n : ℕ) (c : Dev nD) :
    (dat9 V n c).arrAt 5 cfg9.N = lnAll (V c main_v25) (V c main_arg2) (V c main_arg3) (V c main_v0) (V c main_v1) := by
  have e0 : ∀ t : Fin cfg9.N, win9_0.index t = ![t.val, 0, 0] := (by decide +kernel : ∀ t : Fin grid9.N, _)
  have e5 : ∀ t : Fin cfg9.N, win9_5.index t = ![t.val, 0, 0] := (by decide +kernel : ∀ t : Fin grid9.N, _)
  have e1 : ∀ t : Fin cfg9.N, win9_1.index t = ![0, 0] := (by decide +kernel : ∀ t : Fin grid9.N, _)
  have e2 : ∀ t : Fin cfg9.N, win9_2.index t = ![0, 0] := (by decide +kernel : ∀ t : Fin grid9.N, _)
  have e3 : ∀ t : Fin cfg9.N, win9_3.index t = ![0, 0] := (by decide +kernel : ∀ t : Fin grid9.N, _)
  have e4 : ∀ t : Fin cfg9.N, win9_4.index t = ![0, 0] := (by decide +kernel : ∀ t : Fin grid9.N, _)
  refine (dat9 V n c).arrAt_eq_of_covers 5 _ (by decide +kernel) fun t hf y => ?_
  refine lnAll_eq (t.val) (y := y) (i := ((cfg9.win 5).blk t).view.emb y) ?_ ?_ ?_ ?_ ?_ ?_
  · intro a
    fin_cases a
    · blk_simp [e5]; simp; omega
    · blk_simp [e5]; simp
    · blk_simp [e5]; simp
  · intro z j hj; show V c main_v25 (((cfg9.win 0).blk t).view.emb z) = _
    refine congrArg _ (funext fun a => Fin.ext ?_)
    rw [hj a]
    fin_cases a
    · blk_simp [e0]; simp; omega
    · blk_simp [e0]; simp
    · blk_simp [e0]; simp
  · funext z; show V c main_arg2 (((cfg9.win 1).blk t).view.emb z) = _
    refine congrArg _ ?_
    blk_ext [e1]
  · funext z; show V c main_arg3 (((cfg9.win 2).blk t).view.emb z) = _
    refine congrArg _ ?_
    blk_ext [e2]
  · funext z; show V c main_v0 (((cfg9.win 3).blk t).view.emb z) = _
    refine congrArg _ ?_
    blk_ext [e3]
  · funext z; show V c main_v1 (((cfg9.win 4).blk t).view.emb z) = _
    refine congrArg _ ?_
    blk_ext [e4]

/-- The family it belongs to. -/
def pdats9 (n : ℕ) : (p : Fin 8) → (c : Dev nD) → Dat τ (Elt F) (HIx 8) ℕ UU ℕ (Pipeline.pin (pcfgs (F := F)) adm p) c
  | ⟨0, _⟩ => fun c => noDat c
  | ⟨1, _⟩ => fun c => noDat c
  | ⟨2, _⟩ => fun c => noDat c
  | ⟨3, _⟩ => fun c => noDat c
  | ⟨4, _⟩ => fun c => dat9 V n c
  | ⟨5, _⟩ => fun c => noDat c
  | ⟨6, _⟩ => fun c => noDat c
  | ⟨7, _⟩ => fun c => noDat c

variable (Vp : (c : Dev nD) → (b : Ref sig .tc) → Buf (Elt F) ((c : Thread nD τ).loc b)) in
set_option backward.isDefEq.respectTransparency.types false in
/-- Its region, from the valuation `V` to `Vp`, which has the result normalised and is `V` elsewhere. -/
def reg9 (n : ℕ) (hout : ∀ c, Vp c main_v26 = lnAll (V c main_v25) (V c main_arg2) (V c main_arg3) (V c main_v0) (V c main_v1))
    (hne : ∀ c (b : Ref sig .tc), b ≠ main_v26 → Vp c b = V c b) :
    Pipeline.RegionSeg (pcfgs (F := F)) adm (pdats9 V n) none defs₀ 𝒱₀ ((K (F := F)).L (nD := nD)) (K (F := F)).lev 4 where
  win := launch9.win.to₀
  block_pos := launch9.block_pos
  stage_whole := launch9.stage_whole
  K := PEmpty
  osem k := k.elim
  ho := Pipeline.OwnSemFacts.none _
  hbody c := (body9 V n c).loose
  hwaits c := Pipeline.cellsWaits_intro _ _ _ _ _ fun w s t => (K (F := F)).mayWait_none _ (Otc_none n c)
  pre c := iprop(unscopedBufs c (V c) ∗ ∃ W : Waits sig (HIx 8), ⌜↑W ⊆ heard (F := F) n c⌝ ∗ owes (c : Thread nD τ) ((K (F := F)).Otc c n) W)
  post c := iprop(unscopedBufs c (Vp c) ∗ ∃ W : Waits sig (HIx 8), ⌜↑W ⊆ heard (F := F) n c⌝ ∗ owes (c : Thread nD τ) ((K (F := F)).Otc c n) W)
  X _ := BI.emp
  Y _ := BI.emp
  Z c := Pipeline.unscopedRest (Ix := HIx 8) (Name := ℕ) (U := UU) (Lvl := ℕ) spec9 c (V c)
  hentry c := by
    rw [Pipeline.ownSems0_none]
    have hsplit := Pipeline.arrays_of_unscopedBufs (p := 4) (pcfgs (F := F)) adm (pdats9 V n) launch9.win launch9.arr_whole c
      ((pdats9 V n 4 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats9 V n 4 c).Φ 0 = Pipeline.scopedRest (Ix := HIx 8) (Name := ℕ) (U := UU) (Lvl := ℕ) (Val := Elt F) spec9 c from rfl]
    iintro ⟨-, -, Hr⟩; iexact Hr
  hout c := by
    rw [Pipeline.ownSems0_none, show (pdats9 V n 4 c).Φ (Fin.last _) = Pipeline.scopedRest (Ix := HIx 8) (Name := ℕ) (U := UU) (Lvl := ℕ) (Val := Elt F) spec9 c from rfl]
    iintro Hr
    isplitr; · iempintro
    isplitr; · iempintro
    iexact Hr
  hexit c := by
    have hjoin := Pipeline.unscopedBufs_of_arrays (p := 4) (pcfgs (F := F)) adm (Ix := HIx 8) (Name := ℕ) (U := UU) (Lvl := ℕ) launch9.win launch9.arr_whole c
      (pdats9 V n) ((pdats9 V n 4 c).share_full fun _ => rfl) (V c) (Vp c) ((pdats9 V n 4 c).arrAt · cfg9.N)
      (fun w => by
        fin_cases w
        · exact ((pdats9 V n 4 c).arrAt_in 0 rfl _).trans (hne c main_v25 (by decide)).symm
        · exact ((pdats9 V n 4 c).arrAt_in 1 rfl _).trans (hne c main_arg2 (by decide)).symm
        · exact ((pdats9 V n 4 c).arrAt_in 2 rfl _).trans (hne c main_arg3 (by decide)).symm
        · exact ((pdats9 V n 4 c).arrAt_in 3 rfl _).trans (hne c main_v0 (by decide)).symm
        · exact ((pdats9 V n 4 c).arrAt_in 4 rfl _).trans (hne c main_v1 (by decide)).symm
        · exact (out9 V n c).trans (hout c).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact fun x h => heard_of_bound (hW h)
    iexact HO

end Cert.Embed

end
-- ==== Proof.Chunk4.lean ====
/-
  The chunk numbered 4: its ids cut out and laid end to end, the rows gathered by the subcores, the rows normalised.
-/
module

public import proofs.«01_k».proof.Proof.Chain
public import proofs.«01_k».proof.Proof.Region9

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 8) (Elt F) ℕ UU ℕ

variable (m : (ℓ : Loc nD τ sig) → Buf (Elt F) ℓ) (κ : GSem nD τ sig → ℕ)

/-- The array operations of the chunk. -/
abbrev cut4 : HloOp τ sig (Elt F) := StableHlo.unary main_arg0 main_v22 ((extractStridedSlice S128x512 ![512, 0] · slices_S1024x512_S128x512_512_0) : (⟨S1024x512, .i32⟩ : BufTy).Contents (Elt F) → (⟨S128x512, .i32⟩ : BufTy).Contents (Elt F))
abbrev lay4 : HloOp τ sig (Elt F) := StableHlo.reshape main_v22 main_v23 (rfl : (.i32 : EltTy) = .i32) shapeCasts_S128x512_S1x65536
abbrev fold4 : HloOp τ sig (Elt F) := StableHlo.reshape main_v24 main_v25 (rfl : (.f32 : EltTy) = .f32) shapeCasts_S65536x128_S128x512x128

/-- The contents after each step of it. -/
def atSplit4 (W : Vl F) : Vl F := lay4.result (cut4.result W)
def atGot4 (d : Dev nD) (W : Vl F) : Vl F := fold4.result (put (atSplit4 W) main_v24 (got m d 4))
def atEnd4 (d : Dev nD) (W : Vl F) : Vl F := put (atGot4 m d W) main_v26 (outAt m d 4)

omit [FloatOps F] in
theorem atSplit4_ne (W : Vl F) {r : Ref sig .tc} (h2 : r ≠ main_v22) (h3 : r ≠ main_v23) : atSplit4 W r = W r :=
  (StableHlo.reshape_result_ne _ _ _ _ _ _ _ h3).trans (StableHlo.unary_result_ne _ _ _ _ _ _ h2)

theorem atGot4_ne (d : Dev nD) (W : Vl F) {r : Ref sig .tc} (h2 : r ≠ main_v22) (h3 : r ≠ main_v23) (h4 : r ≠ main_v24) (h5 : r ≠ main_v25) :
    atGot4 m d W r = W r :=
  (StableHlo.reshape_result_ne _ _ _ _ _ _ _ h5).trans ((put_ne _ _ h4).trans (atSplit4_ne W h2 h3))

variable {m} {d : Dev nD} {W : Vl F}

theorem atSplit4_list (h : Before m d 4 W) : atSplit4 W main_v23 = rows 4 (ids₀ m d) := by
  have e0 : W main_arg0 = ids₀ m d := h.clean main_arg0 (by decide) (by decide) fun p _ => by revert p; decide
  refine (StableHlo.reshape_result main_v22 main_v23 rfl shapeCasts_S128x512_S1x65536 _ _ (cut4.result W)).trans ?_
  rw [show cut4.result W main_v22 = extractStridedSlice S128x512 ![512, 0] (ids₀ m d) slices_S1024x512_S128x512_512_0 from
    (StableHlo.unary_result main_arg0 main_v22 _ _ _ W).trans (congrArg (extractStridedSlice S128x512 ![512, 0] · slices_S1024x512_S128x512_512_0) e0)]
  exact rows_eq 4 (ids₀ m d) _ rfl _ _

theorem atGot4_fold : atGot4 m d W main_v25 = shapeCast S128x512x128 (got m d 4) shapeCasts_S65536x128_S128x512x128 := by
  refine (StableHlo.reshape_result main_v24 main_v25 rfl shapeCasts_S65536x128_S128x512x128 _ _ _).trans ?_
  rw [put_self]; rfl

theorem atEnd4_out : atEnd4 m d W main_v26 = outAt m d 4 := put_self _ _ _

theorem chunk4 (h : Before m d 4 W) : Chunk m d 4 W (atEnd4 m d W) :=
  Chunk.mk' m h fun r hr => by
    have hr' : r ∉ [main_v22, main_v23, main_v24, main_v25, main_v26] := hr
    simp only [List.mem_cons, List.not_mem_nil, or_false, not_or] at hr'
    obtain ⟨h2, h3, h4, h5, h6⟩ := hr'
    exact (put_ne _ _ h6).trans (atGot4_ne m d W h2 h3 h4 h5)

/-- The chunk's steps, from the buffers at `W` to the buffers at its end. -/
theorem wp_chunk4 [∀ e, Nonempty (Elt F e)] (h : Before m d 4 W) (R : sProp 𝕄) :
    iprop((K (F := F)).ctx EH (P m) κ ∗ (K (F := F)).tcSt EH d 4 ∗ boundary (d : Thread nD τ) ∗ StableHlo.held (d : Thread nD τ) ucRefs W
        ∗ Pipeline.cellsGhost (Pipeline.pin (pcfgs (F := F)) adm) EP 4 d ∗ Pipeline.toksInit (Pipeline.pin (pcfgs (F := F)) adm) EP 4 d
        ∗ (((K (F := F)).tcSt EH d (4 + 1) ∗ boundary (d : Thread nD τ) ∗ StableHlo.held (d : Thread nD τ) ucRefs (atEnd4 m d W)) -∗ R))
      ⊢ wp frame (wpE ((K (F := F)).defs (D (F := F))) 𝒱 (SparseCore.T d) none) Set.univ (hlo rfl cut4 fun _ => .ret PUnit.unit) fun _ =>
          wp frame (wpE ((K (F := F)).defs (D (F := F))) 𝒱 (SparseCore.T d) none) Set.univ (hlo rfl lay4 fun _ => .ret PUnit.unit) fun _ =>
          wp frame (wpE ((K (F := F)).defs (D (F := F))) 𝒱 (SparseCore.T d) none) Set.univ ((K (F := F)).run d 4) fun _ =>
          wp frame (wpE ((K (F := F)).defs (D (F := F))) 𝒱 (SparseCore.T d) none) Set.univ (hlo rfl fold4 fun _ => .ret PUnit.unit) fun _ =>
          wp frame (wpE ((K (F := F)).defs (D (F := F))) 𝒱 (SparseCore.T d) none) Set.univ
            (Prog.lift (.customCall (SparseCore.inner (Pipeline.entry 4)) ())) fun _ => R := by
  have e1 : atSplit4 W main_arg1 = tab₀ m d :=
    (atSplit4_ne W (by decide) (by decide)).trans (h.clean main_arg1 (by decide) (by decide) fun p _ => by revert p; decide)
  have e4 : atSplit4 W main_v24 = m ((d : Thread nD τ).loc main_v24) :=
    (atSplit4_ne W (by decide) (by decide)).trans (h.clean main_v24 (by decide) (by decide) (by decide))
  have a2 : atGot4 m d W main_arg2 = m ((d : Thread nD τ).loc main_arg2) :=
    (atGot4_ne m d W (by decide) (by decide) (by decide) (by decide)).trans (h.clean main_arg2 (by decide) (by decide) fun p _ => by revert p; decide)
  have a3 : atGot4 m d W main_arg3 = m ((d : Thread nD τ).loc main_arg3) :=
    (atGot4_ne m d W (by decide) (by decide) (by decide) (by decide)).trans (h.clean main_arg3 (by decide) (by decide) fun p _ => by revert p; decide)
  have a0 : atGot4 m d W main_v0 = gam m d := (atGot4_ne m d W (by decide) (by decide) (by decide) (by decide)).trans h.scale
  have b0 : atGot4 m d W main_v1 = bet m d := (atGot4_ne m d W (by decide) (by decide) (by decide) (by decide)).trans h.shift
  have hout : outAt m d 4 = lnAll (atGot4 m d W main_v25) (atGot4 m d W main_arg2) (atGot4 m d W main_arg3) (atGot4 m d W main_v0) (atGot4 m d W main_v1) := by
    rw [atGot4_fold, a2, a3, a0, b0]; rfl
  have hcall := sc_step m κ d 4 (a := main_arg1) (b := main_v23) (c := main_v24) rfl rfl rfl (by decide) (by decide) (by decide)
    (atSplit4 W) (got m d 4) ((st_eq4 m d).trans (by rw [e1, atSplit4_list h, e4])) ((dn_eq4 m d).trans (by rw [e1, atSplit4_list h]))
  have hreg := region_step m κ d (4 + 1) 4 _ (atGot4 m d W) (atEnd4 m d W)
    (reg9 (fun _ b => atGot4 m d W b) (fun _ b => atEnd4 m d W b) (4 + 1)
      (fun _ => atEnd4_out.trans hout) (fun _ b hb => put_ne _ _ hb)) rfl rfl
  iintro ⟨#Hctx, Hst, Hb, Hh, Hg, Ht, Hk⟩
  iapply (StableHlo.wp_hlo_within 𝒱 (d : Thread nD τ) none Set.univ (sub_ucRefs cut4 (StableHlo.unary_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs lay4 (StableHlo.reshape_bufs_sub ..))) $$ [Hb Hh]
  · isplitl [Hb] <;> iassumption
  iintro ⟨Hb, Hh⟩
  rw [wp_ret]; imodintro
  iapply (hcall _) $$ [Hst Hh Hb Hg Ht Hk]
  isplitr; · iexact Hctx
  isplitl [Hst]; · iexact Hst
  isplitl [Hh]; · iexact Hh
  iintro ⟨Hst, Hh⟩
  iapply (StableHlo.wp_hlo_within 𝒱 (d : Thread nD τ) none Set.univ (sub_ucRefs fold4 (StableHlo.reshape_bufs_sub ..))) $$ [Hb Hh]
  · isplitl [Hb] <;> iassumption
  iintro ⟨Hb, Hh⟩
  rw [wp_ret]; imodintro
  iapply (hreg _) $$ [Hst Hh Hb Hg Ht Hk]
  isplitr; · iexact Hctx
  isplitl [Hst]; · iexact Hst
  isplitl [Hb]; · iexact Hb
  isplitl [Hh]; · iexact Hh
  isplitl [Hg]; · iexact Hg
  isplitl [Ht]; · iexact Ht
  iexact Hk

end Cert.Embed

end
-- ==== Proof.Region11.lean ====
/-
  One of the normalisation's pipelines: what it writes, and its region of the program, from the unscoped buffers at a
  valuation to the same at the valuation with the result written.
-/
module

public import proofs.«01_k».proof.Proof.Whole
public import proofs.«01_k».proof.Proof.Gen.KernelIdeal.Points

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 8) (Elt F) ℕ UU ℕ

variable (V : (c : Dev nD) → (b : Ref sig .tc) → Buf (Elt F) ((c : Thread nD τ).loc b))

/-! ## Call 11 -/

/-- Its proof data from the valuation `V`, before the SparseCore call numbered `n`. -/
def dat11 (n : ℕ) (c : Dev nD) : Dat τ (Elt F) (HIx 8) ℕ UU ℕ cfg11 c where
  A w := V c (Pipeline.arrRef spec11 w)
  after w t := match w with
    | ⟨0, _⟩ => ((cfg11.win 0).blk t).view.read (Elt F) (V c main_v30)
    | ⟨1, _⟩ => ((cfg11.win 1).blk t).view.read (Elt F) (V c main_arg2)
    | ⟨2, _⟩ => ((cfg11.win 2).blk t).view.read (Elt F) (V c main_arg3)
    | ⟨3, _⟩ => ((cfg11.win 3).blk t).view.read (Elt F) (V c main_v0)
    | ⟨4, _⟩ => ((cfg11.win 4).blk t).view.read (Elt F) (V c main_v1)
    | ⟨5, _⟩ => lnBlock (((cfg11.win 0).blk t).view.read (Elt F) (V c main_v30))
        (((cfg11.win 1).blk t).view.read (Elt F) (V c main_arg2)) (((cfg11.win 2).blk t).view.read (Elt F) (V c main_arg3))
        (((cfg11.win 3).blk t).view.read (Elt F) (V c main_v0)) (((cfg11.win 4).blk t).view.read (Elt F) (V c main_v1))
  Φ _ := Pipeline.scopedRest (Ix := HIx 8) (Name := ℕ) (U := UU) (Lvl := ℕ) (Val := Elt F) spec11 c
  q _ := fullShare
  owed _ := (K (F := F)).Otc c n
  recorded _ := heard (F := F) n c

theorem before11 (n : ℕ) (c : Dev nD) (t : Fin cfg11.N) :
(∀ d, (dat11 V n c).before 0 t d = ((cfg11.win 0).blk t).view.read (Elt F) (V c main_v30)) ∧
    (∀ d, (dat11 V n c).before 1 t d = ((cfg11.win 1).blk t).view.read (Elt F) (V c main_arg2)) ∧
    (∀ d, (dat11 V n c).before 2 t d = ((cfg11.win 2).blk t).view.read (Elt F) (V c main_arg3)) ∧
    (∀ d, (dat11 V n c).before 3 t d = ((cfg11.win 3).blk t).view.read (Elt F) (V c main_v0)) ∧
    (∀ d, (dat11 V n c).before 4 t d = ((cfg11.win 4).blk t).view.read (Elt F) (V c main_v1)) :=
  ⟨fun d => (dat11 V n c).before_in_eq_fetched 0 rfl (fun _ => rfl) (fun _ _ _ => rfl) (fun _ => rfl) t d,
    fun d => (dat11 V n c).before_in_eq_fetched 1 rfl (fun _ => rfl) (fun _ _ _ => rfl) (fun _ => rfl) t d,
    fun d => (dat11 V n c).before_in_eq_fetched 2 rfl (fun _ => rfl) (fun _ _ _ => rfl) (fun _ => rfl) t d,
    fun d => (dat11 V n c).before_in_eq_fetched 3 rfl (fun _ => rfl) (fun _ _ _ => rfl) (fun _ => rfl) t d,
    fun d => (dat11 V n c).before_in_eq_fetched 4 rfl (fun _ => rfl) (fun _ _ _ => rfl) (fun _ => rfl) t d⟩

theorem body11 (n : ℕ) (c : Dev nD) : BodyObligation (dat11 V n c) (defs₀ (F := F)) 𝒱₀ none Set.univ := fun t => by
  obtain ⟨b0, b1, b2, b3, b4⟩ := before11 V n c t
  rw [bigSep_W11, bigSep_W11]
  dsimp only
  simp only [b0, b1, b2, b3, b4]
  rw [show (dat11 V n c).Φ t.succ = (dat11 V n c).Φ t.castSucc from rfl,
    show (dat11 V n c).owesAt none t.succ = (dat11 V n c).owesAt none t.castSucc from rfl]
  iintro ⟨HΦ, HO, ⟨%d0, H0⟩, ⟨%d1, H1⟩, ⟨%d2, H2⟩, ⟨%d3, H3⟩, ⟨%d4, H4⟩, ⟨%d5, H5⟩⟩
  iapply (ln_spec c (grid11.coords t) Set.univ (st11_0 t) (hstage11_0 ((cfg11.slots t 0).cast nbuf11_0)) (st11_1 t) (hstage11_1 ((cfg11.slots t 1).cast nbuf11_1))
    (st11_2 t) (hstage11_2 ((cfg11.slots t 2).cast nbuf11_2)) (st11_3 t) (hstage11_3 ((cfg11.slots t 3).cast nbuf11_3))
    (st11_4 t) (hstage11_4 ((cfg11.slots t 4).cast nbuf11_4)) (st11_5 t) (hstage11_5 ((cfg11.slots t 5).cast nbuf11_5)) _ _ _ _ _ _ _)
    $$ [HΦ HO H0 H1 H2 H3 H4 H5]
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-- What it leaves in its result. -/
theorem out11 (n : ℕ) (c : Dev nD) :
    (dat11 V n c).arrAt 5 cfg11.N = lnAll (V c main_v30) (V c main_arg2) (V c main_arg3) (V c main_v0) (V c main_v1) := by
  have e0 : ∀ t : Fin cfg11.N, win11_0.index t = ![t.val, 0, 0] := (by decide +kernel : ∀ t : Fin grid11.N, _)
  have e5 : ∀ t : Fin cfg11.N, win11_5.index t = ![t.val, 0, 0] := (by decide +kernel : ∀ t : Fin grid11.N, _)
  have e1 : ∀ t : Fin cfg11.N, win11_1.index t = ![0, 0] := (by decide +kernel : ∀ t : Fin grid11.N, _)
  have e2 : ∀ t : Fin cfg11.N, win11_2.index t = ![0, 0] := (by decide +kernel : ∀ t : Fin grid11.N, _)
  have e3 : ∀ t : Fin cfg11.N, win11_3.index t = ![0, 0] := (by decide +kernel : ∀ t : Fin grid11.N, _)
  have e4 : ∀ t : Fin cfg11.N, win11_4.index t = ![0, 0] := (by decide +kernel : ∀ t : Fin grid11.N, _)
  refine (dat11 V n c).arrAt_eq_of_covers 5 _ (by decide +kernel) fun t hf y => ?_
  refine lnAll_eq (t.val) (y := y) (i := ((cfg11.win 5).blk t).view.emb y) ?_ ?_ ?_ ?_ ?_ ?_
  · intro a
    fin_cases a
    · blk_simp [e5]; simp; omega
    · blk_simp [e5]; simp
    · blk_simp [e5]; simp
  · intro z j hj; show V c main_v30 (((cfg11.win 0).blk t).view.emb z) = _
    refine congrArg _ (funext fun a => Fin.ext ?_)
    rw [hj a]
    fin_cases a
    · blk_simp [e0]; simp; omega
    · blk_simp [e0]; simp
    · blk_simp [e0]; simp
  · funext z; show V c main_arg2 (((cfg11.win 1).blk t).view.emb z) = _
    refine congrArg _ ?_
    blk_ext [e1]
  · funext z; show V c main_arg3 (((cfg11.win 2).blk t).view.emb z) = _
    refine congrArg _ ?_
    blk_ext [e2]
  · funext z; show V c main_v0 (((cfg11.win 3).blk t).view.emb z) = _
    refine congrArg _ ?_
    blk_ext [e3]
  · funext z; show V c main_v1 (((cfg11.win 4).blk t).view.emb z) = _
    refine congrArg _ ?_
    blk_ext [e4]

/-- The family it belongs to. -/
def pdats11 (n : ℕ) : (p : Fin 8) → (c : Dev nD) → Dat τ (Elt F) (HIx 8) ℕ UU ℕ (Pipeline.pin (pcfgs (F := F)) adm p) c
  | ⟨0, _⟩ => fun c => noDat c
  | ⟨1, _⟩ => fun c => noDat c
  | ⟨2, _⟩ => fun c => noDat c
  | ⟨3, _⟩ => fun c => noDat c
  | ⟨4, _⟩ => fun c => noDat c
  | ⟨5, _⟩ => fun c => dat11 V n c
  | ⟨6, _⟩ => fun c => noDat c
  | ⟨7, _⟩ => fun c => noDat c

variable (Vp : (c : Dev nD) → (b : Ref sig .tc) → Buf (Elt F) ((c : Thread nD τ).loc b)) in
set_option backward.isDefEq.respectTransparency.types false in
/-- Its region, from the valuation `V` to `Vp`, which has the result normalised and is `V` elsewhere. -/
def reg11 (n : ℕ) (hout : ∀ c, Vp c main_v31 = lnAll (V c main_v30) (V c main_arg2) (V c main_arg3) (V c main_v0) (V c main_v1))
    (hne : ∀ c (b : Ref sig .tc), b ≠ main_v31 → Vp c b = V c b) :
    Pipeline.RegionSeg (pcfgs (F := F)) adm (pdats11 V n) none defs₀ 𝒱₀ ((K (F := F)).L (nD := nD)) (K (F := F)).lev 5 where
  win := launch11.win.to₀
  block_pos := launch11.block_pos
  stage_whole := launch11.stage_whole
  K := PEmpty
  osem k := k.elim
  ho := Pipeline.OwnSemFacts.none _
  hbody c := (body11 V n c).loose
  hwaits c := Pipeline.cellsWaits_intro _ _ _ _ _ fun w s t => (K (F := F)).mayWait_none _ (Otc_none n c)
  pre c := iprop(unscopedBufs c (V c) ∗ ∃ W : Waits sig (HIx 8), ⌜↑W ⊆ heard (F := F) n c⌝ ∗ owes (c : Thread nD τ) ((K (F := F)).Otc c n) W)
  post c := iprop(unscopedBufs c (Vp c) ∗ ∃ W : Waits sig (HIx 8), ⌜↑W ⊆ heard (F := F) n c⌝ ∗ owes (c : Thread nD τ) ((K (F := F)).Otc c n) W)
  X _ := BI.emp
  Y _ := BI.emp
  Z c := Pipeline.unscopedRest (Ix := HIx 8) (Name := ℕ) (U := UU) (Lvl := ℕ) spec11 c (V c)
  hentry c := by
    rw [Pipeline.ownSems0_none]
    have hsplit := Pipeline.arrays_of_unscopedBufs (p := 5) (pcfgs (F := F)) adm (pdats11 V n) launch11.win launch11.arr_whole c
      ((pdats11 V n 5 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats11 V n 5 c).Φ 0 = Pipeline.scopedRest (Ix := HIx 8) (Name := ℕ) (U := UU) (Lvl := ℕ) (Val := Elt F) spec11 c from rfl]
    iintro ⟨-, -, Hr⟩; iexact Hr
  hout c := by
    rw [Pipeline.ownSems0_none, show (pdats11 V n 5 c).Φ (Fin.last _) = Pipeline.scopedRest (Ix := HIx 8) (Name := ℕ) (U := UU) (Lvl := ℕ) (Val := Elt F) spec11 c from rfl]
    iintro Hr
    isplitr; · iempintro
    isplitr; · iempintro
    iexact Hr
  hexit c := by
    have hjoin := Pipeline.unscopedBufs_of_arrays (p := 5) (pcfgs (F := F)) adm (Ix := HIx 8) (Name := ℕ) (U := UU) (Lvl := ℕ) launch11.win launch11.arr_whole c
      (pdats11 V n) ((pdats11 V n 5 c).share_full fun _ => rfl) (V c) (Vp c) ((pdats11 V n 5 c).arrAt · cfg11.N)
      (fun w => by
        fin_cases w
        · exact ((pdats11 V n 5 c).arrAt_in 0 rfl _).trans (hne c main_v30 (by decide)).symm
        · exact ((pdats11 V n 5 c).arrAt_in 1 rfl _).trans (hne c main_arg2 (by decide)).symm
        · exact ((pdats11 V n 5 c).arrAt_in 2 rfl _).trans (hne c main_arg3 (by decide)).symm
        · exact ((pdats11 V n 5 c).arrAt_in 3 rfl _).trans (hne c main_v0 (by decide)).symm
        · exact ((pdats11 V n 5 c).arrAt_in 4 rfl _).trans (hne c main_v1 (by decide)).symm
        · exact (out11 V n c).trans (hout c).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact fun x h => heard_of_bound (hW h)
    iexact HO

end Cert.Embed

end
-- ==== Proof.Chunk5.lean ====
/-
  The chunk numbered 5: its ids cut out and laid end to end, the rows gathered by the subcores, the rows normalised.
-/
module

public import proofs.«01_k».proof.Proof.Chain
public import proofs.«01_k».proof.Proof.Region11

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 8) (Elt F) ℕ UU ℕ

variable (m : (ℓ : Loc nD τ sig) → Buf (Elt F) ℓ) (κ : GSem nD τ sig → ℕ)

/-- The array operations of the chunk. -/
abbrev cut5 : HloOp τ sig (Elt F) := StableHlo.unary main_arg0 main_v27 ((extractStridedSlice S128x512 ![640, 0] · slices_S1024x512_S128x512_640_0) : (⟨S1024x512, .i32⟩ : BufTy).Contents (Elt F) → (⟨S128x512, .i32⟩ : BufTy).Contents (Elt F))
abbrev lay5 : HloOp τ sig (Elt F) := StableHlo.reshape main_v27 main_v28 (rfl : (.i32 : EltTy) = .i32) shapeCasts_S128x512_S1x65536
abbrev fold5 : HloOp τ sig (Elt F) := StableHlo.reshape main_v29 main_v30 (rfl : (.f32 : EltTy) = .f32) shapeCasts_S65536x128_S128x512x128

/-- The contents after each step of it. -/
def atSplit5 (W : Vl F) : Vl F := lay5.result (cut5.result W)
def atGot5 (d : Dev nD) (W : Vl F) : Vl F := fold5.result (put (atSplit5 W) main_v29 (got m d 5))
def atEnd5 (d : Dev nD) (W : Vl F) : Vl F := put (atGot5 m d W) main_v31 (outAt m d 5)

omit [FloatOps F] in
theorem atSplit5_ne (W : Vl F) {r : Ref sig .tc} (h2 : r ≠ main_v27) (h3 : r ≠ main_v28) : atSplit5 W r = W r :=
  (StableHlo.reshape_result_ne _ _ _ _ _ _ _ h3).trans (StableHlo.unary_result_ne _ _ _ _ _ _ h2)

theorem atGot5_ne (d : Dev nD) (W : Vl F) {r : Ref sig .tc} (h2 : r ≠ main_v27) (h3 : r ≠ main_v28) (h4 : r ≠ main_v29) (h5 : r ≠ main_v30) :
    atGot5 m d W r = W r :=
  (StableHlo.reshape_result_ne _ _ _ _ _ _ _ h5).trans ((put_ne _ _ h4).trans (atSplit5_ne W h2 h3))

variable {m} {d : Dev nD} {W : Vl F}

theorem atSplit5_list (h : Before m d 5 W) : atSplit5 W main_v28 = rows 5 (ids₀ m d) := by
  have e0 : W main_arg0 = ids₀ m d := h.clean main_arg0 (by decide) (by decide) fun p _ => by revert p; decide
  refine (StableHlo.reshape_result main_v27 main_v28 rfl shapeCasts_S128x512_S1x65536 _ _ (cut5.result W)).trans ?_
  rw [show cut5.result W main_v27 = extractStridedSlice S128x512 ![640, 0] (ids₀ m d) slices_S1024x512_S128x512_640_0 from
    (StableHlo.unary_result main_arg0 main_v27 _ _ _ W).trans (congrArg (extractStridedSlice S128x512 ![640, 0] · slices_S1024x512_S128x512_640_0) e0)]
  exact rows_eq 5 (ids₀ m d) _ rfl _ _

theorem atGot5_fold : atGot5 m d W main_v30 = shapeCast S128x512x128 (got m d 5) shapeCasts_S65536x128_S128x512x128 := by
  refine (StableHlo.reshape_result main_v29 main_v30 rfl shapeCasts_S65536x128_S128x512x128 _ _ _).trans ?_
  rw [put_self]; rfl

theorem atEnd5_out : atEnd5 m d W main_v31 = outAt m d 5 := put_self _ _ _

theorem chunk5 (h : Before m d 5 W) : Chunk m d 5 W (atEnd5 m d W) :=
  Chunk.mk' m h fun r hr => by
    have hr' : r ∉ [main_v27, main_v28, main_v29, main_v30, main_v31] := hr
    simp only [List.mem_cons, List.not_mem_nil, or_false, not_or] at hr'
    obtain ⟨h2, h3, h4, h5, h6⟩ := hr'
    exact (put_ne _ _ h6).trans (atGot5_ne m d W h2 h3 h4 h5)

/-- The chunk's steps, from the buffers at `W` to the buffers at its end. -/
theorem wp_chunk5 [∀ e, Nonempty (Elt F e)] (h : Before m d 5 W) (R : sProp 𝕄) :
    iprop((K (F := F)).ctx EH (P m) κ ∗ (K (F := F)).tcSt EH d 5 ∗ boundary (d : Thread nD τ) ∗ StableHlo.held (d : Thread nD τ) ucRefs W
        ∗ Pipeline.cellsGhost (Pipeline.pin (pcfgs (F := F)) adm) EP 5 d ∗ Pipeline.toksInit (Pipeline.pin (pcfgs (F := F)) adm) EP 5 d
        ∗ (((K (F := F)).tcSt EH d (5 + 1) ∗ boundary (d : Thread nD τ) ∗ StableHlo.held (d : Thread nD τ) ucRefs (atEnd5 m d W)) -∗ R))
      ⊢ wp frame (wpE ((K (F := F)).defs (D (F := F))) 𝒱 (SparseCore.T d) none) Set.univ (hlo rfl cut5 fun _ => .ret PUnit.unit) fun _ =>
          wp frame (wpE ((K (F := F)).defs (D (F := F))) 𝒱 (SparseCore.T d) none) Set.univ (hlo rfl lay5 fun _ => .ret PUnit.unit) fun _ =>
          wp frame (wpE ((K (F := F)).defs (D (F := F))) 𝒱 (SparseCore.T d) none) Set.univ ((K (F := F)).run d 5) fun _ =>
          wp frame (wpE ((K (F := F)).defs (D (F := F))) 𝒱 (SparseCore.T d) none) Set.univ (hlo rfl fold5 fun _ => .ret PUnit.unit) fun _ =>
          wp frame (wpE ((K (F := F)).defs (D (F := F))) 𝒱 (SparseCore.T d) none) Set.univ
            (Prog.lift (.customCall (SparseCore.inner (Pipeline.entry 5)) ())) fun _ => R := by
  have e1 : atSplit5 W main_arg1 = tab₀ m d :=
    (atSplit5_ne W (by decide) (by decide)).trans (h.clean main_arg1 (by decide) (by decide) fun p _ => by revert p; decide)
  have e4 : atSplit5 W main_v29 = m ((d : Thread nD τ).loc main_v29) :=
    (atSplit5_ne W (by decide) (by decide)).trans (h.clean main_v29 (by decide) (by decide) (by decide))
  have a2 : atGot5 m d W main_arg2 = m ((d : Thread nD τ).loc main_arg2) :=
    (atGot5_ne m d W (by decide) (by decide) (by decide) (by decide)).trans (h.clean main_arg2 (by decide) (by decide) fun p _ => by revert p; decide)
  have a3 : atGot5 m d W main_arg3 = m ((d : Thread nD τ).loc main_arg3) :=
    (atGot5_ne m d W (by decide) (by decide) (by decide) (by decide)).trans (h.clean main_arg3 (by decide) (by decide) fun p _ => by revert p; decide)
  have a0 : atGot5 m d W main_v0 = gam m d := (atGot5_ne m d W (by decide) (by decide) (by decide) (by decide)).trans h.scale
  have b0 : atGot5 m d W main_v1 = bet m d := (atGot5_ne m d W (by decide) (by decide) (by decide) (by decide)).trans h.shift
  have hout : outAt m d 5 = lnAll (atGot5 m d W main_v30) (atGot5 m d W main_arg2) (atGot5 m d W main_arg3) (atGot5 m d W main_v0) (atGot5 m d W main_v1) := by
    rw [atGot5_fold, a2, a3, a0, b0]; rfl
  have hcall := sc_step m κ d 5 (a := main_arg1) (b := main_v28) (c := main_v29) rfl rfl rfl (by decide) (by decide) (by decide)
    (atSplit5 W) (got m d 5) ((st_eq5 m d).trans (by rw [e1, atSplit5_list h, e4])) ((dn_eq5 m d).trans (by rw [e1, atSplit5_list h]))
  have hreg := region_step m κ d (5 + 1) 5 _ (atGot5 m d W) (atEnd5 m d W)
    (reg11 (fun _ b => atGot5 m d W b) (fun _ b => atEnd5 m d W b) (5 + 1)
      (fun _ => atEnd5_out.trans hout) (fun _ b hb => put_ne _ _ hb)) rfl rfl
  iintro ⟨#Hctx, Hst, Hb, Hh, Hg, Ht, Hk⟩
  iapply (StableHlo.wp_hlo_within 𝒱 (d : Thread nD τ) none Set.univ (sub_ucRefs cut5 (StableHlo.unary_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs lay5 (StableHlo.reshape_bufs_sub ..))) $$ [Hb Hh]
  · isplitl [Hb] <;> iassumption
  iintro ⟨Hb, Hh⟩
  rw [wp_ret]; imodintro
  iapply (hcall _) $$ [Hst Hh Hb Hg Ht Hk]
  isplitr; · iexact Hctx
  isplitl [Hst]; · iexact Hst
  isplitl [Hh]; · iexact Hh
  iintro ⟨Hst, Hh⟩
  iapply (StableHlo.wp_hlo_within 𝒱 (d : Thread nD τ) none Set.univ (sub_ucRefs fold5 (StableHlo.reshape_bufs_sub ..))) $$ [Hb Hh]
  · isplitl [Hb] <;> iassumption
  iintro ⟨Hb, Hh⟩
  rw [wp_ret]; imodintro
  iapply (hreg _) $$ [Hst Hh Hb Hg Ht Hk]
  isplitr; · iexact Hctx
  isplitl [Hst]; · iexact Hst
  isplitl [Hb]; · iexact Hb
  isplitl [Hh]; · iexact Hh
  isplitl [Hg]; · iexact Hg
  isplitl [Ht]; · iexact Ht
  iexact Hk

end Cert.Embed

end
-- ==== Proof.Region13.lean ====
/-
  One of the normalisation's pipelines: what it writes, and its region of the program, from the unscoped buffers at a
  valuation to the same at the valuation with the result written.
-/
module

public import proofs.«01_k».proof.Proof.Whole
public import proofs.«01_k».proof.Proof.Gen.KernelIdeal.Points

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 8) (Elt F) ℕ UU ℕ

variable (V : (c : Dev nD) → (b : Ref sig .tc) → Buf (Elt F) ((c : Thread nD τ).loc b))

/-! ## Call 13 -/

/-- Its proof data from the valuation `V`, before the SparseCore call numbered `n`. -/
def dat13 (n : ℕ) (c : Dev nD) : Dat τ (Elt F) (HIx 8) ℕ UU ℕ cfg13 c where
  A w := V c (Pipeline.arrRef spec13 w)
  after w t := match w with
    | ⟨0, _⟩ => ((cfg13.win 0).blk t).view.read (Elt F) (V c main_v35)
    | ⟨1, _⟩ => ((cfg13.win 1).blk t).view.read (Elt F) (V c main_arg2)
    | ⟨2, _⟩ => ((cfg13.win 2).blk t).view.read (Elt F) (V c main_arg3)
    | ⟨3, _⟩ => ((cfg13.win 3).blk t).view.read (Elt F) (V c main_v0)
    | ⟨4, _⟩ => ((cfg13.win 4).blk t).view.read (Elt F) (V c main_v1)
    | ⟨5, _⟩ => lnBlock (((cfg13.win 0).blk t).view.read (Elt F) (V c main_v35))
        (((cfg13.win 1).blk t).view.read (Elt F) (V c main_arg2)) (((cfg13.win 2).blk t).view.read (Elt F) (V c main_arg3))
        (((cfg13.win 3).blk t).view.read (Elt F) (V c main_v0)) (((cfg13.win 4).blk t).view.read (Elt F) (V c main_v1))
  Φ _ := Pipeline.scopedRest (Ix := HIx 8) (Name := ℕ) (U := UU) (Lvl := ℕ) (Val := Elt F) spec13 c
  q _ := fullShare
  owed _ := (K (F := F)).Otc c n
  recorded _ := heard (F := F) n c

theorem before13 (n : ℕ) (c : Dev nD) (t : Fin cfg13.N) :
(∀ d, (dat13 V n c).before 0 t d = ((cfg13.win 0).blk t).view.read (Elt F) (V c main_v35)) ∧
    (∀ d, (dat13 V n c).before 1 t d = ((cfg13.win 1).blk t).view.read (Elt F) (V c main_arg2)) ∧
    (∀ d, (dat13 V n c).before 2 t d = ((cfg13.win 2).blk t).view.read (Elt F) (V c main_arg3)) ∧
    (∀ d, (dat13 V n c).before 3 t d = ((cfg13.win 3).blk t).view.read (Elt F) (V c main_v0)) ∧
    (∀ d, (dat13 V n c).before 4 t d = ((cfg13.win 4).blk t).view.read (Elt F) (V c main_v1)) :=
  ⟨fun d => (dat13 V n c).before_in_eq_fetched 0 rfl (fun _ => rfl) (fun _ _ _ => rfl) (fun _ => rfl) t d,
    fun d => (dat13 V n c).before_in_eq_fetched 1 rfl (fun _ => rfl) (fun _ _ _ => rfl) (fun _ => rfl) t d,
    fun d => (dat13 V n c).before_in_eq_fetched 2 rfl (fun _ => rfl) (fun _ _ _ => rfl) (fun _ => rfl) t d,
    fun d => (dat13 V n c).before_in_eq_fetched 3 rfl (fun _ => rfl) (fun _ _ _ => rfl) (fun _ => rfl) t d,
    fun d => (dat13 V n c).before_in_eq_fetched 4 rfl (fun _ => rfl) (fun _ _ _ => rfl) (fun _ => rfl) t d⟩

theorem body13 (n : ℕ) (c : Dev nD) : BodyObligation (dat13 V n c) (defs₀ (F := F)) 𝒱₀ none Set.univ := fun t => by
  obtain ⟨b0, b1, b2, b3, b4⟩ := before13 V n c t
  rw [bigSep_W13, bigSep_W13]
  dsimp only
  simp only [b0, b1, b2, b3, b4]
  rw [show (dat13 V n c).Φ t.succ = (dat13 V n c).Φ t.castSucc from rfl,
    show (dat13 V n c).owesAt none t.succ = (dat13 V n c).owesAt none t.castSucc from rfl]
  iintro ⟨HΦ, HO, ⟨%d0, H0⟩, ⟨%d1, H1⟩, ⟨%d2, H2⟩, ⟨%d3, H3⟩, ⟨%d4, H4⟩, ⟨%d5, H5⟩⟩
  iapply (ln_spec c (grid13.coords t) Set.univ (st13_0 t) (hstage13_0 ((cfg13.slots t 0).cast nbuf13_0)) (st13_1 t) (hstage13_1 ((cfg13.slots t 1).cast nbuf13_1))
    (st13_2 t) (hstage13_2 ((cfg13.slots t 2).cast nbuf13_2)) (st13_3 t) (hstage13_3 ((cfg13.slots t 3).cast nbuf13_3))
    (st13_4 t) (hstage13_4 ((cfg13.slots t 4).cast nbuf13_4)) (st13_5 t) (hstage13_5 ((cfg13.slots t 5).cast nbuf13_5)) _ _ _ _ _ _ _)
    $$ [HΦ HO H0 H1 H2 H3 H4 H5]
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-- What it leaves in its result. -/
theorem out13 (n : ℕ) (c : Dev nD) :
    (dat13 V n c).arrAt 5 cfg13.N = lnAll (V c main_v35) (V c main_arg2) (V c main_arg3) (V c main_v0) (V c main_v1) := by
  have e0 : ∀ t : Fin cfg13.N, win13_0.index t = ![t.val, 0, 0] := (by decide +kernel : ∀ t : Fin grid13.N, _)
  have e5 : ∀ t : Fin cfg13.N, win13_5.index t = ![t.val, 0, 0] := (by decide +kernel : ∀ t : Fin grid13.N, _)
  have e1 : ∀ t : Fin cfg13.N, win13_1.index t = ![0, 0] := (by decide +kernel : ∀ t : Fin grid13.N, _)
  have e2 : ∀ t : Fin cfg13.N, win13_2.index t = ![0, 0] := (by decide +kernel : ∀ t : Fin grid13.N, _)
  have e3 : ∀ t : Fin cfg13.N, win13_3.index t = ![0, 0] := (by decide +kernel : ∀ t : Fin grid13.N, _)
  have e4 : ∀ t : Fin cfg13.N, win13_4.index t = ![0, 0] := (by decide +kernel : ∀ t : Fin grid13.N, _)
  refine (dat13 V n c).arrAt_eq_of_covers 5 _ (by decide +kernel) fun t hf y => ?_
  refine lnAll_eq (t.val) (y := y) (i := ((cfg13.win 5).blk t).view.emb y) ?_ ?_ ?_ ?_ ?_ ?_
  · intro a
    fin_cases a
    · blk_simp [e5]; simp; omega
    · blk_simp [e5]; simp
    · blk_simp [e5]; simp
  · intro z j hj; show V c main_v35 (((cfg13.win 0).blk t).view.emb z) = _
    refine congrArg _ (funext fun a => Fin.ext ?_)
    rw [hj a]
    fin_cases a
    · blk_simp [e0]; simp; omega
    · blk_simp [e0]; simp
    · blk_simp [e0]; simp
  · funext z; show V c main_arg2 (((cfg13.win 1).blk t).view.emb z) = _
    refine congrArg _ ?_
    blk_ext [e1]
  · funext z; show V c main_arg3 (((cfg13.win 2).blk t).view.emb z) = _
    refine congrArg _ ?_
    blk_ext [e2]
  · funext z; show V c main_v0 (((cfg13.win 3).blk t).view.emb z) = _
    refine congrArg _ ?_
    blk_ext [e3]
  · funext z; show V c main_v1 (((cfg13.win 4).blk t).view.emb z) = _
    refine congrArg _ ?_
    blk_ext [e4]

/-- The family it belongs to. -/
def pdats13 (n : ℕ) : (p : Fin 8) → (c : Dev nD) → Dat τ (Elt F) (HIx 8) ℕ UU ℕ (Pipeline.pin (pcfgs (F := F)) adm p) c
  | ⟨0, _⟩ => fun c => noDat c
  | ⟨1, _⟩ => fun c => noDat c
  | ⟨2, _⟩ => fun c => noDat c
  | ⟨3, _⟩ => fun c => noDat c
  | ⟨4, _⟩ => fun c => noDat c
  | ⟨5, _⟩ => fun c => noDat c
  | ⟨6, _⟩ => fun c => dat13 V n c
  | ⟨7, _⟩ => fun c => noDat c

variable (Vp : (c : Dev nD) → (b : Ref sig .tc) → Buf (Elt F) ((c : Thread nD τ).loc b)) in
set_option backward.isDefEq.respectTransparency.types false in
/-- Its region, from the valuation `V` to `Vp`, which has the result normalised and is `V` elsewhere. -/
def reg13 (n : ℕ) (hout : ∀ c, Vp c main_v36 = lnAll (V c main_v35) (V c main_arg2) (V c main_arg3) (V c main_v0) (V c main_v1))
    (hne : ∀ c (b : Ref sig .tc), b ≠ main_v36 → Vp c b = V c b) :
    Pipeline.RegionSeg (pcfgs (F := F)) adm (pdats13 V n) none defs₀ 𝒱₀ ((K (F := F)).L (nD := nD)) (K (F := F)).lev 6 where
  win := launch13.win.to₀
  block_pos := launch13.block_pos
  stage_whole := launch13.stage_whole
  K := PEmpty
  osem k := k.elim
  ho := Pipeline.OwnSemFacts.none _
  hbody c := (body13 V n c).loose
  hwaits c := Pipeline.cellsWaits_intro _ _ _ _ _ fun w s t => (K (F := F)).mayWait_none _ (Otc_none n c)
  pre c := iprop(unscopedBufs c (V c) ∗ ∃ W : Waits sig (HIx 8), ⌜↑W ⊆ heard (F := F) n c⌝ ∗ owes (c : Thread nD τ) ((K (F := F)).Otc c n) W)
  post c := iprop(unscopedBufs c (Vp c) ∗ ∃ W : Waits sig (HIx 8), ⌜↑W ⊆ heard (F := F) n c⌝ ∗ owes (c : Thread nD τ) ((K (F := F)).Otc c n) W)
  X _ := BI.emp
  Y _ := BI.emp
  Z c := Pipeline.unscopedRest (Ix := HIx 8) (Name := ℕ) (U := UU) (Lvl := ℕ) spec13 c (V c)
  hentry c := by
    rw [Pipeline.ownSems0_none]
    have hsplit := Pipeline.arrays_of_unscopedBufs (p := 6) (pcfgs (F := F)) adm (pdats13 V n) launch13.win launch13.arr_whole c
      ((pdats13 V n 6 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats13 V n 6 c).Φ 0 = Pipeline.scopedRest (Ix := HIx 8) (Name := ℕ) (U := UU) (Lvl := ℕ) (Val := Elt F) spec13 c from rfl]
    iintro ⟨-, -, Hr⟩; iexact Hr
  hout c := by
    rw [Pipeline.ownSems0_none, show (pdats13 V n 6 c).Φ (Fin.last _) = Pipeline.scopedRest (Ix := HIx 8) (Name := ℕ) (U := UU) (Lvl := ℕ) (Val := Elt F) spec13 c from rfl]
    iintro Hr
    isplitr; · iempintro
    isplitr; · iempintro
    iexact Hr
  hexit c := by
    have hjoin := Pipeline.unscopedBufs_of_arrays (p := 6) (pcfgs (F := F)) adm (Ix := HIx 8) (Name := ℕ) (U := UU) (Lvl := ℕ) launch13.win launch13.arr_whole c
      (pdats13 V n) ((pdats13 V n 6 c).share_full fun _ => rfl) (V c) (Vp c) ((pdats13 V n 6 c).arrAt · cfg13.N)
      (fun w => by
        fin_cases w
        · exact ((pdats13 V n 6 c).arrAt_in 0 rfl _).trans (hne c main_v35 (by decide)).symm
        · exact ((pdats13 V n 6 c).arrAt_in 1 rfl _).trans (hne c main_arg2 (by decide)).symm
        · exact ((pdats13 V n 6 c).arrAt_in 2 rfl _).trans (hne c main_arg3 (by decide)).symm
        · exact ((pdats13 V n 6 c).arrAt_in 3 rfl _).trans (hne c main_v0 (by decide)).symm
        · exact ((pdats13 V n 6 c).arrAt_in 4 rfl _).trans (hne c main_v1 (by decide)).symm
        · exact (out13 V n c).trans (hout c).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact fun x h => heard_of_bound (hW h)
    iexact HO

end Cert.Embed

end
-- ==== Proof.Chunk6.lean ====
/-
  The chunk numbered 6: its ids cut out and laid end to end, the rows gathered by the subcores, the rows normalised.
-/
module

public import proofs.«01_k».proof.Proof.Chain
public import proofs.«01_k».proof.Proof.Region13

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 8) (Elt F) ℕ UU ℕ

variable (m : (ℓ : Loc nD τ sig) → Buf (Elt F) ℓ) (κ : GSem nD τ sig → ℕ)

/-- The array operations of the chunk. -/
abbrev cut6 : HloOp τ sig (Elt F) := StableHlo.unary main_arg0 main_v32 ((extractStridedSlice S128x512 ![768, 0] · slices_S1024x512_S128x512_768_0) : (⟨S1024x512, .i32⟩ : BufTy).Contents (Elt F) → (⟨S128x512, .i32⟩ : BufTy).Contents (Elt F))
abbrev lay6 : HloOp τ sig (Elt F) := StableHlo.reshape main_v32 main_v33 (rfl : (.i32 : EltTy) = .i32) shapeCasts_S128x512_S1x65536
abbrev fold6 : HloOp τ sig (Elt F) := StableHlo.reshape main_v34 main_v35 (rfl : (.f32 : EltTy) = .f32) shapeCasts_S65536x128_S128x512x128

/-- The contents after each step of it. -/
def atSplit6 (W : Vl F) : Vl F := lay6.result (cut6.result W)
def atGot6 (d : Dev nD) (W : Vl F) : Vl F := fold6.result (put (atSplit6 W) main_v34 (got m d 6))
def atEnd6 (d : Dev nD) (W : Vl F) : Vl F := put (atGot6 m d W) main_v36 (outAt m d 6)

omit [FloatOps F] in
theorem atSplit6_ne (W : Vl F) {r : Ref sig .tc} (h2 : r ≠ main_v32) (h3 : r ≠ main_v33) : atSplit6 W r = W r :=
  (StableHlo.reshape_result_ne _ _ _ _ _ _ _ h3).trans (StableHlo.unary_result_ne _ _ _ _ _ _ h2)

theorem atGot6_ne (d : Dev nD) (W : Vl F) {r : Ref sig .tc} (h2 : r ≠ main_v32) (h3 : r ≠ main_v33) (h4 : r ≠ main_v34) (h5 : r ≠ main_v35) :
    atGot6 m d W r = W r :=
  (StableHlo.reshape_result_ne _ _ _ _ _ _ _ h5).trans ((put_ne _ _ h4).trans (atSplit6_ne W h2 h3))

variable {m} {d : Dev nD} {W : Vl F}

theorem atSplit6_list (h : Before m d 6 W) : atSplit6 W main_v33 = rows 6 (ids₀ m d) := by
  have e0 : W main_arg0 = ids₀ m d := h.clean main_arg0 (by decide) (by decide) fun p _ => by revert p; decide
  refine (StableHlo.reshape_result main_v32 main_v33 rfl shapeCasts_S128x512_S1x65536 _ _ (cut6.result W)).trans ?_
  rw [show cut6.result W main_v32 = extractStridedSlice S128x512 ![768, 0] (ids₀ m d) slices_S1024x512_S128x512_768_0 from
    (StableHlo.unary_result main_arg0 main_v32 _ _ _ W).trans (congrArg (extractStridedSlice S128x512 ![768, 0] · slices_S1024x512_S128x512_768_0) e0)]
  exact rows_eq 6 (ids₀ m d) _ rfl _ _

theorem atGot6_fold : atGot6 m d W main_v35 = shapeCast S128x512x128 (got m d 6) shapeCasts_S65536x128_S128x512x128 := by
  refine (StableHlo.reshape_result main_v34 main_v35 rfl shapeCasts_S65536x128_S128x512x128 _ _ _).trans ?_
  rw [put_self]; rfl

theorem atEnd6_out : atEnd6 m d W main_v36 = outAt m d 6 := put_self _ _ _

theorem chunk6 (h : Before m d 6 W) : Chunk m d 6 W (atEnd6 m d W) :=
  Chunk.mk' m h fun r hr => by
    have hr' : r ∉ [main_v32, main_v33, main_v34, main_v35, main_v36] := hr
    simp only [List.mem_cons, List.not_mem_nil, or_false, not_or] at hr'
    obtain ⟨h2, h3, h4, h5, h6⟩ := hr'
    exact (put_ne _ _ h6).trans (atGot6_ne m d W h2 h3 h4 h5)

/-- The chunk's steps, from the buffers at `W` to the buffers at its end. -/
theorem wp_chunk6 [∀ e, Nonempty (Elt F e)] (h : Before m d 6 W) (R : sProp 𝕄) :
    iprop((K (F := F)).ctx EH (P m) κ ∗ (K (F := F)).tcSt EH d 6 ∗ boundary (d : Thread nD τ) ∗ StableHlo.held (d : Thread nD τ) ucRefs W
        ∗ Pipeline.cellsGhost (Pipeline.pin (pcfgs (F := F)) adm) EP 6 d ∗ Pipeline.toksInit (Pipeline.pin (pcfgs (F := F)) adm) EP 6 d
        ∗ (((K (F := F)).tcSt EH d (6 + 1) ∗ boundary (d : Thread nD τ) ∗ StableHlo.held (d : Thread nD τ) ucRefs (atEnd6 m d W)) -∗ R))
      ⊢ wp frame (wpE ((K (F := F)).defs (D (F := F))) 𝒱 (SparseCore.T d) none) Set.univ (hlo rfl cut6 fun _ => .ret PUnit.unit) fun _ =>
          wp frame (wpE ((K (F := F)).defs (D (F := F))) 𝒱 (SparseCore.T d) none) Set.univ (hlo rfl lay6 fun _ => .ret PUnit.unit) fun _ =>
          wp frame (wpE ((K (F := F)).defs (D (F := F))) 𝒱 (SparseCore.T d) none) Set.univ ((K (F := F)).run d 6) fun _ =>
          wp frame (wpE ((K (F := F)).defs (D (F := F))) 𝒱 (SparseCore.T d) none) Set.univ (hlo rfl fold6 fun _ => .ret PUnit.unit) fun _ =>
          wp frame (wpE ((K (F := F)).defs (D (F := F))) 𝒱 (SparseCore.T d) none) Set.univ
            (Prog.lift (.customCall (SparseCore.inner (Pipeline.entry 6)) ())) fun _ => R := by
  have e1 : atSplit6 W main_arg1 = tab₀ m d :=
    (atSplit6_ne W (by decide) (by decide)).trans (h.clean main_arg1 (by decide) (by decide) fun p _ => by revert p; decide)
  have e4 : atSplit6 W main_v34 = m ((d : Thread nD τ).loc main_v34) :=
    (atSplit6_ne W (by decide) (by decide)).trans (h.clean main_v34 (by decide) (by decide) (by decide))
  have a2 : atGot6 m d W main_arg2 = m ((d : Thread nD τ).loc main_arg2) :=
    (atGot6_ne m d W (by decide) (by decide) (by decide) (by decide)).trans (h.clean main_arg2 (by decide) (by decide) fun p _ => by revert p; decide)
  have a3 : atGot6 m d W main_arg3 = m ((d : Thread nD τ).loc main_arg3) :=
    (atGot6_ne m d W (by decide) (by decide) (by decide) (by decide)).trans (h.clean main_arg3 (by decide) (by decide) fun p _ => by revert p; decide)
  have a0 : atGot6 m d W main_v0 = gam m d := (atGot6_ne m d W (by decide) (by decide) (by decide) (by decide)).trans h.scale
  have b0 : atGot6 m d W main_v1 = bet m d := (atGot6_ne m d W (by decide) (by decide) (by decide) (by decide)).trans h.shift
  have hout : outAt m d 6 = lnAll (atGot6 m d W main_v35) (atGot6 m d W main_arg2) (atGot6 m d W main_arg3) (atGot6 m d W main_v0) (atGot6 m d W main_v1) := by
    rw [atGot6_fold, a2, a3, a0, b0]; rfl
  have hcall := sc_step m κ d 6 (a := main_arg1) (b := main_v33) (c := main_v34) rfl rfl rfl (by decide) (by decide) (by decide)
    (atSplit6 W) (got m d 6) ((st_eq6 m d).trans (by rw [e1, atSplit6_list h, e4])) ((dn_eq6 m d).trans (by rw [e1, atSplit6_list h]))
  have hreg := region_step m κ d (6 + 1) 6 _ (atGot6 m d W) (atEnd6 m d W)
    (reg13 (fun _ b => atGot6 m d W b) (fun _ b => atEnd6 m d W b) (6 + 1)
      (fun _ => atEnd6_out.trans hout) (fun _ b hb => put_ne _ _ hb)) rfl rfl
  iintro ⟨#Hctx, Hst, Hb, Hh, Hg, Ht, Hk⟩
  iapply (StableHlo.wp_hlo_within 𝒱 (d : Thread nD τ) none Set.univ (sub_ucRefs cut6 (StableHlo.unary_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs lay6 (StableHlo.reshape_bufs_sub ..))) $$ [Hb Hh]
  · isplitl [Hb] <;> iassumption
  iintro ⟨Hb, Hh⟩
  rw [wp_ret]; imodintro
  iapply (hcall _) $$ [Hst Hh Hb Hg Ht Hk]
  isplitr; · iexact Hctx
  isplitl [Hst]; · iexact Hst
  isplitl [Hh]; · iexact Hh
  iintro ⟨Hst, Hh⟩
  iapply (StableHlo.wp_hlo_within 𝒱 (d : Thread nD τ) none Set.univ (sub_ucRefs fold6 (StableHlo.reshape_bufs_sub ..))) $$ [Hb Hh]
  · isplitl [Hb] <;> iassumption
  iintro ⟨Hb, Hh⟩
  rw [wp_ret]; imodintro
  iapply (hreg _) $$ [Hst Hh Hb Hg Ht Hk]
  isplitr; · iexact Hctx
  isplitl [Hst]; · iexact Hst
  isplitl [Hb]; · iexact Hb
  isplitl [Hh]; · iexact Hh
  isplitl [Hg]; · iexact Hg
  isplitl [Ht]; · iexact Ht
  iexact Hk

end Cert.Embed

end
-- ==== Proof.Region15.lean ====
/-
  One of the normalisation's pipelines: what it writes, and its region of the program, from the unscoped buffers at a
  valuation to the same at the valuation with the result written.
-/
module

public import proofs.«01_k».proof.Proof.Whole
public import proofs.«01_k».proof.Proof.Gen.KernelIdeal.Points

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 8) (Elt F) ℕ UU ℕ

variable (V : (c : Dev nD) → (b : Ref sig .tc) → Buf (Elt F) ((c : Thread nD τ).loc b))

/-! ## Call 15 -/

/-- Its proof data from the valuation `V`, before the SparseCore call numbered `n`. -/
def dat15 (n : ℕ) (c : Dev nD) : Dat τ (Elt F) (HIx 8) ℕ UU ℕ cfg15 c where
  A w := V c (Pipeline.arrRef spec15 w)
  after w t := match w with
    | ⟨0, _⟩ => ((cfg15.win 0).blk t).view.read (Elt F) (V c main_v40)
    | ⟨1, _⟩ => ((cfg15.win 1).blk t).view.read (Elt F) (V c main_arg2)
    | ⟨2, _⟩ => ((cfg15.win 2).blk t).view.read (Elt F) (V c main_arg3)
    | ⟨3, _⟩ => ((cfg15.win 3).blk t).view.read (Elt F) (V c main_v0)
    | ⟨4, _⟩ => ((cfg15.win 4).blk t).view.read (Elt F) (V c main_v1)
    | ⟨5, _⟩ => lnBlock (((cfg15.win 0).blk t).view.read (Elt F) (V c main_v40))
        (((cfg15.win 1).blk t).view.read (Elt F) (V c main_arg2)) (((cfg15.win 2).blk t).view.read (Elt F) (V c main_arg3))
        (((cfg15.win 3).blk t).view.read (Elt F) (V c main_v0)) (((cfg15.win 4).blk t).view.read (Elt F) (V c main_v1))
  Φ _ := Pipeline.scopedRest (Ix := HIx 8) (Name := ℕ) (U := UU) (Lvl := ℕ) (Val := Elt F) spec15 c
  q _ := fullShare
  owed _ := (K (F := F)).Otc c n
  recorded _ := heard (F := F) n c

theorem before15 (n : ℕ) (c : Dev nD) (t : Fin cfg15.N) :
(∀ d, (dat15 V n c).before 0 t d = ((cfg15.win 0).blk t).view.read (Elt F) (V c main_v40)) ∧
    (∀ d, (dat15 V n c).before 1 t d = ((cfg15.win 1).blk t).view.read (Elt F) (V c main_arg2)) ∧
    (∀ d, (dat15 V n c).before 2 t d = ((cfg15.win 2).blk t).view.read (Elt F) (V c main_arg3)) ∧
    (∀ d, (dat15 V n c).before 3 t d = ((cfg15.win 3).blk t).view.read (Elt F) (V c main_v0)) ∧
    (∀ d, (dat15 V n c).before 4 t d = ((cfg15.win 4).blk t).view.read (Elt F) (V c main_v1)) :=
  ⟨fun d => (dat15 V n c).before_in_eq_fetched 0 rfl (fun _ => rfl) (fun _ _ _ => rfl) (fun _ => rfl) t d,
    fun d => (dat15 V n c).before_in_eq_fetched 1 rfl (fun _ => rfl) (fun _ _ _ => rfl) (fun _ => rfl) t d,
    fun d => (dat15 V n c).before_in_eq_fetched 2 rfl (fun _ => rfl) (fun _ _ _ => rfl) (fun _ => rfl) t d,
    fun d => (dat15 V n c).before_in_eq_fetched 3 rfl (fun _ => rfl) (fun _ _ _ => rfl) (fun _ => rfl) t d,
    fun d => (dat15 V n c).before_in_eq_fetched 4 rfl (fun _ => rfl) (fun _ _ _ => rfl) (fun _ => rfl) t d⟩

theorem body15 (n : ℕ) (c : Dev nD) : BodyObligation (dat15 V n c) (defs₀ (F := F)) 𝒱₀ none Set.univ := fun t => by
  obtain ⟨b0, b1, b2, b3, b4⟩ := before15 V n c t
  rw [bigSep_W15, bigSep_W15]
  dsimp only
  simp only [b0, b1, b2, b3, b4]
  rw [show (dat15 V n c).Φ t.succ = (dat15 V n c).Φ t.castSucc from rfl,
    show (dat15 V n c).owesAt none t.succ = (dat15 V n c).owesAt none t.castSucc from rfl]
  iintro ⟨HΦ, HO, ⟨%d0, H0⟩, ⟨%d1, H1⟩, ⟨%d2, H2⟩, ⟨%d3, H3⟩, ⟨%d4, H4⟩, ⟨%d5, H5⟩⟩
  iapply (ln_spec c (grid15.coords t) Set.univ (st15_0 t) (hstage15_0 ((cfg15.slots t 0).cast nbuf15_0)) (st15_1 t) (hstage15_1 ((cfg15.slots t 1).cast nbuf15_1))
    (st15_2 t) (hstage15_2 ((cfg15.slots t 2).cast nbuf15_2)) (st15_3 t) (hstage15_3 ((cfg15.slots t 3).cast nbuf15_3))
    (st15_4 t) (hstage15_4 ((cfg15.slots t 4).cast nbuf15_4)) (st15_5 t) (hstage15_5 ((cfg15.slots t 5).cast nbuf15_5)) _ _ _ _ _ _ _)
    $$ [HΦ HO H0 H1 H2 H3 H4 H5]
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-- What it leaves in its result. -/
theorem out15 (n : ℕ) (c : Dev nD) :
    (dat15 V n c).arrAt 5 cfg15.N = lnAll (V c main_v40) (V c main_arg2) (V c main_arg3) (V c main_v0) (V c main_v1) := by
  have e0 : ∀ t : Fin cfg15.N, win15_0.index t = ![t.val, 0, 0] := (by decide +kernel : ∀ t : Fin grid15.N, _)
  have e5 : ∀ t : Fin cfg15.N, win15_5.index t = ![t.val, 0, 0] := (by decide +kernel : ∀ t : Fin grid15.N, _)
  have e1 : ∀ t : Fin cfg15.N, win15_1.index t = ![0, 0] := (by decide +kernel : ∀ t : Fin grid15.N, _)
  have e2 : ∀ t : Fin cfg15.N, win15_2.index t = ![0, 0] := (by decide +kernel : ∀ t : Fin grid15.N, _)
  have e3 : ∀ t : Fin cfg15.N, win15_3.index t = ![0, 0] := (by decide +kernel : ∀ t : Fin grid15.N, _)
  have e4 : ∀ t : Fin cfg15.N, win15_4.index t = ![0, 0] := (by decide +kernel : ∀ t : Fin grid15.N, _)
  refine (dat15 V n c).arrAt_eq_of_covers 5 _ (by decide +kernel) fun t hf y => ?_
  refine lnAll_eq (t.val) (y := y) (i := ((cfg15.win 5).blk t).view.emb y) ?_ ?_ ?_ ?_ ?_ ?_
  · intro a
    fin_cases a
    · blk_simp [e5]; simp; omega
    · blk_simp [e5]; simp
    · blk_simp [e5]; simp
  · intro z j hj; show V c main_v40 (((cfg15.win 0).blk t).view.emb z) = _
    refine congrArg _ (funext fun a => Fin.ext ?_)
    rw [hj a]
    fin_cases a
    · blk_simp [e0]; simp; omega
    · blk_simp [e0]; simp
    · blk_simp [e0]; simp
  · funext z; show V c main_arg2 (((cfg15.win 1).blk t).view.emb z) = _
    refine congrArg _ ?_
    blk_ext [e1]
  · funext z; show V c main_arg3 (((cfg15.win 2).blk t).view.emb z) = _
    refine congrArg _ ?_
    blk_ext [e2]
  · funext z; show V c main_v0 (((cfg15.win 3).blk t).view.emb z) = _
    refine congrArg _ ?_
    blk_ext [e3]
  · funext z; show V c main_v1 (((cfg15.win 4).blk t).view.emb z) = _
    refine congrArg _ ?_
    blk_ext [e4]

/-- The family it belongs to. -/
def pdats15 (n : ℕ) : (p : Fin 8) → (c : Dev nD) → Dat τ (Elt F) (HIx 8) ℕ UU ℕ (Pipeline.pin (pcfgs (F := F)) adm p) c
  | ⟨0, _⟩ => fun c => noDat c
  | ⟨1, _⟩ => fun c => noDat c
  | ⟨2, _⟩ => fun c => noDat c
  | ⟨3, _⟩ => fun c => noDat c
  | ⟨4, _⟩ => fun c => noDat c
  | ⟨5, _⟩ => fun c => noDat c
  | ⟨6, _⟩ => fun c => noDat c
  | ⟨7, _⟩ => fun c => dat15 V n c

variable (Vp : (c : Dev nD) → (b : Ref sig .tc) → Buf (Elt F) ((c : Thread nD τ).loc b)) in
set_option backward.isDefEq.respectTransparency.types false in
/-- Its region, from the valuation `V` to `Vp`, which has the result normalised and is `V` elsewhere. -/
def reg15 (n : ℕ) (hout : ∀ c, Vp c main_v41 = lnAll (V c main_v40) (V c main_arg2) (V c main_arg3) (V c main_v0) (V c main_v1))
    (hne : ∀ c (b : Ref sig .tc), b ≠ main_v41 → Vp c b = V c b) :
    Pipeline.RegionSeg (pcfgs (F := F)) adm (pdats15 V n) none defs₀ 𝒱₀ ((K (F := F)).L (nD := nD)) (K (F := F)).lev 7 where
  win := launch15.win.to₀
  block_pos := launch15.block_pos
  stage_whole := launch15.stage_whole
  K := PEmpty
  osem k := k.elim
  ho := Pipeline.OwnSemFacts.none _
  hbody c := (body15 V n c).loose
  hwaits c := Pipeline.cellsWaits_intro _ _ _ _ _ fun w s t => (K (F := F)).mayWait_none _ (Otc_none n c)
  pre c := iprop(unscopedBufs c (V c) ∗ ∃ W : Waits sig (HIx 8), ⌜↑W ⊆ heard (F := F) n c⌝ ∗ owes (c : Thread nD τ) ((K (F := F)).Otc c n) W)
  post c := iprop(unscopedBufs c (Vp c) ∗ ∃ W : Waits sig (HIx 8), ⌜↑W ⊆ heard (F := F) n c⌝ ∗ owes (c : Thread nD τ) ((K (F := F)).Otc c n) W)
  X _ := BI.emp
  Y _ := BI.emp
  Z c := Pipeline.unscopedRest (Ix := HIx 8) (Name := ℕ) (U := UU) (Lvl := ℕ) spec15 c (V c)
  hentry c := by
    rw [Pipeline.ownSems0_none]
    have hsplit := Pipeline.arrays_of_unscopedBufs (p := 7) (pcfgs (F := F)) adm (pdats15 V n) launch15.win launch15.arr_whole c
      ((pdats15 V n 7 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats15 V n 7 c).Φ 0 = Pipeline.scopedRest (Ix := HIx 8) (Name := ℕ) (U := UU) (Lvl := ℕ) (Val := Elt F) spec15 c from rfl]
    iintro ⟨-, -, Hr⟩; iexact Hr
  hout c := by
    rw [Pipeline.ownSems0_none, show (pdats15 V n 7 c).Φ (Fin.last _) = Pipeline.scopedRest (Ix := HIx 8) (Name := ℕ) (U := UU) (Lvl := ℕ) (Val := Elt F) spec15 c from rfl]
    iintro Hr
    isplitr; · iempintro
    isplitr; · iempintro
    iexact Hr
  hexit c := by
    have hjoin := Pipeline.unscopedBufs_of_arrays (p := 7) (pcfgs (F := F)) adm (Ix := HIx 8) (Name := ℕ) (U := UU) (Lvl := ℕ) launch15.win launch15.arr_whole c
      (pdats15 V n) ((pdats15 V n 7 c).share_full fun _ => rfl) (V c) (Vp c) ((pdats15 V n 7 c).arrAt · cfg15.N)
      (fun w => by
        fin_cases w
        · exact ((pdats15 V n 7 c).arrAt_in 0 rfl _).trans (hne c main_v40 (by decide)).symm
        · exact ((pdats15 V n 7 c).arrAt_in 1 rfl _).trans (hne c main_arg2 (by decide)).symm
        · exact ((pdats15 V n 7 c).arrAt_in 2 rfl _).trans (hne c main_arg3 (by decide)).symm
        · exact ((pdats15 V n 7 c).arrAt_in 3 rfl _).trans (hne c main_v0 (by decide)).symm
        · exact ((pdats15 V n 7 c).arrAt_in 4 rfl _).trans (hne c main_v1 (by decide)).symm
        · exact (out15 V n c).trans (hout c).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact fun x h => heard_of_bound (hW h)
    iexact HO

end Cert.Embed

end
-- ==== Proof.Chunk7.lean ====
/-
  The chunk numbered 7: its ids cut out and laid end to end, the rows gathered by the subcores, the rows normalised.
-/
module

public import proofs.«01_k».proof.Proof.Chain
public import proofs.«01_k».proof.Proof.Region15

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 8) (Elt F) ℕ UU ℕ

variable (m : (ℓ : Loc nD τ sig) → Buf (Elt F) ℓ) (κ : GSem nD τ sig → ℕ)

/-- The array operations of the chunk. -/
abbrev cut7 : HloOp τ sig (Elt F) := StableHlo.unary main_arg0 main_v37 ((extractStridedSlice S128x512 ![896, 0] · slices_S1024x512_S128x512_896_0) : (⟨S1024x512, .i32⟩ : BufTy).Contents (Elt F) → (⟨S128x512, .i32⟩ : BufTy).Contents (Elt F))
abbrev lay7 : HloOp τ sig (Elt F) := StableHlo.reshape main_v37 main_v38 (rfl : (.i32 : EltTy) = .i32) shapeCasts_S128x512_S1x65536
abbrev fold7 : HloOp τ sig (Elt F) := StableHlo.reshape main_v39 main_v40 (rfl : (.f32 : EltTy) = .f32) shapeCasts_S65536x128_S128x512x128

/-- The contents after each step of it. -/
def atSplit7 (W : Vl F) : Vl F := lay7.result (cut7.result W)
def atGot7 (d : Dev nD) (W : Vl F) : Vl F := fold7.result (put (atSplit7 W) main_v39 (got m d 7))
def atEnd7 (d : Dev nD) (W : Vl F) : Vl F := put (atGot7 m d W) main_v41 (outAt m d 7)

omit [FloatOps F] in
theorem atSplit7_ne (W : Vl F) {r : Ref sig .tc} (h2 : r ≠ main_v37) (h3 : r ≠ main_v38) : atSplit7 W r = W r :=
  (StableHlo.reshape_result_ne _ _ _ _ _ _ _ h3).trans (StableHlo.unary_result_ne _ _ _ _ _ _ h2)

theorem atGot7_ne (d : Dev nD) (W : Vl F) {r : Ref sig .tc} (h2 : r ≠ main_v37) (h3 : r ≠ main_v38) (h4 : r ≠ main_v39) (h5 : r ≠ main_v40) :
    atGot7 m d W r = W r :=
  (StableHlo.reshape_result_ne _ _ _ _ _ _ _ h5).trans ((put_ne _ _ h4).trans (atSplit7_ne W h2 h3))

variable {m} {d : Dev nD} {W : Vl F}

theorem atSplit7_list (h : Before m d 7 W) : atSplit7 W main_v38 = rows 7 (ids₀ m d) := by
  have e0 : W main_arg0 = ids₀ m d := h.clean main_arg0 (by decide) (by decide) fun p _ => by revert p; decide
  refine (StableHlo.reshape_result main_v37 main_v38 rfl shapeCasts_S128x512_S1x65536 _ _ (cut7.result W)).trans ?_
  rw [show cut7.result W main_v37 = extractStridedSlice S128x512 ![896, 0] (ids₀ m d) slices_S1024x512_S128x512_896_0 from
    (StableHlo.unary_result main_arg0 main_v37 _ _ _ W).trans (congrArg (extractStridedSlice S128x512 ![896, 0] · slices_S1024x512_S128x512_896_0) e0)]
  exact rows_eq 7 (ids₀ m d) _ rfl _ _

theorem atGot7_fold : atGot7 m d W main_v40 = shapeCast S128x512x128 (got m d 7) shapeCasts_S65536x128_S128x512x128 := by
  refine (StableHlo.reshape_result main_v39 main_v40 rfl shapeCasts_S65536x128_S128x512x128 _ _ _).trans ?_
  rw [put_self]; rfl

theorem atEnd7_out : atEnd7 m d W main_v41 = outAt m d 7 := put_self _ _ _

theorem chunk7 (h : Before m d 7 W) : Chunk m d 7 W (atEnd7 m d W) :=
  Chunk.mk' m h fun r hr => by
    have hr' : r ∉ [main_v37, main_v38, main_v39, main_v40, main_v41] := hr
    simp only [List.mem_cons, List.not_mem_nil, or_false, not_or] at hr'
    obtain ⟨h2, h3, h4, h5, h6⟩ := hr'
    exact (put_ne _ _ h6).trans (atGot7_ne m d W h2 h3 h4 h5)

/-- The chunk's steps, from the buffers at `W` to the buffers at its end. -/
theorem wp_chunk7 [∀ e, Nonempty (Elt F e)] (h : Before m d 7 W) (R : sProp 𝕄) :
    iprop((K (F := F)).ctx EH (P m) κ ∗ (K (F := F)).tcSt EH d 7 ∗ boundary (d : Thread nD τ) ∗ StableHlo.held (d : Thread nD τ) ucRefs W
        ∗ Pipeline.cellsGhost (Pipeline.pin (pcfgs (F := F)) adm) EP 7 d ∗ Pipeline.toksInit (Pipeline.pin (pcfgs (F := F)) adm) EP 7 d
        ∗ (((K (F := F)).tcSt EH d (7 + 1) ∗ boundary (d : Thread nD τ) ∗ StableHlo.held (d : Thread nD τ) ucRefs (atEnd7 m d W)) -∗ R))
      ⊢ wp frame (wpE ((K (F := F)).defs (D (F := F))) 𝒱 (SparseCore.T d) none) Set.univ (hlo rfl cut7 fun _ => .ret PUnit.unit) fun _ =>
          wp frame (wpE ((K (F := F)).defs (D (F := F))) 𝒱 (SparseCore.T d) none) Set.univ (hlo rfl lay7 fun _ => .ret PUnit.unit) fun _ =>
          wp frame (wpE ((K (F := F)).defs (D (F := F))) 𝒱 (SparseCore.T d) none) Set.univ ((K (F := F)).run d 7) fun _ =>
          wp frame (wpE ((K (F := F)).defs (D (F := F))) 𝒱 (SparseCore.T d) none) Set.univ (hlo rfl fold7 fun _ => .ret PUnit.unit) fun _ =>
          wp frame (wpE ((K (F := F)).defs (D (F := F))) 𝒱 (SparseCore.T d) none) Set.univ
            (Prog.lift (.customCall (SparseCore.inner (Pipeline.entry 7)) ())) fun _ => R := by
  have e1 : atSplit7 W main_arg1 = tab₀ m d :=
    (atSplit7_ne W (by decide) (by decide)).trans (h.clean main_arg1 (by decide) (by decide) fun p _ => by revert p; decide)
  have e4 : atSplit7 W main_v39 = m ((d : Thread nD τ).loc main_v39) :=
    (atSplit7_ne W (by decide) (by decide)).trans (h.clean main_v39 (by decide) (by decide) (by decide))
  have a2 : atGot7 m d W main_arg2 = m ((d : Thread nD τ).loc main_arg2) :=
    (atGot7_ne m d W (by decide) (by decide) (by decide) (by decide)).trans (h.clean main_arg2 (by decide) (by decide) fun p _ => by revert p; decide)
  have a3 : atGot7 m d W main_arg3 = m ((d : Thread nD τ).loc main_arg3) :=
    (atGot7_ne m d W (by decide) (by decide) (by decide) (by decide)).trans (h.clean main_arg3 (by decide) (by decide) fun p _ => by revert p; decide)
  have a0 : atGot7 m d W main_v0 = gam m d := (atGot7_ne m d W (by decide) (by decide) (by decide) (by decide)).trans h.scale
  have b0 : atGot7 m d W main_v1 = bet m d := (atGot7_ne m d W (by decide) (by decide) (by decide) (by decide)).trans h.shift
  have hout : outAt m d 7 = lnAll (atGot7 m d W main_v40) (atGot7 m d W main_arg2) (atGot7 m d W main_arg3) (atGot7 m d W main_v0) (atGot7 m d W main_v1) := by
    rw [atGot7_fold, a2, a3, a0, b0]; rfl
  have hcall := sc_step m κ d 7 (a := main_arg1) (b := main_v38) (c := main_v39) rfl rfl rfl (by decide) (by decide) (by decide)
    (atSplit7 W) (got m d 7) ((st_eq7 m d).trans (by rw [e1, atSplit7_list h, e4])) ((dn_eq7 m d).trans (by rw [e1, atSplit7_list h]))
  have hreg := region_step m κ d (7 + 1) 7 _ (atGot7 m d W) (atEnd7 m d W)
    (reg15 (fun _ b => atGot7 m d W b) (fun _ b => atEnd7 m d W b) (7 + 1)
      (fun _ => atEnd7_out.trans hout) (fun _ b hb => put_ne _ _ hb)) rfl rfl
  iintro ⟨#Hctx, Hst, Hb, Hh, Hg, Ht, Hk⟩
  iapply (StableHlo.wp_hlo_within 𝒱 (d : Thread nD τ) none Set.univ (sub_ucRefs cut7 (StableHlo.unary_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs lay7 (StableHlo.reshape_bufs_sub ..))) $$ [Hb Hh]
  · isplitl [Hb] <;> iassumption
  iintro ⟨Hb, Hh⟩
  rw [wp_ret]; imodintro
  iapply (hcall _) $$ [Hst Hh Hb Hg Ht Hk]
  isplitr; · iexact Hctx
  isplitl [Hst]; · iexact Hst
  isplitl [Hh]; · iexact Hh
  iintro ⟨Hst, Hh⟩
  iapply (StableHlo.wp_hlo_within 𝒱 (d : Thread nD τ) none Set.univ (sub_ucRefs fold7 (StableHlo.reshape_bufs_sub ..))) $$ [Hb Hh]
  · isplitl [Hb] <;> iassumption
  iintro ⟨Hb, Hh⟩
  rw [wp_ret]; imodintro
  iapply (hreg _) $$ [Hst Hh Hb Hg Ht Hk]
  isplitr; · iexact Hctx
  isplitl [Hst]; · iexact Hst
  isplitl [Hb]; · iexact Hb
  isplitl [Hh]; · iexact Hh
  isplitl [Hg]; · iexact Hg
  isplitl [Ht]; · iexact Ht
  iexact Hk

end Cert.Embed

end
-- ==== Proof.Main.lean ====
/-
  The whole program's run: the eight chunks one after another, then the result put together.
-/
module

public import proofs.«01_k».proof.Proof.Chunk0
public import proofs.«01_k».proof.Proof.Chunk1
public import proofs.«01_k».proof.Proof.Chunk2
public import proofs.«01_k».proof.Proof.Chunk3
public import proofs.«01_k».proof.Proof.Chunk4
public import proofs.«01_k».proof.Proof.Chunk5
public import proofs.«01_k».proof.Proof.Chunk6
public import proofs.«01_k».proof.Proof.Chunk7

@[expose] public section

noncomputable section

namespace Cert.Embed

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 8) (Elt F) ℕ UU ℕ

/-! ## The launch element -/

/-- The regions' cells and the tokens of their transfers. -/
abbrev cells₀ := Pipeline.cells (nD := nD) (τ := τ) (Pipeline.pin (pcfgs (F := F)) adm) cellOf_inj
abbrev toks₀ := Pipeline.launchToks (nD := nD) (τ := τ) (Pipeline.pin (pcfgs (F := F)) adm) cellOf_inj

def u₀ : UU := ((initOf (K (F := F)).hsCells (K (F := F)).hsToks, initOf (cells₀ (F := F)) (toks₀ (F := F))), 1)

/-- What each device's TensorCore starts with of the regions' ghost state. -/
abbrev G (d : Dev nD) : sProp 𝕄 :=
  iprop((bigSep Finset.univ fun p : Fin 8 => Pipeline.cellsGhost (Pipeline.pin (pcfgs (F := F)) adm) EP p d)
    ∗ bigSep Finset.univ fun p : Fin 8 => Pipeline.toksInit (Pipeline.pin (pcfgs (F := F)) adm) EP p d)

variable (m : (ℓ : Loc nD τ sig) → Buf (Elt F) ℓ) (ρ : Dev nD → PrngReg)

theorem extra_emp : (bigSep Finset.univ fun thr : Thread nD τ => bigSep Finset.univ fun q : Fin 8 => (P (F := F) m).x q thr) = (iprop(emp) : sProp 𝕄) := by
  have h1 : ∀ thr : Thread nD τ, (bigSep Finset.univ fun q : Fin 8 => (P (F := F) m).x q thr) = (iprop(emp) : sProp 𝕄) := fun thr =>
    (bigSep_congr fun q _ => rfl).trans (bigSep_emp_const _)
  exact (bigSep_congr fun thr _ => h1 thr).trans (bigSep_emp_const _)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 8 => (P (F := F) m).x q thr) := by
  rw [extra_emp, bigSep_sep']
  unfold u₀
  iintro Hu
  ihave H := (ownU_pair (initOf (K (F := F)).hsCells (K (F := F)).hsToks, initOf (cells₀ (F := F)) (toks₀ (F := F))) (1 : Counters)) $$ Hu
  icases H with ⟨H, -⟩
  ihave H := (own_pair_emb (embL : Emb (UH × UP) 𝕄) (initOf (K (F := F)).hsCells (K (F := F)).hsToks) (initOf (cells₀ (F := F)) (toks₀ (F := F)))) $$ H
  icases H with ⟨HH, HP⟩
  ihave HP := (Pipeline.fund_ghost (Pipeline.pin (pcfgs (F := F)) adm) (EP : Emb UP 𝕄) cellOf_inj) $$ HP
  imod HP with ⟨Hg, Ht⟩
  imodintro
  isplitl [HH]; · iexact HH
  isplitl [Hg Ht]
  · isplitl [Hg] <;> iassumption
  iempintro

/-! ## The program -/

abbrev shapeScale : HloOp τ sig (Elt F) := StableHlo.reshape main_arg4 main_v0 (rfl : (.f32 : EltTy) = .f32) shapeCasts_S128_S1x128
abbrev shapeShift : HloOp τ sig (Elt F) := StableHlo.reshape main_arg5 main_v1 (rfl : (.f32 : EltTy) = .f32) shapeCasts_S128_S1x128
abbrev join : HloOp τ sig (Elt F) := StableHlo.nary ![main_v6, main_v11, main_v16, main_v21, main_v26, main_v31, main_v36, main_v41] main_v42 (fun u => (concatenate S1024x512x128 0 [⟨S128x512x128, (u 0 : (⟨S128x512x128, .f32⟩ : BufTy).Contents (Elt F))⟩, ⟨S128x512x128, (u 1 : (⟨S128x512x128, .f32⟩ : BufTy).Contents (Elt F))⟩, ⟨S128x512x128, (u 2 : (⟨S128x512x128, .f32⟩ : BufTy).Contents (Elt F))⟩, ⟨S128x512x128, (u 3 : (⟨S128x512x128, .f32⟩ : BufTy).Contents (Elt F))⟩, ⟨S128x512x128, (u 4 : (⟨S128x512x128, .f32⟩ : BufTy).Contents (Elt F))⟩, ⟨S128x512x128, (u 5 : (⟨S128x512x128, .f32⟩ : BufTy).Contents (Elt F))⟩, ⟨S128x512x128, (u 6 : (⟨S128x512x128, .f32⟩ : BufTy).Contents (Elt F))⟩, ⟨S128x512x128, (u 7 : (⟨S128x512x128, .f32⟩ : BufTy).Contents (Elt F))⟩] concatenates_S128x512x128_S128x512x128_S128x512x128_S128x512x128_S128x512x128_S128x512x128_S128x512x128_S128x512x128_S1024x512x128_d0 : (⟨S1024x512x128, .f32⟩ : BufTy).Contents (Elt F)))

/-- The contents before each chunk, and at the end. -/
def w0 (d : Dev nD) : Vl F := shapeShift.result (shapeScale.result fun b => m (d, b))
def w1 (d : Dev nD) : Vl F := atEnd0 m d (w0 m d)
def w2 (d : Dev nD) : Vl F := atEnd1 m d (w1 m d)
def w3 (d : Dev nD) : Vl F := atEnd2 m d (w2 m d)
def w4 (d : Dev nD) : Vl F := atEnd3 m d (w3 m d)
def w5 (d : Dev nD) : Vl F := atEnd4 m d (w4 m d)
def w6 (d : Dev nD) : Vl F := atEnd5 m d (w5 m d)
def w7 (d : Dev nD) : Vl F := atEnd6 m d (w6 m d)
def w8 (d : Dev nD) : Vl F := atEnd7 m d (w7 m d)
def wEnd (d : Dev nD) : Vl F := join.result (w8 m d)

theorem before0 (d : Dev nD) : Before m d 0 (w0 m d) where
  clean r h0 h1 _ := (StableHlo.reshape_result_ne _ _ _ _ _ _ _ h1).trans (StableHlo.reshape_result_ne _ _ _ _ _ _ _ h0)
  scale := (StableHlo.reshape_result_ne main_arg5 main_v1 _ _ _ _ _ (r := main_v0) (by decide)).trans
    (StableHlo.reshape_result main_arg4 main_v0 rfl shapeCasts_S128_S1x128 _ _ _)
  shift := (StableHlo.reshape_result main_arg5 main_v1 rfl shapeCasts_S128_S1x128 _ _ _).trans
    (congrArg (shapeCast S1x128 · shapeCasts_S128_S1x128) (StableHlo.reshape_result_ne main_arg4 main_v0 _ _ _ _ _ (r := main_arg5) (by decide)))

theorem ch0 (d : Dev nD) : Chunk m d 0 (w0 m d) (w1 m d) := chunk0 (before0 m d)
theorem ch1 (d : Dev nD) : Chunk m d 1 (w1 m d) (w2 m d) := chunk1 (ch0 m d).before
theorem ch2 (d : Dev nD) : Chunk m d 2 (w2 m d) (w3 m d) := chunk2 (ch1 m d).before
theorem ch3 (d : Dev nD) : Chunk m d 3 (w3 m d) (w4 m d) := chunk3 (ch2 m d).before
theorem ch4 (d : Dev nD) : Chunk m d 4 (w4 m d) (w5 m d) := chunk4 (ch3 m d).before
theorem ch5 (d : Dev nD) : Chunk m d 5 (w5 m d) (w6 m d) := chunk5 (ch4 m d).before
theorem ch6 (d : Dev nD) : Chunk m d 6 (w6 m d) (w7 m d) := chunk6 (ch5 m d).before
theorem ch7 (d : Dev nD) : Chunk m d 7 (w7 m d) (w8 m d) := chunk7 (ch6 m d).before

theorem args_end (d : Dev nD) (r : Ref sig .tc) (h0 : r ≠ main_v0) (h1 : r ≠ main_v1) (h2 : r ≠ main_v42) (hr : ∀ q : Fin 8, r ∉ five q) :
    wEnd m d r = m ((d : Thread nD τ).loc r) :=
  (StableHlo.nary_result_ne _ _ _ _ _ _ h2).trans ((ch7 m d).before.clean r h0 h1 fun q _ => hr q)

theorem out_end0 (d : Dev nD) : w8 m d main_v6 = outAt m d 0 := ((ch7 m d).keeps main_v6 (by decide)).trans (((ch6 m d).keeps main_v6 (by decide)).trans (((ch5 m d).keeps main_v6 (by decide)).trans (((ch4 m d).keeps main_v6 (by decide)).trans (((ch3 m d).keeps main_v6 (by decide)).trans (((ch2 m d).keeps main_v6 (by decide)).trans (((ch1 m d).keeps main_v6 (by decide)).trans (atEnd0_out)))))))
theorem out_end1 (d : Dev nD) : w8 m d main_v11 = outAt m d 1 := ((ch7 m d).keeps main_v11 (by decide)).trans (((ch6 m d).keeps main_v11 (by decide)).trans (((ch5 m d).keeps main_v11 (by decide)).trans (((ch4 m d).keeps main_v11 (by decide)).trans (((ch3 m d).keeps main_v11 (by decide)).trans (((ch2 m d).keeps main_v11 (by decide)).trans (atEnd1_out))))))
theorem out_end2 (d : Dev nD) : w8 m d main_v16 = outAt m d 2 := ((ch7 m d).keeps main_v16 (by decide)).trans (((ch6 m d).keeps main_v16 (by decide)).trans (((ch5 m d).keeps main_v16 (by decide)).trans (((ch4 m d).keeps main_v16 (by decide)).trans (((ch3 m d).keeps main_v16 (by decide)).trans (atEnd2_out)))))
theorem out_end3 (d : Dev nD) : w8 m d main_v21 = outAt m d 3 := ((ch7 m d).keeps main_v21 (by decide)).trans (((ch6 m d).keeps main_v21 (by decide)).trans (((ch5 m d).keeps main_v21 (by decide)).trans (((ch4 m d).keeps main_v21 (by decide)).trans (atEnd3_out))))
theorem out_end4 (d : Dev nD) : w8 m d main_v26 = outAt m d 4 := ((ch7 m d).keeps main_v26 (by decide)).trans (((ch6 m d).keeps main_v26 (by decide)).trans (((ch5 m d).keeps main_v26 (by decide)).trans (atEnd4_out)))
theorem out_end5 (d : Dev nD) : w8 m d main_v31 = outAt m d 5 := ((ch7 m d).keeps main_v31 (by decide)).trans (((ch6 m d).keeps main_v31 (by decide)).trans (atEnd5_out))
theorem out_end6 (d : Dev nD) : w8 m d main_v36 = outAt m d 6 := ((ch7 m d).keeps main_v36 (by decide)).trans (atEnd6_out)
theorem out_end7 (d : Dev nD) : w8 m d main_v41 = outAt m d 7 := atEnd7_out

theorem result_end (d : Dev nD) : wEnd m d main_v42 = whole m d := by
  refine (StableHlo.nary_result _ _ _ _ _ _).trans ?_
  unfold whole
  rw [← out_end0, ← out_end1, ← out_end2, ← out_end3, ← out_end4, ← out_end5, ← out_end6, ← out_end7]
  rfl

omit [FloatOps F] in
theorem eight {Φ : Fin 8 → sProp 𝕄} : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

abbrev FIN (d : Dev nD) : sProp 𝕄 := StableHlo.held (d : Thread nD τ) ucRefs (wEnd m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 8 ∗ FIN m d ∗ (K (F := F)).tcEnd d) := by
  unfold SparseCore.Cfg.tcRes SparseCore.Cfg.tcEnd G
  rw [show (unscopedBufs d (fun b => m ((SparseCore.T d).loc b)) : sProp 𝕄) = StableHlo.held (d : Thread nD τ) ucRefs (fun b => m (d, b)) from
    unscopedBufs_held d fun b => m (d, b), eight, eight]
  simp only [main, wp_bind, wp_pure]
  iintro ⟨#Hctx, Hst, ⟨Hb, Hh, Hts, -⟩, ⟨Hg0, Hg1, Hg2, Hg3, Hg4, Hg5, Hg6, Hg7⟩, Ht0, Ht1, Ht2, Ht3, Ht4, Ht5, Ht6, Ht7⟩
  iapply (StableHlo.wp_hlo_within 𝒱 (d : Thread nD τ) none Set.univ (sub_ucRefs shapeScale (StableHlo.reshape_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs shapeShift (StableHlo.reshape_bufs_sub ..))) $$ [Hb Hh]
  · isplitl [Hb] <;> iassumption
  iintro ⟨Hb, Hh⟩
  rw [wp_ret]; imodintro
  iapply (wp_chunk0 κ (before0 m d) _) $$ [Hst Hb Hh Hts Hg0 Ht0 Hg1 Ht1 Hg2 Ht2 Hg3 Ht3 Hg4 Ht4 Hg5 Ht5 Hg6 Ht6 Hg7 Ht7]
  isplitr; · iexact Hctx
  isplitl [Hst]; · iexact Hst
  isplitl [Hb]; · iexact Hb
  isplitl [Hh]; · iexact Hh
  isplitl [Hg0]; · iexact Hg0
  isplitl [Ht0]; · iexact Ht0
  iintro ⟨Hst, Hb, Hh⟩
  iapply (wp_chunk1 κ (ch0 m d).before _) $$ [Hst Hb Hh Hts Hg1 Ht1 Hg2 Ht2 Hg3 Ht3 Hg4 Ht4 Hg5 Ht5 Hg6 Ht6 Hg7 Ht7]
  isplitr; · iexact Hctx
  isplitl [Hst]; · iexact Hst
  isplitl [Hb]; · iexact Hb
  isplitl [Hh]; · iexact Hh
  isplitl [Hg1]; · iexact Hg1
  isplitl [Ht1]; · iexact Ht1
  iintro ⟨Hst, Hb, Hh⟩
  iapply (wp_chunk2 κ (ch1 m d).before _) $$ [Hst Hb Hh Hts Hg2 Ht2 Hg3 Ht3 Hg4 Ht4 Hg5 Ht5 Hg6 Ht6 Hg7 Ht7]
  isplitr; · iexact Hctx
  isplitl [Hst]; · iexact Hst
  isplitl [Hb]; · iexact Hb
  isplitl [Hh]; · iexact Hh
  isplitl [Hg2]; · iexact Hg2
  isplitl [Ht2]; · iexact Ht2
  iintro ⟨Hst, Hb, Hh⟩
  iapply (wp_chunk3 κ (ch2 m d).before _) $$ [Hst Hb Hh Hts Hg3 Ht3 Hg4 Ht4 Hg5 Ht5 Hg6 Ht6 Hg7 Ht7]
  isplitr; · iexact Hctx
  isplitl [Hst]; · iexact Hst
  isplitl [Hb]; · iexact Hb
  isplitl [Hh]; · iexact Hh
  isplitl [Hg3]; · iexact Hg3
  isplitl [Ht3]; · iexact Ht3
  iintro ⟨Hst, Hb, Hh⟩
  iapply (wp_chunk4 κ (ch3 m d).before _) $$ [Hst Hb Hh Hts Hg4 Ht4 Hg5 Ht5 Hg6 Ht6 Hg7 Ht7]
  isplitr; · iexact Hctx
  isplitl [Hst]; · iexact Hst
  isplitl [Hb]; · iexact Hb
  isplitl [Hh]; · iexact Hh
  isplitl [Hg4]; · iexact Hg4
  isplitl [Ht4]; · iexact Ht4
  iintro ⟨Hst, Hb, Hh⟩
  iapply (wp_chunk5 κ (ch4 m d).before _) $$ [Hst Hb Hh Hts Hg5 Ht5 Hg6 Ht6 Hg7 Ht7]
  isplitr; · iexact Hctx
  isplitl [Hst]; · iexact Hst
  isplitl [Hb]; · iexact Hb
  isplitl [Hh]; · iexact Hh
  isplitl [Hg5]; · iexact Hg5
  isplitl [Ht5]; · iexact Ht5
  iintro ⟨Hst, Hb, Hh⟩
  iapply (wp_chunk6 κ (ch5 m d).before _) $$ [Hst Hb Hh Hts Hg6 Ht6 Hg7 Ht7]
  isplitr; · iexact Hctx
  isplitl [Hst]; · iexact Hst
  isplitl [Hb]; · iexact Hb
  isplitl [Hh]; · iexact Hh
  isplitl [Hg6]; · iexact Hg6
  isplitl [Ht6]; · iexact Ht6
  iintro ⟨Hst, Hb, Hh⟩
  iapply (wp_chunk7 κ (ch6 m d).before _) $$ [Hst Hb Hh Hts Hg7 Ht7]
  isplitr; · iexact Hctx
  isplitl [Hst]; · iexact Hst
  isplitl [Hb]; · iexact Hb
  isplitl [Hh]; · iexact Hh
  isplitl [Hg7]; · iexact Hg7
  isplitl [Ht7]; · iexact Ht7
  iintro ⟨Hst, Hb, Hh⟩
  iapply (StableHlo.wp_hlo_within 𝒱 (d : Thread nD τ) none Set.univ (sub_ucRefs join (StableHlo.nary_bufs_sub ..))) $$ [Hb Hh]
  · isplitl [Hb] <;> iassumption
  iintro ⟨Hb, Hh⟩
  rw [wp_ret]; imodintro; imodintro
  isplitl [Hst]; · iexact Hst
  isplitl [Hh]; · iexact Hh
  isplitl [Hb] <;> iassumption

/-! ## The run -/

def fq (d : Dev nD) (s' : Phys nD τ sig (Elt F)) : Prop := ∀ b : {b : DevRef τ sig // b ∈ ucRefs}, s'.mem.mem (d, b.1) = wEnd m d b.1

theorem hfin_at (d : Dev nD) (s' : Phys nD τ sig (Elt F)) (b : {b : DevRef τ sig // b ∈ ucRefs}) :
    iprop(FIN m d ∗ SI s') ⊢ (⌜s'.mem.mem (d, b.1) = wEnd m d b.1⌝ : sProp 𝕄) := by
  refine (sep_mono_left (bigSep_elim (Φ := fun b => ((d, b) ↦{fullShare} wEnd m d b : sProp 𝕄)) b.2)).trans ?_
  iintro ⟨Hb, HSI⟩
  ihave H := (SI_pointsTo_agree (st := s') (ℓ := (d, b.1)) (I := Finset.univ) (q := fullShare) (f := wEnd m d b.1)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  unfold fq
  refine BI.Entails.trans ?_ (Idealize.SL.BI.Laws.pure_forall (PROP := sProp 𝕄) (φ := fun b : {b : DevRef τ sig // b ∈ ucRefs} => s'.mem.mem (d, b.1) = wEnd m d b.1)).2
  show (_ : sProp 𝕄) ⊢ _
  iintro H %b
  iapply (hfin_at m d s' b)
  iexact H

/-- Every argument as at launch, the result put together of the eight chunks, every semaphore at zero. -/
def QC : PUnit × MemSt nD τ sig (Elt F) → Prop := fun r =>
  (∀ c : Dev nD, r.2.mem ((c : Thread nD τ).loc main_v42) = whole m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)) ∧ r.2.sem = fun _ => 0

theorem fq_QC (s' : Phys nD τ sig (Elt F)) (h : ∀ d, fq m d s') (hz : s'.mem.sem = fun _ => 0) : QC m (⟨⟩, s'.mem) := by
  have g (d : Dev nD) (r : Ref sig .tc) (hu : (Proc.devRef (τ := τ) .tc r).isScoped = false) (h0 : r ≠ main_v0) (h1 : r ≠ main_v1) (h2 : r ≠ main_v42)
      (hr : ∀ q : Fin 8, r ∉ five q) : s'.mem.mem ((d : Thread nD τ).loc r) = m ((d : Thread nD τ).loc r) :=
    (h d ⟨_, mem_ucRefs hu⟩).trans (args_end m d r h0 h1 h2 hr)
  exact ⟨fun c => ⟨(h c ⟨_, mem_ucRefs (b := main_v42) rfl⟩).trans (result_end m c),
    g c main_arg0 rfl (by decide) (by decide) (by decide) (by decide), g c main_arg1 rfl (by decide) (by decide) (by decide) (by decide),
    g c main_arg2 rfl (by decide) (by decide) (by decide) (by decide), g c main_arg3 rfl (by decide) (by decide) (by decide) (by decide),
    g c main_arg4 rfl (by decide) (by decide) (by decide) (by decide), g c main_arg5 rfl (by decide) (by decide) (by decide) (by decide)⟩, hz⟩

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq | 3 => nomatch hq | 4 => nomatch hq | 5 => nomatch hq | 6 => nomatch hq | 7 => nomatch hq)
    (fun q _ => tileObl m hpre q)
    (fun q _ => SparseCore.Cfg.VecSplit.of_plain (vecSplit m q))
    m ρ main (fun d => G d) (FIN m) (u₀ (F := F)) (sep_elim_left.trans (hu₀ m)) (hmain m ρ) (fq m) (hfin m) (QC m) (fq_QC m)

end Cert.Embed

end
-- ==== Proof.Frames.lean ====
/-
  What the preconditions say of the arguments, and the frames.
-/
module

public import proofs.«01_k».proof.Proof.Main
public import proofs.«01_k».proof.Proof.Gen.Kernel
public import proofs.«01_k».proof.Proof.Gen.ReferenceIdeal.Run
public import proofs.«01_k».proof.Proof.Gen.Pre_ids_in_range_and_finite
public import proofs.«01_k».proof.Proof.Gen.Pre_ids_in_range
public import Idealize.ShloMosaic.Lib.ReduceAll
public import Idealize.ShloMosaic.Lib.Affine

@[expose] public section

noncomputable section

namespace Cert.Embed

open Idealize.ShloMosaic Idealize.SL.Sem

variable {F : FTy → Type} [FloatOps F]

/-- A word that is at least 0 and less than 30522 as a signed word is less than 30522. -/
theorem word_in_range (v : BitVec 32) (h : IntOp.andi (IntOp.cmpi .sge v 0#32) (IntOp.cmpi .slt v 30522#32) = 1#1) : v.toNat < 30522 := by
  obtain ⟨h1, h2⟩ := IntOp.andi_eq_one.1 h
  have ob (p : Bool) : (BitVec.ofBool p = 1#1) ↔ p = true := by cases p <;> decide
  simp only [IntOp.cmpi, ob, BitVec.sle_eq_decide, BitVec.slt_eq_decide, decide_eq_true_eq, BitVec.toInt_eq_toNat_cond, BitVec.toNat_ofNat,
    Nat.reducePow, Nat.reduceMod] at h1 h2
  omega

/-- The precondition on the indices, read at one of them. -/
theorem range_of_pre {a0 : IVec Cert.Pre_ids_in_range.S1024x512 32} {a1 : FVec F Cert.Pre_ids_in_range.S30522x128 .f32}
    {a2 : FVec F Cert.Pre_ids_in_range.S512x128 .f32} {a3 : FVec F Cert.Pre_ids_in_range.S2x128 .f32}
    {a4 a5 : FVec F Cert.Pre_ids_in_range.S128 .f32} (h : Cert.Pre_ids_in_range.fn a0 a1 a2 a3 a4 a5 = fun _ => 1#1) (j) : (a0 j).toNat < 30522 := by
  have e := congrFun h (fun a => a.elim0)
  dsimp only [Cert.Pre_ids_in_range.fn] at e
  haveI : Subsingleton Cert.Pre_ids_in_range.S_.Idx := ⟨fun a b => funext fun i => i.elim0⟩
  exact word_in_range _ (Host.reduce_andi_all _ _ _ _ _ e j)

theorem ok_kernel (m : (ℓ : Loc Cert.Kernel.nD Cert.Kernel.τ Cert.Kernel.sig) → Buf (Elt Bits) ℓ) (h : Cert.Pre_Kernel m) : PreOK (F := Bits) m :=
  fun d j => range_of_pre (h d) j

theorem ok_ideal (m : (ℓ : Loc Cert.KernelIdeal.nD Cert.KernelIdeal.τ Cert.KernelIdeal.sig) → Buf (Elt Ideal) ℓ) (h : Cert.Pre_KernelIdeal m) :
    PreOK (F := Ideal) m :=
  fun d j => range_of_pre (h d) j

/-! ## The precondition that also asks for finite floats -/

/-- An array whose magnitudes are below the infinity of its format, element by element. -/
def Below {s : Shape} (x : FVec F s .f32) : Prop := ∀ i, FloatOps.cmpf .olt (FloatOps.hostAbsf (x i)) (FloatOps.ofBits .f32 0x7F800000#32) = 1#1

theorem split_pre {a0 : IVec Cert.Pre_ids_in_range_and_finite.S1024x512 32} {a1 : FVec F Cert.Pre_ids_in_range_and_finite.S30522x128 .f32}
    {a2 : FVec F Cert.Pre_ids_in_range_and_finite.S512x128 .f32} {a3 : FVec F Cert.Pre_ids_in_range_and_finite.S2x128 .f32}
    {a4 a5 : FVec F Cert.Pre_ids_in_range_and_finite.S128 .f32} (h : Cert.Pre_ids_in_range_and_finite.fn a0 a1 a2 a3 a4 a5 = fun _ => 1#1) :
    (∀ j, (a0 j).toNat < 30522) ∧ Below a1 ∧ Below a2 ∧ Below a3 ∧ Below a4 := by
  have e := congrFun h (fun a => a.elim0)
  dsimp only [Cert.Pre_ids_in_range_and_finite.fn, Cert.Pre_ids_in_range_and_finite.fn_part1] at e
  haveI : Subsingleton Cert.Pre_ids_in_range_and_finite.S_.Idx := ⟨fun a b => funext fun i => i.elim0⟩
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun j => word_in_range _ (Host.reduce_andi_all _ _ _ _ _ h0 j), fun j => Host.reduce_andi_all _ _ _ _ _ h1 j,
    fun j => Host.reduce_andi_all _ _ _ _ _ h2 j, fun j => Host.reduce_andi_all _ _ _ _ _ h3 j, fun j => Host.reduce_andi_all _ _ _ _ _ h4 j⟩

/-! ## The frames -/

/-- The run read at the arguments and the counters. -/
theorem frame_any [∀ e, Nonempty (Elt F e)] (m : (ℓ : Loc Cert.KernelIdeal.nD Cert.KernelIdeal.τ Cert.KernelIdeal.sig) → Buf (Elt F) ℓ)
    (ρ : Dev Cert.KernelIdeal.nD → PrngReg) (h : PreOK m) :
    θ_run (Cert.KernelIdeal.defs (F := F)) (Cert.KernelIdeal.threads (F := F)) ⟨m, fun _ => 0, ρ⟩ (fun r => (∀ c : Dev Cert.KernelIdeal.nD,
      r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3)
      ∧ r.2.mem (c.tc.loc Cert.KernelIdeal.main_arg4) = m (c.tc.loc Cert.KernelIdeal.main_arg4)
      ∧ r.2.mem (c.tc.loc Cert.KernelIdeal.main_arg5) = m (c.tc.loc Cert.KernelIdeal.main_arg5))
      ∧ r.2.sem = fun _ => 0) :=
  (θ_run Cert.KernelIdeal.defs _ _).mono (fun _ h => ⟨fun c => (h.1 c).2, h.2⟩) (run_main m ρ h)

theorem frame_ideal : Cert.quiescent_KernelIdeal := fun m ρ h => frame_any m ρ (ok_ideal m h)

theorem frame_ideal_finite : Cert.quiescent_KernelIdeal_pre_ids_in_range_and_finite := fun m ρ h =>
  frame_any m ρ (fun d j => (split_pre (h d)).1 j)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_ids_in_range_and_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Embed

end
-- ==== Proof.FrameWords.lean ====
/-
  The frame of the program as it runs on words: the same program, read at the words.
-/
module

public import proofs.«01_k».proof.Proof.Frames

@[expose] public section

noncomputable section

namespace Cert.Embed

open Idealize.ShloMosaic Idealize.SL.Sem

set_option smartUnfolding false in
set_option maxHeartbeats 16000000 in
theorem frame_kernel : Cert.quiescent_Kernel := fun m ρ h => frame_any (F := Bits) m ρ (ok_kernel m h)

end Cert.Embed

end
-- ==== Proof.Norm.lean ====
/-
  One row normalised, over the extended reals: the product form (mean and mean square by sums, the scale by a reciprocal
  root, one multiply and one add per element) against the quotient form (centred, divided by the root of the variance).
-/
module

public import Idealize.ShloMosaic.PureOps.Ideal
public import Idealize.ShloMosaic.PureOps.Ideal.Laws
public import Mathlib.Algebra.BigOperators.Field
public import Mathlib.Algebra.Order.BigOperators.Group.Finset
public import Mathlib.Tactic.FieldSimp
public import Mathlib.Tactic.Ring
public import Mathlib.Tactic.Positivity

@[expose] public section

noncomputable section

namespace Cert.Embed

open Idealize.ShloMosaic

/-- The small term under the root, and the reciprocal of the row's length, as the extended reals their words denote. -/
def small : EReal := Ideal.ofBits .f32 0x2B8CBCCC#32
def share : EReal := Ideal.ofBits .f32 0x3C000000#32
def width : EReal := Ideal.ofBits .f32 0x43000000#32

theorem share_eq : share = ((1 / 128 : ℝ) : EReal) := by
  unfold share; simp [Ideal.ofBits, Ideal.ieee, -EReal.coe_mul]; norm_num
theorem width_eq : width = ((128 : ℝ) : EReal) := by
  unfold width; simp [Ideal.ofBits, Ideal.ieee, -EReal.coe_mul]; norm_num
theorem small_pos : ∃ e : ℝ, 0 < e ∧ small = (e : EReal) := by
  refine ⟨_, ?_, by unfold small; simp only [Ideal.ofBits, Ideal.ieee]; rw [if_neg (by decide), if_neg (by decide)]⟩
  rw [if_neg (by decide)]
  positivity

/-- The product form of a row `x` at place `h`, under the scale `g` and the shift `b`. -/
def prodForm (x : Fin 128 → EReal) (g b : EReal) (h : Fin 128) : EReal :=
  x h * (Ideal.rsqrt ((∑ k, x k * x k) * share - ((∑ k, x k) * share) * ((∑ k, x k) * share) + small) * g)
    + (b - ((∑ k, x k) * share) * (Ideal.rsqrt ((∑ k, x k * x k) * share - ((∑ k, x k) * share) * ((∑ k, x k) * share) + small) * g))

/-- The quotient form. -/
def quotForm (x : Fin 128 → EReal) (g b : EReal) (h : Fin 128) : EReal :=
  Ideal.div (x h - Ideal.div (∑ k, x k) width)
      (Ideal.sqrt (Ideal.div (∑ k, (x k - Ideal.div (∑ k, x k) width) * (x k - Ideal.div (∑ k, x k) width)) width + small)) * g + b

theorem coe_total {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The mean of the squares less the square of the mean is the mean of the squared deviations. -/
theorem spread_eq (r : Fin 128 → ℝ) :
    (∑ k, r k * r k) * (1 / 128) - ((∑ k, r k) * (1 / 128)) * ((∑ k, r k) * (1 / 128))
      = (∑ k, (r k - (∑ k, r k) * (1 / 128)) * (r k - (∑ k, r k) * (1 / 128))) * (1 / 128) := by
  have h (μ : ℝ) : ∑ k : Fin 128, (r k - μ) * (r k - μ) = (∑ k, r k * r k) - 2 * μ * (∑ k, r k) + 128 * (μ * μ) := by
    have e : ∀ k : Fin 128, (r k - μ) * (r k - μ) = r k * r k - 2 * μ * r k + μ * μ := fun k => by ring
    simp only [e, Finset.sum_add_distrib, Finset.sum_sub_distrib, ← Finset.mul_sum, Finset.sum_const, Finset.card_univ, Fintype.card_fin, nsmul_eq_mul]
    norm_num
    ring
  rw [h]
  ring

/-- The two forms agree on a row of reals, under a real scale and any shift. -/
theorem forms_eq (r : Fin 128 → ℝ) (γ : ℝ) (b : EReal) (h : Fin 128) :
    prodForm (fun k => ((r k : ℝ) : EReal)) (γ : EReal) b h = quotForm (fun k => ((r k : ℝ) : EReal)) (γ : EReal) b h := by
  obtain ⟨e, he, hs⟩ := small_pos
  unfold prodForm quotForm
  rw [share_eq, width_eq, hs]
  simp only [Ideal.div_coe (show (128 : ℝ) ≠ 0 by norm_num), ← EReal.coe_mul, ← coe_total, ← EReal.coe_sub, ← EReal.coe_add]
  rw [spread_eq]
  generalize hV : (∑ k, (r k - (∑ k, r k) * (1 / 128)) * (r k - (∑ k, r k) * (1 / 128))) * (1 / 128) = V
  have hV0 : 0 ≤ V := by
    rw [← hV]
    exact mul_nonneg (Finset.sum_nonneg fun k _ => mul_self_nonneg _) (by norm_num)
  have hp : 0 < V + e := by linarith
  have hq : Real.sqrt (V + e) ≠ 0 := (Real.sqrt_pos.2 hp).ne'
  rw [Ideal.rsqrt_coe, Ideal.sqrt_coe, if_neg (by linarith), if_neg hp.ne', if_neg (by linarith), Ideal.div_coe hq]
  simp only [← EReal.coe_mul]
  rw [sub_eq_add_neg b, ← EReal.coe_neg, add_comm b, ← add_assoc, ← EReal.coe_add]
  congr 2
  rw [one_div]
  ring

end Cert.Embed

end
-- ==== Proof.RefValue.lean ====
/-
  The reference's result, read at one element: the row of the summed embeddings, in its quotient form.
-/
module

public import proofs.«01_k».proof.Proof.Gen.ReferenceIdeal.Run
public import proofs.«01_k».proof.Proof.Norm
public import Idealize.ShloMosaic.Lib.ValueIdxCore
public import Idealize.ShloMosaic.Lib.IdealHost
public import Idealize.ShloMosaic.Lib.WordCmp
public import Idealize.ShloMosaic.Lib.ReduceAll
public import Idealize.ShloMosaic.Lib.Routing.Ops
public import Idealize.ShloMosaic.Lib.Routing.OpsPair
public import Idealize.ShloMosaic.Lib.Pipeline.Value
public import Idealize.ShloMosaic.Lib.Tactic

@[expose] public section

noncomputable section

namespace Cert.Plain

open Cert.ReferenceIdeal Cert.ReferenceIdeal.Gen
open Idealize.ShloMosaic Idealize.ShloMosaic.ValueIdx Idealize.SL.Sem

variable {F : FTy → Type} [FloatOps F]

/-! ## Taking rows by index words -/

/-- The index words as the take reads them: one further axis, and the negative ones moved up by the table's length. -/
def wrapped (n : BitVec 32) (ids : IVec S1024x512 32) : IVec S1024x512x1 32 :=
  broadcastInDim S1024x512x1 ![0, 1] bcast_S1024x512_S1024x512x1_0_1
    (select (cmpi .slt ids (broadcastInDim S1024x512 ![] bcast_S_S1024x512 (constantI S_ 32 0#32)))
      (addi ids (broadcastInDim S1024x512 ![] bcast_S_S1024x512 (constantI S_ 32 n))) ids)

/-- Whether the index word of an element's row is in the table. -/
def inTable (n last : BitVec 32) (ids : IVec S1024x512 32) : IVec S1024x512 1 :=
  Host.reduce IntOp.andi (andi (cmpi .sge (wrapped n ids) (broadcastInDim S1024x512x1 ![] bcast_S_S1024x512x1 (constantI S_ 32 0#32)))
    (cmpi .sle (wrapped n ids) (broadcastInDim S1024x512x1 ![0, 1, 2] bcast_S1x1x1_S1024x512x1_0_1_2
      (broadcastInDim S1x1x1 ![2] bcast_S1_S1x1x1_2 (constantI S1 32 last))))) (constantI S_ 1 1#1) reducesTo_S1024x512x1_S1024x512_d2 h_S_

/-- The take: the gathered rows where the index word is in the table, a fixed word elsewhere. -/
def taken {N : ℕ} (d : GatherDims ⟨2, ![N, 128]⟩ S1024x512x1 S1024x512x128) (n last : BitVec 32) (tab : FVec F ⟨2, ![N, 128]⟩ .f32)
    (ids : IVec S1024x512 32) : FVec F S1024x512x128 .f32 :=
  select (broadcastInDim S1024x512x128 ![0, 1] bcast_S1024x512_S1024x512x128_0_1 (inTable n last ids))
    (Host.gather d tab (wrapped n ids)) (broadcastInDim S1024x512x128 ![] bcast_S_S1024x512x128 (constant S_ .f32 0x7FC00000#32))

/-- The same for the positions, whose index words are the numbers of the rows. -/
def wrapped1 : IVec S512x1 32 :=
  broadcastInDim S512x1 ![0] bcast_S512_S512x1_0
    (select (cmpi .slt (iotaInDim S512 32 0) (broadcastInDim S512 ![] bcast_S_S512 (constantI S_ 32 0#32)))
      (addi (iotaInDim S512 32 0) (broadcastInDim S512 ![] bcast_S_S512 (constantI S_ 32 512#32))) (iotaInDim S512 32 0))

def inTable1 : IVec S512 1 :=
  Host.reduce IntOp.andi (andi (cmpi .sge wrapped1 (broadcastInDim S512x1 ![] bcast_S_S512x1 (constantI S_ 32 0#32)))
    (cmpi .sle wrapped1 (broadcastInDim S512x1 ![0, 1] bcast_S1x1_S512x1_0_1 (broadcastInDim S1x1 ![1] bcast_S1_S1x1_1 (constantI S1 32 511#32)))))
    (constantI S_ 1 1#1) reducesTo_S512x1_S512_d1 h_S_

def taken1 (tab : FVec F S512x128 .f32) : FVec F S512x128 .f32 :=
  select (broadcastInDim S512x128 ![0] bcast_S512_S512x128_0 inTable1)
    (Host.gather gather_S512x128_S512x1_S512x128_1_0_n_n_0_1_1128 tab wrapped1) (broadcastInDim S512x128 ![] bcast_S_S512x128 (constant S_ .f32 0x7FC00000#32))

/-! ## The reference in its parts -/

/-- The summed embeddings. -/
def summed (A0 : IVec S1024x512 32) (A1 : FVec F S30522x128 .f32) (A2 : FVec F S512x128 .f32) (A3 : FVec F S2x128 .f32) : FVec F S1024x512x128 .f32 :=
  addf (addf (taken gather_S30522x128_S1024x512x1_S1024x512x128_2_0_n_n_0_2_1128 30522#32 30521#32 A1 A0)
      (broadcastInDim S1024x512x128 ![0, 1, 2] bcast_S1x512x128_S1024x512x128_0_1_2 (broadcastInDim S1x512x128 ![1, 2] bcast_S512x128_S1x512x128_1_2 (taken1 A2))))
    (taken gather_S2x128_S1024x512x1_S1024x512x128_2_0_n_n_0_2_1128 2#32 1#32 A3 (broadcastInDim S1024x512 ![] bcast_S_S1024x512 (constantI S_ 32 0#32)))

/-- The sum over the last axis. -/
def total (x : FVec F S1024x512x128 .f32) : FVec F S1024x512 .f32 :=
  Host.reduceAdd x (constant S_ .f32 0x00000000#32) reducesTo_S1024x512x128_S1024x512_d2 h_S_

/-- The mean over the last axis, that axis kept at length one. -/
def mean (x : FVec F S1024x512x128 .f32) : FVec F S1024x512x1 .f32 :=
  Host.divf (broadcastInDim S1024x512x1 ![0, 1] bcast_S1024x512_S1024x512x1_0_1 (total x))
    (broadcastInDim S1024x512x1 ![] bcast_S_S1024x512x1 (constant S_ .f32 0x43000000#32))

def along (x : FVec F S1024x512x1 .f32) : FVec F S1024x512x128 .f32 :=
  broadcastInDim S1024x512x128 ![0, 1, 2] bcast_S1024x512x1_S1024x512x128_0_1_2 x

def centred (x : FVec F S1024x512x128 .f32) : FVec F S1024x512x128 .f32 := subf x (along (mean x))

def lastAxis (g : FVec F S128 .f32) : FVec F S1024x512x128 .f32 :=
  broadcastInDim S1024x512x128 ![0, 1, 2] bcast_S1x1x128_S1024x512x128_0_1_2 (broadcastInDim S1x1x128 ![2] bcast_S128_S1x1x128_2 g)

/-- The root of the variance and the small literal. -/
def spread (x : FVec F S1024x512x128 .f32) : FVec F S1024x512x1 .f32 :=
  Host.sqrt (addf (mean (mulf (centred x) (centred x))) (broadcastInDim S1024x512x1 ![] bcast_S_S1024x512x1 (constant S_ .f32 0x2B8CBCCC#32)))

def normed (x : FVec F S1024x512x128 .f32) (g b : FVec F S128 .f32) : FVec F S1024x512x128 .f32 :=
  addf (mulf (Host.divf (centred x)
      (along (spread x)))
    (lastAxis g)) (lastAxis b)

set_option maxRecDepth 8192 in
theorem result_eq (m : (ℓ : Loc nD τ sig) → Buf (Elt F) ℓ) (c : Dev nD) :
    Cert.ReferenceIdeal.Value.res_main_v32 m c
      = normed (summed (m ((c.tc : Thread nD τ).loc main_arg0)) (m ((c.tc : Thread nD τ).loc main_arg1)) (m ((c.tc : Thread nD τ).loc main_arg2))
          (m ((c.tc : Thread nD τ).loc main_arg3))) (m ((c.tc : Thread nD τ).loc main_arg4)) (m ((c.tc : Thread nD τ).loc main_arg5)) := by
  unfold Cert.ReferenceIdeal.Value.res_main_v32
  rfl

/-! ## A take read at an element -/

/-- A gather of rows by an array of index words, at one element: the row the word names, read signed and held within the table. -/
theorem gather_at {α : Type} {N : ℕ} (hN : 0 < N) (wf : GatherDims.WF ⟨2, ![N, 128]⟩ S1024x512x1 S1024x512x128 [2] [0] [] [0] [] 2 ![1, 128])
    (x : (⟨2, ![N, 128]⟩ : Shape).Idx → α) (idx : IVec S1024x512x1 32) (b : Fin 1024) (s : Fin 512) (h : Fin 128) :
    Host.gather (⟨[2], [0], [], [], [0], 2, ![1, 128], wf⟩ : GatherDims ⟨2, ![N, 128]⟩ S1024x512x1 S1024x512x128) x idx (ix3 b s h)
      = x (ix2 ⟨min (idx (ix3 b s (0 : Fin 1))).toInt.toNat (N - 1), by omega⟩ h) := by
  unfold Host.gather
  congr 1
  funext a
  refine Fin.ext ?_
  generalize hd : (⟨[2], [0], [], [], [0], 2, ![1, 128], wf⟩ : GatherDims ⟨2, ![N, 128]⟩ S1024x512x1 S1024x512x128) = d
  show d.start (ix3 b s h) idx a + d.batchCoord (ix3 b s h) a + d.offCoord (ix3 b s h) a = _
  subst hd
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ ([0] : List (Fin 2)) by decide)).trans ?_
    refine congrArg (fun i => min (idx i).toInt.toNat (N - 1)) (funext fun b' => Fin.ext ?_)
    match b' with
    | ⟨0, _⟩ => rfl
    | ⟨1, _⟩ => rfl
    | ⟨2, _⟩ => rfl
  | ⟨1, _⟩ =>
    unfold GatherDims.start
    refine (congrArg₂ Nat.add (dif_neg (show (1 : Fin 2) ∉ ([0] : List (Fin 2)) by decide)) rfl).trans ?_
    exact (Nat.zero_add _).trans rfl

theorem wrapped_at (n : BitVec 32) (ids : IVec S1024x512 32) (b : Fin 1024) (s : Fin 512) (u : Fin 1) (h : (ids (ix2 b s)).toNat < 2 ^ 31) :
    wrapped n ids (ix3 b s u) = ids (ix2 b s) := by
  unfold wrapped
  rw [broadcastInDim_apply (k := ix2 b s) (hk := fun a => by match a with | 0 => rfl | 1 => rfl)]
  exact Routing.wrap_of_lt _ _ h

theorem select_eq_first {α : Type} {σ : Shape} (c : IVec σ 1) (x y : σ.Idx → α) (j : σ.Idx) (h : c j = 1#1) : select c x y j = x j := by
  show Scalar.select (c j) (x j) (y j) = x j
  rw [h]; rfl

theorem bit_of {p : Bool} (hp : p = true) : BitVec.ofBool p = 1#1 := by subst hp; rfl

theorem inTable_at {N : ℕ} (hN : 0 < N) (hN' : N < 2 ^ 31) (n : BitVec 32) (ids : IVec S1024x512 32) (hin : ∀ j, (ids j).toNat < N) (j : S1024x512.Idx) :
    inTable n (BitVec.ofNat 32 (N - 1)) ids j = 1#1 := by
  unfold inTable
  refine Host.reduce_andi_one _ _ _ _ _ rfl (fun i => ?_)
  obtain ⟨b, s, u, rfl⟩ : ∃ (b : Fin 1024) (s : Fin 512) (u : Fin 1), i = ix3 b s u :=
    ⟨i 0, i 1, i 2, funext fun a => by match a with | 0 => rfl | 1 => rfl | 2 => rfl⟩
  have h2 := hin (ix2 b s)
  refine IntOp.andi_eq_one.2 ⟨?_, ?_⟩
  · show IntOp.cmpi .sge (wrapped n ids (ix3 b s u)) 0#32 = 1#1
    rw [wrapped_at _ _ _ _ _ (by omega)]
    refine bit_of ?_
    simp only [BitVec.sle_eq_decide, decide_eq_true_eq, BitVec.toInt_eq_toNat_of_lt (show 2 * (ids (ix2 b s)).toNat < 2 ^ 32 by omega)]
    simp
  · show IntOp.cmpi .sle (wrapped n ids (ix3 b s u)) (BitVec.ofNat 32 (N - 1)) = 1#1
    rw [wrapped_at _ _ _ _ _ (by omega)]
    refine bit_of ?_
    have e : (BitVec.ofNat 32 (N - 1)).toNat = N - 1 := by rw [BitVec.toNat_ofNat]; exact Nat.mod_eq_of_lt (by omega)
    simp only [BitVec.sle_eq_decide, decide_eq_true_eq, BitVec.toInt_eq_toNat_of_lt (show 2 * (ids (ix2 b s)).toNat < 2 ^ 32 by omega),
      BitVec.toInt_eq_toNat_of_lt (show 2 * (BitVec.ofNat 32 (N - 1)).toNat < 2 ^ 32 by omega), e]
    omega

/-- A take at an element, every index word in the table. -/
theorem taken_at {N : ℕ} (hN : 0 < N) (hN' : N < 2 ^ 31) (wf : GatherDims.WF ⟨2, ![N, 128]⟩ S1024x512x1 S1024x512x128 [2] [0] [] [0] [] 2 ![1, 128])
    (n : BitVec 32) (tab : FVec F ⟨2, ![N, 128]⟩ .f32) (ids : IVec S1024x512 32) (hin : ∀ j, (ids j).toNat < N) (b : Fin 1024) (s : Fin 512) (h : Fin 128) :
    taken ⟨[2], [0], [], [], [0], 2, ![1, 128], wf⟩ n (BitVec.ofNat 32 (N - 1)) tab ids (ix3 b s h) = tab (ix2 ⟨(ids (ix2 b s)).toNat, hin _⟩ h) := by
  have h2 := hin (ix2 b s)
  unfold taken
  rw [select_eq_first, gather_at hN]
  · refine congrArg tab (funext fun a => Fin.ext ?_)
    match a with
    | ⟨0, _⟩ =>
      show min (wrapped n ids (ix3 b s (0 : Fin 1))).toInt.toNat (N - 1) = (ids (ix2 b s)).toNat
      rw [wrapped_at _ _ _ _ _ (by omega), BitVec.toInt_eq_toNat_of_lt (by omega), Int.toNat_natCast]; omega
    | ⟨1, _⟩ => rfl
  · rw [broadcastInDim_apply (k := ix2 b s) (hk := fun a => by match a with | 0 => rfl | 1 => rfl)]
    exact inTable_at hN hN' n ids hin _

theorem wrapped1_at (s : Fin 512) (u : Fin 1) : wrapped1 (ix2 s u) = BitVec.ofNat 32 s.val := by
  unfold wrapped1
  rw [broadcastInDim_apply (k := ix1 s) (hk := fun a => by match a with | 0 => rfl)]
  refine Routing.wrap_of_lt _ _ ?_
  show (BitVec.ofNat 32 s.val).toNat < 2 ^ 31
  rw [BitVec.toNat_ofNat]; have := s.isLt; omega

theorem inTable1_at (j : S512.Idx) : inTable1 j = 1#1 := by
  unfold inTable1
  refine Host.reduce_andi_one _ _ _ _ _ rfl (fun i => ?_)
  obtain ⟨s, u, rfl⟩ : ∃ (s : Fin 512) (u : Fin 1), i = ix2 s u :=
    ⟨i 0, i 1, funext fun a => by match a with | 0 => rfl | 1 => rfl⟩
  have hs := s.isLt
  have e : (BitVec.ofNat 32 s.val).toNat = s.val := by rw [BitVec.toNat_ofNat]; omega
  refine IntOp.andi_eq_one.2 ⟨?_, ?_⟩
  · show IntOp.cmpi .sge (wrapped1 (ix2 s u)) 0#32 = 1#1
    rw [wrapped1_at]
    refine bit_of ?_
    simp only [BitVec.sle_eq_decide, decide_eq_true_eq, BitVec.toInt_eq_toNat_of_lt (show 2 * (BitVec.ofNat 32 s.val).toNat < 2 ^ 32 by omega), e]
    simp
  · show IntOp.cmpi .sle (wrapped1 (ix2 s u)) 511#32 = 1#1
    rw [wrapped1_at]
    refine bit_of ?_
    simp only [BitVec.sle_eq_decide, decide_eq_true_eq, BitVec.toInt_eq_toNat_of_lt (show 2 * (BitVec.ofNat 32 s.val).toNat < 2 ^ 32 by omega), e]
    have : (511#32).toInt = 511 := by decide
    omega

theorem taken1_at (tab : FVec F S512x128 .f32) (s : Fin 512) (h : Fin 128) : taken1 tab (ix2 s h) = tab (ix2 s h) := by
  unfold taken1
  rw [select_eq_first]
  · exact Routing.gather_row gather_S512x128_S512x1_S512x128_1_0_n_n_0_1_1128 rfl rfl rfl rfl rfl tab wrapped1 s h s (wrapped1_at s 0) (by norm_num)
  · rw [broadcastInDim_apply (k := ix1 s) (hk := fun a => by match a with | 0 => rfl)]
    exact inTable1_at _

/-- The summed embeddings at an element. -/
theorem summed_at (A0 : IVec S1024x512 32) (A1 : FVec F S30522x128 .f32) (A2 : FVec F S512x128 .f32) (A3 : FVec F S2x128 .f32)
    (hin : ∀ j, (A0 j).toNat < 30522) (b : Fin 1024) (s : Fin 512) (h : Fin 128) :
    summed A0 A1 A2 A3 (ix3 b s h)
      = FloatOps.addf (FloatOps.addf (A1 (ix2 ⟨(A0 (ix2 b s)).toNat, hin _⟩ h)) (A2 (ix2 s h))) (A3 (ix2 (0 : Fin 2) h)) := by
  unfold summed
  refine congrArg₂ FloatOps.addf (congrArg₂ FloatOps.addf ?_ ?_) ?_
  · exact taken_at (N := 30522) (by norm_num) (by norm_num) _ _ A1 A0 hin b s h
  · rw [broadcastInDim_apply (k := ix3 (0 : Fin 1) s h) (hk := fun a => by match a with | 0 => rfl | 1 => rfl | 2 => rfl),
      broadcastInDim_apply (k := ix2 s h) (hk := fun a => by match a with | 0 => rfl | 1 => rfl), taken1_at]
  · refine taken_at (N := 2) (by norm_num) (by norm_num) _ _ A3 _ (fun j => ?_) b s h

/-! ## The normalisation read at an element, over the extended reals -/

theorem total_at (x : FVec Ideal S1024x512x128 .f32) (b : Fin 1024) (s : Fin 512) :
    total x (ix2 b s) = ∑ k : Fin 128, x (ix3 b s k) := by
  unfold total
  rw [hostReduceAdd_apply, Ideal.hostReduceAdd_single _ (by decide : S1024x512x128.Reduces [2] S1024x512)]
  show Ideal.ofBits .f32 0x00000000#32 + _ = _
  rw [Ideal.ofBits_zero_f32, zero_add]
  refine Finset.sum_congr rfl fun k _ => congrArg x (funext fun a => Fin.ext ?_)
  match a with
  | 0 => rfl
  | 1 => rfl
  | 2 => rfl

theorem mean_at (x : FVec Ideal S1024x512x128 .f32) (b : Fin 1024) (s : Fin 512) (u : Fin 1) :
    mean x (ix3 b s u) = Ideal.div (∑ k : Fin 128, x (ix3 b s k)) Cert.Embed.width := by
  have e : broadcastInDim S1024x512x1 ![0, 1] bcast_S1024x512_S1024x512x1_0_1 (total x) (ix3 b s u) = total x (ix2 b s) :=
    broadcastInDim_apply _ _ _ _ _ (fun a => by match a with | 0 => rfl | 1 => rfl)
  exact congrArg₂ Ideal.div (e.trans (total_at x b s)) rfl

theorem along_at (x : FVec F S1024x512x1 .f32) (b : Fin 1024) (s : Fin 512) (h : Fin 128) : along x (ix3 b s h) = x (ix3 b s (0 : Fin 1)) := by
  unfold along
  rw [broadcastInDim_apply (k := ix3 b s (0 : Fin 1)) (hk := fun a => by match a with | 0 => rfl | 1 => rfl | 2 => rfl)]

theorem lastAxis_at (g : FVec F S128 .f32) (b : Fin 1024) (s : Fin 512) (h : Fin 128) : lastAxis g (ix3 b s h) = g (ix1 h) := by
  unfold lastAxis
  rw [broadcastInDim_apply (k := ix3 (0 : Fin 1) (0 : Fin 1) h) (hk := fun a => by match a with | 0 => rfl | 1 => rfl | 2 => rfl),
    broadcastInDim_apply (k := ix1 h) (hk := fun a => by match a with | 0 => rfl)]

theorem centred_at (x : FVec Ideal S1024x512x128 .f32) (b : Fin 1024) (s : Fin 512) (h : Fin 128) :
    centred x (ix3 b s h) = x (ix3 b s h) - Ideal.div (∑ k : Fin 128, x (ix3 b s k)) Cert.Embed.width := by
  unfold centred
  show x (ix3 b s h) - along (mean x) (ix3 b s h) = _
  rw [along_at, mean_at]

theorem normed_at (x : FVec Ideal S1024x512x128 .f32) (g β : FVec Ideal S128 .f32) (b : Fin 1024) (s : Fin 512) (h : Fin 128) :
    normed x g β (ix3 b s h) = Cert.Embed.quotForm (fun k => x (ix3 b s k)) (g (ix1 h)) (β (ix1 h)) h := by
  unfold normed Cert.Embed.quotForm
  show Ideal.div (centred x (ix3 b s h)) (along (spread x) (ix3 b s h)) * lastAxis g (ix3 b s h) + lastAxis β (ix3 b s h) = _
  rw [along_at, lastAxis_at, lastAxis_at, centred_at]
  show Ideal.div _ (Ideal.sqrt (mean (mulf (centred x) (centred x)) (ix3 b s (0 : Fin 1)) + Cert.Embed.small)) * _ + _ = _
  rw [mean_at]
  have e (k : Fin 128) : mulf (centred x) (centred x) (ix3 b s k)
      = (x (ix3 b s k) - Ideal.div (∑ k : Fin 128, x (ix3 b s k)) Cert.Embed.width) * (x (ix3 b s k) - Ideal.div (∑ k : Fin 128, x (ix3 b s k)) Cert.Embed.width) := by
    show centred x (ix3 b s k) * centred x (ix3 b s k) = _
    rw [centred_at]
  simp only [e]

end Cert.Plain

end
-- ==== Proof.KerValue.lean ====
/-
  The kernel's result, read at one element: the row of the summed embeddings, in its product form.
-/
module

public import proofs.«01_k».proof.Proof.Chain
public import proofs.«01_k».proof.Proof.Norm
public import Idealize.ShloMosaic.Lib.ValueIdxCore
public import Idealize.ShloMosaic.Lib.IdealHost
public import Idealize.ShloMosaic.Lib.Pipeline.Value
public import Idealize.ShloMosaic.Lib.Pointwise
public import Idealize.ShloMosaic.Lib.Tactic

@[expose] public section

noncomputable section

namespace Cert.Embed

open Cert.KernelIdeal Cert.KernelIdeal.Gen
open Idealize.ShloMosaic
open Idealize.ShloMosaic.TcCoe
open Idealize.SL.Sem

variable {F : FTy → Type} [FloatOps F]

/-! ## The eight chunks end to end -/

theorem chunks_at {α : Type} (f : Fin 8 → S128x512x128.Idx → α) (q : Fin 8) (r : Fin 128) (s : Fin 512) (k : Fin 128) (j : S1024x512x128.Idx)
    (h0 : (j 0).val = 128 * q.val + r.val) (h1 : j 1 = s) (h2 : j 2 = k) :
    concatenate S1024x512x128 0 [⟨S128x512x128, f 0⟩, ⟨S128x512x128, f 1⟩, ⟨S128x512x128, f 2⟩, ⟨S128x512x128, f 3⟩,
      ⟨S128x512x128, f 4⟩, ⟨S128x512x128, f 5⟩, ⟨S128x512x128, f 6⟩, ⟨S128x512x128, f 7⟩]
      concatenates_S128x512x128_S128x512x128_S128x512x128_S128x512x128_S128x512x128_S128x512x128_S128x512x128_S128x512x128_S1024x512x128_d0 j = f q (at128 r s k) := by
  subst h1 h2
  have hr := r.isLt
  have at128_eq (n : ℕ) (hn : n < 128) (e : n = r.val) : (ix3 (⟨n, hn⟩ : Fin 128) (j 1) (j 2) : S128x512x128.Idx) = at128 r (j 1) (j 2) := by
    subst e
    funext a
    match a with
    | 0 => rfl
    | 1 => rfl
    | 2 => rfl
  have hq := q.isLt
  pointwise
  repeat' split
  all_goals
    first
    | (have hv : q.val = 0 := by omega
       rw [show q = 0 from Fin.ext hv]; exact congrArg (f 0) (at128_eq _ _ (by omega)))
    | (have hv : q.val = 1 := by omega
       rw [show q = 1 from Fin.ext hv]; exact congrArg (f 1) (at128_eq _ _ (by omega)))
    | (have hv : q.val = 2 := by omega
       rw [show q = 2 from Fin.ext hv]; exact congrArg (f 2) (at128_eq _ _ (by omega)))
    | (have hv : q.val = 3 := by omega
       rw [show q = 3 from Fin.ext hv]; exact congrArg (f 3) (at128_eq _ _ (by omega)))
    | (have hv : q.val = 4 := by omega
       rw [show q = 4 from Fin.ext hv]; exact congrArg (f 4) (at128_eq _ _ (by omega)))
    | (have hv : q.val = 5 := by omega
       rw [show q = 5 from Fin.ext hv]; exact congrArg (f 5) (at128_eq _ _ (by omega)))
    | (have hv : q.val = 6 := by omega
       rw [show q = 6 from Fin.ext hv]; exact congrArg (f 6) (at128_eq _ _ (by omega)))
    | (have hv : q.val = 7 := by omega
       rw [show q = 7 from Fin.ext hv]; exact congrArg (f 7) (at128_eq _ _ (by omega)))

/-! ## A block normalised -/

/-- A block of 8 sequences, normalised and read at an element. -/
theorem lnBlock_at (x : Vec Ideal S8x512x128 .f32) (p : Vec Ideal S512x128 .f32) (t : Vec Ideal S2x128 .f32) (g b : Vec Ideal S1x128 .f32)
    (a : Fin 8) (s : Fin 512) (h : Fin 128) :
    lnBlock x p t g b (ix3 a s h)
      = prodForm (fun k => x (ix3 a s k) + p (ix2 s k) + t (ix2 (0 : Fin 2) k)) (g (ix2 (0 : Fin 1) h)) (b (ix2 (0 : Fin 1) h)) h := by
  unfold lnBlock k1_pay1 k1_pay2 prodForm
  pointwise
  rfl

theorem at8_eq (a : Fin 8) (s : Fin 512) (h : Fin 128) : at8 a s h = ix3 a s h := by
  funext e
  match e with
  | 0 => rfl
  | 1 => rfl
  | 2 => rfl

/-! ## The result -/

variable (m : (ℓ : Loc nD τ sig) → Buf (Elt F) ℓ)

/-- The gathered rows of a chunk, as a block of it takes them: the row of the table that the sequence's id names. -/
theorem got_at (hpre : PreOK m) (d : Dev nD) (q : Fin 8) (r : Fin 128) (s : Fin 512) (k : Fin 128) (b : Fin 1024) (hb : b.val = 128 * q.val + r.val) :
    blockOf (shapeCast S128x512x128 (got m d q) shapeCasts_S65536x128_S128x512x128) r (ix3 (⟨r.val % 8, Nat.mod_lt _ (by decide)⟩ : Fin 8) s k)
      = tab₀ m d (ix2 ⟨(ids₀ m d (ix2 b s)).toNat, hpre d _⟩ k) := by
  have hr := r.isLt
  have hs := s.isLt
  have hk := k.isLt
  unfold blockOf
  have e1 : (at128 ⟨8 * (r.val / 8) + r.val % 8, by omega⟩ s k : S128x512x128.Idx) = ix3 r s k := by
    funext e
    match e with
    | 0 => exact Fin.ext (by show 8 * (r.val / 8) + r.val % 8 = r.val; omega)
    | 1 => rfl
    | 2 => rfl
  refine (congrArg (shapeCast S128x512x128 (got m d q) shapeCasts_S65536x128_S128x512x128) e1).trans ?_
  rw [shapeCast_apply _ _ (ix3 r s k) (ix2 (⟨512 * r.val + s.val, by omega⟩ : Fin 65536) k)
    (by
      rw [rowMajor_val2 _ 128 rfl, rowMajor_val3 _ 65536 128 rfl rfl]
      show (512 * r.val + s.val) * 128 + k.val = r.val * 65536 + s.val * 128 + k.val
      omega)]
  unfold got gathered
  have e2 : rows q (ids₀ m d) (Shape.pair (0 : Fin 1) (⟨512 * r.val + s.val, by omega⟩ : Fin 65536)) = ids₀ m d (ix2 b s) := by
    unfold rows
    refine congrArg (ids₀ m d) (funext fun a => Fin.ext ?_)
    match a with
    | 0 => show 128 * q.val + (512 * r.val + s.val) / 512 = b.val; omega
    | 1 => show (512 * r.val + s.val) % 512 = s.val; omega
  refine congrArg (tab₀ m d) (funext fun a => Fin.ext ?_)
  match a with
  | 0 =>
    show (rows q (ids₀ m d) (Shape.pair (0 : Fin 1) (⟨512 * r.val + s.val, by omega⟩ : Fin 65536))).toNat % 30522 = (ids₀ m d (ix2 b s)).toNat
    rw [e2]; exact Nat.mod_eq_of_lt (hpre d _)
  | 1 => rfl

theorem one_row {α : Type} (x : S128.Idx → α) (h : Fin 128) : shapeCast S1x128 x shapeCasts_S128_S1x128 (ix2 (0 : Fin 1) h) = x (ix1 h) :=
  shapeCast_apply _ _ _ _ (by
    rw [rowMajor_val2 _ 128 rfl, rowMajor_val1]
    show h.val = 0 * 128 + h.val
    omega)

/-- The kernel's result at an element. -/
theorem whole_at (m : (ℓ : Loc nD τ sig) → Buf (Elt Ideal) ℓ) (hpre : PreOK m) (d : Dev nD) (b : Fin 1024) (s : Fin 512) (h : Fin 128) :
    whole m d (ix3 b s h)
      = prodForm (fun k => (tab₀ m d (ix2 ⟨(ids₀ m d (ix2 b s)).toNat, hpre d _⟩ k) : EReal) + (m ((d : Thread nD τ).loc main_arg2) (ix2 s k) : EReal)
            + (m ((d : Thread nD τ).loc main_arg3) (ix2 (0 : Fin 2) k) : EReal))
          (m ((d : Thread nD τ).loc main_arg4) (ix1 h)) (m ((d : Thread nD τ).loc main_arg5) (ix1 h)) h := by
  have hb := b.isLt
  have hbq : b.val = 128 * (b.val / 128) + b.val % 128 := by omega
  unfold whole
  rw [chunks_at (outAt m d) ⟨b.val / 128, by omega⟩ ⟨b.val % 128, by omega⟩ s h _ hbq rfl rfl]
  unfold outAt lnAll
  show lnBlock _ _ _ _ _ (at8 ⟨b.val % 128 % 8, _⟩ s h) = _
  rw [at8_eq, lnBlock_at]
  have e4 : gam m d (ix2 (0 : Fin 1) h) = m ((d : Thread nD τ).loc main_arg4) (ix1 h) := one_row _ h
  have e5 : bet m d (ix2 (0 : Fin 1) h) = m ((d : Thread nD τ).loc main_arg5) (ix1 h) := one_row _ h
  rw [e4, e5]
  refine congrArg (fun f => prodForm f _ _ h) (funext fun k => ?_)
  refine congrArg (fun w : EReal => w + _ + _) ?_
  exact got_at m hpre d ⟨b.val / 128, by omega⟩ ⟨b.val % 128, by omega⟩ s k b hbq

end Cert.Embed

end
-- ==== Proof.Equal.lean ====
/-
  The kernel's result is the reference's, over the extended reals.
-/
module

public import proofs.«01_k».proof.Proof.Frames
public import proofs.«01_k».proof.Proof.RefValue
public import proofs.«01_k».proof.Proof.KerValue

@[expose] public section

noncomputable section

namespace Cert.Embed

open Idealize.ShloMosaic Idealize.SL.Sem

/-- An extended real whose magnitude is below the infinity of the format is a real. -/
theorem real_of_below {s : Shape} {x : FVec Ideal s .f32} (h : Below x) (i : s.Idx) : ∃ r : ℝ, (x i : EReal) = (r : EReal) := by
  have e : Ideal.cmp .olt (max (x i : EReal) (-(x i : EReal))) (Ideal.ofBits .f32 0x7F800000#32) = 1#1 := h i
  have top : Ideal.ofBits .f32 0x7F800000#32 = (⊤ : EReal) := by simp [Ideal.ofBits, Ideal.ieee]
  rw [top] at e
  have hlt : max (x i : EReal) (-(x i : EReal)) < ⊤ := by
    by_contra hc
    have : Ideal.cmp .olt (max (x i : EReal) (-(x i : EReal))) ⊤ = BitVec.ofBool (decide (max (x i : EReal) (-(x i : EReal)) < ⊤)) := rfl
    rw [this, decide_eq_false hc] at e
    exact absurd e (by decide)
  obtain ⟨h1, h2⟩ := max_lt_iff.1 hlt
  have hb : (x i : EReal) ≠ ⊥ := fun hx => by rw [hx] at h2; exact absurd h2 (by simp)
  exact ⟨(x i : EReal).toReal, (EReal.coe_toReal h1.ne hb).symm⟩

/-- The two results at one element. -/
theorem same_at (x : Fin 128 → EReal) (g b : EReal) (hx : ∀ k, ∃ r : ℝ, x k = (r : EReal)) (hg : ∃ r : ℝ, g = (r : EReal)) (h : Fin 128) :
    prodForm x g b h = quotForm x g b h := by
  choose r hr using hx
  obtain ⟨γ, rfl⟩ := hg
  rw [show x = fun k => ((r k : ℝ) : EReal) from funext hr]
  exact forms_eq r γ b h

/-- The kernel's result is the reference's normal form of the same arrays. -/
theorem whole_eq (m : (ℓ : Loc Cert.KernelIdeal.nD Cert.KernelIdeal.τ Cert.KernelIdeal.sig) → Buf (Elt Ideal) ℓ) (c : Dev Cert.KernelIdeal.nD)
    (hpre : PreOK (F := Ideal) m)
    (b1 : Below (F := Ideal) (s := Cert.KernelIdeal.S30522x128) (m (c.tc.loc Cert.KernelIdeal.main_arg1))) (b2 : Below (F := Ideal) (s := Cert.KernelIdeal.S512x128) (m (c.tc.loc Cert.KernelIdeal.main_arg2)))
    (b3 : Below (F := Ideal) (s := Cert.KernelIdeal.S2x128) (m (c.tc.loc Cert.KernelIdeal.main_arg3))) (b4 : Below (F := Ideal) (s := Cert.KernelIdeal.S128) (m (c.tc.loc Cert.KernelIdeal.main_arg4))) :
    whole m c = Cert.Plain.normed (F := Ideal) (Cert.Plain.summed (m (c.tc.loc Cert.KernelIdeal.main_arg0)) (m (c.tc.loc Cert.KernelIdeal.main_arg1)) (m (c.tc.loc Cert.KernelIdeal.main_arg2))
      (m (c.tc.loc Cert.KernelIdeal.main_arg3))) (m (c.tc.loc Cert.KernelIdeal.main_arg4)) (m (c.tc.loc Cert.KernelIdeal.main_arg5)) := by
  funext i
  obtain ⟨b, s, h, rfl⟩ : ∃ (b : Fin 1024) (s : Fin 512) (h : Fin 128), i = ix3 b s h :=
    ⟨i 0, i 1, i 2, funext fun a => by match a with | 0 => rfl | 1 => rfl | 2 => rfl⟩
  rw [whole_at m hpre c b s h]
  refine (same_at _ _ _ (fun k => ?_) (real_of_below b4 _) h).trans ?_
  · obtain ⟨r1, h1⟩ := real_of_below b1 (ix2 ⟨(ids₀ m c (ix2 b s)).toNat, hpre c _⟩ k)
    obtain ⟨r2, h2⟩ := real_of_below b2 (ix2 s k)
    obtain ⟨r3, h3⟩ := real_of_below b3 (ix2 (0 : Fin 2) k)
    exact ⟨r1 + r2 + r3, by rw [EReal.coe_add, EReal.coe_add]; exact congrArg₂ (· + ·) (congrArg₂ (· + ·) h1 h2) h3⟩
  · refine Eq.trans ?_ (Cert.Plain.normed_at _ _ _ b s h).symm
    refine congrArg (fun f => quotForm f _ _ h) (funext fun k => ?_)
    exact (Cert.Plain.summed_at (F := Ideal) (m (c.tc.loc Cert.KernelIdeal.main_arg0)) (m (c.tc.loc Cert.KernelIdeal.main_arg1)) (m (c.tc.loc Cert.KernelIdeal.main_arg2))
      (m (c.tc.loc Cert.KernelIdeal.main_arg3)) (fun j => hpre c j) b s k).symm

theorem algebraic : Cert.algebraic_KernelIdeal_ReferenceIdeal_pre_ids_in_range_and_finite := by
  intro m g m' g' hm hsame
  refine ⟨fun c => whole m c, ?_, ?_⟩
  · exact (θ_run Cert.KernelIdeal.defs _ _).mono (fun _ h => h.1) (run_main m g (fun d j => (split_pre (hm d)).1 j))
  · refine (θ_run Cert.ReferenceIdeal.defs _ _).mono (fun r h c => ⟨?_, (h c).2⟩) (Cert.ReferenceIdeal.Value.run (F := Ideal) m' g')
    obtain ⟨e0, e1, e2, e3, e4, e5⟩ := hsame c
    obtain ⟨_, b1, b2, b3, b4⟩ := split_pre (hm c)
    refine (h c).1.trans ((Cert.Plain.result_eq m' c).trans ?_)
    refine Eq.trans ?_ (whole_eq m c (fun d j => (split_pre (hm d)).1 j) b1 b2 b3 b4).symm
    rw [e0, e1, e2, e3, e4, e5]

end Cert.Embed

end
-- ==== Proof.lean ====
/-
  The certificate: the frames of the kernel and of the reference, and the equality of their results over the
  extended reals.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.Pre_ids_in_range_and_finite
public import proofs.«01_k».proof.Proof.Gen.Pre_ids_in_range
public import proofs.«01_k».proof.Proof.Frames
public import proofs.«01_k».proof.Proof.FrameWords
public import proofs.«01_k».proof.Proof.Equal
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_ids_in_range.Gen.facts,
    Cert.Pre_ids_in_range_and_finite.Gen.facts, Cert.Embed.frame_kernel, Cert.Embed.frame_ideal, Cert.Embed.frame_ideal_finite,
    Cert.Embed.frame_reference, Cert.Embed.frame_reference_finite, trivial, Cert.Embed.algebraic⟩

end Cert.Proof

end
